-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v129) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v19_0)) (v1 : (c : Dev Cert.Kernel2Ideal.nD) → Buf (Elt Ideal) ((c.tc : Thread Cert.Kernel2Ideal.nD Cert.Kernel2Ideal.τ).loc Cert.Kernel2Ideal.main_v19_1)) (v2 : (c : Dev Cert.Kernel2Ideal.nD) → Buf (Elt Ideal) ((c.tc : Thread Cert.Kernel2Ideal.nD Cert.Kernel2Ideal.τ).loc Cert.Kernel2Ideal.main_v19_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v19_0) = v0 c
          ∧ r.2.mem ((c.tc : Thread Cert.Kernel2Ideal.nD Cert.Kernel2Ideal.τ).loc Cert.Kernel2Ideal.main_v19_1) = v1 c
          ∧ r.2.mem ((c.tc : Thread Cert.Kernel2Ideal.nD Cert.Kernel2Ideal.τ).loc Cert.Kernel2Ideal.main_v19_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v67) = v0 c
          ∧ r.2.mem ((c.tc : Thread Cert.Reference2Ideal.nD Cert.Reference2Ideal.τ).loc Cert.Reference2Ideal.main_v68) = v1 c
          ∧ r.2.mem ((c.tc : Thread Cert.Reference2Ideal.nD Cert.Reference2Ideal.τ).loc Cert.Reference2Ideal.main_v69) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  IdealRules.bf16_pair.BufferStatement Cert.Kernel3Ideal.S65536x2x128 Cert.Kernel3Ideal.S65536x1x128
  ∧ IdealRules.bf16_pair.BufferStatement Cert.Kernel3Ideal.S2048x2x128 Cert.Kernel3Ideal.S2048x1x128
  ∧ IdealRules.bf16_pair.PackStatement Cert.Kernel3Ideal.S256x1024
  ∧ IdealRules.bf16_pair.Statement Cert.Kernel3Ideal.S256x2x128 Cert.Kernel3Ideal.S256x1x128

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)) →
    ∃ (v0 : (c : Dev Cert.Kernel3Ideal.nD) → Buf (Elt Ideal) ((c.tc : Thread Cert.Kernel3Ideal.nD Cert.Kernel3Ideal.τ).loc Cert.Kernel3Ideal.main_v0_0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v72) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Kernel.lean ====
abbrev S24x4x2048x128 : Shape := ⟨4, ![24, 4, 2048, 128]⟩
abbrev S16x6144 : Shape := ⟨2, ![16, 6144]⟩
abbrev S1x16x15x31 : Shape := ⟨4, ![1, 16, 15, 31]⟩
abbrev S1x16x16 : Shape := ⟨3, ![1, 16, 16]⟩
abbrev S_ : Shape := ⟨0, ![]⟩
abbrev S128x6144 : Shape := ⟨2, ![128, 6144]⟩
abbrev S16x16 : Shape := ⟨2, ![16, 16]⟩
abbrev S16x112 : Shape := ⟨2, ![16, 112]⟩
abbrev S16x128 : Shape := ⟨2, ![16, 128]⟩
abbrev S8x2x128 : Shape := ⟨3, ![8, 2, 128]⟩
abbrev S16x15x31 : Shape := ⟨3, ![16, 15, 31]⟩
abbrev S128 : Shape := ⟨1, ![128]⟩
abbrev S128x1 : Shape := ⟨2, ![128, 1]⟩
abbrev S16x15x128 : Shape := ⟨3, ![16, 15, 128]⟩
abbrev S8x2x15x128 : Shape := ⟨4, ![8, 2, 15, 128]⟩
abbrev S8x4x2048x128 : Shape := ⟨4, ![8, 4, 2048, 128]⟩
abbrev S1x1x2048x128 : Shape := ⟨4, ![1, 1, 2048, 128]⟩
abbrev S128x128 : Shape := ⟨2, ![128, 128]⟩
abbrev S1x2x15x128 : Shape := ⟨4, ![1, 2, 15, 128]⟩
abbrev S1x2x128 : Shape := ⟨3, ![1, 2, 128]⟩
abbrev S2x2048x128 : Shape := ⟨3, ![2, 2048, 128]⟩
abbrev S8x128x512 : Shape := ⟨3, ![8, 128, 512]⟩
abbrev S64x128 : Shape := ⟨2, ![64, 128]⟩
abbrev S1x1x1x128 : Shape := ⟨4, ![1, 1, 1, 128]⟩
abbrev S1x128 : Shape := ⟨2, ![1, 128]⟩
abbrev S1x64x128 : Shape := ⟨3, ![1, 64, 128]⟩
abbrev S2048x128 : Shape := ⟨2, ![2048, 128]⟩
abbrev S1x1x128 : Shape := ⟨3, ![1, 1, 128]⟩
abbrev S1x2048x128 : Shape := ⟨3, ![1, 2048, 128]⟩
abbrev S1x1x64x128 : Shape := ⟨4, ![1, 1, 64, 128]⟩
abbrev S1x1x512x128 : Shape := ⟨4, ![1, 1, 512, 128]⟩
abbrev S512x128 : Shape := ⟨2, ![512, 128]⟩
abbrev S128x512 : Shape := ⟨2, ![128, 512]⟩
abbrev S1x128x512 : Shape := ⟨3, ![1, 128, 512]⟩

abbrev nBuf : Space → Nat
  | .hbm => 49
  | .vmem => 18
  | .smem => 0
  | _ => 0

abbrev bufTy : (tb : Table) → Fin (tcTables nBuf tb) → BufTy
  | .hbm, ⟨0, _⟩ => ⟨S24x4x2048x128, .bf16⟩
  | .hbm, ⟨1, _⟩ => ⟨S16x6144, .bf16⟩
  | .hbm, ⟨2, _⟩ => ⟨S1x16x15x31, .f32⟩
  | .hbm, ⟨3, _⟩ => ⟨S1x16x16, .f32⟩
  | .hbm, ⟨4, _⟩ => ⟨S_, .i32⟩
  | .hbm, ⟨5, _⟩ => ⟨S_, .bf16⟩
  | .hbm, ⟨6, _⟩ => ⟨S128x6144, .bf16⟩
  | .hbm, ⟨7, _⟩ => ⟨S16x16, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S16x16, .f32⟩
  | .hbm, ⟨12, _⟩ => ⟨S16x16, .f32⟩
  | .hbm, ⟨13, _⟩ => ⟨S_, .f32⟩
  | .hbm, ⟨14, _⟩ => ⟨S16x112, .f32⟩
  | .hbm, ⟨15, _⟩ => ⟨S16x128, .f32⟩
  | .hbm, ⟨16, _⟩ => ⟨S8x2x128, .f32⟩
  | .hbm, ⟨17, _⟩ => ⟨S16x15x31, .f32⟩
  | .hbm, ⟨18, _⟩ => ⟨S128, .i32⟩
  | .hbm, ⟨19, _⟩ => ⟨S_, .i32⟩
  | .hbm, ⟨20, _⟩ => ⟨S128, .i32⟩
  | .hbm, ⟨21, _⟩ => ⟨S128, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S128, .i32⟩
  | .hbm, ⟨26, _⟩ => ⟨S128, .i32⟩
  | .hbm, ⟨27, _⟩ => ⟨S_, .i32⟩
  | .hbm, ⟨28, _⟩ => ⟨S128, .i32⟩
  | .hbm, ⟨29, _⟩ => ⟨S128, .i32⟩
  | .hbm, ⟨30, _⟩ => ⟨S_, .i32⟩
  | .hbm, ⟨31, _⟩ => ⟨S128, .i32⟩
  | .hbm, ⟨32, _⟩ => ⟨S128, .i32⟩
  | .hbm, ⟨33, _⟩ => ⟨S_, .i32⟩
  | .hbm, ⟨34, _⟩ => ⟨S128, .i32⟩
  | .hbm, ⟨35, _⟩ => ⟨S128, .i1⟩
  | .hbm, ⟨36, _⟩ => ⟨S_, .i32⟩
  | .hbm, ⟨37, _⟩ => ⟨S128, .i32⟩
  | .hbm, ⟨38, _⟩ => ⟨S128, .i32⟩
  | .hbm, ⟨39, _⟩ => ⟨S128, .i32⟩
  | .hbm, ⟨40, _⟩ => ⟨S128x1, .i32⟩
  | .hbm, ⟨41, _⟩ => ⟨S16x15x128, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S16x15x128, .f32⟩
  | .hbm, ⟨46, _⟩ => ⟨S16x15x128, .f32⟩
  | .hbm, ⟨47, _⟩ => ⟨S8x2x15x128, .f32⟩
  | .hbm, ⟨48, _⟩ => ⟨S8x4x2048x128, .bf16⟩
  | .local _ .vmem, ⟨0, _⟩ => ⟨S1x1x2048x128, .bf16⟩
  | .local _ .vmem, ⟨1, _⟩ => ⟨S1x1x2048x128, .bf16⟩
  | .local _ .vmem, ⟨2, _⟩ => ⟨S1x1x2048x128, .bf16⟩
  | .local _ .vmem, ⟨3, _⟩ => ⟨S1x1x2048x128, .bf16⟩
  | .local _ .vmem, ⟨4, _⟩ => ⟨S1x1x2048x128, .bf16⟩
  | .local _ .vmem, ⟨5, _⟩ => ⟨S1x1x2048x128, .bf16⟩
  | .local _ .vmem, ⟨6, _⟩ => ⟨S128x128, .bf16⟩
  | .local _ .vmem, ⟨7, _⟩ => ⟨S128x128, .bf16⟩
  | .local _ .vmem, ⟨8, _⟩ => ⟨S128x128, .bf16⟩
  | .local _ .vmem, ⟨9, _⟩ => ⟨S128x128, .bf16⟩
  | .local _ .vmem, ⟨10, _⟩ => ⟨S1x2x15x128, .f32⟩
  | .local _ .vmem, ⟨11, _⟩ => ⟨S1x2x15x128, .f32⟩
  | .local _ .vmem, ⟨12, _⟩ => ⟨S1x2x128, .f32⟩
  | .local _ .vmem, ⟨13, _⟩ => ⟨S1x2x128, .f32⟩
  | .local _ .vmem, ⟨14, _⟩ => ⟨S1x1x2048x128, .bf16⟩
  | .local _ .vmem, ⟨15, _⟩ => ⟨S1x1x2048x128, .bf16⟩
  | .local _ .vmem, ⟨16, _⟩ => ⟨S2x2048x128, .f32⟩
  | .local _ .vmem, ⟨17, _⟩ => ⟨S8x128x512, .f32⟩
  | _, _ => ⟨S24x4x2048x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_c_2 : Ref sig .tc := ⟨.hbm, 22, rfl⟩
abbrev main_c_3 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_call1_v3 : Ref sig .tc := ⟨.hbm, 27, rfl⟩
abbrev main_call1_v4 : Ref sig .tc := ⟨.hbm, 28, rfl⟩
abbrev main_v13 : Ref sig .tc := ⟨.hbm, 29, rfl⟩
abbrev main_c_4 : Ref sig .tc := ⟨.hbm, 30, rfl⟩
abbrev main_v14 : Ref sig .tc := ⟨.hbm, 31, rfl⟩
abbrev main_v15 : Ref sig .tc := ⟨.hbm, 32, rfl⟩
abbrev main_c_5 : Ref sig .tc := ⟨.hbm, 33, rfl⟩
abbrev main_v16 : Ref sig .tc := ⟨.hbm, 34, rfl⟩
abbrev main_v17 : Ref sig .tc := ⟨.hbm, 35, rfl⟩
abbrev main_c_6 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_cst_7 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 4], ![false, false]⟩

@[reducible] def k0_t1_loop : Scf.Loop 32 :=
  let c0_i32_22 : BitVec 32 := 0#32
  let c4_i32 : BitVec 32 := 4#32
  let v34 : BitVec 32 := Scalar.addi c0_i32_22 c4_i32
  let c1_i32 : BitVec 32 := 1#32
  ⟨c0_i32_22, v34, c1_i32⟩
def k0_mult1 (k0_t1 : Fin k0_t1_loop.trips) : BitVec 32 :=
  let c0_i32_22 : BitVec 32 := 0#32
  let c1_i32 : BitVec 32 := 1#32
  let arg12 : BitVec 32 := Scf.iv c0_i32_22 c1_i32 k0_t1
  let c8_i32 : BitVec 32 := 8#32
  let v35 : BitVec 32 := Scalar.muli arg12 c8_i32
  let c0_i32_24 : BitVec 32 := 0#32
  let v36 : BitVec 32 := Scalar.addi v35 c0_i32_24
  let c64_i32_57 : BitVec 32 := 64#32
  let v75 : BitVec 32 := Scalar.muli v36 c64_i32_57
  v75
def k0_mult2 (k0_t1 : Fin k0_t1_loop.trips) : BitVec 32 :=
  let c0_i32_22 : BitVec 32 := 0#32
  let c1_i32 : BitVec 32 := 1#32
  let arg12 : BitVec 32 := Scf.iv c0_i32_22 c1_i32 k0_t1
  let c8_i32_25 : BitVec 32 := 8#32
  let v37 : BitVec 32 := Scalar.muli arg12 c8_i32_25
  let c1_i32_26 : BitVec 32 := 1#32
  let v38 : BitVec 32 := Scalar.addi v37 c1_i32_26
  let c64_i32_58 : BitVec 32 := 64#32
  let v77 : BitVec 32 := Scalar.muli v38 c64_i32_58
  v77
def k0_mult3 (k0_t1 : Fin k0_t1_loop.trips) : BitVec 32 :=
  let c0_i32_22 : BitVec 32 := 0#32
  let c1_i32 : BitVec 32 := 1#32
  let arg12 : BitVec 32 := Scf.iv c0_i32_22 c1_i32 k0_t1
  let c8_i32_27 : BitVec 32 := 8#32
  let v39 : BitVec 32 := Scalar.muli arg12 c8_i32_27
  let c2_i32 : BitVec 32 := 2#32
  let v40 : BitVec 32 := Scalar.addi v39 c2_i32
  let c64_i32_59 : BitVec 32 := 64#32
  let v79 : BitVec 32 := Scalar.muli v40 c64_i32_59
  v79
def k0_mult4 (k0_t1 : Fin k0_t1_loop.trips) : BitVec 32 :=
  let c0_i32_22 : BitVec 32 := 0#32
  let c1_i32 : BitVec 32 := 1#32
  let arg12 : BitVec 32 := Scf.iv c0_i32_22 c1_i32 k0_t1
  let c8_i32_28 : BitVec 32 := 8#32
  let v41 : BitVec 32 := Scalar.muli arg12 c8_i32_28
  let c3_i32 : BitVec 32 := 3#32
  let v42 : BitVec 32 := Scalar.addi v41 c3_i32
  let c64_i32_60 : BitVec 32 := 64#32
  let v81 : BitVec 32 := Scalar.muli v42 c64_i32_60
  v81
def k0_mult5 (k0_t1 : Fin k0_t1_loop.trips) : BitVec 32 :=
  let c0_i32_22 : BitVec 32 := 0#32
  let c1_i32 : BitVec 32 := 1#32
  let arg12 : BitVec 32 := Scf.iv c0_i32_22 c1_i32 k0_t1
  let c8_i32_29 : BitVec 32 := 8#32
  let v43 : BitVec 32 := Scalar.muli arg12 c8_i32_29
  let c4_i32_30 : BitVec 32 := 4#32
  let v44 : BitVec 32 := Scalar.addi v43 c4_i32_30
  let c64_i32_61 : BitVec 32 := 64#32
  let v83 : BitVec 32 := Scalar.muli v44 c64_i32_61
  v83
def k0_mult6 (k0_t1 : Fin k0_t1_loop.trips) : BitVec 32 :=
  let c0_i32_22 : BitVec 32 := 0#32
  let c1_i32 : BitVec 32 := 1#32
  let arg12 : BitVec 32 := Scf.iv c0_i32_22 c1_i32 k0_t1
  let c8_i32_31 : BitVec 32 := 8#32
  let v45 : BitVec 32 := Scalar.muli arg12 c8_i32_31
  let c5_i32 : BitVec 32 := 5#32
  let v46 : BitVec 32 := Scalar.addi v45 c5_i32
  let c64_i32_62 : BitVec 32 := 64#32
  let v85 : BitVec 32 := Scalar.muli v46 c64_i32_62
  v85
def k0_mult7 (k0_t1 : Fin k0_t1_loop.trips) : BitVec 32 :=
  let c0_i32_22 : BitVec 32 := 0#32
  let c1_i32 : BitVec 32 := 1#32
  let arg12 : BitVec 32 := Scf.iv c0_i32_22 c1_i32 k0_t1
  let c8_i32_32 : BitVec 32 := 8#32
  let v47 : BitVec 32 := Scalar.muli arg12 c8_i32_32
  let c6_i32 : BitVec 32 := 6#32
  let v48 : BitVec 32 := Scalar.addi v47 c6_i32
  let c64_i32_63 : BitVec 32 := 64#32
  let v87 : BitVec 32 := Scalar.muli v48 c64_i32_63
  v87
def k0_mult8 (k0_t1 : Fin k0_t1_loop.trips) : BitVec 32 :=
  let c0_i32_22 : BitVec 32 := 0#32
  let c1_i32 : BitVec 32 := 1#32
  let arg12 : BitVec 32 := Scf.iv c0_i32_22 c1_i32 k0_t1
  let c8_i32_33 : BitVec 32 := 8#32
  let v49 : BitVec 32 := Scalar.muli arg12 c8_i32_33
  let c7_i32 : BitVec 32 := 7#32
  let v50 : BitVec 32 := Scalar.addi v49 c7_i32
  let c64_i32_64 : BitVec 32 := 64#32
  let v89 : BitVec 32 := Scalar.muli v50 c64_i32_64
  v89
def k0_mult9 (k0_t1 : Fin k0_t1_loop.trips) : BitVec 32 :=
  let c24_i32 : BitVec 32 := 24#32
  let c0_i32_35 : BitVec 32 := 0#32
  let c0_i32_22 : BitVec 32 := 0#32
  let c1_i32 : BitVec 32 := 1#32
  let arg12 : BitVec 32 := Scf.iv c0_i32_22 c1_i32 k0_t1
  let c8_i32 : BitVec 32 := 8#32
  let v35 : BitVec 32 := Scalar.muli arg12 c8_i32
  let c0_i32_24 : BitVec 32 := 0#32
  let v36 : BitVec 32 := Scalar.addi v35 c0_i32_24
  let c4_i32_34 : BitVec 32 := 4#32
  let v51 : BitVec 32 := Scalar.subi v36 c4_i32_34
  let v52 : BitVec 32 := Scalar.maxsi c0_i32_35 v51
  let v53 : BitVec 32 := Scalar.minsi c24_i32 v52
  let c64_i32_65 : BitVec 32 := 64#32
  let v91 : BitVec 32 := Scalar.muli v53 c64_i32_65
  v91
def k0_mult10 (k0_t1 : Fin k0_t1_loop.trips) : BitVec 32 :=
  let c24_i32_38 : BitVec 32 := 24#32
  let c0_i32_37 : BitVec 32 := 0#32
  let c0_i32_22 : BitVec 32 := 0#32
  let c1_i32 : BitVec 32 := 1#32
  let arg12 : BitVec 32 := Scf.iv c0_i32_22 c1_i32 k0_t1
  let c8_i32_25 : BitVec 32 := 8#32
  let v37 : BitVec 32 := Scalar.muli arg12 c8_i32_25
  let c1_i32_26 : BitVec 32 := 1#32
  let v38 : BitVec 32 := Scalar.addi v37 c1_i32_26
  let c4_i32_36 : BitVec 32 := 4#32
  let v54 : BitVec 32 := Scalar.subi v38 c4_i32_36
  let v55 : BitVec 32 := Scalar.maxsi c0_i32_37 v54
  let v56 : BitVec 32 := Scalar.minsi c24_i32_38 v55
  let c64_i32_66 : BitVec 32 := 64#32
  let v93 : BitVec 32 := Scalar.muli v56 c64_i32_66
  v93
def k0_mult11 (k0_t1 : Fin k0_t1_loop.trips) : BitVec 32 :=
  let c24_i32_41 : BitVec 32 := 24#32
  let c0_i32_40 : BitVec 32 := 0#32
  let c0_i32_22 : BitVec 32 := 0#32
  let c1_i32 : BitVec 32 := 1#32
  let arg12 : BitVec 32 := Scf.iv c0_i32_22 c1_i32 k0_t1
  let c8_i32_27 : BitVec 32 := 8#32
  let v39 : BitVec 32 := Scalar.muli arg12 c8_i32_27
  let c2_i32 : BitVec 32 := 2#32
  let v40 : BitVec 32 := Scalar.addi v39 c2_i32
  let c4_i32_39 : BitVec 32 := 4#32
  let v57 : BitVec 32 := Scalar.subi v40 c4_i32_39
  let v58 : BitVec 32 := Scalar.maxsi c0_i32_40 v57
  let v59 : BitVec 32 := Scalar.minsi c24_i32_41 v58
  let c64_i32_67 : BitVec 32 := 64#32
  let v95 : BitVec 32 := Scalar.muli v59 c64_i32_67
  v95
def k0_mult12 (k0_t1 : Fin k0_t1_loop.trips) : BitVec 32 :=
  let c24_i32_44 : BitVec 32 := 24#32
  let c0_i32_43 : BitVec 32 := 0#32
  let c0_i32_22 : BitVec 32 := 0#32
  let c1_i32 : BitVec 32 := 1#32
  let arg12 : BitVec 32 := Scf.iv c0_i32_22 c1_i32 k0_t1
  let c8_i32_28 : BitVec 32 := 8#32
  let v41 : BitVec 32 := Scalar.muli arg12 c8_i32_28
  let c3_i32 : BitVec 32 := 3#32
  let v42 : BitVec 32 := Scalar.addi v41 c3_i32
  let c4_i32_42 : BitVec 32 := 4#32
  let v60 : BitVec 32 := Scalar.subi v42 c4_i32_42
  let v61 : BitVec 32 := Scalar.maxsi c0_i32_43 v60
  let v62 : BitVec 32 := Scalar.minsi c24_i32_44 v61
  let c64_i32_68 : BitVec 32 := 64#32
  let v97 : BitVec 32 := Scalar.muli v62 c64_i32_68
  v97
def k0_mult13 (k0_t1 : Fin k0_t1_loop.trips) : BitVec 32 :=
  let c24_i32_47 : BitVec 32 := 24#32
  let c0_i32_46 : BitVec 32 := 0#32
  let c0_i32_22 : BitVec 32 := 0#32
  let c1_i32 : BitVec 32 := 1#32
  let arg12 : BitVec 32 := Scf.iv c0_i32_22 c1_i32 k0_t1
  let c8_i32_29 : BitVec 32 := 8#32
  let v43 : BitVec 32 := Scalar.muli arg12 c8_i32_29
  let c4_i32_30 : BitVec 32 := 4#32
  let v44 : BitVec 32 := Scalar.addi v43 c4_i32_30
  let c4_i32_45 : BitVec 32 := 4#32
  let v63 : BitVec 32 := Scalar.subi v44 c4_i32_45
  let v64 : BitVec 32 := Scalar.maxsi c0_i32_46 v63
  let v65 : BitVec 32 := Scalar.minsi c24_i32_47 v64
  let c64_i32_69 : BitVec 32 := 64#32
  let v99 : BitVec 32 := Scalar.muli v65 c64_i32_69
  v99
def k0_mult14 (k0_t1 : Fin k0_t1_loop.trips) : BitVec 32 :=
  let c24_i32_50 : BitVec 32 := 24#32
  let c0_i32_49 : BitVec 32 := 0#32
  let c0_i32_22 : BitVec 32 := 0#32
  let c1_i32 : BitVec 32 := 1#32
  let arg12 : BitVec 32 := Scf.iv c0_i32_22 c1_i32 k0_t1
  let c8_i32_31 : BitVec 32 := 8#32
  let v45 : BitVec 32 := Scalar.muli arg12 c8_i32_31
  let c5_i32 : BitVec 32 := 5#32
  let v46 : BitVec 32 := Scalar.addi v45 c5_i32
  let c4_i32_48 : BitVec 32 := 4#32
  let v66 : BitVec 32 := Scalar.subi v46 c4_i32_48
  let v67 : BitVec 32 := Scalar.maxsi c0_i32_49 v66
  let v68 : BitVec 32 := Scalar.minsi c24_i32_50 v67
  let c64_i32_70 : BitVec 32 := 64#32
  let v101 : BitVec 32 := Scalar.muli v68 c64_i32_70
  v101
def k0_mult15 (k0_t1 : Fin k0_t1_loop.trips) : BitVec 32 :=
  let c24_i32_53 : BitVec 32 := 24#32
  let c0_i32_52 : BitVec 32 := 0#32
  let c0_i32_22 : BitVec 32 := 0#32
  let c1_i32 : BitVec 32 := 1#32
  let arg12 : BitVec 32 := Scf.iv c0_i32_22 c1_i32 k0_t1
  let c8_i32_32 : BitVec 32 := 8#32
  let v47 : BitVec 32 := Scalar.muli arg12 c8_i32_32
  let c6_i32 : BitVec 32 := 6#32
  let v48 : BitVec 32 := Scalar.addi v47 c6_i32
  let c4_i32_51 : BitVec 32 := 4#32
  let v69 : BitVec 32 := Scalar.subi v48 c4_i32_51
  let v70 : BitVec 32 := Scalar.maxsi c0_i32_52 v69
  let v71 : BitVec 32 := Scalar.minsi c24_i32_53 v70
  let c64_i32_71 : BitVec 32 := 64#32
  let v103 : BitVec 32 := Scalar.muli v71 c64_i32_71
  v103
def k0_mult16 (k0_t1 : Fin k0_t1_loop.trips) : BitVec 32 :=
  let c24_i32_56 : BitVec 32 := 24#32
  let c0_i32_55 : BitVec 32 := 0#32
  let c0_i32_22 : BitVec 32 := 0#32
  let c1_i32 : BitVec 32 := 1#32
  let arg12 : BitVec 32 := Scf.iv c0_i32_22 c1_i32 k0_t1
  let c8_i32_33 : BitVec 32 := 8#32
  let v49 : BitVec 32 := Scalar.muli arg12 c8_i32_33
  let c7_i32 : BitVec 32 := 7#32
  let v50 : BitVec 32 := Scalar.addi v49 c7_i32
  let c4_i32_54 : BitVec 32 := 4#32
  let v72 : BitVec 32 := Scalar.subi v50 c4_i32_54
  let v73 : BitVec 32 := Scalar.maxsi c0_i32_55 v72
  let v74 : BitVec 32 := Scalar.minsi c24_i32_56 v73
  let c64_i32_72 : BitVec 32 := 64#32
  let v105 : BitVec 32 := Scalar.muli v74 c64_i32_72
  v105
def k0_off1 (k0_t1 : Fin k0_t1_loop.trips) (c0_i32_24 : BitVec 32) : Fin 4 → Nat :=
  let c0_73 : Index := 0#32
  let c0_74 : Index := 0#32
  let c0_i32_22 : BitVec 32 := 0#32
  let c1_i32 : BitVec 32 := 1#32
  let arg12 : BitVec 32 := Scf.iv c0_i32_22 c1_i32 k0_t1
  let c8_i32 : BitVec 32 := 8#32
  let v35 : BitVec 32 := Scalar.muli arg12 c8_i32
  let v36 : BitVec 32 := Scalar.addi v35 c0_i32_24
  let c64_i32_57 : BitVec 32 := 64#32
  let v75 : BitVec 32 := Scalar.muli v36 c64_i32_57
  let v76 : BitVec 32 := v75
  let v107 : Index := Scalar.indexCast v76
  let c0_75 : Index := 0#32
  ![0, 0, v107.toNat, 0]
def k0_off2 (k0_t1 : Fin k0_t1_loop.trips) (c0_i32_24 : BitVec 32) : Fin 4 → Nat :=
  let c0_79 : Index := 0#32
  let c0_80 : Index := 0#32
  let c24_i32 : BitVec 32 := 24#32
  let c0_i32_35 : BitVec 32 := 0#32
  let c0_i32_22 : BitVec 32 := 0#32
  let c1_i32 : BitVec 32 := 1#32
  let arg12 : BitVec 32 := Scf.iv c0_i32_22 c1_i32 k0_t1
  let c8_i32 : BitVec 32 := 8#32
  let v35 : BitVec 32 := Scalar.muli arg12 c8_i32
  let v36 : BitVec 32 := Scalar.addi v35 c0_i32_24
  let c4_i32_34 : BitVec 32 := 4#32
  let v51 : BitVec 32 := Scalar.subi v36 c4_i32_34
  let v52 : BitVec 32 := Scalar.maxsi c0_i32_35 v51
  let v53 : BitVec 32 := Scalar.minsi c24_i32 v52
  let c64_i32_65 : BitVec 32 := 64#32
  let v91 : BitVec 32 := Scalar.muli v53 c64_i32_65
  let v92 : BitVec 32 := v91
  let v118 : Index := Scalar.indexCast v92
  let c0_81 : Index := 0#32
  ![0, 0, v118.toNat, 0]
def k0_off3 (k0_t1 : Fin k0_t1_loop.trips) (c0_i32_24 : BitVec 32) : Fin 3 → Nat :=
  let c0_i32_22 : BitVec 32 := 0#32
  let c1_i32 : BitVec 32 := 1#32
  let arg12 : BitVec 32 := Scf.iv c0_i32_22 c1_i32 k0_t1
  let c8_i32 : BitVec 32 := 8#32
  let v35 : BitVec 32 := Scalar.muli arg12 c8_i32
  let v36 : BitVec 32 := Scalar.addi v35 c0_i32_24
  let c24_i32 : BitVec 32 := 24#32
  let c0_i32_35 : BitVec 32 := 0#32
  let c4_i32_34 : BitVec 32 := 4#32
  let v51 : BitVec 32 := Scalar.subi v36 c4_i32_34
  let v52 : BitVec 32 := Scalar.maxsi c0_i32_35 v51
  let v53 : BitVec 32 := Scalar.minsi c24_i32 v52
  let v122 : BitVec 32 := Scalar.subi v36 v53
  let v123 : Index := Scalar.indexCast v122
  let c0_83 : Index := 0#32
  let c0_84 : Index := 0#32
  ![v123.toNat, 0, 0]
def k0_off4 (k0_t1 : Fin k0_t1_loop.trips) (c0_i32_24 : BitVec 32) : Fin 3 → Nat :=
  let c0_85 : Index := 0#32
  let c0_i32_22 : BitVec 32 := 0#32
  let c1_i32 : BitVec 32 := 1#32
  let arg12 : BitVec 32 := Scf.iv c0_i32_22 c1_i32 k0_t1
  let c8_i32 : BitVec 32 := 8#32
  let v35 : BitVec 32 := Scalar.muli arg12 c8_i32
  let v36 : BitVec 32 := Scalar.addi v35 c0_i32_24
  let c64_i32_57 : BitVec 32 := 64#32
  let v75 : BitVec 32 := Scalar.muli v36 c64_i32_57
  let v76 : BitVec 32 := v75
  let v127 : Index := Scalar.indexCast v76
  let c0_86 : Index := 0#32
  ![0, v127.toNat, 0]
def k0_off5 (k0_t1 : Fin k0_t1_loop.trips) (c0_i32_24 : BitVec 32) : Fin 3 → Nat :=
  let c1_87 : Index := 1#32
  let c0_i32_22 : BitVec 32 := 0#32
  let c1_i32 : BitVec 32 := 1#32
  let arg12 : BitVec 32 := Scf.iv c0_i32_22 c1_i32 k0_t1
  let c8_i32 : BitVec 32 := 8#32
  let v35 : BitVec 32 := Scalar.muli arg12 c8_i32
  let v36 : BitVec 32 := Scalar.addi v35 c0_i32_24
  let c64_i32_57 : BitVec 32 := 64#32
  let v75 : BitVec 32 := Scalar.muli v36 c64_i32_57
  let v76 : BitVec 32 := v75
  let v130 : Index := Scalar.indexCast v76
  let c0_88 : Index := 0#32
  ![1, v130.toNat, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![v0.toNat, arg1.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  let c0_i32_1 : BitVec 32 := 0#32
  ![v0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  let c0_i32_1 : BitVec 32 := 0#32
  ![v0.toNat, arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![v0.toNat, arg1.toNat, c0_i32_0.toNat, c0_i32_1.toNat]

abbrev stage0_0 : Fin 2 → Memref sig .tc .vmem S1x1x2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x2x15x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x2x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceIdeal.lean ====
abbrev S24x4x2048x128 : Shape := ⟨4, ![24, 4, 2048, 128]⟩
abbrev S16x6144 : Shape := ⟨2, ![16, 6144]⟩
abbrev S1x16x15x31 : Shape := ⟨4, ![1, 16, 15, 31]⟩
abbrev S1x16x16 : Shape := ⟨3, ![1, 16, 16]⟩
abbrev S_ : Shape := ⟨0, ![]⟩
abbrev S8x4x2048x128 : Shape := ⟨4, ![8, 4, 2048, 128]⟩
abbrev S4x2048x8x128 : Shape := ⟨4, ![4, 2048, 8, 128]⟩
abbrev S4x32x64x16x64 : Shape := ⟨5, ![4, 32, 64, 16, 64]⟩
abbrev S16x1024 : Shape := ⟨2, ![16, 1024]⟩
abbrev S16x16x64 : Shape := ⟨3, ![16, 16, 64]⟩
abbrev S32 : Shape := ⟨1, ![32]⟩
abbrev S64 : Shape := ⟨1, ![64]⟩
abbrev S32x1 : Shape := ⟨2, ![32, 1]⟩
abbrev S8 : Shape := ⟨1, ![8]⟩
abbrev S1x8 : Shape := ⟨2, ![1, 8]⟩
abbrev S32x8 : Shape := ⟨2, ![32, 8]⟩
abbrev S1x64 : Shape := ⟨2, ![1, 64]⟩
abbrev S64x1 : Shape := ⟨2, ![64, 1]⟩
abbrev S64x64 : Shape := ⟨2, ![64, 64]⟩
abbrev S32x8x1 : Shape := ⟨3, ![32, 8, 1]⟩
abbrev S4x32x8x64x16x64 : Shape := ⟨6, ![4, 32, 8, 64, 16, 64]⟩
abbrev S16x15x31 : Shape := ⟨3, ![16, 15, 31]⟩
abbrev S32x1x8x1 : Shape := ⟨4, ![32, 1, 8, 1]⟩
abbrev S1x64x1x64 : Shape := ⟨4, ![1, 64, 1, 64]⟩
abbrev S32x64x8x64 : Shape := ⟨4, ![32, 64, 8, 64]⟩
abbrev S32x64x8x64x1 : Shape := ⟨5, ![32, 64, 8, 64, 1]⟩
abbrev S32x64x8x64x2 : Shape := ⟨5, ![32, 64, 8, 64, 2]⟩
abbrev S16x32x64x8x64 : Shape := ⟨5, ![16, 32, 64, 8, 64]⟩
abbrev S1x1x64x1x64 : Shape := ⟨5, ![1, 1, 64, 1, 64]⟩
abbrev S4x16x32x64x8x64 : Shape := ⟨6, ![4, 16, 32, 64, 8, 64]⟩
abbrev S1x16x32x64x8x64 : Shape := ⟨6, ![1, 16, 32, 64, 8, 64]⟩
abbrev S16x16x4x32x64 : Shape := ⟨5, ![16, 16, 4, 32, 64]⟩
abbrev S4x16x32x64x16 : Shape := ⟨5, ![4, 16, 32, 64, 16]⟩
abbrev S16x16 : Shape := ⟨2, ![16, 16]⟩
abbrev S1x16x1x1x16 : Shape := ⟨5, ![1, 16, 1, 1, 16]⟩
abbrev S4x16x32x64x512 : Shape := ⟨5, ![4, 16, 32, 64, 512]⟩
abbrev S4x16x32x64x528 : Shape := ⟨5, ![4, 16, 32, 64, 528]⟩
abbrev S4x16x32x64 : Shape := ⟨4, ![4, 16, 32, 64]⟩
abbrev S4x16x32x64x1 : Shape := ⟨5, ![4, 16, 32, 64, 1]⟩
abbrev S4x32x16x64x64 : Shape := ⟨5, ![4, 32, 16, 64, 64]⟩
abbrev S16x64x4x32x64 : Shape := ⟨5, ![16, 64, 4, 32, 64]⟩

abbrev nBuf : Space → Nat
  | .hbm => 176
  | .vmem => 0
  | .smem => 0
  | _ => 0

abbrev hbmTy0_0 (i : Nat) : BufTy := match i % 128 with
  | 0 => ⟨S24x4x2048x128, .bf16⟩
  | 1 => ⟨S16x6144, .bf16⟩
  | 2 => ⟨S1x16x15x31, .f32⟩
  | 3 => ⟨S1x16x16, .f32⟩
  | 4 => ⟨S_, .f32⟩
  | 5 => ⟨S_, .f32⟩
  | 6 => ⟨S8x4x2048x128, .bf16⟩
  | 7 => ⟨S8x4x2048x128, .f32⟩
  | 8 => ⟨S4x2048x8x128, .f32⟩
  | 9 => ⟨S4x32x64x16x64, .f32⟩
  | 10 => ⟨S_, .f32⟩
  | 11 => ⟨S4x32x64x16x64, .f32⟩
  | 12 => ⟨S4x32x64x16x64, .f32⟩
  | 13 => ⟨S8x4x2048x128, .bf16⟩
  | 14 => ⟨S8x4x2048x128, .f32⟩
  | 15 => ⟨S4x2048x8x128, .f32⟩
  | 16 => ⟨S4x32x64x16x64, .f32⟩
  | 17 => ⟨S8x4x2048x128, .bf16⟩
  | 18 => ⟨S8x4x2048x128, .f32⟩
  | 19 => ⟨S4x2048x8x128, .f32⟩
  | 20 => ⟨S4x32x64x16x64, .f32⟩
  | 21 => ⟨S16x6144, .f32⟩
  | 22 => ⟨S16x1024, .f32⟩
  | 23 => ⟨S16x16x64, .f32⟩
  | 24 => ⟨S16x1024, .f32⟩
  | 25 => ⟨S16x16x64, .f32⟩
  | 26 => ⟨S32, .i32⟩
  | 27 => ⟨S64, .i32⟩
  | 28 => ⟨S_, .i32⟩
  | 29 => ⟨S32, .i32⟩
  | 30 => ⟨S32, .i32⟩
  | 31 => ⟨S_, .i32⟩
  | 32 => ⟨S_, .i32⟩
  | 33 => ⟨S_, .i32⟩
  | 34 => ⟨S32, .i32⟩
  | 35 => ⟨S32, .i32⟩
  | 36 => ⟨S_, .i32⟩
  | 37 => ⟨S32, .i32⟩
  | 38 => ⟨S32, .i32⟩
  | 39 => ⟨S32x1, .i32⟩
  | 40 => ⟨S8, .i32⟩
  | 41 => ⟨S1x8, .i32⟩
  | 42 => ⟨S32x8, .i32⟩
  | 43 => ⟨S32x8, .i32⟩
  | 44 => ⟨S32x8, .i32⟩
  | 45 => ⟨S_, .i32⟩
  | 46 => ⟨S64, .i32⟩
  | 47 => ⟨S64, .i32⟩
  | 48 => ⟨S_, .i32⟩
  | 49 => ⟨S_, .i32⟩
  | 50 => ⟨S_, .i32⟩
  | 51 => ⟨S64, .i32⟩
  | 52 => ⟨S64, .i32⟩
  | 53 => ⟨S_, .i32⟩
  | 54 => ⟨S64, .i32⟩
  | 55 => ⟨S64, .i32⟩
  | 56 => ⟨S1x64, .i32⟩
  | 57 => ⟨S64x1, .i32⟩
  | 58 => ⟨S64x64, .i32⟩
  | 59 => ⟨S64x64, .i32⟩
  | 60 => ⟨S64x64, .i1⟩
  | 61 => ⟨S1x64, .i32⟩
  | 62 => ⟨S64x1, .i32⟩
  | 63 => ⟨S_, .i32⟩
  | 64 => ⟨S64x1, .i32⟩
  | 65 => ⟨S64x1, .i32⟩
  | 66 => ⟨S64x64, .i32⟩
  | 67 => ⟨S64x64, .i32⟩
  | 68 => ⟨S64x64, .i1⟩
  | 69 => ⟨S64x64, .i1⟩
  | 70 => ⟨S_, .i32⟩
  | 71 => ⟨S32x8, .i32⟩
  | 72 => ⟨S32x8, .i1⟩
  | 73 => ⟨S_, .i32⟩
  | 74 => ⟨S32x8, .i32⟩
  | 75 => ⟨S32x8, .i32⟩
  | 76 => ⟨S32x8, .i32⟩
  | 77 => ⟨S32x8x1, .i32⟩
  | 78 => ⟨S4x32x8x64x16x64, .f32⟩
  | 79 => ⟨S_, .i32⟩
  | 80 => ⟨S32x8, .i32⟩
  | 81 => ⟨S32x8, .i1⟩
  | 82 => ⟨S_, .i32⟩
  | 83 => ⟨S32x8, .i32⟩
  | 84 => ⟨S32x8, .i32⟩
  | 85 => ⟨S32x8, .i32⟩
  | 86 => ⟨S32x8x1, .i32⟩
  | 87 => ⟨S4x32x8x64x16x64, .f32⟩
  | 88 => ⟨S32x1, .i32⟩
  | 89 => ⟨S32x8, .i32⟩
  | 90 => ⟨S32x8, .i32⟩
  | 91 => ⟨S_, .i32⟩
  | 92 => ⟨S32x8, .i32⟩
  | 93 => ⟨S32x8, .i32⟩
  | 94 => ⟨S1x64, .i32⟩
  | 95 => ⟨S64x1, .i32⟩
  | 96 => ⟨S64x64, .i32⟩
  | 97 => ⟨S64x64, .i32⟩
  | 98 => ⟨S64x64, .i32⟩
  | 99 => ⟨S_, .i32⟩
  | 100 => ⟨S_, .i32⟩
  | 101 => ⟨S_, .i32⟩
  | 102 => ⟨S64x64, .i32⟩
  | 103 => ⟨S64x64, .i32⟩
  | 104 => ⟨S_, .i32⟩
  | 105 => ⟨S64x64, .i32⟩
  | 106 => ⟨S64x64, .i32⟩
  | 107 => ⟨S_, .i32⟩
  | 108 => ⟨S64x64, .i32⟩
  | 109 => ⟨S64x64, .i32⟩
  | 110 => ⟨S16x15x31, .f32⟩
  | 111 => ⟨S32x1x8x1, .i32⟩
  | 112 => ⟨S1x64x1x64, .i32⟩
  | 113 => ⟨S_, .i32⟩
  | 114 => ⟨S32x1x8x1, .i32⟩
  | 115 => ⟨S32x1x8x1, .i1⟩
  | 116 => ⟨S_, .i32⟩
  | 117 => ⟨S32x1x8x1, .i32⟩
  | 118 => ⟨S32x1x8x1, .i32⟩
  | 119 => ⟨S32x1x8x1, .i32⟩
  | 120 => ⟨S_, .i32⟩
  | 121 => ⟨S1x64x1x64, .i32⟩
  | 122 => ⟨S1x64x1x64, .i1⟩
  | 123 => ⟨S_, .i32⟩
  | 124 => ⟨S1x64x1x64, .i32⟩
  | 125 => ⟨S1x64x1x64, .i32⟩
  | 126 => ⟨S1x64x1x64, .i32⟩
  | 127 => ⟨S32x64x8x64, .i32⟩
  | _ => ⟨S24x4x2048x128, .bf16⟩

abbrev hbmTy0_1 (i : Nat) : BufTy := match i % 128 with
  | 0 => ⟨S32x64x8x64, .i32⟩
  | 1 => ⟨S32x64x8x64x1, .i32⟩
  | 2 => ⟨S32x64x8x64x1, .i32⟩
  | 3 => ⟨S32x64x8x64x2, .i32⟩
  | 4 => ⟨S16x32x64x8x64, .f32⟩
  | 5 => ⟨S1x1x64x1x64, .i1⟩
  | 6 => ⟨S_, .f32⟩
  | 7 => ⟨S_, .f32⟩
  | 8 => ⟨S16x32x64x8x64, .i1⟩
  | 9 => ⟨S16x32x64x8x64, .f32⟩
  | 10 => ⟨S16x32x64x8x64, .f32⟩
  | 11 => ⟨S4x16x32x64x8x64, .f32⟩
  | 12 => ⟨S1x16x32x64x8x64, .f32⟩
  | 13 => ⟨S4x16x32x64x8x64, .f32⟩
  | 14 => ⟨S4x16x32x64x8x64, .f32⟩
  | 15 => ⟨S16x16x4x32x64, .f32⟩
  | 16 => ⟨S4x16x32x64x16, .f32⟩
  | 17 => ⟨S16x16, .f32⟩
  | 18 => ⟨S1x16x1x1x16, .f32⟩
  | 19 => ⟨S4x16x32x64x16, .f32⟩
  | 20 => ⟨S4x16x32x64x16, .f32⟩
  | 21 => ⟨S4x16x32x64x512, .f32⟩
  | 22 => ⟨S4x16x32x64x528, .f32⟩
  | 23 => ⟨S_, .f32⟩
  | 24 => ⟨S4x16x32x64, .f32⟩
  | 25 => ⟨S4x16x32x64x1, .f32⟩
  | 26 => ⟨S4x16x32x64x528, .f32⟩
  | 27 => ⟨S4x16x32x64x528, .f32⟩
  | 28 => ⟨S4x16x32x64x528, .f32⟩
  | 29 => ⟨S_, .f32⟩
  | 30 => ⟨S4x16x32x64, .f32⟩
  | 31 => ⟨S4x16x32x64x1, .f32⟩
  | 32 => ⟨S_, .f32⟩
  | 33 => ⟨S4x16x32x64x1, .f32⟩
  | 34 => ⟨S4x16x32x64x1, .f32⟩
  | 35 => ⟨S4x16x32x64x528, .f32⟩
  | 36 => ⟨S4x16x32x64x528, .f32⟩
  | 37 => ⟨S4x16x32x64x512, .f32⟩
  | 38 => ⟨S4x16x32x64x8x64, .f32⟩
  | 39 => ⟨S4x16x32x64x16, .f32⟩
  | 40 => ⟨S4x32x16x64x64, .f32⟩
  | 41 => ⟨S4x32x64x16x64, .f32⟩
  | 42 => ⟨S16x64x4x32x64, .f32⟩
  | 43 => ⟨S4x32x64x16x64, .f32⟩
  | 44 => ⟨S4x32x64x16x64, .f32⟩
  | 45 => ⟨S4x2048x8x128, .f32⟩
  | 46 => ⟨S8x4x2048x128, .f32⟩
  | 47 => ⟨S8x4x2048x128, .bf16⟩
  | _ => ⟨S24x4x2048x128, .bf16⟩

abbrev hbmTy (i : Nat) : BufTy := match i / 128 with
  | 0 => hbmTy0_0 i
  | 1 => hbmTy0_1 i
  | _ => ⟨S24x4x2048x128, .bf16⟩

abbrev bufTy : (tb : Table) → Fin (tcTables nBuf tb) → BufTy
  | .hbm, ⟨i, _⟩ => hbmTy i
  | _, _ => ⟨S24x4x2048x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_c : Ref sig .tc := ⟨.hbm, 28, rfl⟩
abbrev main_v23 : Ref sig .tc := ⟨.hbm, 29, rfl⟩
abbrev main_v24 : Ref sig .tc := ⟨.hbm, 30, rfl⟩
abbrev main_c_0 : Ref sig .tc := ⟨.hbm, 31, rfl⟩
abbrev main_c_1 : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_call0_v3 : Ref sig .tc := ⟨.hbm, 36, rfl⟩
abbrev main_call0_v4 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_c_2 : Ref sig .tc := ⟨.hbm, 45, rfl⟩
abbrev main_v32 : Ref sig .tc := ⟨.hbm, 46, rfl⟩
abbrev main_v33 : Ref sig .tc := ⟨.hbm, 47, rfl⟩
abbrev main_c_3 : Ref sig .tc := ⟨.hbm, 48, rfl⟩
abbrev main_c_4 : Ref sig .tc := ⟨.hbm, 49, rfl⟩
abbrev main_call1_v0 : Ref sig .tc := ⟨.hbm, 50, rfl⟩
abbrev main_call1_v1 : Ref sig .tc := ⟨.hbm, 51, rfl⟩
abbrev main_call1_v2 : Ref sig .tc := ⟨.hbm, 52, rfl⟩
abbrev main_call1_v3 : Ref sig .tc := ⟨.hbm, 53, rfl⟩
abbrev main_call1_v4 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_c_5 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_c_6 : Ref sig .tc := ⟨.hbm, 70, rfl⟩
abbrev main_v48 : Ref sig .tc := ⟨.hbm, 71, rfl⟩
abbrev main_v49 : Ref sig .tc := ⟨.hbm, 72, rfl⟩
abbrev main_c_7 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_c_8 : Ref sig .tc := ⟨.hbm, 79, rfl⟩
abbrev main_v55 : Ref sig .tc := ⟨.hbm, 80, rfl⟩
abbrev main_v56 : Ref sig .tc := ⟨.hbm, 81, rfl⟩
abbrev main_c_9 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_c_10 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_c_11 : Ref sig .tc := ⟨.hbm, 99, rfl⟩
abbrev main_c_12 : Ref sig .tc := ⟨.hbm, 100, rfl⟩
abbrev main_call2_v0 : Ref sig .tc := ⟨.hbm, 101, rfl⟩
abbrev main_call2_v1 : Ref sig .tc := ⟨.hbm, 102, rfl⟩
abbrev main_call2_v2 : Ref sig .tc := ⟨.hbm, 103, rfl⟩
abbrev main_call2_v3 : Ref sig .tc := ⟨.hbm, 104, rfl⟩
abbrev main_call2_v4 : Ref sig .tc := ⟨.hbm, 105, rfl⟩
abbrev main_v72 : Ref sig .tc := ⟨.hbm, 106, rfl⟩
abbrev main_c_13 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_c_14 : Ref sig .tc := ⟨.hbm, 113, rfl⟩
abbrev main_v78 : Ref sig .tc := ⟨.hbm, 114, rfl⟩
abbrev main_v79 : Ref sig .tc := ⟨.hbm, 115, rfl⟩
abbrev main_c_15 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_c_16 : Ref sig .tc := ⟨.hbm, 120, rfl⟩
abbrev main_v83 : Ref sig .tc := ⟨.hbm, 121, rfl⟩
abbrev main_v84 : Ref sig .tc := ⟨.hbm, 122, rfl⟩
abbrev main_c_17 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_cst_18 : Ref sig .tc := ⟨.hbm, 134, rfl⟩
abbrev main_call3_v0 : Ref sig .tc := ⟨.hbm, 135, rfl⟩
abbrev main_call3_v1 : Ref sig .tc := ⟨.hbm, 136, rfl⟩
abbrev main_call3_v2 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_cst_19 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_cst_20 : Ref sig .tc := ⟨.hbm, 157, rfl⟩
abbrev main_v113 : Ref sig .tc := ⟨.hbm, 158, rfl⟩
abbrev main_v114 : Ref sig .tc := ⟨.hbm, 159, rfl⟩
abbrev main_cst_21 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_v127 : Ref sig .tc := ⟨.hbm, 173, rfl⟩
abbrev main_v128 : Ref sig .tc := ⟨.hbm, 174, rfl⟩
abbrev main_v129 : Ref sig .tc := ⟨.hbm, 175, rfl⟩

abbrev nD : Nat := 1
abbrev τ : Topo := Topo.v7x

variable {F : FTy → Type} [FloatOps F]
-- ==== Kernel2.lean ====
abbrev S4x2048x2048 : Shape := ⟨3, ![4, 2048, 2048]⟩
abbrev S16x2048 : Shape := ⟨2, ![16, 2048]⟩
abbrev S1x2048 : Shape := ⟨2, ![1, 2048]⟩
abbrev S1x2048x6144 : Shape := ⟨3, ![1, 2048, 6144]⟩
abbrev S1x64 : Shape := ⟨2, ![1, 64]⟩
abbrev S8192x2048 : Shape := ⟨2, ![8192, 2048]⟩
abbrev S2048 : Shape := ⟨1, ![2048]⟩
abbrev S64 : Shape := ⟨1, ![64]⟩
abbrev S_ : Shape := ⟨0, ![]⟩
abbrev S8x64 : Shape := ⟨2, ![8, 64]⟩
abbrev S512 : Shape := ⟨1, ![512]⟩
abbrev S1x512 : Shape := ⟨2, ![1, 512]⟩
abbrev S2048x6144 : Shape := ⟨2, ![2048, 6144]⟩
abbrev S24x8192x128 : Shape := ⟨3, ![24, 8192, 128]⟩
abbrev S8192x3072 : Shape := ⟨2, ![8192, 3072]⟩
abbrev S64x6144 : Shape := ⟨2, ![64, 6144]⟩
abbrev S1024x2048 : Shape := ⟨2, ![1024, 2048]⟩
abbrev S2048x512 : Shape := ⟨2, ![2048, 512]⟩
abbrev S4x2048x128 : Shape := ⟨3, ![4, 2048, 128]⟩
abbrev S16x512 : Shape := ⟨2, ![16, 512]⟩
abbrev S2064x2048 : Shape := ⟨2, ![2064, 2048]⟩
abbrev S1024 : Shape := ⟨1, ![1024]⟩
abbrev S1024x1 : Shape := ⟨2, ![1024, 1]⟩
abbrev S16 : Shape := ⟨1, ![16]⟩
abbrev S16x1 : Shape := ⟨2, ![16, 1]⟩
abbrev S2064x512 : Shape := ⟨2, ![2064, 512]⟩
abbrev S256x256 : Shape := ⟨2, ![256, 256]⟩
abbrev S2064x256 : Shape := ⟨2, ![2064, 256]⟩
abbrev S2048x128 : Shape := ⟨2, ![2048, 128]⟩
abbrev S1x2048x128 : Shape := ⟨3, ![1, 2048, 128]⟩

abbrev nBuf : Space → Nat
  | .hbm => 30
  | .vmem => 15
  | .smem => 0
  | _ => 0

abbrev bufTy : (tb : Table) → Fin (tcTables nBuf tb) → BufTy
  | .hbm, ⟨0, _⟩ => ⟨S4x2048x2048, .f32⟩
  | .hbm, ⟨1, _⟩ => ⟨S16x2048, .f32⟩
  | .hbm, ⟨2, _⟩ => ⟨S1x2048, .f32⟩
  | .hbm, ⟨3, _⟩ => ⟨S1x2048x6144, .f32⟩
  | .hbm, ⟨4, _⟩ => ⟨S1x64, .f32⟩
  | .hbm, ⟨5, _⟩ => ⟨S1x64, .f32⟩
  | .hbm, ⟨6, _⟩ => ⟨S8192x2048, .f32⟩
  | .hbm, ⟨7, _⟩ => ⟨S2048, .f32⟩
  | .hbm, ⟨8, _⟩ => ⟨S1x2048, .f32⟩
  | .hbm, ⟨9, _⟩ => ⟨S64, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S64, .f32⟩
  | .hbm, ⟨16, _⟩ => ⟨S64, .f32⟩
  | .hbm, ⟨17, _⟩ => ⟨S1x64, .f32⟩
  | .hbm, ⟨18, _⟩ => ⟨S8x64, .f32⟩
  | .hbm, ⟨19, _⟩ => ⟨S512, .f32⟩
  | .hbm, ⟨20, _⟩ => ⟨S1x512, .f32⟩
  | .hbm, ⟨21, _⟩ => ⟨S64, .f32⟩
  | .hbm, ⟨22, _⟩ => ⟨S1x64, .f32⟩
  | .hbm, ⟨23, _⟩ => ⟨S8x64, .f32⟩
  | .hbm, ⟨24, _⟩ => ⟨S512, .f32⟩
  | .hbm, ⟨25, _⟩ => ⟨S1x512, .f32⟩
  | .hbm, ⟨26, _⟩ => ⟨S2048x6144, .f32⟩
  | .hbm, ⟨27, _⟩ => ⟨S24x8192x128, .bf16⟩
  | .hbm, ⟨28, _⟩ => ⟨S8192x3072, .bf16⟩
  | .hbm, ⟨29, _⟩ => ⟨S64x6144, .bf16⟩
  | .local _ .vmem, ⟨0, _⟩ => ⟨S1024x2048, .f32⟩
  | .local _ .vmem, ⟨1, _⟩ => ⟨S1024x2048, .f32⟩
  | .local _ .vmem, ⟨2, _⟩ => ⟨S16x2048, .f32⟩
  | .local _ .vmem, ⟨3, _⟩ => ⟨S1x2048, .f32⟩
  | .local _ .vmem, ⟨4, _⟩ => ⟨S2048x512, .f32⟩
  | .local _ .vmem, ⟨5, _⟩ => ⟨S2048x512, .f32⟩
  | .local _ .vmem, ⟨6, _⟩ => ⟨S1x512, .f32⟩
  | .local _ .vmem, ⟨7, _⟩ => ⟨S1x512, .f32⟩
  | .local _ .vmem, ⟨8, _⟩ => ⟨S4x2048x128, .bf16⟩
  | .local _ .vmem, ⟨9, _⟩ => ⟨S4x2048x128, .bf16⟩
  | .local _ .vmem, ⟨10, _⟩ => ⟨S2048x512, .bf16⟩
  | .local _ .vmem, ⟨11, _⟩ => ⟨S2048x512, .bf16⟩
  | .local _ .vmem, ⟨12, _⟩ => ⟨S16x512, .bf16⟩
  | .local _ .vmem, ⟨13, _⟩ => ⟨S16x512, .bf16⟩
  | .local _ .vmem, ⟨14, _⟩ => ⟨S2064x2048, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19_0 : Ref sig .tc := ⟨.hbm, 27, rfl⟩
abbrev main_v19_1 : Ref sig .tc := ⟨.hbm, 28, rfl⟩
abbrev main_v19_2 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![4, 13], ![false, false]⟩

def k0_cond1 (i : grid0.Coords) : BitVec 1 :=
  let arg1 : BitVec 32 := BitVec.ofNat 32 (i 1).val
  let c2_i32 : BitVec 32 := 2#32
  let v1 : BitVec 1 := Scalar.cmpi .slt arg1 c2_i32
  let v2 : BitVec 32 := Scalar.extui v1
  let c0_i32 : BitVec 32 := 0#32
  let v3 : BitVec 1 := Scalar.cmpi .ne v2 c0_i32
  v3

def k0_mult1 (i : grid0.Coords) : BitVec 32 :=
  let arg1 : BitVec 32 := BitVec.ofNat 32 (i 1).val
  let c1024_i32 : BitVec 32 := 1024#32
  let v27 : BitVec 32 := Scalar.muli arg1 c1024_i32
  v27
def k0_off1 (i : grid0.Coords) : Fin 2 → Nat :=
  let arg1 : BitVec 32 := BitVec.ofNat 32 (i 1).val
  let c1024_i32 : BitVec 32 := 1024#32
  let v27 : BitVec 32 := Scalar.muli arg1 c1024_i32
  let v28 : BitVec 32 := v27
  let v29 : Index := Scalar.indexCast v28
  let c0_9 : Index := 0#32
  ![v29.toNat, 0]
def k0_cond3 (i : grid0.Coords) : BitVec 1 :=
  let arg1 : BitVec 32 := BitVec.ofNat 32 (i 1).val
  let c1_i32 : BitVec 32 := 1#32
  let v0 : BitVec 32 := Scalar.subi arg1 c1_i32
  let c0_i32_2 : BitVec 32 := 0#32
  let v7 : BitVec 1 := Scalar.cmpi .sge v0 c0_i32_2
  let v8 : BitVec 32 := Scalar.extui v7
  let c0_i32_3 : BitVec 32 := 0#32
  let v9 : BitVec 1 := Scalar.cmpi .ne v8 c0_i32_3
  v9

def k0_cond4 (i : grid0.Coords) : BitVec 1 :=
  let arg1 : BitVec 32 := BitVec.ofNat 32 (i 1).val
  let c1_i32 : BitVec 32 := 1#32
  let v0 : BitVec 32 := Scalar.subi arg1 c1_i32
  let c2_i32_4 : BitVec 32 := 2#32
  let v10 : BitVec 1 := Scalar.cmpi .slt v0 c2_i32_4
  let v11 : BitVec 32 := Scalar.extui v10
  let c0_i32_5 : BitVec 32 := 0#32
  let v12 : BitVec 1 := Scalar.cmpi .ne v11 c0_i32_5
  v12

def k0_cond5 (i : grid0.Coords) : BitVec 1 :=
  let arg1 : BitVec 32 := BitVec.ofNat 32 (i 1).val
  let c1_i32 : BitVec 32 := 1#32
  let v0 : BitVec 32 := Scalar.subi arg1 c1_i32
  let c2_i32_6 : BitVec 32 := 2#32
  let v13 : BitVec 1 := Scalar.cmpi .sge v0 c2_i32_6
  let c4_i32 : BitVec 32 := 4#32
  let v14 : BitVec 1 := Scalar.cmpi .slt v0 c4_i32
  let v15 : BitVec 1 := Scalar.andi v13 v14
  let v16 : BitVec 32 := Scalar.extui v15
  let c0_i32_7 : BitVec 32 := 0#32
  let v17 : BitVec 1 := Scalar.cmpi .ne v16 c0_i32_7
  v17

def k0_cond6 (i : grid0.Coords) : BitVec 1 :=
  let arg1 : BitVec 32 := BitVec.ofNat 32 (i 1).val
  let c1_i32 : BitVec 32 := 1#32
  let v0 : BitVec 32 := Scalar.subi arg1 c1_i32
  let c4_i32_8 : BitVec 32 := 4#32
  let v18 : BitVec 1 := Scalar.cmpi .sge v0 c4_i32_8
  let c6_i32 : BitVec 32 := 6#32
  let v19 : BitVec 1 := Scalar.cmpi .slt v0 c6_i32
  let v20 : BitVec 1 := Scalar.andi v18 v19
  let v21 : BitVec 32 := Scalar.extui v20
  let c0_i32_9 : BitVec 32 := 0#32
  let v22 : BitVec 1 := Scalar.cmpi .ne v21 c0_i32_9
  v22

def k0_cond7 (i : grid0.Coords) : BitVec 1 :=
  let arg1 : BitVec 32 := BitVec.ofNat 32 (i 1).val
  let c1_i32 : BitVec 32 := 1#32
  let v0 : BitVec 32 := Scalar.subi arg1 c1_i32
  let c6_i32_10 : BitVec 32 := 6#32
  let v23 : BitVec 1 := Scalar.cmpi .sge v0 c6_i32_10
  let v24 : BitVec 32 := Scalar.extui v23
  let c0_i32_11 : BitVec 32 := 0#32
  let v25 : BitVec 1 := Scalar.cmpi .ne v24 c0_i32_11
  v25

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let c1_i32 : BitVec 32 := 1#32
  let v1 : BitVec 32 := Scalar.minsi arg1 c1_i32
  let v2 : BitVec 32 := Scalar.addi v0 v1
  let c0_i32 : BitVec 32 := 0#32
  let c0_i32_0 : BitVec 32 := 0#32
  ![v2.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c5_i32 : BitVec 32 := 5#32
  let v2 : BitVec 32 := Scalar.minsi v1 c5_i32
  let c0_i32_0 : BitVec 32 := 0#32
  let c0_i32_1 : BitVec 32 := 0#32
  ![v2.toNat, arg0.toNat, c0_i32_0.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c6_i32 : BitVec 32 := 6#32
  let v2 : BitVec 32 := Scalar.subi v1 c6_i32
  let c0_i32_0 : BitVec 32 := 0#32
  let v3 : BitVec 32 := Scalar.maxsi v2 c0_i32_0
  let c0_i32_1 : BitVec 32 := 0#32
  ![arg0.toNat, v3.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  ![arg0.toNat, v1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S16x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S4x2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2048x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S16x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference2Ideal.lean ====
abbrev S4x2048x2048 : Shape := ⟨3, ![4, 2048, 2048]⟩
abbrev S16x2048 : Shape := ⟨2, ![16, 2048]⟩
abbrev S1x2048 : Shape := ⟨2, ![1, 2048]⟩
abbrev S1x2048x6144 : Shape := ⟨3, ![1, 2048, 6144]⟩
abbrev S1x64 : Shape := ⟨2, ![1, 64]⟩
abbrev S1x16x2048 : Shape := ⟨3, ![1, 16, 2048]⟩
abbrev S4x16x2048 : Shape := ⟨3, ![4, 16, 2048]⟩
abbrev S4x2064x2048 : Shape := ⟨3, ![4, 2064, 2048]⟩
abbrev S2048 : Shape := ⟨1, ![2048]⟩
abbrev S_ : Shape := ⟨0, ![]⟩
abbrev S4x2064 : Shape := ⟨2, ![4, 2064]⟩
abbrev S4x2064x1 : Shape := ⟨3, ![4, 2064, 1]⟩
abbrev S1x1x2048 : Shape := ⟨3, ![1, 1, 2048]⟩
abbrev S2048x6144 : Shape := ⟨2, ![2048, 6144]⟩
abbrev S4x2064x6144 : Shape := ⟨3, ![4, 2064, 6144]⟩
abbrev S4x2064x1024 : Shape := ⟨3, ![4, 2064, 1024]⟩
abbrev S4x2064x16x64 : Shape := ⟨4, ![4, 2064, 16, 64]⟩
abbrev S64 : Shape := ⟨1, ![64]⟩
abbrev S4x2064x16 : Shape := ⟨3, ![4, 2064, 16]⟩
abbrev S4x2064x16x1 : Shape := ⟨4, ![4, 2064, 16, 1]⟩
abbrev S1x1x1x64 : Shape := ⟨4, ![1, 1, 1, 64]⟩
abbrev S4x2064x4096 : Shape := ⟨3, ![4, 2064, 4096]⟩
abbrev S4x2048x3072 : Shape := ⟨3, ![4, 2048, 3072]⟩
abbrev S8192x24x128 : Shape := ⟨3, ![8192, 24, 128]⟩
abbrev S24x8192x128 : Shape := ⟨3, ![24, 8192, 128]⟩
abbrev S8192x3072 : Shape := ⟨2, ![8192, 3072]⟩
abbrev S4x16x6144 : Shape := ⟨3, ![4, 16, 6144]⟩
abbrev S64x6144 : Shape := ⟨2, ![64, 6144]⟩

abbrev nBuf : Space → Nat
  | .hbm => 87
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S16x2048, .f32⟩
  | .hbm, ⟨2, _⟩ => ⟨S1x2048, .f32⟩
  | .hbm, ⟨3, _⟩ => ⟨S1x2048x6144, .f32⟩
  | .hbm, ⟨4, _⟩ => ⟨S1x64, .f32⟩
  | .hbm, ⟨5, _⟩ => ⟨S1x64, .f32⟩
  | .hbm, ⟨6, _⟩ => ⟨S1x16x2048, .f32⟩
  | .hbm, ⟨7, _⟩ => ⟨S4x16x2048, .f32⟩
  | .hbm, ⟨8, _⟩ => ⟨S4x2064x2048, .f32⟩
  | .hbm, ⟨9, _⟩ => ⟨S2048, .f32⟩
  | .hbm, ⟨10, _⟩ => ⟨S4x2064x2048, .f32⟩
  | .hbm, ⟨11, _⟩ => ⟨S_, .f32⟩
  | .hbm, ⟨12, _⟩ => ⟨S4x2064, .f32⟩
  | .hbm, ⟨13, _⟩ => ⟨S4x2064x1, .f32⟩
  | .hbm, ⟨14, _⟩ => ⟨S_, .f32⟩
  | .hbm, ⟨15, _⟩ => ⟨S4x2064x1, .f32⟩
  | .hbm, ⟨16, _⟩ => ⟨S4x2064x1, .f32⟩
  | .hbm, ⟨17, _⟩ => ⟨S_, .f32⟩
  | .hbm, ⟨18, _⟩ => ⟨S4x2064x1, .f32⟩
  | .hbm, ⟨19, _⟩ => ⟨S4x2064x1, .f32⟩
  | .hbm, ⟨20, _⟩ => ⟨S4x2064x1, .f32⟩
  | .hbm, ⟨21, _⟩ => ⟨S4x2064x2048, .f32⟩
  | .hbm, ⟨22, _⟩ => ⟨S4x2064x2048, .f32⟩
  | .hbm, ⟨23, _⟩ => ⟨S1x1x2048, .f32⟩
  | .hbm, ⟨24, _⟩ => ⟨S4x2064x2048, .f32⟩
  | .hbm, ⟨25, _⟩ => ⟨S4x2064x2048, .f32⟩
  | .hbm, ⟨26, _⟩ => ⟨S2048x6144, .f32⟩
  | .hbm, ⟨27, _⟩ => ⟨S4x2064x6144, .f32⟩
  | .hbm, ⟨28, _⟩ => ⟨S4x2064x1024, .f32⟩
  | .hbm, ⟨29, _⟩ => ⟨S4x2064x16x64, .f32⟩
  | .hbm, ⟨30, _⟩ => ⟨S64, .f32⟩
  | .hbm, ⟨31, _⟩ => ⟨S4x2064x16x64, .f32⟩
  | .hbm, ⟨32, _⟩ => ⟨S_, .f32⟩
  | .hbm, ⟨33, _⟩ => ⟨S4x2064x16, .f32⟩
  | .hbm, ⟨34, _⟩ => ⟨S4x2064x16x1, .f32⟩
  | .hbm, ⟨35, _⟩ => ⟨S_, .f32⟩
  | .hbm, ⟨36, _⟩ => ⟨S4x2064x16x1, .f32⟩
  | .hbm, ⟨37, _⟩ => ⟨S4x2064x16x1, .f32⟩
  | .hbm, ⟨38, _⟩ => ⟨S_, .f32⟩
  | .hbm, ⟨39, _⟩ => ⟨S4x2064x16x1, .f32⟩
  | .hbm, ⟨40, _⟩ => ⟨S4x2064x16x1, .f32⟩
  | .hbm, ⟨41, _⟩ => ⟨S4x2064x16x1, .f32⟩
  | .hbm, ⟨42, _⟩ => ⟨S4x2064x16x64, .f32⟩
  | .hbm, ⟨43, _⟩ => ⟨S4x2064x16x64, .f32⟩
  | .hbm, ⟨44, _⟩ => ⟨S1x1x1x64, .f32⟩
  | .hbm, ⟨45, _⟩ => ⟨S4x2064x16x64, .f32⟩
  | .hbm, ⟨46, _⟩ => ⟨S4x2064x16x64, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S4x2064x16x64, .f32⟩
  | .hbm, ⟨53, _⟩ => ⟨S4x2064x16x64, .f32⟩
  | .hbm, ⟨54, _⟩ => ⟨S4x2064x1024, .f32⟩
  | .hbm, ⟨55, _⟩ => ⟨S4x2064x1024, .f32⟩
  | .hbm, ⟨56, _⟩ => ⟨S4x2064x16x64, .f32⟩
  | .hbm, ⟨57, _⟩ => ⟨S64, .f32⟩
  | .hbm, ⟨58, _⟩ => ⟨S4x2064x16x64, .f32⟩
  | .hbm, ⟨59, _⟩ => ⟨S_, .f32⟩
  | .hbm, ⟨60, _⟩ => ⟨S4x2064x16, .f32⟩
  | .hbm, ⟨61, _⟩ => ⟨S4x2064x16x1, .f32⟩
  | .hbm, ⟨62, _⟩ => ⟨S_, .f32⟩
  | .hbm, ⟨63, _⟩ => ⟨S4x2064x16x1, .f32⟩
  | .hbm, ⟨64, _⟩ => ⟨S4x2064x16x1, .f32⟩
  | .hbm, ⟨65, _⟩ => ⟨S_, .f32⟩
  | .hbm, ⟨66, _⟩ => ⟨S4x2064x16x1, .f32⟩
  | .hbm, ⟨67, _⟩ => ⟨S4x2064x16x1, .f32⟩
  | .hbm, ⟨68, _⟩ => ⟨S4x2064x16x1, .f32⟩
  | .hbm, ⟨69, _⟩ => ⟨S4x2064x16x64, .f32⟩
  | .hbm, ⟨70, _⟩ => ⟨S4x2064x16x64, .f32⟩
  | .hbm, ⟨71, _⟩ => ⟨S1x1x1x64, .f32⟩
  | .hbm, ⟨72, _⟩ => ⟨S4x2064x16x64, .f32⟩
  | .hbm, ⟨73, _⟩ => ⟨S4x2064x16x64, .f32⟩
  | .hbm, ⟨74, _⟩ => ⟨S4x2064x1024, .f32⟩
  | .hbm, ⟨75, _⟩ => ⟨S4x2064x4096, .f32⟩
  | .hbm, ⟨76, _⟩ => ⟨S4x2064x6144, .f32⟩
  | .hbm, ⟨77, _⟩ => ⟨S4x2048x3072, .f32⟩
  | .hbm, ⟨78, _⟩ => ⟨S8192x24x128, .f32⟩
  | .hbm, ⟨79, _⟩ => ⟨S24x8192x128, .f32⟩
  | .hbm, ⟨80, _⟩ => ⟨S4x2048x3072, .f32⟩
  | .hbm, ⟨81, _⟩ => ⟨S8192x3072, .f32⟩
  | .hbm, ⟨82, _⟩ => ⟨S4x16x6144, .f32⟩
  | .hbm, ⟨83, _⟩ => ⟨S64x6144, .f32⟩
  | .hbm, ⟨84, _⟩ => ⟨S24x8192x128, .bf16⟩
  | .hbm, ⟨85, _⟩ => ⟨S8192x3072, .bf16⟩
  | .hbm, ⟨86, _⟩ => ⟨S64x6144, .bf16⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_2 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_5 : Ref sig .tc := ⟨.hbm, 47, rfl⟩
abbrev main_v35 : Ref sig .tc := ⟨.hbm, 48, rfl⟩
abbrev main_cst_6 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_7 : Ref sig .tc := ⟨.hbm, 59, rfl⟩
abbrev main_v45 : Ref sig .tc := ⟨.hbm, 60, rfl⟩
abbrev main_v46 : Ref sig .tc := ⟨.hbm, 61, rfl⟩
abbrev main_cst_8 : Ref sig .tc := ⟨.hbm, 62, rfl⟩
abbrev main_v47 : Ref sig .tc := ⟨.hbm, 63, rfl⟩
abbrev main_v48 : Ref sig .tc := ⟨.hbm, 64, rfl⟩
abbrev main_cst_9 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩

abbrev nD : Nat := 1
abbrev τ : Topo := Topo.v7x

variable {F : FTy → Type} [FloatOps F]
-- ==== Kernel3.lean ====
abbrev S8x8192x128 : Shape := ⟨3, ![8, 8192, 128]⟩
abbrev S8192x3072 : Shape := ⟨2, ![8192, 3072]⟩
abbrev S16x6144 : Shape := ⟨2, ![16, 6144]⟩
abbrev S8192x2048 : Shape := ⟨2, ![8192, 2048]⟩
abbrev S3x1024 : Shape := ⟨2, ![3, 1024]⟩
abbrev S1x1024 : Shape := ⟨2, ![1, 1024]⟩
abbrev S2048x2048 : Shape := ⟨2, ![2048, 2048]⟩
abbrev S1x2048 : Shape := ⟨2, ![1, 2048]⟩
abbrev S2048x128 : Shape := ⟨2, ![2048, 128]⟩
abbrev S1x128 : Shape := ⟨2, ![1, 128]⟩
abbrev S65536x128 : Shape := ⟨2, ![65536, 128]⟩
abbrev S8192x128 : Shape := ⟨2, ![8192, 128]⟩
abbrev S8x256x128 : Shape := ⟨3, ![8, 256, 128]⟩
abbrev S256x1024 : Shape := ⟨2, ![256, 1024]⟩
abbrev S16x1024 : Shape := ⟨2, ![16, 1024]⟩
abbrev S256x2048 : Shape := ⟨2, ![256, 2048]⟩
abbrev S256x128 : Shape := ⟨2, ![256, 128]⟩
abbrev S1x256x128 : Shape := ⟨3, ![1, 256, 128]⟩
abbrev S256 : Shape := ⟨1, ![256]⟩
abbrev S256x1 : Shape := ⟨2, ![256, 1]⟩

abbrev nBuf : Space → Nat
  | .hbm => 15
  | .vmem => 35
  | .smem => 0
  | _ => 0

abbrev bufTy : (tb : Table) → Fin (tcTables nBuf tb) → BufTy
  | .hbm, ⟨0, _⟩ => ⟨S8x8192x128, .bf16⟩
  | .hbm, ⟨1, _⟩ => ⟨S8192x3072, .bf16⟩
  | .hbm, ⟨2, _⟩ => ⟨S16x6144, .bf16⟩
  | .hbm, ⟨3, _⟩ => ⟨S8192x2048, .f32⟩
  | .hbm, ⟨4, _⟩ => ⟨S3x1024, .f32⟩
  | .hbm, ⟨5, _⟩ => ⟨S1x1024, .f32⟩
  | .hbm, ⟨6, _⟩ => ⟨S1x1024, .f32⟩
  | .hbm, ⟨7, _⟩ => ⟨S2048x2048, .f32⟩
  | .hbm, ⟨8, _⟩ => ⟨S1x2048, .f32⟩
  | .hbm, ⟨9, _⟩ => ⟨S2048x128, .bf16⟩
  | .hbm, ⟨10, _⟩ => ⟨S1x128, .f32⟩
  | .hbm, ⟨11, _⟩ => ⟨S8192x2048, .f32⟩
  | .hbm, ⟨12, _⟩ => ⟨S65536x128, .i32⟩
  | .hbm, ⟨13, _⟩ => ⟨S8192x128, .i32⟩
  | .hbm, ⟨14, _⟩ => ⟨S8192x128, .f32⟩
  | .local _ .vmem, ⟨0, _⟩ => ⟨S8x256x128, .bf16⟩
  | .local _ .vmem, ⟨1, _⟩ => ⟨S8x256x128, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S16x1024, .bf16⟩
  | .local _ .vmem, ⟨9, _⟩ => ⟨S16x1024, .bf16⟩
  | .local _ .vmem, ⟨10, _⟩ => ⟨S16x1024, .bf16⟩
  | .local _ .vmem, ⟨11, _⟩ => ⟨S16x1024, .bf16⟩
  | .local _ .vmem, ⟨12, _⟩ => ⟨S16x1024, .bf16⟩
  | .local _ .vmem, ⟨13, _⟩ => ⟨S16x1024, .bf16⟩
  | .local _ .vmem, ⟨14, _⟩ => ⟨S16x1024, .bf16⟩
  | .local _ .vmem, ⟨15, _⟩ => ⟨S16x1024, .bf16⟩
  | .local _ .vmem, ⟨16, _⟩ => ⟨S16x1024, .bf16⟩
  | .local _ .vmem, ⟨17, _⟩ => ⟨S16x1024, .bf16⟩
  | .local _ .vmem, ⟨18, _⟩ => ⟨S256x2048, .f32⟩
  | .local _ .vmem, ⟨19, _⟩ => ⟨S256x2048, .f32⟩
  | .local _ .vmem, ⟨20, _⟩ => ⟨S3x1024, .f32⟩
  | .local _ .vmem, ⟨21, _⟩ => ⟨S1x1024, .f32⟩
  | .local _ .vmem, ⟨22, _⟩ => ⟨S1x1024, .f32⟩
  | .local _ .vmem, ⟨23, _⟩ => ⟨S2048x2048, .f32⟩
  | .local _ .vmem, ⟨24, _⟩ => ⟨S1x2048, .f32⟩
  | .local _ .vmem, ⟨25, _⟩ => ⟨S2048x128, .bf16⟩
  | .local _ .vmem, ⟨26, _⟩ => ⟨S1x128, .f32⟩
  | .local _ .vmem, ⟨27, _⟩ => ⟨S256x2048, .f32⟩
  | .local _ .vmem, ⟨28, _⟩ => ⟨S256x2048, .f32⟩
  | .local _ .vmem, ⟨29, _⟩ => ⟨S2048x128, .i32⟩
  | .local _ .vmem, ⟨30, _⟩ => ⟨S2048x128, .i32⟩
  | .local _ .vmem, ⟨31, _⟩ => ⟨S256x128, .i32⟩
  | .local _ .vmem, ⟨32, _⟩ => ⟨S256x128, .i32⟩
  | .local _ .vmem, ⟨33, _⟩ => ⟨S256x128, .f32⟩
  | .local _ .vmem, ⟨34, _⟩ => ⟨S256x128, .f32⟩
  | _, _ => ⟨S8x8192x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0_0 : Ref sig .tc := ⟨.hbm, 11, rfl⟩
abbrev main_v0_1 : Ref sig .tc := ⟨.hbm, 12, rfl⟩
abbrev main_v0_2 : Ref sig .tc := ⟨.hbm, 13, rfl⟩
abbrev main_v0_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg16_0 : Ref sig .tc := ⟨.vmem, 25, rfl⟩
abbrev cc0_stg17_0 : Ref sig .tc := ⟨.vmem, 26, rfl⟩
abbrev cc0_stg18_0 : Ref sig .tc := ⟨.vmem, 27, rfl⟩
abbrev cc0_stg18_1 : Ref sig .tc := ⟨.vmem, 28, rfl⟩
abbrev cc0_stg19_0 : Ref sig .tc := ⟨.vmem, 29, rfl⟩
abbrev cc0_stg19_1 : Ref sig .tc := ⟨.vmem, 30, rfl⟩
abbrev cc0_stg20_0 : Ref sig .tc := ⟨.vmem, 31, rfl⟩
abbrev cc0_stg20_1 : Ref sig .tc := ⟨.vmem, 32, rfl⟩
abbrev cc0_stg21_0 : Ref sig .tc := ⟨.vmem, 33, rfl⟩
abbrev cc0_stg21_1 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem10_1 : DmaSem sig := 19
abbrev cc0_sem11_0 : DmaSem sig := 20
abbrev cc0_sem12_0 : DmaSem sig := 21
abbrev cc0_sem13_0 : DmaSem sig := 22
abbrev cc0_sem14_0 : DmaSem sig := 23
abbrev cc0_sem15_0 : DmaSem sig := 24
abbrev cc0_sem16_0 : DmaSem sig := 25
abbrev cc0_sem17_0 : DmaSem sig := 26
abbrev cc0_sem18_0 : DmaSem sig := 27
abbrev cc0_sem18_1 : DmaSem sig := 28
abbrev cc0_sem19_0 : DmaSem sig := 29
abbrev cc0_sem19_1 : DmaSem sig := 30
abbrev cc0_sem20_0 : DmaSem sig := 31
abbrev cc0_sem20_1 : DmaSem sig := 32
abbrev cc0_sem21_0 : DmaSem sig := 33
abbrev cc0_sem21_1 : DmaSem sig := 34

abbrev nD : Nat := 1
abbrev τ : Topo := Topo.v7x

variable {F : FTy → Type} [BitOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_4 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc0_transform_5 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![v2.toNat, c2_i32.toNat]

def cc0_transform_6 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c511_i32 : BitVec 32 := 511#32
  let v2 : BitVec 32 := Scalar.minsi v1 c511_i32
  let c1_i32_0 : BitVec 32 := 1#32
  let c0_i32 : BitVec 32 := 0#32
  ![v2.toNat, c1_i32_0.toNat]

def cc0_transform_7 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c511_i32 : BitVec 32 := 511#32
  let v2 : BitVec 32 := Scalar.minsi v1 c511_i32
  let c2_i32 : BitVec 32 := 2#32
  let c0_i32 : BitVec 32 := 0#32
  ![v2.toNat, c2_i32.toNat]

def cc0_transform_8 (i : grid0.Coords) : Fin 2 → Nat :=
  let arg0 : BitVec 32 := BitVec.ofNat 32 (i 0).val
  let c0_i32 : BitVec 32 := 0#32
  let c4_i32 : BitVec 32 := 4#32
  let c0_i32_0 : BitVec 32 := 0#32
  ![c0_i32.toNat, c4_i32.toNat]

def cc0_transform_9 (i : grid0.Coords) : Fin 2 → Nat :=
  let arg0 : BitVec 32 := BitVec.ofNat 32 (i 0).val
  let c0_i32 : BitVec 32 := 0#32
  let c5_i32 : BitVec 32 := 5#32
  let c0_i32_0 : BitVec 32 := 0#32
  ![c0_i32.toNat, c5_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S16x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S16x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S3x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S2048x2048 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x2048 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S2048x128 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S256x2048 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S2048x128 .i32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x128 .i32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S256x128 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]
-- ==== Kernel3Ideal.lean ====
abbrev S8x8192x128 : Shape := ⟨3, ![8, 8192, 128]⟩
abbrev S8192x3072 : Shape := ⟨2, ![8192, 3072]⟩
abbrev S16x6144 : Shape := ⟨2, ![16, 6144]⟩
abbrev S8192x2048 : Shape := ⟨2, ![8192, 2048]⟩
abbrev S3x1024 : Shape := ⟨2, ![3, 1024]⟩
abbrev S1x1024 : Shape := ⟨2, ![1, 1024]⟩
abbrev S2048x2048 : Shape := ⟨2, ![2048, 2048]⟩
abbrev S1x2048 : Shape := ⟨2, ![1, 2048]⟩
abbrev S2048x128 : Shape := ⟨2, ![2048, 128]⟩
abbrev S1x128 : Shape := ⟨2, ![1, 128]⟩
abbrev S65536x2x128 : Shape := ⟨3, ![65536, 2, 128]⟩
abbrev S8192x128 : Shape := ⟨2, ![8192, 128]⟩
abbrev S65536x1x128 : Shape := ⟨3, ![65536, 1, 128]⟩
abbrev S65536x128 : Shape := ⟨2, ![65536, 128]⟩
abbrev S8x256x128 : Shape := ⟨3, ![8, 256, 128]⟩
abbrev S256x1024 : Shape := ⟨2, ![256, 1024]⟩
abbrev S16x1024 : Shape := ⟨2, ![16, 1024]⟩
abbrev S256x2048 : Shape := ⟨2, ![256, 2048]⟩
abbrev S2048x2x128 : Shape := ⟨3, ![2048, 2, 128]⟩
abbrev S2048x1x128 : Shape := ⟨3, ![2048, 1, 128]⟩
abbrev S256x128 : Shape := ⟨2, ![256, 128]⟩
abbrev S1x256x128 : Shape := ⟨3, ![1, 256, 128]⟩
abbrev S256 : Shape := ⟨1, ![256]⟩
abbrev S256x1 : Shape := ⟨2, ![256, 1]⟩
abbrev S256x2x128 : Shape := ⟨3, ![256, 2, 128]⟩
abbrev S256x1x128 : Shape := ⟨3, ![256, 1, 128]⟩

abbrev nBuf : Space → Nat
  | .hbm => 15
  | .vmem => 35
  | .smem => 0
  | _ => 0

abbrev bufTy : (tb : Table) → Fin (tcTables nBuf tb) → BufTy
  | .hbm, ⟨0, _⟩ => ⟨S8x8192x128, .bf16⟩
  | .hbm, ⟨1, _⟩ => ⟨S8192x3072, .bf16⟩
  | .hbm, ⟨2, _⟩ => ⟨S16x6144, .bf16⟩
  | .hbm, ⟨3, _⟩ => ⟨S8192x2048, .f32⟩
  | .hbm, ⟨4, _⟩ => ⟨S3x1024, .f32⟩
  | .hbm, ⟨5, _⟩ => ⟨S1x1024, .f32⟩
  | .hbm, ⟨6, _⟩ => ⟨S1x1024, .f32⟩
  | .hbm, ⟨7, _⟩ => ⟨S2048x2048, .f32⟩
  | .hbm, ⟨8, _⟩ => ⟨S1x2048, .f32⟩
  | .hbm, ⟨9, _⟩ => ⟨S2048x128, .bf16⟩
  | .hbm, ⟨10, _⟩ => ⟨S1x128, .f32⟩
  | .hbm, ⟨11, _⟩ => ⟨S8192x2048, .f32⟩
  | .hbm, ⟨12, _⟩ => ⟨S65536x2x128, .bf16⟩
  | .hbm, ⟨13, _⟩ => ⟨S8192x128, .i32⟩
  | .hbm, ⟨14, _⟩ => ⟨S8192x128, .f32⟩
  | .local _ .vmem, ⟨0, _⟩ => ⟨S8x256x128, .bf16⟩
  | .local _ .vmem, ⟨1, _⟩ => ⟨S8x256x128, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S16x1024, .bf16⟩
  | .local _ .vmem, ⟨9, _⟩ => ⟨S16x1024, .bf16⟩
  | .local _ .vmem, ⟨10, _⟩ => ⟨S16x1024, .bf16⟩
  | .local _ .vmem, ⟨11, _⟩ => ⟨S16x1024, .bf16⟩
  | .local _ .vmem, ⟨12, _⟩ => ⟨S16x1024, .bf16⟩
  | .local _ .vmem, ⟨13, _⟩ => ⟨S16x1024, .bf16⟩
  | .local _ .vmem, ⟨14, _⟩ => ⟨S16x1024, .bf16⟩
  | .local _ .vmem, ⟨15, _⟩ => ⟨S16x1024, .bf16⟩
  | .local _ .vmem, ⟨16, _⟩ => ⟨S16x1024, .bf16⟩
  | .local _ .vmem, ⟨17, _⟩ => ⟨S16x1024, .bf16⟩
  | .local _ .vmem, ⟨18, _⟩ => ⟨S256x2048, .f32⟩
  | .local _ .vmem, ⟨19, _⟩ => ⟨S256x2048, .f32⟩
  | .local _ .vmem, ⟨20, _⟩ => ⟨S3x1024, .f32⟩
  | .local _ .vmem, ⟨21, _⟩ => ⟨S1x1024, .f32⟩
  | .local _ .vmem, ⟨22, _⟩ => ⟨S1x1024, .f32⟩
  | .local _ .vmem, ⟨23, _⟩ => ⟨S2048x2048, .f32⟩
  | .local _ .vmem, ⟨24, _⟩ => ⟨S1x2048, .f32⟩
  | .local _ .vmem, ⟨25, _⟩ => ⟨S2048x128, .bf16⟩
  | .local _ .vmem, ⟨26, _⟩ => ⟨S1x128, .f32⟩
  | .local _ .vmem, ⟨27, _⟩ => ⟨S256x2048, .f32⟩
  | .local _ .vmem, ⟨28, _⟩ => ⟨S256x2048, .f32⟩
  | .local _ .vmem, ⟨29, _⟩ => ⟨S2048x2x128, .bf16⟩
  | .local _ .vmem, ⟨30, _⟩ => ⟨S2048x2x128, .bf16⟩
  | .local _ .vmem, ⟨31, _⟩ => ⟨S256x128, .i32⟩
  | .local _ .vmem, ⟨32, _⟩ => ⟨S256x128, .i32⟩
  | .local _ .vmem, ⟨33, _⟩ => ⟨S256x128, .f32⟩
  | .local _ .vmem, ⟨34, _⟩ => ⟨S256x128, .f32⟩
  | _, _ => ⟨S8x8192x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0_0 : Ref sig .tc := ⟨.hbm, 11, rfl⟩
abbrev main_v0_1 : Ref sig .tc := ⟨.hbm, 12, rfl⟩
abbrev main_v0_2 : Ref sig .tc := ⟨.hbm, 13, rfl⟩
abbrev main_v0_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg16_0 : Ref sig .tc := ⟨.vmem, 25, rfl⟩
abbrev cc0_stg17_0 : Ref sig .tc := ⟨.vmem, 26, rfl⟩
abbrev cc0_stg18_0 : Ref sig .tc := ⟨.vmem, 27, rfl⟩
abbrev cc0_stg18_1 : Ref sig .tc := ⟨.vmem, 28, rfl⟩
abbrev cc0_stg19_0 : Ref sig .tc := ⟨.vmem, 29, rfl⟩
abbrev cc0_stg19_1 : Ref sig .tc := ⟨.vmem, 30, rfl⟩
abbrev cc0_stg20_0 : Ref sig .tc := ⟨.vmem, 31, rfl⟩
abbrev cc0_stg20_1 : Ref sig .tc := ⟨.vmem, 32, rfl⟩
abbrev cc0_stg21_0 : Ref sig .tc := ⟨.vmem, 33, rfl⟩
abbrev cc0_stg21_1 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem10_1 : DmaSem sig := 19
abbrev cc0_sem11_0 : DmaSem sig := 20
abbrev cc0_sem12_0 : DmaSem sig := 21
abbrev cc0_sem13_0 : DmaSem sig := 22
abbrev cc0_sem14_0 : DmaSem sig := 23
abbrev cc0_sem15_0 : DmaSem sig := 24
abbrev cc0_sem16_0 : DmaSem sig := 25
abbrev cc0_sem17_0 : DmaSem sig := 26
abbrev cc0_sem18_0 : DmaSem sig := 27
abbrev cc0_sem18_1 : DmaSem sig := 28
abbrev cc0_sem19_0 : DmaSem sig := 29
abbrev cc0_sem19_1 : DmaSem sig := 30
abbrev cc0_sem20_0 : DmaSem sig := 31
abbrev cc0_sem20_1 : DmaSem sig := 32
abbrev cc0_sem21_0 : DmaSem sig := 33
abbrev cc0_sem21_1 : DmaSem sig := 34

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_4 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc0_transform_5 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![v2.toNat, c2_i32.toNat]

def cc0_transform_6 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c511_i32 : BitVec 32 := 511#32
  let v2 : BitVec 32 := Scalar.minsi v1 c511_i32
  let c1_i32_0 : BitVec 32 := 1#32
  let c0_i32 : BitVec 32 := 0#32
  ![v2.toNat, c1_i32_0.toNat]

def cc0_transform_7 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c511_i32 : BitVec 32 := 511#32
  let v2 : BitVec 32 := Scalar.minsi v1 c511_i32
  let c2_i32 : BitVec 32 := 2#32
  let c0_i32 : BitVec 32 := 0#32
  ![v2.toNat, c2_i32.toNat]

def cc0_transform_8 (i : grid0.Coords) : Fin 2 → Nat :=
  let arg0 : BitVec 32 := BitVec.ofNat 32 (i 0).val
  let c0_i32 : BitVec 32 := 0#32
  let c4_i32 : BitVec 32 := 4#32
  let c0_i32_0 : BitVec 32 := 0#32
  ![c0_i32.toNat, c4_i32.toNat]

def cc0_transform_9 (i : grid0.Coords) : Fin 2 → Nat :=
  let arg0 : BitVec 32 := BitVec.ofNat 32 (i 0).val
  let c0_i32 : BitVec 32 := 0#32
  let c5_i32 : BitVec 32 := 5#32
  let c0_i32_0 : BitVec 32 := 0#32
  ![c0_i32.toNat, c5_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 3 → Nat :=
  let arg0 : BitVec 32 := BitVec.ofNat 32 (i 0).val
  let c0_i32 : BitVec 32 := 0#32
  let c0_i32_0 : BitVec 32 := 0#32
  ![arg0.toNat, 0, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S16x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S16x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S3x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S2048x2048 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x2048 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S2048x128 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S256x2048 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S2048x2x128 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x128 .i32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S256x128 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]
-- ==== Reference3Ideal.lean ====
abbrev S8x8192x128 : Shape := ⟨3, ![8, 8192, 128]⟩
abbrev S8192x3072 : Shape := ⟨2, ![8192, 3072]⟩
abbrev S16x6144 : Shape := ⟨2, ![16, 6144]⟩
abbrev S8192x2048 : Shape := ⟨2, ![8192, 2048]⟩
abbrev S3x1024 : Shape := ⟨2, ![3, 1024]⟩
abbrev S1x1024 : Shape := ⟨2, ![1, 1024]⟩
abbrev S2048x2048 : Shape := ⟨2, ![2048, 2048]⟩
abbrev S1x2048 : Shape := ⟨2, ![1, 2048]⟩
abbrev S2048x128 : Shape := ⟨2, ![2048, 128]⟩
abbrev S1x128 : Shape := ⟨2, ![1, 128]⟩
abbrev S8192x1024 : Shape := ⟨2, ![8192, 1024]⟩
abbrev S16x3072 : Shape := ⟨2, ![16, 3072]⟩
abbrev S16x1024 : Shape := ⟨2, ![16, 1024]⟩
abbrev S4x2048x1024 : Shape := ⟨3, ![4, 2048, 1024]⟩
abbrev S1x16x1024 : Shape := ⟨3, ![1, 16, 1024]⟩
abbrev S4x16x1024 : Shape := ⟨3, ![4, 16, 1024]⟩
abbrev S4x2064x1024 : Shape := ⟨3, ![4, 2064, 1024]⟩
abbrev S_ : Shape := ⟨0, ![]⟩
abbrev S4x2066x1024 : Shape := ⟨3, ![4, 2066, 1024]⟩
abbrev S1024 : Shape := ⟨1, ![1024]⟩
abbrev S1x1x1024 : Shape := ⟨3, ![1, 1, 1024]⟩
abbrev S8192x8x128 : Shape := ⟨3, ![8192, 8, 128]⟩
abbrev S8192 : Shape := ⟨1, ![8192]⟩
abbrev S8192x1 : Shape := ⟨2, ![8192, 1]⟩

abbrev nBuf : Space → Nat
  | .hbm => 92
  | .vmem => 0
  | .smem => 0
  | _ => 0

abbrev bufTy : (tb : Table) → Fin (tcTables nBuf tb) → BufTy
  | .hbm, ⟨0, _⟩ => ⟨S8x8192x128, .bf16⟩
  | .hbm, ⟨1, _⟩ => ⟨S8192x3072, .bf16⟩
  | .hbm, ⟨2, _⟩ => ⟨S16x6144, .bf16⟩
  | .hbm, ⟨3, _⟩ => ⟨S8192x2048, .f32⟩
  | .hbm, ⟨4, _⟩ => ⟨S3x1024, .f32⟩
  | .hbm, ⟨5, _⟩ => ⟨S1x1024, .f32⟩
  | .hbm, ⟨6, _⟩ => ⟨S1x1024, .f32⟩
  | .hbm, ⟨7, _⟩ => ⟨S2048x2048, .f32⟩
  | .hbm, ⟨8, _⟩ => ⟨S1x2048, .f32⟩
  | .hbm, ⟨9, _⟩ => ⟨S2048x128, .bf16⟩
  | .hbm, ⟨10, _⟩ => ⟨S1x128, .f32⟩
  | .hbm, ⟨11, _⟩ => ⟨S8192x3072, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S16x3072, .bf16⟩
  | .hbm, ⟨16, _⟩ => ⟨S16x3072, .f32⟩
  | .hbm, ⟨17, _⟩ => ⟨S16x1024, .f32⟩
  | .hbm, ⟨18, _⟩ => ⟨S16x1024, .f32⟩
  | .hbm, ⟨19, _⟩ => ⟨S16x1024, .f32⟩
  | .hbm, ⟨20, _⟩ => ⟨S8192x1024, .f32⟩
  | .hbm, ⟨21, _⟩ => ⟨S4x2048x1024, .f32⟩
  | .hbm, ⟨22, _⟩ => ⟨S16x1024, .f32⟩
  | .hbm, ⟨23, _⟩ => ⟨S1x16x1024, .f32⟩
  | .hbm, ⟨24, _⟩ => ⟨S4x16x1024, .f32⟩
  | .hbm, ⟨25, _⟩ => ⟨S4x2064x1024, .f32⟩
  | .hbm, ⟨26, _⟩ => ⟨S_, .i32⟩
  | .hbm, ⟨27, _⟩ => ⟨S_, .f32⟩
  | .hbm, ⟨28, _⟩ => ⟨S4x2066x1024, .f32⟩
  | .hbm, ⟨29, _⟩ => ⟨S4x2064x1024, .f32⟩
  | .hbm, ⟨30, _⟩ => ⟨S1x1024, .f32⟩
  | .hbm, ⟨31, _⟩ => ⟨S1024, .f32⟩
  | .hbm, ⟨32, _⟩ => ⟨S1x1x1024, .f32⟩
  | .hbm, ⟨33, _⟩ => ⟨S4x2064x1024, .f32⟩
  | .hbm, ⟨34, _⟩ => ⟨S4x2064x1024, .f32⟩
  | .hbm, ⟨35, _⟩ => ⟨S4x2064x1024, .f32⟩
  | .hbm, ⟨36, _⟩ => ⟨S1x1024, .f32⟩
  | .hbm, ⟨37, _⟩ => ⟨S1024, .f32⟩
  | .hbm, ⟨38, _⟩ => ⟨S1x1x1024, .f32⟩
  | .hbm, ⟨39, _⟩ => ⟨S4x2064x1024, .f32⟩
  | .hbm, ⟨40, _⟩ => ⟨S4x2064x1024, .f32⟩
  | .hbm, ⟨41, _⟩ => ⟨S4x2064x1024, .f32⟩
  | .hbm, ⟨42, _⟩ => ⟨S4x2064x1024, .f32⟩
  | .hbm, ⟨43, _⟩ => ⟨S1x1024, .f32⟩
  | .hbm, ⟨44, _⟩ => ⟨S1024, .f32⟩
  | .hbm, ⟨45, _⟩ => ⟨S1x1x1024, .f32⟩
  | .hbm, ⟨46, _⟩ => ⟨S4x2064x1024, .f32⟩
  | .hbm, ⟨47, _⟩ => ⟨S4x2064x1024, .f32⟩
  | .hbm, ⟨48, _⟩ => ⟨S4x2064x1024, .f32⟩
  | .hbm, ⟨49, _⟩ => ⟨S4x2048x1024, .f32⟩
  | .hbm, ⟨50, _⟩ => ⟨S8192x1024, .f32⟩
  | .hbm, ⟨51, _⟩ => ⟨S8192x1024, .f32⟩
  | .hbm, ⟨52, _⟩ => ⟨S8x8192x128, .f32⟩
  | .hbm, ⟨53, _⟩ => ⟨S8192x8x128, .f32⟩
  | .hbm, ⟨54, _⟩ => ⟨S8192x1024, .f32⟩
  | .hbm, ⟨55, _⟩ => ⟨S1024, .f32⟩
  | .hbm, ⟨56, _⟩ => ⟨S8192x1024, .f32⟩
  | .hbm, ⟨57, _⟩ => ⟨S_, .f32⟩
  | .hbm, ⟨58, _⟩ => ⟨S8192, .f32⟩
  | .hbm, ⟨59, _⟩ => ⟨S8192x1, .f32⟩
  | .hbm, ⟨60, _⟩ => ⟨S_, .f32⟩
  | .hbm, ⟨61, _⟩ => ⟨S8192x1, .f32⟩
  | .hbm, ⟨62, _⟩ => ⟨S8192x1, .f32⟩
  | .hbm, ⟨63, _⟩ => ⟨S_, .f32⟩
  | .hbm, ⟨64, _⟩ => ⟨S8192x1, .f32⟩
  | .hbm, ⟨65, _⟩ => ⟨S8192x1, .f32⟩
  | .hbm, ⟨66, _⟩ => ⟨S8192x1, .f32⟩
  | .hbm, ⟨67, _⟩ => ⟨S8192x1024, .f32⟩
  | .hbm, ⟨68, _⟩ => ⟨S8192x1024, .f32⟩
  | .hbm, ⟨69, _⟩ => ⟨S1x1024, .f32⟩
  | .hbm, ⟨70, _⟩ => ⟨S8192x1024, .f32⟩
  | .hbm, ⟨71, _⟩ => ⟨S8192x1024, .f32⟩
  | .hbm, ⟨72, _⟩ => ⟨S1024, .f32⟩
  | .hbm, ⟨73, _⟩ => ⟨S8192x1024, .f32⟩
  | .hbm, ⟨74, _⟩ => ⟨S_, .f32⟩
  | .hbm, ⟨75, _⟩ => ⟨S8192, .f32⟩
  | .hbm, ⟨76, _⟩ => ⟨S8192x1, .f32⟩
  | .hbm, ⟨77, _⟩ => ⟨S_, .f32⟩
  | .hbm, ⟨78, _⟩ => ⟨S8192x1, .f32⟩
  | .hbm, ⟨79, _⟩ => ⟨S8192x1, .f32⟩
  | .hbm, ⟨80, _⟩ => ⟨S_, .f32⟩
  | .hbm, ⟨81, _⟩ => ⟨S8192x1, .f32⟩
  | .hbm, ⟨82, _⟩ => ⟨S8192x1, .f32⟩
  | .hbm, ⟨83, _⟩ => ⟨S8192x1, .f32⟩
  | .hbm, ⟨84, _⟩ => ⟨S8192x1024, .f32⟩
  | .hbm, ⟨85, _⟩ => ⟨S8192x1024, .f32⟩
  | .hbm, ⟨86, _⟩ => ⟨S1x1024, .f32⟩
  | .hbm, ⟨87, _⟩ => ⟨S8192x1024, .f32⟩
  | .hbm, ⟨88, _⟩ => ⟨S8192x1024, .f32⟩
  | .hbm, ⟨89, _⟩ => ⟨S8192x2048, .f32⟩
  | .hbm, ⟨90, _⟩ => ⟨S8192x2048, .f32⟩
  | .hbm, ⟨91, _⟩ => ⟨S8192x2048, .f32⟩
  | _, _ => ⟨S8x8192x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c : Ref sig .tc := ⟨.hbm, 26, rfl⟩
abbrev main_call0_v0 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_cst : Ref sig .tc := ⟨.hbm, 57, rfl⟩
abbrev main_v44 : Ref sig .tc := ⟨.hbm, 58, rfl⟩
abbrev main_v45 : Ref sig .tc := ⟨.hbm, 59, rfl⟩
abbrev main_cst_0 : Ref sig .tc := ⟨.hbm, 60, rfl⟩
abbrev main_v46 : Ref sig .tc := ⟨.hbm, 61, rfl⟩
abbrev main_v47 : Ref sig .tc := ⟨.hbm, 62, rfl⟩
abbrev main_cst_1 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_cst_2 : Ref sig .tc := ⟨.hbm, 74, rfl⟩
abbrev main_v58 : Ref sig .tc := ⟨.hbm, 75, rfl⟩
abbrev main_v59 : Ref sig .tc := ⟨.hbm, 76, rfl⟩
abbrev main_cst_3 : Ref sig .tc := ⟨.hbm, 77, rfl⟩
abbrev main_v60 : Ref sig .tc := ⟨.hbm, 78, rfl⟩
abbrev main_v61 : Ref sig .tc := ⟨.hbm, 79, rfl⟩
abbrev main_cst_4 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩

abbrev nD : Nat := 1
abbrev τ : Topo := Topo.v7x

variable {F : FTy → Type} [FloatOps F]
-- ==== Proof.Trip.lean ====
/- One trip of the kernel's loop: eight grid rows, one store each, all by the same block function of what the row loads.
   The stores of all trips together, read at an index of the block. -/
module

public import proofs.«01_k».proof.Proof.Gen.KernelIdeal.Value
public import Idealize.ShloMosaic.Lib.Pipeline.Value

@[expose] public section

set_option maxRecDepth 8192
set_option maxHeartbeats 4000000

noncomputable section

namespace Cert.Att

open Idealize.ShloMosaic Idealize.ShloMosaic.TcCoe Idealize.ShloMosaic.Tactic Idealize.SL.Sem
open Cert.KernelIdeal Cert.KernelIdeal.Gen

variable {F : FTy → Type} [FloatOps F]

/-- The lane number at every position of a 64 × 128 block. -/
abbrev laneNo : IVec S64x128 32 := iota .tc S64x128 32 [1] iota_S64x128_d1_w32

/-- What one grid row stores: from its queries, its eight rows of keys and values, its bias plane, the two heads' meta scores
    of its queries, and the meta values. -/
def rowBlock (q : Vec F S1x1x64x128 .bf16) (k v : Vec F S1x1x512x128 .bf16) (b : Vec F S1x128x512 .f32)
    (sm0 sm1 : Vec F S1x64x128 .f32) (vm : Vec F S128x128 .bf16) : FVec F S1x1x64x128 .bf16 :=
  let s := k0_pay161 laneNo q k b
  let sm := k0_pay162 sm0 sm1
  k0_pay2 (k0_pay235 s sm) (k0_pay236 s sm) (k0_pay237 s sm) v vm

/-- Row `u` of trip `k`: its store, from the whole blocks the kernel reads. -/
def rowPiece (q k v : Vec F S1x1x2048x128 .bf16) (vm : Vec F S128x128 .bf16) (sm : Vec F S2x2048x128 .f32)
    (b : Vec F S8x128x512 .f32) (n : Fin k0_t1_loop.trips) (u : Fin 8) : View.Piece (Elt F) S1x1x2048x128 .bf16 :=
  ⟨Rect.unit (s := S1x1x2048x128) (k0_off1 n (BitVec.ofNat 32 u.val)) S1x1x64x128.size (k0_off1_inb n u),
    rowBlock (View.ld q (Rect.unit (k0_off1 n (BitVec.ofNat 32 u.val)) S1x1x64x128.size (k0_off1_inb n u)))
      (View.ld k (Rect.unit (k0_off2 n (BitVec.ofNat 32 u.val)) S1x1x512x128.size (k0_off2_inb n u)))
      (View.ld v (Rect.unit (k0_off2 n (BitVec.ofNat 32 u.val)) S1x1x512x128.size (k0_off2_inb n u)))
      (View.ld b (Rect.unit (k0_off3 n (BitVec.ofNat 32 u.val)) S1x128x512.size (k0_off3_inb n u)))
      (View.ld sm (Rect.unit (k0_off4 n (BitVec.ofNat 32 u.val)) S1x64x128.size (k0_off4_inb n u)))
      (View.ld sm (Rect.unit (k0_off5 n (BitVec.ofNat 32 u.val)) S1x64x128.size (k0_off5_inb n u)))
      (View.ld vm (Rect.unit ![0, 0] S128x128.size inb_S128x128_S128x128_0_0))⟩

section
variable (𝒱 : Variants) (c : Dev nD) (bd : Option 𝒱.V) (i : grid0.Coords) (arg2 : Memref sig .tc .vmem S1x1x2048x128 .bf16) (harg2 : arg2.IsWhole) (arg3 : Memref sig .tc .vmem S1x1x2048x128 .bf16) (harg3 : arg3.IsWhole) (arg4 : Memref sig .tc .vmem S1x1x2048x128 .bf16) (harg4 : arg4.IsWhole) (arg5 : Memref sig .tc .vmem S128x128 .bf16) (harg5 : arg5.IsWhole) (arg6 : Memref sig .tc .vmem S128x128 .bf16) (harg6 : arg6.IsWhole) (arg7 : Memref sig .tc .vmem S1x2x15x128 .f32) (harg7 : arg7.IsWhole) (arg8 : Memref sig .tc .vmem S1x2x128 .f32) (harg8 : arg8.IsWhole) (arg9 : Memref sig .tc .vmem S1x1x2048x128 .bf16) (harg9 : arg9.IsWhole) (arg10 : Memref sig .tc .vmem S2x2048x128 .f32) (harg10 : arg10.IsWhole) (arg11 : Memref sig .tc .vmem S8x128x512 .f32) (harg11 : arg11.IsWhole) (v33 : IVec S64x128 32) (X_arg2 : BufTy.Contents (Elt F) arg2.view.ty) (X_arg3 : BufTy.Contents (Elt F) arg3.view.ty) (X_arg4 : BufTy.Contents (Elt F) arg4.view.ty) (X_arg6 : BufTy.Contents (Elt F) arg6.view.ty) (X_arg10 : BufTy.Contents (Elt F) arg10.view.ty) (X_arg11 : BufTy.Contents (Elt F) arg11.view.ty) (k : Fin k0_t1_loop.trips)

/-- A trip's stores are its eight rows', last row first. -/
theorem trip_pieces (hv : v33 = laneNo) :
    tripL_k0_t1 (F := F)  𝒱 c bd i arg2 harg2 arg3 harg3 arg4 harg4 arg5 harg5 arg6 harg6 arg7 harg7 arg8 harg8 arg9 harg9 arg10 harg10 arg11 harg11 v33 X_arg2 X_arg3 X_arg4 X_arg6 X_arg10 X_arg11 k
      = [7, 6, 5, 4, 3, 2, 1, 0].map (rowPiece (arg2.view.read (Elt F) X_arg2) (arg3.view.read (Elt F) X_arg3)
          (arg4.view.read (Elt F) X_arg4) (arg6.view.read (Elt F) X_arg6) (arg10.view.read (Elt F) X_arg10)
          (arg11.view.read (Elt F) X_arg11) k) := by
  subst hv
  unfold tripL_k0_t1 trip_k0_t1
  dsimp only
  rfl
end

end Cert.Att
end
-- ==== Proof.Softmax.lean ====
/- The softmax of one query over extended reals: the kernel works with powers of two and scores divided by `log 2`,
   over 512 window keys and 128 meta lanes of which 16 are real; the reference works with powers of `e`, over 512 window
   keys and 16 meta keys. The two weighted averages of the values are equal, at infinite scores too. -/
module

public import Idealize.ShloMosaic.PureOps.Ideal.Laws

@[expose] public section

noncomputable section

namespace Cert.Att

open Idealize.ShloMosaic

/-- The natural logarithm of two, as an extended real. -/
def ln2 : EReal := ((Real.log 2 : ℝ) : EReal)

theorem log2_pos : 0 < Real.log 2 := Real.log_pos (by norm_num)

theorem ln2_nonneg : 0 ≤ ln2 := EReal.coe_nonneg.mpr log2_pos.le

theorem ln2_ne_top : ln2 ≠ ⊤ := EReal.coe_ne_top _

/-- A power of two is the power of `e` with the exponent times `log 2`. -/
theorem exp2_eq (x : EReal) : Ideal.exp2 x = Ideal.exp (ln2 * x) := by
  induction x with
  | bot => rw [ln2, EReal.coe_mul_bot_of_pos log2_pos]; rfl
  | top => rw [ln2, EReal.coe_mul_top_of_pos log2_pos]; rfl
  | coe x =>
    rw [ln2, ← EReal.coe_mul, Ideal.exp2_coe, Ideal.exp_coe]
    exact congrArg _ (Real.rpow_def_of_pos (by norm_num) x)

/-- A power is not negative. -/
theorem exp_nonneg (x : EReal) : 0 ≤ Ideal.exp x := by
  induction x with
  | bot => exact le_rfl
  | top => exact le_top
  | coe x => exact EReal.coe_nonneg.mpr (Real.exp_pos x).le

/-- A nonnegative finite factor goes inside a sum of two. -/
theorem mul_add' {c : EReal} (h : 0 ≤ c) (h' : c ≠ ⊤) (x y : EReal) : c * (x + y) = c * x + c * y :=
  EReal.left_distrib_of_nonneg_of_ne_top h h' x y

/-- A nonnegative finite factor goes inside a finite sum. -/
theorem mul_sum' {ι : Type} (s : Finset ι) {c : EReal} (h : 0 ≤ c) (h' : c ≠ ⊤) (f : ι → EReal) :
    c * ∑ i ∈ s, f i = ∑ i ∈ s, c * f i := by
  classical
  induction s using Finset.induction_on with
  | empty => simp
  | insert a s ha ih => rw [Finset.sum_insert ha, Finset.sum_insert ha, mul_add' h h', ih]

/-- `log 2` goes inside a difference. -/
theorem ln2_mul_sub (x y : EReal) : ln2 * (x - y) = ln2 * x - ln2 * y := by
  rw [sub_eq_add_neg, mul_add' ln2_nonneg ln2_ne_top, mul_neg, ← sub_eq_add_neg]

/-- `log 2` times something keeps the order. -/
theorem ln2_mul_mono : Monotone fun x : EReal => ln2 * x := fun _ _ h => mul_le_mul_of_nonneg_left h ln2_nonneg

theorem ln2_mul_bot : ln2 * ⊥ = ⊥ := EReal.coe_mul_bot_of_pos log2_pos

/-- `log 2` times the largest element is the largest of the products. -/
theorem ln2_mul_sup {ι : Type} (s : Finset ι) (f : ι → EReal) : ln2 * s.sup f = s.sup fun i => ln2 * f i := by
  classical
  induction s using Finset.induction_on with
  | empty => simpa using ln2_mul_bot
  | insert a s ha ih => rw [Finset.sup_insert, Finset.sup_insert, ← ih]; exact ln2_mul_mono.map_max

/-- `log 2` times (`x` plus `b / log 2`) is `log 2` times `x`, plus `b`. -/
theorem ln2_mul_add_div (x b : EReal) : ln2 * (x + Ideal.div b ln2) = ln2 * x + b := by
  have h0 : ln2 ≠ 0 := by
    intro h; exact log2_pos.ne' (EReal.coe_eq_zero.mp h)
  have hb : Ideal.div b ln2 = b * (((Real.log 2)⁻¹ : ℝ) : EReal) := by
    unfold Ideal.div; rw [if_neg h0]; rfl
  rw [mul_add' ln2_nonneg ln2_ne_top, hb, mul_left_comm, ln2, ← EReal.coe_mul, mul_inv_cancel₀ log2_pos.ne', EReal.coe_one, mul_one]

/-- What the reference computes for one query: the softmax weights `exp (score − max) · (1 / sum)` of the window keys' scores
    `r` and of the meta keys' scores `t`, and the values `v`, `w` summed with them. -/
def refOut (r : Fin 512 → EReal) (t : Fin 16 → EReal) (v : Fin 512 → EReal) (w : Fin 16 → EReal) : EReal :=
  let M := max (Finset.univ.sup r) (Finset.univ.sup t)
  let c := Ideal.div 1 ((∑ j, Ideal.exp (r j - M)) + ∑ i, Ideal.exp (t i - M))
  (∑ j, Ideal.exp (r j - M) * c * v j) + ∑ i, Ideal.exp (t i - M) * c * w i

/-- What the kernel computes for one query: powers of two of the scores less the maximum, over 512 window keys and 128 meta
    lanes; the values summed with them; and the sum times the reciprocal of the powers' sum. -/
def kerOut (s : Fin 512 → EReal) (sm : Fin 128 → EReal) (v : Fin 512 → EReal) (vm : Fin 128 → EReal) : EReal :=
  let m := max (Finset.univ.sup s) (Finset.univ.sup sm)
  ((∑ j, Ideal.exp2 (s j - m) * v j) + ∑ l, Ideal.exp2 (sm l - m) * vm l)
    * Ideal.div 1 ((∑ j, Ideal.exp2 (s j - m)) + ∑ l, Ideal.exp2 (sm l - m))

/-- The meta lane of a meta key. -/
abbrev metaLane (i : Fin 16) : Fin 128 := Fin.castLE (by decide) i

/-- A sum over the 128 meta lanes whose terms past the sixteenth are zero is the sum over the meta keys. -/
theorem sum_meta (f : Fin 128 → EReal) (h : ∀ l : Fin 128, 16 ≤ l.val → f l = 0) : ∑ l, f l = ∑ i, f (metaLane i) := by
  have e := Fin.sum_univ_add (a := 16) (b := 112) f
  have z : ∑ i : Fin 112, f (Fin.natAdd 16 i) = 0 :=
    Finset.sum_eq_zero fun i _ => h (Fin.natAdd 16 i) (Nat.le_add_right 16 i.val)
  rw [z, add_zero] at e
  exact e

/-- The largest of 128 meta scores that are `-∞` past the sixteenth is the largest of the meta keys'. -/
theorem sup_meta (f : Fin 128 → EReal) (h : ∀ l : Fin 128, 16 ≤ l.val → f l = ⊥) :
    Finset.univ.sup f = Finset.univ.sup fun i => f (metaLane i) := by
  apply le_antisymm
  · refine Finset.sup_le fun l _ => ?_
    by_cases hl : 16 ≤ l.val
    · rw [h l hl]; exact bot_le
    · exact Finset.le_sup (f := fun i => f (metaLane i)) (Finset.mem_univ (⟨l.val, by omega⟩ : Fin 16))
  · exact Finset.sup_le fun i _ => Finset.le_sup (f := f) (Finset.mem_univ (metaLane i))

/-- A nonnegative weight sum's reciprocal is either finite or all the weights are zero; in both cases it may be multiplied
    into the weights. -/
theorem weighted {c : EReal} (hc : 0 ≤ c) {ι : Type} (s : Finset ι) (p v : ι → EReal) (h : c = ⊤ → ∀ i ∈ s, p i = 0) :
    c * ∑ i ∈ s, p i * v i = ∑ i ∈ s, p i * c * v i := by
  by_cases ht : c = ⊤
  · have h0 := h ht
    rw [Finset.sum_eq_zero (fun i hi => by rw [h0 i hi, zero_mul]), mul_zero,
      Finset.sum_eq_zero (fun i hi => by rw [h0 i hi, zero_mul, zero_mul])]
  · rw [mul_sum' s hc ht]
    exact Finset.sum_congr rfl fun i _ => by rw [← mul_assoc, mul_comm c]

/-- The reciprocal of a nonnegative number is not negative, and infinite only at zero. -/
theorem div_one_nonneg {x : EReal} (hx : 0 ≤ x) : 0 ≤ Ideal.div 1 x := by
  unfold Ideal.div
  split
  · simp
  · rw [one_mul]; exact EReal.inv_nonneg_of_nonneg hx

theorem div_one_eq_top {x : EReal} (hx : 0 ≤ x) (h : Ideal.div 1 x = ⊤) : x = 0 := by
  by_contra h0
  unfold Ideal.div at h
  rw [if_neg h0, one_mul] at h
  induction x with
  | bot => simp at h
  | top => simp at h
  | coe x => rw [← EReal.coe_inv] at h; exact EReal.coe_ne_top _ h

/-- THE EQUATION of one query: with every score of the reference `log 2` times the kernel's, and the meta lanes past the
    sixteenth at score `-∞`, the kernel's average is the reference's. -/
theorem kerOut_eq_refOut (s r : Fin 512 → EReal) (sm : Fin 128 → EReal) (t : Fin 16 → EReal) (v : Fin 512 → EReal)
    (vm : Fin 128 → EReal) (w : Fin 16 → EReal) (hr : ∀ j, r j = ln2 * s j) (ht : ∀ i, t i = ln2 * sm (metaLane i))
    (hpad : ∀ l : Fin 128, 16 ≤ l.val → sm l = ⊥) (hw : ∀ i, w i = vm (metaLane i)) :
    kerOut s sm v vm = refOut r t v w := by
  obtain rfl : r = fun j => ln2 * s j := funext hr
  obtain rfl : t = fun i => ln2 * sm (metaLane i) := funext ht
  obtain rfl : w = fun i => vm (metaLane i) := funext hw
  unfold kerOut refOut
  dsimp only
  rw [sup_meta sm hpad]
  generalize hm : max (Finset.univ.sup s) (Finset.univ.sup fun i => sm (metaLane i)) = m
  have hM : max (Finset.univ.sup fun j => ln2 * s j) (Finset.univ.sup fun i => ln2 * sm (metaLane i)) = ln2 * m := by
    rw [← ln2_mul_sup, ← ln2_mul_sup, ← hm]; exact (ln2_mul_mono.map_max).symm
  rw [hM]
  have hz : ∀ l : Fin 128, 16 ≤ l.val → Ideal.exp2 (sm l - m) = 0 := fun l hl => by
    rw [hpad l hl, sub_eq_add_neg, EReal.bot_add]; rfl
  rw [sum_meta (fun l => Ideal.exp2 (sm l - m)) hz,
    sum_meta (fun l => Ideal.exp2 (sm l - m) * vm l) (fun l hl => by rw [hz l hl, zero_mul])]
  simp only [exp2_eq, ln2_mul_sub]
  generalize hp : (fun j => Ideal.exp (ln2 * s j - ln2 * m)) = p
  generalize hq : (fun i => Ideal.exp (ln2 * sm (metaLane i) - ln2 * m)) = q
  have hp' : ∀ j, Ideal.exp (ln2 * s j - ln2 * m) = p j := fun j => congrFun hp j
  have hq' : ∀ i, Ideal.exp (ln2 * sm (metaLane i) - ln2 * m) = q i := fun i => congrFun hq i
  simp only [hp', hq']
  have p0 : ∀ j, 0 ≤ p j := fun j => hp' j ▸ exp_nonneg _
  have q0 : ∀ i, 0 ≤ q i := fun i => hq' i ▸ exp_nonneg _
  have sp : 0 ≤ ∑ j, p j := Finset.sum_nonneg fun j _ => p0 j
  have sq : 0 ≤ ∑ i, q i := Finset.sum_nonneg fun i _ => q0 i
  generalize hc : Ideal.div 1 ((∑ j, p j) + ∑ i, q i) = c
  have hc0 : 0 ≤ c := hc ▸ div_one_nonneg (add_nonneg sp sq)
  have hzero : c = ⊤ → (∑ j, p j) + ∑ i, q i = 0 := fun h => div_one_eq_top (add_nonneg sp sq) (hc.trans h)
  have hpz : c = ⊤ → ∀ j ∈ Finset.univ, p j = 0 := fun h =>
    (Finset.sum_eq_zero_iff_of_nonneg fun j _ => p0 j).mp (le_antisymm ((le_add_of_nonneg_right sq).trans (hzero h).le) sp)
  have hqz : c = ⊤ → ∀ i ∈ Finset.univ, q i = 0 := fun h =>
    (Finset.sum_eq_zero_iff_of_nonneg fun i _ => q0 i).mp (le_antisymm ((le_add_of_nonneg_left sp).trans (hzero h).le) sq)
  rw [← weighted hc0 Finset.univ p v hpz, ← weighted hc0 Finset.univ q (fun i => vm (metaLane i)) hqz]
  rw [mul_comm]
  by_cases hct : c = ⊤
  · have e1 : ∑ j, p j * v j = 0 := Finset.sum_eq_zero fun j hj => by rw [hpz hct j hj, zero_mul]
    have e2 : ∑ i, q i * vm (metaLane i) = 0 := Finset.sum_eq_zero fun i hi => by rw [hqz hct i hi, zero_mul]
    rw [e1, e2, add_zero, mul_zero, add_zero]
  · exact mul_add' hc0 hct _ _

end Cert.Att

end
-- ==== Proof.BlockRow.lean ====
/- What one grid row stores, at the ideal instance, read at one query position and lane: the softmax average `kerOut` of the
   window's values, with the scores of the lane's head. -/
module

public import proofs.«01_k».proof.Proof.Trip
public import proofs.«01_k».proof.Proof.Softmax
public import Idealize.ShloMosaic.Lib.ValueIdx

@[expose] public section

set_option maxRecDepth 8192

noncomputable section

namespace Cert.Att

open Idealize.ShloMosaic Idealize.ShloMosaic.TcCoe Idealize.ShloMosaic.ValueIdx
open Cert.KernelIdeal Cert.KernelIdeal.Gen

/-- Two leading unit axes dropped. -/
theorem cast_drop2 {α : Type} {a b : Nat} (x : (⟨4, ![1, 1, a, b]⟩ : Shape).Idx → α)
    (h : (⟨4, ![1, 1, a, b]⟩ : Shape).ShapeCasts ⟨2, ![a, b]⟩) (r : Fin a) (c : Fin b) :
    shapeCast ⟨2, ![a, b]⟩ x h (ix2 r c) = x (ix4 0 0 r c) :=
  shapeCast_apply x h _ _ (by
    rw [Shape.rowMajor_val_four, Shape.rowMajor_val_two]
    show ((0 * 1 + 0) * a + r.val) * b + c.val = r.val * b + c.val
    simp)

/-- Two leading unit axes added. -/
theorem cast_add2 {α : Type} {a b : Nat} (x : (⟨2, ![a, b]⟩ : Shape).Idx → α)
    (h : (⟨2, ![a, b]⟩ : Shape).ShapeCasts ⟨4, ![1, 1, a, b]⟩) (r : Fin a) (c : Fin b) :
    shapeCast ⟨4, ![1, 1, a, b]⟩ x h (ix4 0 0 r c) = x (ix2 r c) :=
  shapeCast_apply x h _ _ (by
    rw [Shape.rowMajor_val_four, Shape.rowMajor_val_two]
    show r.val * b + c.val = ((0 * 1 + 0) * a + r.val) * b + c.val
    simp)

/-- One leading unit axis dropped. -/
theorem cast_drop1 {α : Type} {a b : Nat} (x : (⟨3, ![1, a, b]⟩ : Shape).Idx → α)
    (h : (⟨3, ![1, a, b]⟩ : Shape).ShapeCasts ⟨2, ![a, b]⟩) (r : Fin a) (c : Fin b) :
    shapeCast ⟨2, ![a, b]⟩ x h (ix2 r c) = x (ix3 0 r c) :=
  shapeCast_apply x h _ _ (by
    rw [Shape.rowMajor_val_three, Shape.rowMajor_val_two]
    show (0 * a + r.val) * b + c.val = r.val * b + c.val
    simp)

/-- A product of rows with rows: entry `(r, j)` is the sum over the lanes of row `r` times row `j`. -/
theorem dot_rows (A : FVec Ideal S128x128 .bf16) (B : FVec Ideal S512x128 .bf16) (r : Fin 128) (j : Fin 512) :
    matmul dot_S128x128_S512x128_S128x512_1_1_0_0_n_n none A B (constant S128x512 .f32 0x00000000#32) (ix2 r j)
      = ∑ c : Fin 128, A (ix2 r c) * B (ix2 j c) := by
  refine (Ideal.matmul_constant_zero_apply _ _ A B _).trans ?_
  rw [← Equiv.sum_comp (contrEquiv1 dot_S128x128_S512x128_S128x512_1_1_0_0_n_n 128 rfl rfl).symm]
  refine Finset.sum_congr rfl fun c _ => congrArg₂ _ (congrArg A ?_) (congrArg B ?_)
  · funext a; match a with | ⟨0, _⟩ => rfl | ⟨1, _⟩ => rfl
  · funext a; match a with | ⟨0, _⟩ => rfl | ⟨1, _⟩ => rfl

/-- A product with 512 rows of values: entry `(r, l)` is the sum over them. -/
theorem dot_values (A : FVec Ideal S128x512 .bf16) (B : FVec Ideal S512x128 .bf16) (r l : Fin 128) :
    matmul dot_S128x512_S512x128_S128x128_1_0_0_1_n_n none A B (constant S128x128 .f32 0x00000000#32) (ix2 r l)
      = ∑ j : Fin 512, A (ix2 r j) * B (ix2 j l) := by
  refine (Ideal.matmul_constant_zero_apply _ _ A B _).trans ?_
  rw [← Equiv.sum_comp (contrEquiv1 dot_S128x512_S512x128_S128x128_1_0_0_1_n_n 512 rfl rfl).symm]
  refine Finset.sum_congr rfl fun c _ => congrArg₂ _ (congrArg A ?_) (congrArg B ?_)
  · funext a; match a with | ⟨0, _⟩ => rfl | ⟨1, _⟩ => rfl
  · funext a; match a with | ⟨0, _⟩ => rfl | ⟨1, _⟩ => rfl

/-- A product with 128 rows of values: entry `(r, l)` is the sum over them. -/
theorem dot_meta (A B : FVec Ideal S128x128 .bf16) (r l : Fin 128) :
    matmul dot_S128x128_S128x128_S128x128_1_0_0_1_n_n none A B (constant S128x128 .f32 0x00000000#32) (ix2 r l)
      = ∑ j : Fin 128, A (ix2 r j) * B (ix2 j l) := by
  refine (Ideal.matmul_constant_zero_apply _ _ A B _).trans ?_
  rw [← Equiv.sum_comp (contrEquiv1 dot_S128x128_S128x128_S128x128_1_0_0_1_n_n 128 rfl rfl).symm]
  refine Finset.sum_congr rfl fun c _ => congrArg₂ _ (congrArg A ?_) (congrArg B ?_)
  · funext a; match a with | ⟨0, _⟩ => rfl | ⟨1, _⟩ => rfl
  · funext a; match a with | ⟨0, _⟩ => rfl | ⟨1, _⟩ => rfl

/-- The lane number at lane `c`. -/
theorem laneNo_apply (r : Fin 64) (c : Fin 128) : laneNo (ix2 r c) = BitVec.ofNat 32 c.val :=
  iota_single_apply _ _ _ _ _ _

/-- The lane number is below 64. -/
theorem lane_lt (r : Fin 64) (c : Fin 128) :
    cmpi .slt laneNo (broadcast S64x128 64#32) (ix2 r c) = if c.val < 64 then 1#1 else 0#1 := by
  show IntOp.cmpi .slt (laneNo (ix2 r c)) 64#32 = _
  rw [laneNo_apply]
  clear r; revert c; decide

/-- The lane number is at least 64. -/
theorem lane_ge (r : Fin 64) (c : Fin 128) :
    cmpi .sge laneNo (broadcast S64x128 64#32) (ix2 r c) = if c.val < 64 then 0#1 else 1#1 := by
  show IntOp.cmpi .sge (laneNo (ix2 r c)) 64#32 = _
  rw [laneNo_apply]
  clear r; revert c; decide

/-- Two blocks of 64 rows one over the other. -/
theorem over_apply {α : Type} (x y : S64x128.Idx → α) (r c : Fin 128) :
    concatenate S128x128 0 [⟨S64x128, x⟩, ⟨S64x128, y⟩] concatenates_S64x128_S64x128_S128x128_d0 (ix2 r c)
      = if r.val < 64 then x (ix2 (⟨r.val % 64, Nat.mod_lt _ (by decide)⟩ : Fin 64) c)
        else y (ix2 (⟨r.val % 64, Nat.mod_lt _ (by decide)⟩ : Fin 64) c) := by
  have hr64 := r.isLt
  by_cases hr : r.val < 64
  · rw [if_pos hr]
    refine concatenate_pair_apply_left (s₁ := S64x128) (s₂ := S64x128) (0 : Fin S128x128.rank) x y _ _ rfl _ fun a => ?_
    match a with
    | ⟨0, _⟩ => exact Nat.mod_eq_of_lt hr
    | ⟨1, _⟩ => rfl
  · rw [if_neg hr]
    refine concatenate_pair_apply_right (s₁ := S64x128) (s₂ := S64x128) (0 : Fin S128x128.rank) x y _ _ rfl rfl _ (fun a ha => ?_) ?_
    · match a with
      | ⟨0, _⟩ => exact absurd rfl ha
      | ⟨1, _⟩ => rfl
    · show r.val % 64 + 64 = r.val
      omega

/-- The zero word of 16 bits is zero. -/
theorem zero_bf16 : (FloatOps.ofBits .bf16 0x0000#16 : Ideal .bf16) = (0 : EReal) := by
  show Ideal.ofBits .bf16 0x0000#16 = 0
  simp [Ideal.ofBits, Ideal.ieee]

/-- The word of `1.0` is one. -/
theorem one_f32 : Ideal.ofBits .f32 0x3F800000#32 = 1 := by
  simp [Ideal.ofBits, Ideal.ieee]
  norm_num [← EReal.coe_mul, ← EReal.coe_one]

/-- The word of minus infinity is the smallest extended real. -/
theorem neg_inf_f32 : Ideal.ofBits .f32 0xFF800000#32 = ⊥ := by
  simp [Ideal.ofBits, Ideal.ieee]

/-- The queries of one row twice over, masked: rows below 64 keep the lower lanes (the first head), the others the upper
    lanes (the second head). -/
def maskedQ (q : Vec Ideal S1x1x64x128 .bf16) (r c : Fin 128) : EReal :=
  if (r.val < 64 ↔ c.val < 64) then q (ix4 0 0 (⟨r.val % 64, Nat.mod_lt _ (by decide)⟩ : Fin 64) c) else (0 : EReal)

/-- The scores of one grid row: row `r` is query `r % 64` at head `r / 64`, against window key `j`. -/
theorem scores_apply (q : Vec Ideal S1x1x64x128 .bf16) (k : Vec Ideal S1x1x512x128 .bf16) (b : Vec Ideal S1x128x512 .f32)
    (r : Fin 128) (j : Fin 512) :
    k0_pay161 laneNo q k b (ix2 r j) = (∑ c : Fin 128, maskedQ q r c * k (ix4 0 0 j c)) + b (ix3 0 r j) := by
  unfold k0_pay161
  rw [addf_apply, dot_rows, cast_drop1]
  congr 1
  refine Finset.sum_congr rfl fun c _ => ?_
  rw [cast_drop2]
  congr 1
  unfold maskedQ
  rw [over_apply, select_apply, select_apply, cast_drop2, lane_lt, lane_ge]
  show (if _ then Scalar.select _ _ (FloatOps.ofBits .bf16 0x0000#16 : Ideal .bf16) else Scalar.select _ _ (FloatOps.ofBits .bf16 0x0000#16 : Ideal .bf16)) = _
  rw [zero_bf16]
  by_cases hr : r.val < 64 <;> by_cases hc : c.val < 64 <;> simp [hr, hc, select_one, select_zero]

/-- The meta scores of one grid row: row `r` is query `r % 64` at head `r / 64`. -/
theorem meta_apply (s0 s1 : Vec Ideal S1x64x128 .f32) (r c : Fin 128) :
    k0_pay162 s0 s1 (ix2 r c) = if r.val < 64 then s0 (ix3 0 (⟨r.val % 64, Nat.mod_lt _ (by decide)⟩ : Fin 64) c)
      else s1 (ix3 0 (⟨r.val % 64, Nat.mod_lt _ (by decide)⟩ : Fin 64) c) := by
  unfold k0_pay162
  rw [over_apply, cast_drop1, cast_drop1]

/-- Four tiles of 128 summed lane by lane are the 512 summed. -/
theorem sum_tiles (f : Fin 512 → EReal) :
    ∑ l : Fin 128, (f ⟨l.val, by omega⟩ + f ⟨128 + l.val, by omega⟩ + f ⟨256 + l.val, by omega⟩ + f ⟨384 + l.val, by omega⟩)
      = ∑ j, f j := by
  rw [Finset.sum_add_distrib, Finset.sum_add_distrib, Finset.sum_add_distrib, Fin.sum_univ_add (a := 384) (b := 128),
    Fin.sum_univ_add (a := 256) (b := 128), Fin.sum_univ_add (a := 128) (b := 128)]
  rfl

/-- Four tiles of 128, their largest lane by lane with a fifth tile's: the largest of all of them is the larger of the 512's and
    the fifth tile's. -/
theorem sup_tiles (f : Fin 512 → EReal) (g : Fin 128 → EReal) :
    (Finset.univ.sup fun l : Fin 128 => max (max (max (max (f ⟨l.val, by omega⟩) (f ⟨128 + l.val, by omega⟩))
        (f ⟨256 + l.val, by omega⟩)) (f ⟨384 + l.val, by omega⟩)) (g l))
      = max (Finset.univ.sup f) (Finset.univ.sup g) := by
  apply le_antisymm
  · refine Finset.sup_le fun l _ => ?_
    refine max_le (max_le (max_le (max_le ?_ ?_) ?_) ?_) ?_
    · exact le_max_of_le_left (Finset.le_sup (f := f) (Finset.mem_univ _))
    · exact le_max_of_le_left (Finset.le_sup (f := f) (Finset.mem_univ _))
    · exact le_max_of_le_left (Finset.le_sup (f := f) (Finset.mem_univ _))
    · exact le_max_of_le_left (Finset.le_sup (f := f) (Finset.mem_univ _))
    · exact le_max_of_le_right (Finset.le_sup (f := g) (Finset.mem_univ _))
  · refine max_le (Finset.sup_le fun j _ => ?_) (Finset.sup_le fun l _ => ?_)
    · have hl : j.val % 128 < 128 := Nat.mod_lt _ (by decide)
      refine le_trans ?_ (Finset.le_sup (Finset.mem_univ (⟨j.val % 128, hl⟩ : Fin 128)))
      refine le_max_of_le_left ?_
      have hj := j.isLt
      have h4 : j.val / 128 = 0 ∨ j.val / 128 = 1 ∨ j.val / 128 = 2 ∨ j.val / 128 = 3 := by omega
      rcases h4 with h | h | h | h
      · exact le_max_of_le_left (le_max_of_le_left (le_max_of_le_left (le_of_eq (congrArg f (Fin.ext (by show j.val = j.val % 128; omega))))))
      · exact le_max_of_le_left (le_max_of_le_left (le_max_of_le_right (le_of_eq (congrArg f (Fin.ext (by show j.val = 128 + j.val % 128; omega))))))
      · exact le_max_of_le_left (le_max_of_le_right (le_of_eq (congrArg f (Fin.ext (by show j.val = 256 + j.val % 128; omega)))))
      · exact le_max_of_le_right (le_of_eq (congrArg f (Fin.ext (by show j.val = 384 + j.val % 128; omega))))
    · refine le_trans ?_ (Finset.le_sup (Finset.mem_univ l))
      exact le_max_right _ _

/-- The tile of 128 columns that starts at column `o`. -/
theorem tile_apply (o : Nat) (x : FVec Ideal S128x512 .f32) (h : S128x512.Slices ![0, o] S128x128) (r l : Fin 128) (j : Fin 512)
    (hj : j.val = o + l.val) : extractStridedSlice S128x128 ![0, o] x h (ix2 r l) = x (ix2 r j) :=
  extractStridedSlice_apply _ x h _ _ fun a => by
    match a with
    | ⟨0, _⟩ => show r.val = 0 + r.val; omega
    | ⟨1, _⟩ => exact hj

/-- A column of 128 read at its row. -/
theorem col_apply (x : FVec Ideal S128 .f32) (h : S128.ShapeCasts S128x1) (r : Fin 128) :
    shapeCast S128x1 x h (ix2 r 0) = x (ix1 r) :=
  shapeCast_apply x h _ _ (by
    rw [Shape.rowMajor_val_one, Shape.rowMajor_val_two]
    show r.val = r.val * 1 + 0
    omega)

/-- The largest score of a row. -/
theorem rowMax_apply (s : FVec Ideal S128x512 .f32) (sm : FVec Ideal S128x128 .f32) (r : Fin 128) :
    k0_pay232 s sm (ix2 r 0) = max (Finset.univ.sup fun j : Fin 512 => s (ix2 r j)) (Finset.univ.sup fun l : Fin 128 => sm (ix2 r l)) := by
  unfold k0_pay232
  rw [col_apply]
  refine (Ideal.multiReduction_maximumf_single _ _ _ _ _ _).trans ?_
  rw [← sup_tiles]
  show Finset.fold max (Ideal.ofBits .f32 0xFF800000#32) _ _ = _
  rw [neg_inf_f32]
  show Finset.univ.sup _ = _
  refine congrArg _ (funext fun (l : Fin 128) => ?_)
  have hl : (reduces_S128x128_S128.lift (ix1 r) l : S128x128.Idx) = ix2 r l := by
    funext a; match a with | ⟨0, _⟩ => rfl | ⟨1, _⟩ => rfl
  show maximumf _ _ (reduces_S128x128_S128.lift (ix1 r) l) = _
  rw [hl]
  simp only [maximumf_apply]
  rw [tile_apply 0 s _ r l ⟨l.val, by omega⟩ (by simp), tile_apply 128 s _ r l ⟨128 + l.val, by omega⟩ rfl,
    tile_apply 256 s _ r l ⟨256 + l.val, by omega⟩ rfl, tile_apply 384 s _ r l ⟨384 + l.val, by omega⟩ rfl]

/-- A window weight: two to the score less the row's largest. -/
theorem weight_apply (s : FVec Ideal S128x512 .f32) (sm : FVec Ideal S128x128 .f32) (r : Fin 128) (j : Fin 512) :
    k0_pay233 s sm (ix2 r j) = Ideal.exp2 (s (ix2 r j) - k0_pay232 s sm (ix2 r 0)) := by
  unfold k0_pay233
  show Ideal.exp2 (s (ix2 r j) - broadcastTo S128x512 _ _ (ix2 r j)) = _
  rw [broadcastTo_apply _ _ (ix2 r j) (ix2 r 0) (fun a => by match a with | ⟨0, _⟩ => rfl | ⟨1, _⟩ => rfl)]

/-- A meta weight: two to the meta score less the row's largest. -/
theorem metaWeight_apply (s : FVec Ideal S128x512 .f32) (sm : FVec Ideal S128x128 .f32) (r l : Fin 128) :
    k0_pay234 s sm (ix2 r l) = Ideal.exp2 (sm (ix2 r l) - k0_pay232 s sm (ix2 r 0)) := by
  unfold k0_pay234
  show Ideal.exp2 (sm (ix2 r l) - broadcastTo S128x128 _ _ (ix2 r l)) = _
  rw [broadcastTo_apply _ _ (ix2 r l) (ix2 r 0) (fun a => by match a with | ⟨0, _⟩ => rfl | ⟨1, _⟩ => rfl)]

/-- The sum of a row's weights. -/
theorem weightSum_apply (s : FVec Ideal S128x512 .f32) (sm : FVec Ideal S128x128 .f32) (r : Fin 128) :
    k0_pay235 s sm (ix2 r 0) = (∑ j : Fin 512, k0_pay233 s sm (ix2 r j)) + ∑ l : Fin 128, k0_pay234 s sm (ix2 r l) := by
  unfold k0_pay235
  rw [col_apply]
  refine (Ideal.multiReduction_add_single _ _ _ _ _ _).trans ?_
  rw [← sum_tiles, ← Finset.sum_add_distrib]
  refine Finset.sum_congr rfl fun (l : Fin 128) _ => ?_
  have hl : (reduces_S128x128_S128.lift (ix1 r) l : S128x128.Idx) = ix2 r l := by
    funext a; match a with | ⟨0, _⟩ => rfl | ⟨1, _⟩ => rfl
  rw [hl]
  simp only [addf_apply]
  rw [tile_apply 0 _ _ r l ⟨l.val, by omega⟩ (by simp), tile_apply 128 _ _ r l ⟨128 + l.val, by omega⟩ rfl,
    tile_apply 256 _ _ r l ⟨256 + l.val, by omega⟩ rfl, tile_apply 384 _ _ r l ⟨384 + l.val, by omega⟩ rfl]

/-- The row of the doubled block that holds query `qi` at the head of lane `l`. -/
def headRow (qi : Fin 64) (l : Fin 128) : Fin 128 := ⟨64 * (l.val / 64) + qi.val, by omega⟩

/-- What one grid row stores at query `qi` and lane `l`: the softmax average of lane `l` of the values. -/
theorem rowBlock_apply (q : Vec Ideal S1x1x64x128 .bf16) (k v : Vec Ideal S1x1x512x128 .bf16) (b : Vec Ideal S1x128x512 .f32)
    (s0 s1 : Vec Ideal S1x64x128 .f32) (vm : Vec Ideal S128x128 .bf16) (qi : Fin 64) (l : Fin 128) :
    rowBlock q k v b s0 s1 vm (ix4 0 0 qi l)
      = kerOut (fun j => (∑ c : Fin 128, maskedQ q (headRow qi l) c * k (ix4 0 0 j c)) + b (ix3 0 (headRow qi l) j))
          (fun c => if l.val < 64 then s0 (ix3 0 qi c) else s1 (ix3 0 qi c))
          (fun j => v (ix4 0 0 j l)) (fun c => vm (ix2 c l)) := by
  have hm : (headRow qi l).val % 64 = qi.val := by
    have := qi.isLt; show (64 * (l.val / 64) + qi.val) % 64 = qi.val; omega
  have hh : (headRow qi l).val < 64 ↔ l.val < 64 := by
    have := qi.isLt; have := l.isLt; show 64 * (l.val / 64) + qi.val < 64 ↔ _; omega
  have key : ∀ s : FVec Ideal S128x512 .f32, ∀ sm : FVec Ideal S128x128 .f32,
      k0_pay2 (k0_pay235 s sm) (k0_pay236 s sm) (k0_pay237 s sm) v vm (ix4 0 0 qi l)
        = kerOut (fun j => s (ix2 (headRow qi l) j)) (fun c => sm (ix2 (headRow qi l) c)) (fun j => v (ix4 0 0 j l)) (fun c => vm (ix2 c l)) := by
    intro s sm
    unfold k0_pay2
    rw [cast_add2, truncf_apply, select_apply, lane_lt]
    have fin : ∀ r : Fin 128, mulf (addf
          (matmul (φ₂ := .bf16) dot_S128x512_S512x128_S128x128_1_0_0_1_n_n none (k0_pay236 s sm) (shapeCast S512x128 v shapeCasts_S1x1x512x128_S512x128) (constant S128x128 .f32 0x00000000#32))
          (matmul (φ₂ := .bf16) dot_S128x128_S128x128_S128x128_1_0_0_1_n_n none (k0_pay237 s sm) (shapeCast S128x128 vm shapeCasts_S128x128_S128x128) (constant S128x128 .f32 0x00000000#32)))
          (broadcastTo S128x128 (divf (broadcast S128x1 (Scalar.ofBits .f32 0x3F800000#32)) (k0_pay235 s sm)) broadcasts_S128x1_S128x128) (ix2 r l)
        = kerOut (fun j => s (ix2 r j)) (fun c => sm (ix2 r c)) (fun j => v (ix4 0 0 j l)) (fun c => vm (ix2 c l)) := by
      intro r
      rw [mulf_apply, addf_apply, dot_values, dot_meta,
        broadcastTo_apply _ _ (ix2 r l) (ix2 r 0) (fun a => by match a with | ⟨0, _⟩ => rfl | ⟨1, _⟩ => rfl), divf_apply,
        weightSum_apply]
      show _ * Ideal.div (Ideal.ofBits .f32 0x3F800000#32) _ = _
      rw [one_f32]
      unfold kerOut
      have ew : ∀ j, k0_pay233 s sm (ix2 r j) = _ := fun j => (weight_apply s sm r j).trans (by rw [rowMax_apply])
      have em : ∀ c, k0_pay234 s sm (ix2 r c) = _ := fun c => (metaWeight_apply s sm r c).trans (by rw [rowMax_apply])
      refine congrArg₂ (· * ·) (congrArg₂ (· + ·) (Finset.sum_congr rfl fun j _ => ?_) (Finset.sum_congr rfl fun c _ => ?_))
        (congrArg (Ideal.div 1) (congrArg₂ (· + ·) (Finset.sum_congr rfl fun j _ => ew j) (Finset.sum_congr rfl fun c _ => em c)))
      · exact congrArg₂ (· * ·) (ew j) (cast_drop2 v _ j l)
      · exact congrArg₂ (· * ·) (em c) (shapeCast_apply vm _ _ _ rfl)
    by_cases hl : l.val < 64
    · rw [if_pos hl, select_one]
      refine (extractStridedSlice_apply _ _ _ (ix2 qi l) (ix2 (headRow qi l) l) fun a => ?_).trans (fin _)
      match a with
      | ⟨0, _⟩ => show 64 * (l.val / 64) + qi.val = 0 + qi.val; omega
      | ⟨1, _⟩ => show l.val = 0 + l.val; omega
    · rw [if_neg hl, select_zero]
      refine (extractStridedSlice_apply _ _ _ (ix2 qi l) (ix2 (headRow qi l) l) fun a => ?_).trans (fin _)
      have := l.isLt
      match a with
      | ⟨0, _⟩ => show 64 * (l.val / 64) + qi.val = 64 + qi.val; omega
      | ⟨1, _⟩ => show l.val = 0 + l.val; omega
  unfold rowBlock
  rw [key]
  have e : (⟨(headRow qi l).val % 64, Nat.mod_lt _ (by decide)⟩ : Fin 64) = qi := Fin.ext hm
  simp only [scores_apply, meta_apply, e, hh]

end Cert.Att
end
-- ==== Proof.Block.lean ====
/- What the kernel leaves in one output block, at the ideal instance: at every position and lane the softmax average of the
   position's window, from the blocks read, the meta scores and the bias planes. -/
module

public import proofs.«01_k».proof.Proof.BlockRow

@[expose] public section

set_option maxRecDepth 8192

noncomputable section

namespace Cert.Att

open Idealize.ShloMosaic Idealize.ShloMosaic.TcCoe Idealize.ShloMosaic.Tactic Idealize.ShloMosaic.ValueIdx Idealize.SL.Sem
open Cert.KernelIdeal Cert.KernelIdeal.Gen

/-- The first row of grid row `r`'s window of eight rows. -/
def rowStart (r : Nat) : Nat := min 24 (r - 4)

theorem rowStart_le (r : Nat) : rowStart r ≤ 24 := Nat.min_le_left _ _

/-- The position of window key `j` of the window of grid row `r`. -/
def winPos (r : Nat) (j : Fin 512) : Fin 2048 :=
  ⟨64 * rowStart r + j.val, by have := rowStart_le r; have := j.isLt; omega⟩

/-- How far grid row `r` is from the first row of its window. -/
def rowOff (r : Fin 32) : Fin 8 := ⟨r.val - rowStart r.val, by have := r.isLt; unfold rowStart; omega⟩

/-- The grid row of a position. -/
abbrev rowOf (p : Fin 2048) : Fin 32 := ⟨p.val / 64, by have := p.isLt; omega⟩
/-- The grid column of a position. -/
abbrev colOf (p : Fin 2048) : Fin 64 := ⟨p.val % 64, Nat.mod_lt _ (by decide)⟩
/-- The head, of the two of a pair, of a lane. -/
abbrev headOf (l : Fin 128) : Fin 2 := ⟨l.val / 64, by have := l.isLt; omega⟩

/-- The score of position `p` against window key `j` at the head of lane `l`, before the bias. -/
def dotWin (q k : Vec Ideal S1x1x2048x128 .bf16) (p : Fin 2048) (l : Fin 128) (j : Fin 512) : EReal :=
  ∑ c : Fin 128, (if (l.val < 64 ↔ c.val < 64) then (q (ix4 0 0 p c) : EReal) else 0) * k (ix4 0 0 (winPos (p.val / 64) j) c)

/-- The output at position `p` and lane `l`. -/
def blockAt (q k v : Vec Ideal S1x1x2048x128 .bf16) (vm : Vec Ideal S128x128 .bf16) (sm : Vec Ideal S2x2048x128 .f32)
    (b : Vec Ideal S8x128x512 .f32) (p : Fin 2048) (l : Fin 128) : EReal :=
  kerOut (fun j => dotWin q k p l j + b (ix3 (rowOff (rowOf p)) (headRow (colOf p) l) j)) (fun c => sm (ix3 (headOf l) p c))
    (fun j => v (ix4 0 0 (winPos (p.val / 64) j) l)) (fun c => vm (ix2 c l))

/-- The offsets of the loop's loads and stores, as numbers. -/
theorem off1_eq : ∀ (n : Fin k0_t1_loop.trips) (u : Fin 8),
    k0_off1 n (BitVec.ofNat 32 u.val) = ![0, 0, 64 * (8 * n.val + u.val), 0] := by decide
theorem off2_eq : ∀ (n : Fin k0_t1_loop.trips) (u : Fin 8),
    k0_off2 n (BitVec.ofNat 32 u.val) = ![0, 0, 64 * rowStart (8 * n.val + u.val), 0] := by decide
theorem off3_eq : ∀ (n : Fin k0_t1_loop.trips) (u : Fin 8),
    k0_off3 n (BitVec.ofNat 32 u.val) = ![8 * n.val + u.val - rowStart (8 * n.val + u.val), 0, 0] := by decide
theorem off4_eq : ∀ (n : Fin k0_t1_loop.trips) (u : Fin 8),
    k0_off4 n (BitVec.ofNat 32 u.val) = ![0, 64 * (8 * n.val + u.val), 0] := by decide
theorem off5_eq : ∀ (n : Fin k0_t1_loop.trips) (u : Fin 8),
    k0_off5 n (BitVec.ofNat 32 u.val) = ![1, 64 * (8 * n.val + u.val), 0] := by decide
theorem trips_eq : k0_t1_loop.trips = 4 := by decide

/-- A load of a box at an index: the element at the box's offset plus the index. -/
theorem ld_at {Val : EltTy → Type} {S : Shape} {e : EltTy} (X : S.Idx → Val e) (off size : Fin S.rank → Nat) (inb)
    (x : (Rect.unit off size inb).shape.Idx) (i : S.Idx) {off' : Fin S.rank → Nat} (ho : off = off')
    (hi : ∀ a, (i a : Nat) = off' a + x a) : View.ld X (Rect.unit off size inb) x = X i := by
  subst ho
  exact congrArg X (funext fun a => Fin.ext (by
    show off a + 1 * (x a).val = (i a).val
    rw [Nat.one_mul]; exact (hi a).symm))

/-- Every row's store agrees with the output block. -/
theorem rowPiece_apply (q k v : Vec Ideal S1x1x2048x128 .bf16) (vm : Vec Ideal S128x128 .bf16) (sm : Vec Ideal S2x2048x128 .f32)
    (b : Vec Ideal S8x128x512 .f32) (n : Fin k0_t1_loop.trips) (u : Fin 8) (x : (rowPiece q k v vm sm b n u).1.shape.Idx) :
    (rowPiece q k v vm sm b n u).2 x
      = (fun y : S1x1x2048x128.Idx => blockAt q k v vm sm b (y 2) (y 3)) ((rowPiece q k v vm sm b n u).1.emb x) := by
  have hn : n.val < 4 := trips_eq ▸ n.isLt
  have hu := u.isLt
  obtain ⟨x0, x1, qi, l, rfl⟩ : ∃ (x0 x1 : Fin 1) (qi : Fin 64) (l : Fin 128), x = ix4 x0 x1 qi l := ⟨_, _, _, _, eq_ix4 x⟩
  obtain rfl : x0 = 0 := Fin.eq_zero x0
  obtain rfl : x1 = 0 := Fin.eq_zero x1
  have hq := qi.isLt
  have hl := l.isLt
  have hp : 64 * (8 * n.val + u.val) + qi.val < 2048 := by omega
  have hemb : (rowPiece q k v vm sm b n u).1.emb (ix4 0 0 qi l) = ix4 0 0 (⟨64 * (8 * n.val + u.val) + qi.val, hp⟩ : Fin 2048) l := by
    funext a
    apply Fin.ext
    show k0_off1 n (BitVec.ofNat 32 u.val) a + 1 * ((ix4 0 0 qi l : S1x1x64x128.Idx) a).val = _
    rw [off1_eq]
    match a with
    | ⟨0, _⟩ => rfl
    | ⟨1, _⟩ => rfl
    | ⟨2, _⟩ => show 64 * (8 * n.val + u.val) + 1 * qi.val = 64 * (8 * n.val + u.val) + qi.val; omega
    | ⟨3, _⟩ => show 0 + 1 * l.val = l.val; omega
  rw [hemb]
  show (rowBlock (F := Ideal) _ _ _ _ _ _ _ (ix4 0 0 qi l) : EReal) = blockAt q k v vm sm b ⟨64 * (8 * n.val + u.val) + qi.val, hp⟩ l
  rw [rowBlock_apply]
  have hr : (64 * (8 * n.val + u.val) + qi.val) / 64 = 8 * n.val + u.val := by omega
  have hc : (64 * (8 * n.val + u.val) + qi.val) % 64 = qi.val := by omega
  have hcol : colOf ⟨64 * (8 * n.val + u.val) + qi.val, hp⟩ = qi := Fin.ext hc
  have hrow : (⟨(headRow qi l).val % 64, Nat.mod_lt _ (by decide)⟩ : Fin 64) = qi :=
    Fin.ext (by show (64 * (l.val / 64) + qi.val) % 64 = qi.val; omega)
  have hh : (headRow qi l).val < 64 ↔ l.val < 64 := by show 64 * (l.val / 64) + qi.val < 64 ↔ _; omega
  unfold blockAt
  rw [hcol]
  congr 1
  · funext j
    congr 1
    · unfold dotWin maskedQ
      refine Finset.sum_congr rfl fun c _ => congrArg₂ (· * ·) ?_ ?_
      · rw [hrow]
        simp only [hh]
        refine if_congr Iff.rfl (ld_at q _ _ _ _ _ (off1_eq n u) fun a => ?_) rfl
        match a with
        | ⟨0, _⟩ => rfl
        | ⟨1, _⟩ => rfl
        | ⟨2, _⟩ => rfl
        | ⟨3, _⟩ => exact (Nat.zero_add _).symm
      · refine ld_at k _ _ _ _ _ (off2_eq n u) fun a => ?_
        match a with
        | ⟨0, _⟩ => rfl
        | ⟨1, _⟩ => rfl
        | ⟨2, _⟩ => show 64 * rowStart _ + j.val = 64 * rowStart _ + j.val; rw [hr]
        | ⟨3, _⟩ => exact (Nat.zero_add _).symm
    · refine ld_at b _ _ _ _ _ (off3_eq n u) fun a => ?_
      match a with
      | ⟨0, _⟩ => show _ / 64 - rowStart (_ / 64) = _ + 0; rw [hr, Nat.add_zero]; rfl
      | ⟨1, _⟩ => exact (Nat.zero_add _).symm
      | ⟨2, _⟩ => exact (Nat.zero_add _).symm
  · funext c
    by_cases h64 : l.val < 64
    · rw [if_pos h64]
      refine ld_at sm _ _ _ _ _ (off4_eq n u) fun a => ?_
      match a with
      | ⟨0, _⟩ => show l.val / 64 = 0 + 0; omega
      | ⟨1, _⟩ => rfl
      | ⟨2, _⟩ => exact (Nat.zero_add _).symm
    · rw [if_neg h64]
      refine ld_at sm _ _ _ _ _ (off5_eq n u) fun a => ?_
      match a with
      | ⟨0, _⟩ => show l.val / 64 = 1 + 0; omega
      | ⟨1, _⟩ => rfl
      | ⟨2, _⟩ => exact (Nat.zero_add _).symm
  · funext j
    refine ld_at v _ _ _ _ _ (off2_eq n u) fun a => ?_
    match a with
    | ⟨0, _⟩ => rfl
    | ⟨1, _⟩ => rfl
    | ⟨2, _⟩ => show 64 * rowStart _ + j.val = 64 * rowStart _ + j.val; rw [hr]
    | ⟨3, _⟩ => exact (Nat.zero_add _).symm
  · funext c
    refine ld_at vm _ _ _ _ _ rfl fun a => ?_
    match a with
    | ⟨0, _⟩ => exact (Nat.zero_add _).symm
    | ⟨1, _⟩ => exact (Nat.zero_add _).symm

section
variable (𝒱 : Variants) (c : Dev nD) (bd : Option 𝒱.V) (i : grid0.Coords) (arg2 : Memref sig .tc .vmem S1x1x2048x128 .bf16) (harg2 : arg2.IsWhole) (arg3 : Memref sig .tc .vmem S1x1x2048x128 .bf16) (harg3 : arg3.IsWhole) (arg4 : Memref sig .tc .vmem S1x1x2048x128 .bf16) (harg4 : arg4.IsWhole) (arg5 : Memref sig .tc .vmem S128x128 .bf16) (harg5 : arg5.IsWhole) (arg6 : Memref sig .tc .vmem S128x128 .bf16) (harg6 : arg6.IsWhole) (arg7 : Memref sig .tc .vmem S1x2x15x128 .f32) (harg7 : arg7.IsWhole) (arg8 : Memref sig .tc .vmem S1x2x128 .f32) (harg8 : arg8.IsWhole) (arg9 : Memref sig .tc .vmem S1x1x2048x128 .bf16) (harg9 : arg9.IsWhole) (arg10 : Memref sig .tc .vmem S2x2048x128 .f32) (harg10 : arg10.IsWhole) (arg11 : Memref sig .tc .vmem S8x128x512 .f32) (harg11 : arg11.IsWhole) (X_arg2 : BufTy.Contents (Elt Ideal) arg2.view.ty) (X_arg3 : BufTy.Contents (Elt Ideal) arg3.view.ty) (X_arg4 : BufTy.Contents (Elt Ideal) arg4.view.ty) (X_arg6 : BufTy.Contents (Elt Ideal) arg6.view.ty) (X_arg10 : BufTy.Contents (Elt Ideal) arg10.view.ty) (X_arg11 : BufTy.Contents (Elt Ideal) arg11.view.ty)

/-- All the stores of the first `n` trips agree with the output block. -/
theorem pieces_apply (n : Nat) (hn : n ≤ k0_t1_loop.trips) :
    ∀ p ∈ pb_k0_t1 (F := Ideal) 𝒱 c bd i arg2 harg2 arg3 harg3 arg4 harg4 arg5 harg5 arg6 harg6 arg7 harg7 arg8 harg8 arg9 harg9 arg10 harg10 arg11 harg11 laneNo X_arg2 X_arg3 X_arg4 X_arg6 X_arg10 X_arg11 n, ∀ x : p.1.shape.Idx,
      p.2 x = (fun y : S1x1x2048x128.Idx => blockAt (arg2.view.read (Elt Ideal) X_arg2) (arg3.view.read (Elt Ideal) X_arg3)
          (arg4.view.read (Elt Ideal) X_arg4) (arg6.view.read (Elt Ideal) X_arg6) (arg10.view.read (Elt Ideal) X_arg10)
          (arg11.view.read (Elt Ideal) X_arg11) (y 2) (y 3)) (p.1.emb x) := by
  induction n with
  | zero => intro p hp; exact absurd hp (by rw [pb_k0_t1.eq_1]; exact List.not_mem_nil)
  | succ n ih =>
    intro p hp
    have e := pb_k0_t1_succ (F := Ideal) 𝒱 c bd i arg2 harg2 arg3 harg3 arg4 harg4 arg5 harg5 arg6 harg6 arg7 harg7 arg8 harg8 arg9 harg9 arg10 harg10 arg11 harg11 laneNo X_arg2 X_arg3 X_arg4 X_arg6 X_arg10 X_arg11 ⟨n, hn⟩
    rw [e, List.mem_append] at hp
    rcases hp with hp | hp
    · rw [trip_pieces _ _ _ _ _ _ _ _ _ _ _ _ _ _ _ _ _ _ _ _ _ _ _ _ _ _ _ _ _ _ _ _ rfl, List.mem_map] at hp
      obtain ⟨u, -, rfl⟩ := hp
      exact rowPiece_apply _ _ _ _ _ _ _ u
    · exact ih (Nat.le_of_succ_le hn) p hp
end

end Cert.Att
end
-- ==== Proof.Bias.lean ====
/- The bias planes the kernel builds once per head pair: each of the 64 stores is one tile of ONE array, the biases of the
   pair's two heads by row offset, query column and window key, minus infinity outside the window's columns. -/
module

public import proofs.«01_k».proof.Proof.Block

@[expose] public section

set_option maxRecDepth 8192
set_option maxHeartbeats 4000000

noncomputable section

namespace Cert.Att

open Idealize.ShloMosaic Idealize.ShloMosaic.TcCoe Idealize.ShloMosaic.Tactic Idealize.ShloMosaic.ValueIdx Idealize.SL.Sem
open Cert.KernelIdeal Cert.KernelIdeal.Gen

/-- Column `k` lies in the window of sixteen columns of query column `q`. -/
def colIn (q k : Nat) : Prop := min 48 (q - 8) ≤ k ∧ k < min 48 (q - 8) + 16

instance (q k : Nat) : Decidable (colIn q k) := inferInstanceAs (Decidable (_ ∧ _))

/-- The bias at row offset `o`, row `r` (head `r / 64`, query column `r % 64`) and window key `j` (row `j / 64`, column
    `j % 64`), from the pair's extended bias rows. -/
def biasAt (x : Vec Ideal S1x2x15x128 .f32) (o : Fin 8) (r : Fin 128) (j : Fin 512) : EReal :=
  if colIn (r.val % 64) (j.val % 64) then
    x (ix4 0 (⟨r.val / 64, by omega⟩ : Fin 2) (⟨j.val / 64 + 7 - o.val, by omega⟩ : Fin 15)
      (⟨j.val % 64 + 63 - r.val % 64, by omega⟩ : Fin 128))
  else ⊥

section
variable {F : FTy → Type} [FloatOps F]

/-- One bias row over the 64 queries of a block, query `i` rotated by `n + i` lanes. -/
def rolled (n : BitVec 32) (x : Vec F S1x1x1x128 .f32) : FVec F S64x128 .f32 :=
  dynamicRotate 1 n (some (1, 0)) (k0_pay6 x) rotates_S64x128_d1s1a0

/-- One tile of the bias planes, from the bias rows of its two window rows. -/
def biasTile (lo hi : Vec F S1x1x1x128 .f32) : FVec F S1x64x128 .f32 :=
  shapeCast S1x64x128 (select k0_pay3 (select (cmpi .slt laneNo (broadcast S64x128 64#32)) (rolled 65#32 lo)
    (rolled 1#32 hi)) k0_pay4) shapeCasts_S64x128_S1x64x128

theorem tile_inb : ∀ (j : Fin 64) (a : Fin 3),
    ![j.val % 32 / 4, 64 * (j.val / 32), 128 * (j.val % 4)] a + S1x64x128.size a ≤ S8x128x512.size a := by decide
theorem lo_inb : ∀ (j : Fin 64) (a : Fin 4),
    ![0, j.val / 32, 2 * (j.val % 4) + 7 - j.val % 32 / 4, 0] a + S1x1x1x128.size a ≤ S1x2x15x128.size a := by decide
theorem hi_inb : ∀ (j : Fin 64) (a : Fin 4),
    ![0, j.val / 32, 2 * (j.val % 4) + 8 - j.val % 32 / 4, 0] a + S1x1x1x128.size a ≤ S1x2x15x128.size a := by decide

/-- Store `j` of the 64: head `j / 32`, row offset `j % 32 / 4`, tile of window keys `j % 4`. -/
def biasPiece (x : Vec F S1x2x15x128 .f32) (j : Fin 64) : View.Piece (Elt F) S8x128x512 .f32 :=
  ⟨Rect.unit (s := S8x128x512) ![j.val % 32 / 4, 64 * (j.val / 32), 128 * (j.val % 4)] S1x64x128.size (tile_inb j),
    biasTile (View.ld x (Rect.unit (s := S1x2x15x128) ![0, j.val / 32, 2 * (j.val % 4) + 7 - j.val % 32 / 4, 0]
        S1x1x1x128.size (lo_inb j)))
      (View.ld x (Rect.unit (s := S1x2x15x128) ![0, j.val / 32, 2 * (j.val % 4) + 8 - j.val % 32 / 4, 0]
        S1x1x1x128.size (hi_inb j)))⟩

/-- The 64 stores are these, last first. -/
theorem bias_pieces (c : Dev nD) (arg7 : Memref sig .tc .vmem S1x2x15x128 .f32) (harg7 : arg7.IsWhole)
    (x : Vec F S1x2x15x128 .f32) :
    kernelRun0_A.sl.HS1_64 (F := F) c arg7 harg7 x
      = (List.finRange 64).reverse.map (biasPiece (arg7.view.read (Elt F) (harg7.unread x))) := by
  rfl
end

/-- The mask of the window's columns, at query column `q` and lane `l` (key column `l % 64`). -/
theorem mask_apply (q : Fin 64) (l : Fin 128) :
    k0_pay3 (ix2 q l) = if colIn q.val (l.val % 64) then 1#1 else 0#1 := by
  have h0 : iota .tc S64x128 32 [0] iota_S64x128_d0_w32 (ix2 q l) = BitVec.ofNat 32 q.val := iota_single_apply _ _ _ _ _ _
  have h1 : iota .tc S64x128 32 [1] iota_S64x128_d1_w32 (ix2 q l) = BitVec.ofNat 32 l.val := iota_single_apply _ _ _ _ _ _
  have e : k0_pay3 (ix2 q l)
      = IntOp.andi
          (IntOp.cmpi .sge (IntOp.andi (iota .tc S64x128 32 [1] iota_S64x128_d1_w32 (ix2 q l)) 63#32)
            (IntOp.minsi 48#32 (IntOp.maxsi 0#32 (IntOp.subi (iota .tc S64x128 32 [0] iota_S64x128_d0_w32 (ix2 q l)) 8#32))))
          (IntOp.cmpi .slt (IntOp.andi (iota .tc S64x128 32 [1] iota_S64x128_d1_w32 (ix2 q l)) 63#32)
            (IntOp.addi (IntOp.minsi 48#32 (IntOp.maxsi 0#32 (IntOp.subi (iota .tc S64x128 32 [0] iota_S64x128_d0_w32 (ix2 q l)) 8#32)))
              16#32)) := rfl
  rw [e, h0, h1]
  clear e h0 h1
  revert q l
  decide +kernel

/-- A bias row rotated over the queries: lane `l` of query `q` is the row's lane `l - n - q`, modulo 128. -/
theorem rolled_apply (n : BitVec 32) (x : Vec Ideal S1x1x1x128 .f32) (q : Fin 64) (l : Fin 128) :
    rolled n x (ix2 q l)
      = x (ix4 0 0 0 (⟨(l.val + 128 - (n.toNat + 1 * q.val) % 128) % 128, Nat.mod_lt _ (by decide)⟩ : Fin 128)) := by
  unfold rolled k0_pay6
  dsimp only [dynamicRotate]
  refine (broadcastTo_apply _ _ _
    (ix2 0 (⟨(l.val + 128 - (n.toNat + 1 * q.val) % 128) % 128, Nat.mod_lt _ (by decide)⟩ : Fin 128)) fun a => ?_).trans ?_
  · match a with
    | ⟨0, _⟩ => rfl
    | ⟨1, _⟩ => rfl
  · refine (shapeCast_apply _ _ _ _ rfl).trans (shapeCast_apply _ _ _ _ ?_)
    rw [Shape.rowMajor_val_four, Shape.rowMajor_val_two]
    rfl

/-- A tile at an index. -/
theorem biasTile_apply (lo hi : Vec Ideal S1x1x1x128 .f32) (q : Fin 64) (l : Fin 128) :
    biasTile lo hi (ix3 0 q l)
      = if colIn q.val (l.val % 64) then
          (if l.val < 64 then lo else hi) (ix4 0 0 0 (⟨l.val % 64 + 63 - q.val, by omega⟩ : Fin 128))
        else (⊥ : EReal) := by
  unfold biasTile
  refine (shapeCast_apply _ _ _ (ix2 q l) ?_).trans ?_
  · rw [Shape.rowMajor_val_three, Shape.rowMajor_val_two]
    show q.val * 128 + l.val = (0 * 64 + q.val) * 128 + l.val
    omega
  rw [select_apply, mask_apply, select_apply, lane_lt, rolled_apply, rolled_apply]
  have hq := q.isLt
  have hl := l.isLt
  by_cases hc : colIn q.val (l.val % 64)
  · rw [if_pos hc, if_pos hc, select_one]
    by_cases h : l.val < 64
    · rw [if_pos h, if_pos h, select_one]
      refine congrArg lo (congrArg _ (Fin.ext ?_))
      show (l.val + 128 - (65 + 1 * q.val) % 128) % 128 = l.val % 64 + 63 - q.val
      omega
    · rw [if_neg h, if_neg h, select_zero]
      refine congrArg hi (congrArg _ (Fin.ext ?_))
      show (l.val + 128 - (1 + 1 * q.val) % 128) % 128 = l.val % 64 + 63 - q.val
      omega
  · rw [if_neg hc, if_neg hc, select_zero]
    exact neg_inf_f32

/-- Every store agrees with the bias array. -/
theorem biasPiece_apply (x : Vec Ideal S1x2x15x128 .f32) (j : Fin 64) (y : (biasPiece x j).1.shape.Idx) :
    (biasPiece x j).2 y
      = (fun z : S8x128x512.Idx => biasAt x (z 0) (z 1) (z 2)) ((biasPiece x j).1.emb y) := by
  obtain ⟨y0, q, l, rfl⟩ : ∃ (y0 : Fin 1) (q : Fin 64) (l : Fin 128), y = ix3 y0 q l := ⟨_, _, _, eq_ix3 y⟩
  obtain rfl : y0 = 0 := Fin.eq_zero y0
  have hj := j.isLt
  have hq := q.isLt
  have hl := l.isLt
  have hemb : (biasPiece x j).1.emb (ix3 0 q l)
      = ix3 (⟨j.val % 32 / 4, by omega⟩ : Fin 8) (⟨64 * (j.val / 32) + q.val, by omega⟩ : Fin 128)
        (⟨128 * (j.val % 4) + l.val, by omega⟩ : Fin 512) := by
    funext a
    apply Fin.ext
    match a with
    | ⟨0, _⟩ => show j.val % 32 / 4 + 1 * 0 = j.val % 32 / 4; omega
    | ⟨1, _⟩ => show 64 * (j.val / 32) + 1 * q.val = 64 * (j.val / 32) + q.val; omega
    | ⟨2, _⟩ => show 128 * (j.val % 4) + 1 * l.val = 128 * (j.val % 4) + l.val; omega
  rw [hemb]
  show (biasTile (F := Ideal) _ _ (ix3 0 q l) : EReal) = biasAt x (⟨j.val % 32 / 4, by omega⟩ : Fin 8)
    (⟨64 * (j.val / 32) + q.val, by omega⟩ : Fin 128) (⟨128 * (j.val % 4) + l.val, by omega⟩ : Fin 512)
  rw [biasTile_apply]
  unfold biasAt
  have e1 : (64 * (j.val / 32) + q.val) % 64 = q.val := by omega
  have e2 : (128 * (j.val % 4) + l.val) % 64 = l.val % 64 := by omega
  simp only [e1, e2]
  refine if_congr Iff.rfl ?_ rfl
  by_cases h : l.val < 64
  · rw [if_pos h]
    refine ld_at x _ _ _ _ _ rfl fun a => ?_
    match a with
    | ⟨0, _⟩ => rfl
    | ⟨1, _⟩ => show (64 * (j.val / 32) + q.val) / 64 = j.val / 32 + 0; omega
    | ⟨2, _⟩ =>
      show (128 * (j.val % 4) + l.val) / 64 + 7 - j.val % 32 / 4 = 2 * (j.val % 4) + 7 - j.val % 32 / 4 + 0
      omega
    | ⟨3, _⟩ => exact (Nat.zero_add _).symm
  · rw [if_neg h]
    refine ld_at x _ _ _ _ _ rfl fun a => ?_
    match a with
    | ⟨0, _⟩ => rfl
    | ⟨1, _⟩ => show (64 * (j.val / 32) + q.val) / 64 = j.val / 32 + 0; omega
    | ⟨2, _⟩ =>
      show (128 * (j.val % 4) + l.val) / 64 + 7 - j.val % 32 / 4 = 2 * (j.val % 4) + 8 - j.val % 32 / 4 + 0
      omega
    | ⟨3, _⟩ => exact (Nat.zero_add _).symm

end Cert.Att
end
-- ==== Proof.Meta.lean ====
/- The scores against the meta keys, which the kernel keeps in scratch: for each head of the pair, every position and every
   meta lane, the dot product with the head's half of the query plus the lane's bias. -/
module

public import proofs.«01_k».proof.Proof.Bias

@[expose] public section

set_option maxRecDepth 8192
set_option maxHeartbeats 4000000

noncomputable section

namespace Cert.Att

open Idealize.ShloMosaic Idealize.ShloMosaic.TcCoe Idealize.ShloMosaic.Tactic Idealize.ShloMosaic.ValueIdx Idealize.SL.Sem
open Cert.KernelIdeal Cert.KernelIdeal.Gen

/-- The score of position `p` at head `h` of the pair against meta lane `c`. -/
def metaAt (q : Vec Ideal S1x1x2048x128 .bf16) (km : Vec Ideal S128x128 .bf16) (mb : Vec Ideal S1x2x128 .f32)
    (h : Fin 2) (p : Fin 2048) (c : Fin 128) : EReal :=
  (∑ d : Fin 128, (if (h.val = 0 ↔ d.val < 64) then (q (ix4 0 0 p d) : EReal) else 0) * km (ix2 c d)) + mb (ix3 0 h c)

/-- The lane number at every position of a 2048 × 128 block, at lane `c`. -/
theorem longLane_apply (p : Fin 2048) (c : Fin 128) :
    iota .tc S2048x128 32 [1] iota_S2048x128_d1_w32 (ix2 p c) = BitVec.ofNat 32 c.val :=
  iota_single_apply _ _ _ _ _ _

/-- The lane number is below 64. -/
theorem longLane_lt (p : Fin 2048) (c : Fin 128) :
    cmpi .slt (iota .tc S2048x128 32 [1] iota_S2048x128_d1_w32) (broadcast S2048x128 64#32) (ix2 p c)
      = if c.val < 64 then 1#1 else 0#1 := by
  show IntOp.cmpi .slt (iota .tc S2048x128 32 [1] iota_S2048x128_d1_w32 (ix2 p c)) 64#32 = _
  rw [longLane_apply]
  clear p; revert c; decide

/-- The lane number is at least 64. -/
theorem longLane_ge (p : Fin 2048) (c : Fin 128) :
    cmpi .sge (iota .tc S2048x128 32 [1] iota_S2048x128_d1_w32) (broadcast S2048x128 64#32) (ix2 p c)
      = if c.val < 64 then 0#1 else 1#1 := by
  show IntOp.cmpi .sge (iota .tc S2048x128 32 [1] iota_S2048x128_d1_w32 (ix2 p c)) 64#32 = _
  rw [longLane_apply]
  clear p; revert c; decide

/-- The product of all queries with the meta keys, rows with rows. -/
theorem dot_long (A : FVec Ideal S2048x128 .bf16) (B : FVec Ideal S128x128 .bf16) (p : Fin 2048) (c : Fin 128) :
    matmul dot_S2048x128_S128x128_S2048x128_1_1_0_0_n_n none A B (constant S2048x128 .f32 0x00000000#32) (ix2 p c)
      = ∑ d : Fin 128, A (ix2 p d) * B (ix2 c d) := by
  refine (Ideal.matmul_constant_zero_apply _ _ A B _).trans ?_
  rw [← Equiv.sum_comp (contrEquiv1 dot_S2048x128_S128x128_S2048x128_1_1_0_0_n_n 128 rfl rfl).symm]
  refine Finset.sum_congr rfl fun d _ => congrArg₂ _ (congrArg A ?_) (congrArg B ?_)
  · funext a; match a with | ⟨0, _⟩ => rfl | ⟨1, _⟩ => rfl
  · funext a; match a with | ⟨0, _⟩ => rfl | ⟨1, _⟩ => rfl

/-- One bias row over all positions. -/
theorem meta_row (b : Vec Ideal S1x1x128 .f32) (p : Fin 2048) (c : Fin 128) :
    broadcastTo S2048x128 (shapeCast S1x128 b shapeCasts_S1x1x128_S1x128) broadcasts_S1x128_S2048x128 (ix2 p c)
      = b (ix3 0 0 c) := by
  refine (broadcastTo_apply _ _ _ (ix2 0 c) fun a => ?_).trans (cast_drop1 _ _ _ _)
  match a with
  | ⟨0, _⟩ => rfl
  | ⟨1, _⟩ => rfl

/-- The first head's plane of meta scores. -/
theorem meta_low (q : Vec Ideal S1x1x2048x128 .bf16) (km : Vec Ideal S128x128 .bf16) (b : Vec Ideal S1x1x128 .f32)
    (p : Fin 2048) (c : Fin 128) :
    k0_pay254 q km b (ix3 0 p c)
      = (∑ d : Fin 128, (if d.val < 64 then (q (ix4 0 0 p d) : EReal) else 0) * km (ix2 c d)) + b (ix3 0 0 c) := by
  unfold k0_pay254
  refine (shapeCast_apply _ _ _ (ix2 p c) ?_).trans ?_
  · rw [Shape.rowMajor_val_three, Shape.rowMajor_val_two]
    show p.val * 128 + c.val = (0 * 2048 + p.val) * 128 + c.val
    omega
  rw [addf_apply, meta_row, dot_long]
  refine congrArg (· + (b (ix3 0 0 c) : EReal)) (Finset.sum_congr rfl fun d _ => congrArg₂ (· * ·) ?_ ?_)
  · rw [select_apply, longLane_lt]
    unfold k0_pay252
    by_cases h : d.val < 64
    · rw [if_pos h, if_pos h, select_one, cast_drop2]
    · rw [if_neg h, if_neg h, select_zero]
      exact zero_bf16
  · exact shapeCast_apply _ _ _ _ rfl

/-- The second head's plane of meta scores. -/
theorem meta_high (q : Vec Ideal S1x1x2048x128 .bf16) (km : Vec Ideal S128x128 .bf16) (b : Vec Ideal S1x1x128 .f32)
    (p : Fin 2048) (c : Fin 128) :
    k0_pay1 (k0_pay255 q km b) (ix3 0 p c)
      = (∑ d : Fin 128, (if d.val < 64 then 0 else (q (ix4 0 0 p d) : EReal)) * km (ix2 c d)) + b (ix3 0 0 c) := by
  unfold k0_pay1 k0_pay255
  refine (shapeCast_apply _ _ _ (ix2 p c) ?_).trans ?_
  · rw [Shape.rowMajor_val_three, Shape.rowMajor_val_two]
    show p.val * 128 + c.val = (0 * 2048 + p.val) * 128 + c.val
    omega
  rw [addf_apply, meta_row, dot_long]
  refine congrArg (· + (b (ix3 0 0 c) : EReal)) (Finset.sum_congr rfl fun d _ => congrArg₂ (· * ·) ?_ ?_)
  · rw [select_apply, longLane_ge]
    unfold k0_pay252
    by_cases h : d.val < 64
    · rw [if_pos h, if_pos h, select_zero]
      exact zero_bf16
    · rw [if_neg h, if_neg h, select_one, cast_drop2]
  · exact shapeCast_apply _ _ _ _ rfl

section
variable (c : Dev nD) (arg2 : Memref sig .tc .vmem S1x1x2048x128 .bf16) (harg2 : arg2.IsWhole)
  (arg5 : Memref sig .tc .vmem S128x128 .bf16) (harg5 : arg5.IsWhole) (arg8 : Memref sig .tc .vmem S1x2x128 .f32)
  (harg8 : arg8.IsWhole) (q : Vec Ideal S1x1x2048x128 .bf16) (km : Vec Ideal S128x128 .bf16) (mb : Vec Ideal S1x2x128 .f32)

/-- The meta scores of all positions: both planes, of the first and the second head. -/
def metaPieces : List (View.Piece (Elt Ideal) S2x2048x128 .f32) :=
  [⟨Rect.unit ![1, 0, 0] S1x2048x128.size inb_S2x2048x128_S1x2048x128_1_0_0,
      k0_pay1 (k0_pay255 q km (View.ld mb (Rect.unit ![0, 1, 0] S1x1x128.size inb_S1x2x128_S1x1x128_0_1_0)))⟩,
    ⟨Rect.unit ![0, 0, 0] S1x2048x128.size inb_S2x2048x128_S1x2048x128_0_0_0,
      k0_pay254 q km (View.ld mb (Rect.unit ![0, 0, 0] S1x1x128.size inb_S1x2x128_S1x1x128_0_0_0))⟩]

/-- The two stores agree with the meta scores. -/
theorem metaPieces_apply : ∀ p ∈ metaPieces q km mb, ∀ x : p.1.shape.Idx,
    p.2 x = (fun y : S2x2048x128.Idx => metaAt q km mb (y 0) (y 1) (y 2)) (p.1.emb x) := by
  intro p hp x
  rcases List.mem_cons.mp hp with rfl | hp
  · obtain ⟨x0, r, l, rfl⟩ : ∃ (x0 : Fin 1) (r : Fin 2048) (l : Fin 128), x = ix3 x0 r l := ⟨_, _, _, eq_ix3 x⟩
    obtain rfl : x0 = 0 := Fin.eq_zero x0
    refine (meta_high _ _ _ _ _).trans ?_
    have hemb : (Rect.unit (s := S2x2048x128) ![1, 0, 0] S1x2048x128.size inb_S2x2048x128_S1x2048x128_1_0_0).emb (ix3 0 r l) = ix3 1 r l := by
      funext a
      apply Fin.ext
      match a with
      | ⟨0, _⟩ => rfl
      | ⟨1, _⟩ => show 0 + 1 * r.val = r.val; omega
      | ⟨2, _⟩ => show 0 + 1 * l.val = l.val; omega
    refine Eq.trans ?_ (congrArg (fun y : S2x2048x128.Idx => metaAt q km mb (y 0) (y 1) (y 2)) hemb.symm)
    show _ = metaAt q km mb 1 r l
    unfold metaAt
    refine congrArg₂ (· + ·) (Finset.sum_congr rfl fun d _ => ?_) (ld_at mb _ _ _ _ _ rfl fun a => ?_)
    · by_cases h : d.val < 64 <;> simp [h]
    · match a with
      | ⟨0, _⟩ => rfl
      | ⟨1, _⟩ => rfl
      | ⟨2, _⟩ => exact (Nat.zero_add _).symm
  · obtain rfl := List.mem_singleton.mp hp
    obtain ⟨x0, r, l, rfl⟩ : ∃ (x0 : Fin 1) (r : Fin 2048) (l : Fin 128), x = ix3 x0 r l := ⟨_, _, _, eq_ix3 x⟩
    obtain rfl : x0 = 0 := Fin.eq_zero x0
    refine (meta_low _ _ _ _ _).trans ?_
    have hemb : (Rect.unit (s := S2x2048x128) ![0, 0, 0] S1x2048x128.size inb_S2x2048x128_S1x2048x128_0_0_0).emb (ix3 0 r l) = ix3 0 r l := by
      funext a
      apply Fin.ext
      match a with
      | ⟨0, _⟩ => rfl
      | ⟨1, _⟩ => show 0 + 1 * r.val = r.val; omega
      | ⟨2, _⟩ => show 0 + 1 * l.val = l.val; omega
    refine Eq.trans ?_ (congrArg (fun y : S2x2048x128.Idx => metaAt q km mb (y 0) (y 1) (y 2)) hemb.symm)
    show _ = metaAt q km mb 0 r l
    unfold metaAt
    refine congrArg₂ (· + ·) (Finset.sum_congr rfl fun d _ => ?_) (ld_at mb _ _ _ _ _ rfl fun a => ?_)
    · by_cases h : d.val < 64 <;> simp [h]
    · match a with
      | ⟨0, _⟩ => rfl
      | ⟨1, _⟩ => rfl
      | ⟨2, _⟩ => exact (Nat.zero_add _).symm

/-- The two stores cover the scratch. -/
theorem metaPieces_cover (y : S2x2048x128.Idx) : ∃ p ∈ metaPieces q km mb, y ∈ p.1.set := by
  obtain ⟨h, r, l, rfl⟩ : ∃ (h : Fin 2) (r : Fin 2048) (l : Fin 128), y = ix3 h r l := ⟨_, _, _, eq_ix3 y⟩
  by_cases hh : h = 0
  · subst hh
    refine ⟨_, List.mem_cons_of_mem _ (List.mem_singleton.mpr rfl), ?_⟩
    refine (Rect.mem_set_unit (inb := inb_S2x2048x128_S1x2048x128_0_0_0)).mpr fun a => ?_
    match a with
    | ⟨0, _⟩ => exact ⟨Nat.zero_le _, by show 0 < 0 + 1; omega⟩
    | ⟨1, _⟩ => exact ⟨Nat.zero_le _, by show r.val < 0 + 2048; omega⟩
    | ⟨2, _⟩ => exact ⟨Nat.zero_le _, by show l.val < 0 + 128; omega⟩
  · have h1 : h = 1 := by omega
    subst h1
    refine ⟨_, List.mem_cons_self, ?_⟩
    refine (Rect.mem_set_unit (inb := inb_S2x2048x128_S1x2048x128_1_0_0)).mpr fun a => ?_
    match a with
    | ⟨0, _⟩ => exact ⟨Nat.le_refl _, by show 1 < 1 + 1; omega⟩
    | ⟨1, _⟩ => exact ⟨Nat.zero_le _, by show r.val < 0 + 2048; omega⟩
    | ⟨2, _⟩ => exact ⟨Nat.zero_le _, by show l.val < 0 + 128; omega⟩

/-- What the scratch holds after the stores. -/
theorem metaPieces_read {κ sp} (w : View sig κ sp S2x2048x128 .f32) (f) :
    w.read (Elt Ideal) (w.writes (Elt Ideal) f (metaPieces q km mb))
      = fun y : S2x2048x128.Idx => metaAt q km mb (y 0) (y 1) (y 2) := by
  rw [View.read_writes_eq_canon _ _ _ (metaPieces_cover q km mb)]
  funext y
  exact View.canon_apply_of_pieces (fun y : S2x2048x128.Idx => metaAt q km mb (y 0) (y 1) (y 2)) _
    (metaPieces_apply q km mb) y (metaPieces_cover q km mb y)

/-- The two stores as the kernel makes them, each operand loaded from its buffer. -/
def loadedPieces : List (View.Piece (Elt Ideal) S2x2048x128 .f32) :=
  let Q := View.ld (arg2.view.read (Elt Ideal) (harg2.unread q))
    (Rect.unit ![0, 0, 0, 0] S1x1x2048x128.size inb_S1x1x2048x128_S1x1x2048x128_0_0_0_0)
  let K := View.ld (arg5.view.read (Elt Ideal) (harg5.unread km)) (Rect.unit ![0, 0] S128x128.size inb_S128x128_S128x128_0_0)
  let B := arg8.view.read (Elt Ideal) (harg8.unread mb)
  [⟨Rect.unit ![1, 0, 0] S1x2048x128.size inb_S2x2048x128_S1x2048x128_1_0_0,
      k0_pay1 (k0_pay255 Q K (View.ld B (Rect.unit ![0, 1, 0] S1x1x128.size inb_S1x2x128_S1x1x128_0_1_0)))⟩,
    ⟨Rect.unit ![0, 0, 0] S1x2048x128.size inb_S2x2048x128_S1x2048x128_0_0_0,
      k0_pay254 Q K (View.ld B (Rect.unit ![0, 0, 0] S1x1x128.size inb_S1x2x128_S1x1x128_0_0_0))⟩]

/-- Loaded whole, an operand is the block. -/
theorem loadedPieces_eq : loadedPieces arg2 harg2 arg5 harg5 arg8 harg8 q km mb = metaPieces q km mb := by
  have z4 : (![0, 0, 0, 0] : Fin S1x1x2048x128.rank → Nat) = fun _ => 0 := by decide
  have z2 : (![0, 0] : Fin S128x128.rank → Nat) = fun _ => 0 := by decide
  unfold loadedPieces metaPieces
  rw [harg2.read_unread, harg5.read_unread, harg8.read_unread, View.ld_unit_zero z4, View.ld_unit_zero z2]

/-- The scratch stores of a first point of a head pair. -/
theorem metaPieces_A : kernelRun0_A.sl.HS0_2 (F := Ideal) c arg2 harg2 arg5 harg5 arg8 harg8 q km mb = metaPieces q km mb := by
  refine Eq.trans (b := loadedPieces arg2 harg2 arg5 harg5 arg8 harg8 q km mb) rfl ?_
  exact loadedPieces_eq arg2 harg2 arg5 harg5 arg8 harg8 q km mb
/-- The scratch stores of a later point. -/
theorem metaPieces_B : kernelRun0_B.sl.HS0_2 (F := Ideal) c arg2 harg2 arg5 harg5 arg8 harg8 q km mb = metaPieces q km mb := by
  refine Eq.trans (b := loadedPieces arg2 harg2 arg5 harg5 arg8 harg8 q km mb) rfl ?_
  exact loadedPieces_eq arg2 harg2 arg5 harg5 arg8 harg8 q km mb
end

end Cert.Att
end
-- ==== Proof.Gather.lean ====
/- A host gather read at an index: the operand at the index whose coordinates are, axis by axis, the start index or the
   result's own coordinate. -/
module

public import Idealize.ShloMosaic.Lib.ValueIdx

@[expose] public section

noncomputable section

namespace Cert.Att

open Idealize.ShloMosaic Idealize.ShloMosaic.ValueIdx

variable {s si t : Shape} {α : Type} {w : Nat}

/-- A gather's entry is the operand's entry at the start plus the batch coordinate plus the offset, on every axis. -/
theorem gather_at (d : GatherDims s si t) (x : s.Idx → α) (idx : IVec si w) (y : t.Idx) (k : s.Idx)
    (hk : ∀ a, d.start y idx a + d.batchCoord y a + d.offCoord y a = (k a).val) : Host.gather d x idx y = x k := by
  unfold Host.gather
  exact congrArg x (funext fun a => Fin.ext (hk a))

/-- Along an axis no start index names, with no batching, the coordinate is the offset. -/
theorem gather_free (d : GatherDims s si t) (idx : IVec si w) (y : t.Idx) (a : Fin s.rank) (hb : d.operandBatchingDims = [])
    (h : a ∉ d.startIndexMap) (n : Nat) (hn : d.offCoord y a = n) :
    d.start y idx a + d.batchCoord y a + d.offCoord y a = n := by
  have e : d.start y idx a = 0 := by unfold GatherDims.start; rw [dif_neg h]
  rw [e, GatherDims.batchCoord_eq_zero _ _ _ (by rw [hb]; exact List.not_mem_nil), hn]
  omega

/-- Along a collapsed axis a start index names, with no batching, the coordinate is the start index when that is in range. -/
theorem gather_start (d : GatherDims s si t) (idx : IVec si w) (y : t.Idx) (a : Fin s.rank) (hb : d.operandBatchingDims = [])
    (h : a ∈ d.startIndexMap) (hc : a ∈ d.collapsedSliceDims) (i : si.Idx)
    (hi : d.siIdx y ⟨List.idxOf a d.startIndexMap, List.idxOf_lt_length_iff.2 h⟩ = i) (n : Nat)
    (hn : (idx i).toInt.toNat = n) (hle : n ≤ s.size a - d.sliceSizes a) :
    d.start y idx a + d.batchCoord y a + d.offCoord y a = n := by
  have e : d.start y idx a = n := by
    unfold GatherDims.start
    rw [dif_pos h, hi, hn]
    exact min_eq_left hle
  rw [e, GatherDims.batchCoord_eq_zero _ _ _ (by rw [hb]; exact List.not_mem_nil),
    GatherDims.offCoord_eq_zero _ _ _ (fun h' => ((GatherDims.mem_sKept _ _).mp h').1 hc)]
  rfl

end Cert.Att
end
-- ==== Proof.HostPrep.lean ====
/- What the host operations before the kernel's call prepare: the meta projections with rows of zeros below, the meta biases and
   the bias rows in units of `log 2`. -/
module

public import proofs.«01_k».proof.Proof.Gen.KernelIdeal.Value
public import proofs.«01_k».proof.Proof.Softmax
public import proofs.«01_k».proof.Proof.Gather
public import Idealize.ShloMosaic.Lib.Pipeline.Value
public import Idealize.ShloMosaic.Lib.KernelVsHost

@[expose] public section

set_option maxRecDepth 8192
set_option maxHeartbeats 400000

noncomputable section

namespace Cert.Att

open Idealize.ShloMosaic Idealize.ShloMosaic.TcCoe Idealize.ShloMosaic.Tactic Idealize.ShloMosaic.ValueIdx Idealize.SL.Sem
open Cert.KernelIdeal Cert.KernelIdeal.Gen

variable (m : (ℓ : Loc nD τ sig) → Buf (Elt Ideal) ℓ)

/-- The projections of the queries, keys and values, as launched. -/
def qkvArg (c : Dev nD) : S24x4x2048x128.Idx → EReal := m (c, Proc.devRef .tc main_arg0)
/-- The meta tokens' projections, as launched. -/
def mprojArg (c : Dev nD) : S16x6144.Idx → EReal := m (c, Proc.devRef .tc main_arg1)
/-- The table of relative biases, as launched. -/
def relArg (c : Dev nD) : S1x16x15x31.Idx → EReal := m (c, Proc.devRef .tc main_arg2)
/-- The meta biases, as launched. -/
def mbiasArg (c : Dev nD) : S1x16x16.Idx → EReal := m (c, Proc.devRef .tc main_arg3)

/-- The constant two. -/
theorem two_f32 : Ideal.ofBits .f32 0x40000000#32 = ((2 : ℝ) : EReal) := by
  simp [Ideal.ofBits, Ideal.ieee]
  rw [← EReal.coe_mul]
  norm_num

/-- The logarithm of two the host computes. -/
theorem log_two : Ideal.log (Ideal.ofBits .f32 0x40000000#32) = ln2 := by
  rw [two_f32]
  unfold Ideal.log
  exact if_neg (by norm_num)

theorem minus_inf_f32 : Ideal.ofBits .f32 0xFF800000#32 = ⊥ := by
  simp [Ideal.ofBits, Ideal.ieee]

/-- The meta projections with rows of zeros below, as the call finds them. -/
theorem V_v0 (c : Dev nD) : (V m c main_v0 : S128x6144.Idx → EReal)
    = pad S128x6144 ![0, 0] ![112, 0] ![0, 0] (mprojArg m c)
        (sitofp (F := Ideal) .bf16 (constantI S_ 32 0#32)) pads_S16x6144_S128x6144_01120_000 (by decide) := by
  simp only [V, hostOps0, hostOps0_1, hostOps0_2, hostOps0_3, hostOps0_4, List.flatten_cons, List.flatten_nil, List.append_nil, List.cons_append, List.nil_append]
  after_results
  rfl

/-- The meta biases in units of `log 2`, with `-∞` on the lanes past the sixteenth, as the call finds them. -/
theorem V_v8 (c : Dev nD) : (V m c main_v8 : S8x2x128.Idx → EReal)
    = shapeCast S8x2x128 (concatenate S16x128 1
        [⟨S16x16, Host.divf (F := Ideal) (shapeCast S16x16 (mbiasArg m c) shapeCasts_S1x16x16_S16x16)
            (broadcastInDim S16x16 ![] bcast_S_S16x16 (Host.log (constant (F := Ideal) S_ .f32 0x40000000#32)))⟩,
         ⟨S16x112, broadcastInDim S16x112 ![] bcast_S_S16x112 (constant (F := Ideal) S_ .f32 0xFF800000#32)⟩]
        concatenates_S16x16_S16x112_S16x128_d1) shapeCasts_S16x128_S8x2x128 := by
  simp only [V, hostOps0, hostOps0_1, hostOps0_2, hostOps0_3, hostOps0_4, List.flatten_cons, List.flatten_nil, List.append_nil, List.cons_append, List.nil_append]
  after_results
  rfl

/-- The column offset of each lane of a bias row: the lane less 63, kept within 15 on both sides, plus 15. -/
def laneOff : S128.Idx → BitVec 32 :=
  addi (minsi (broadcastInDim S128 ![] bcast_S_S128 (constantI S_ 32 15#32))
    (maxsi (broadcastInDim S128 ![] bcast_S_S128 (constantI S_ 32 4294967281#32))
      (subi (iotaInDim S128 32 0) (broadcastInDim S128 ![] bcast_S_S128 (constantI S_ 32 63#32)))))
    (broadcastInDim S128 ![] bcast_S_S128 (constantI S_ 32 15#32))

/-- The column offsets as the gather's start indices: a negative one would count from the end. -/
def laneIdx : S128x1.Idx → BitVec 32 :=
  broadcastInDim S128x1 ![0] bcast_S128_S128x1_0
    (select (cmpi .slt laneOff (broadcastInDim S128 ![] bcast_S_S128 (constantI S_ 32 0#32)))
      (addi laneOff (broadcastInDim S128 ![] bcast_S_S128 (constantI S_ 32 31#32))) laneOff)

/-- The bias rows read at each lane's column offset, in units of `log 2`, as the call finds them. -/
theorem V_v27 (c : Dev nD) : (V m c main_v27 : S8x2x15x128.Idx → EReal)
    = shapeCast S8x2x15x128 (Host.divf (F := Ideal)
        (Host.gather gather_S16x15x31_S128x1_S16x15x128_01_2_n_n_2_1_16151
          (shapeCast S16x15x31 (relArg m c) shapeCasts_S1x16x15x31_S16x15x31) laneIdx)
        (broadcastInDim S16x15x128 ![] bcast_S_S16x15x128 (Host.log (constant (F := Ideal) S_ .f32 0x40000000#32))))
      shapeCasts_S16x15x128_S8x2x15x128 := by
  simp only [V, hostOps0, hostOps0_1, hostOps0_2, hostOps0_3, hostOps0_4, List.flatten_cons, List.flatten_nil, List.append_nil, List.cons_append, List.nil_append]
  after_results
  simp only [StableHlo.TRef.ofBuf, StableHlo.TRef.toBuf, cast_eq, id]
  unfold laneIdx laneOff
  rfl

/-- The padded meta projections at an index: the first sixteen rows are the projections, the others zero. -/
theorem V_v0_apply (c : Dev nD) (r : Fin 128) (n : Fin 6144) : (V m c main_v0 : S128x6144.Idx → EReal) (ix2 r n)
    = if h : r.val < 16 then (mprojArg m c) (ix2 ⟨r.val, h⟩ n) else 0 := by
  rw [V_v0]
  by_cases h : r.val < 16
  · rw [dif_pos h]
    refine pad_apply_of_inside _ _ _ _ _ _ _ _ (ix2 ⟨r.val, h⟩ n) fun a => ?_
    match a with
    | ⟨0, _⟩ => show r.val = 0 + r.val * (0 + 1); omega
    | ⟨1, _⟩ => show n.val = 0 + n.val * (0 + 1); omega
  · rw [dif_neg h]
    refine (pad_apply_of_not_inside _ _ _ _ _ _ _ _ (0 : Fin 2) ?_).trans ?_
    · show ¬(0 ≤ r.val ∧ (r.val - 0) % (0 + 1) = 0 ∧ (r.val - 0) / (0 + 1) < 16)
      omega
    · show (((0#32 : BitVec 32).toInt : ℝ) : EReal) = 0
      simp

/-- The padded meta biases at an index. -/
theorem V_v8_apply (c : Dev nD) (p : Fin 8) (h : Fin 2) (l : Fin 128) : (V m c main_v8 : S8x2x128.Idx → EReal) (ix3 p h l)
    = if hl : l.val < 16 then
        Ideal.div ((mbiasArg m c)
          (ix3 0 (⟨2 * p.val + h.val, by omega⟩ : Fin 16) ⟨l.val, hl⟩)) ln2
      else ⊥ := by
  rw [V_v8]
  refine (shapeCast_apply _ _ (ix3 p h l) (ix2 (⟨2 * p.val + h.val, by omega⟩ : Fin 16) l) ?_).trans ?_
  · rw [Shape.rowMajor_val_two, Shape.rowMajor_val_three]
    show (2 * p.val + h.val) * 128 + l.val = (p.val * 2 + h.val) * 128 + l.val
    omega
  · by_cases hl : l.val < 16
    · rw [dif_pos hl]
      refine (concatenate_pair_apply_left (t := S16x128) (s₁ := S16x16) (s₂ := S16x112) _ _ _ _ _ rfl
        (ix2 (⟨2 * p.val + h.val, by omega⟩ : Fin 16) (⟨l.val, hl⟩ : Fin 16)) fun b => ?_).trans ?_
      · match b with | ⟨0, _⟩ => rfl | ⟨1, _⟩ => rfl
      · show Ideal.div (shapeCast S16x16 _ _ _) (Ideal.log (Ideal.ofBits .f32 0x40000000#32)) = _
        rw [log_two]
        refine congrArg (fun z => Ideal.div z ln2) (shapeCast_apply _ _ _ _ ?_)
        rw [Shape.rowMajor_val_two, Shape.rowMajor_val_three]
        show (0 * 16 + (2 * p.val + h.val)) * 16 + l.val = (2 * p.val + h.val) * 16 + l.val
        omega
    · rw [dif_neg hl]
      refine (concatenate_pair_apply_right (t := S16x128) (s₁ := S16x16) (s₂ := S16x112) _ _ _ _ _ rfl rfl
        (ix2 (⟨2 * p.val + h.val, by omega⟩ : Fin 16) (⟨l.val - 16, by omega⟩ : Fin 112)) (fun b hb => ?_) ?_).trans ?_
      · match b with | ⟨0, _⟩ => rfl | ⟨1, _⟩ => exact absurd rfl hb
      · show l.val - 16 + 16 = l.val; omega
      · exact minus_inf_f32

/-- The column of the bias table a lane reads: its offset from lane 48, between the table's two ends. -/
def laneCol (l : Nat) : Fin 31 := ⟨min 30 (l - 48), by omega⟩

theorem laneIdx_val : ∀ l : Fin 128, (laneIdx (ix2 l 0)).toInt.toNat = (laneCol l.val).val := by
  have e : ∀ l : Fin 128,
      (Scalar.select (IntOp.cmpi .slt (IntOp.minsi 15#32 (IntOp.maxsi 4294967281#32 (BitVec.ofNat 32 l.val - 63#32)) + 15#32) 0#32)
        (IntOp.minsi 15#32 (IntOp.maxsi 4294967281#32 (BitVec.ofNat 32 l.val - 63#32)) + 15#32 + 31#32)
        (IntOp.minsi 15#32 (IntOp.maxsi 4294967281#32 (BitVec.ofNat 32 l.val - 63#32)) + 15#32)).toInt.toNat
      = min 30 (l.val - 48) := by decide +kernel
  intro l
  refine Eq.trans ?_ (e l)
  refine congrArg (fun z : BitVec 32 => z.toInt.toNat) ?_
  unfold laneIdx
  refine (broadcastInDim_apply _ _ _ _ (ix1 l) fun a => ?_).trans rfl
  match a with | ⟨0, _⟩ => rfl

/-- The extended bias rows at an index. -/
theorem V_v27_apply (c : Dev nD) (p : Fin 8) (h : Fin 2) (o : Fin 15) (l : Fin 128) :
    (V m c main_v27 : S8x2x15x128.Idx → EReal) (ix4 p h o l)
    = Ideal.div ((relArg m c)
        (ix4 0 (⟨2 * p.val + h.val, by omega⟩ : Fin 16) o (laneCol l.val))) ln2 := by
  rw [V_v27]
  refine (shapeCast_apply _ _ (ix4 p h o l) (ix3 (⟨2 * p.val + h.val, by omega⟩ : Fin 16) o l) ?_).trans ?_
  · rw [Shape.rowMajor_val_three, Shape.rowMajor_val_four]
    show ((2 * p.val + h.val) * 15 + o.val) * 128 + l.val = ((p.val * 2 + h.val) * 15 + o.val) * 128 + l.val
    omega
  · show Ideal.div (Host.gather gather_S16x15x31_S128x1_S16x15x128_01_2_n_n_2_1_16151 _ laneIdx _)
      (Ideal.log (Ideal.ofBits .f32 0x40000000#32)) = _
    rw [log_two]
    refine congrArg (fun z => Ideal.div z ln2) ?_
    refine (gather_at _ _ _ _ (ix3 (⟨2 * p.val + h.val, by omega⟩ : Fin 16) o (laneCol l.val)) fun a => ?_).trans ?_
    · have f0 : (0 : Fin 3) ∉ gather_S16x15x31_S128x1_S16x15x128_01_2_n_n_2_1_16151.startIndexMap := by decide
      have f1 : (1 : Fin 3) ∉ gather_S16x15x31_S128x1_S16x15x128_01_2_n_n_2_1_16151.startIndexMap := by decide
      have f2 : (2 : Fin 3) ∈ gather_S16x15x31_S128x1_S16x15x128_01_2_n_n_2_1_16151.startIndexMap := by decide
      have f3 : (2 : Fin 3) ∈ gather_S16x15x31_S128x1_S16x15x128_01_2_n_n_2_1_16151.collapsedSliceDims := by decide
      match a with
      | ⟨0, _⟩ => exact gather_free _ _ _ _ rfl f0 _ rfl
      | ⟨1, _⟩ => exact gather_free _ _ _ _ rfl f1 _ rfl
      | ⟨2, _⟩ =>
        refine gather_start _ _ _ _ rfl f2 f3 (ix2 l 0) ?_ _ (laneIdx_val l) ?_
        · funext b
          match b with | ⟨0, _⟩ => rfl | ⟨1, _⟩ => rfl
        · show (laneCol l.val).val ≤ 31 - 1
          have := (laneCol l.val).isLt
          omega
    · refine shapeCast_apply _ _ _ _ ?_
      rw [Shape.rowMajor_val_three, Shape.rowMajor_val_four]
      show ((0 * 16 + (2 * p.val + h.val)) * 15 + o.val) * 31 + (laneCol l.val).val
        = ((2 * p.val + h.val) * 15 + o.val) * 31 + (laneCol l.val).val
      omega

end Cert.Att
end
-- ==== Proof.Entry.lean ====
/- What the kernel's call reads: its blocks as parts of its operand arrays, and the operand arrays the host operations prepare
   (the padded meta projections, the extended bias rows, the padded meta biases) from the arguments. -/
module

public import proofs.«01_k».proof.Proof.Gen.KernelIdeal.Value
public import proofs.«01_k».proof.Proof.HostPrep
public import Idealize.ShloMosaic.Lib.Pipeline.Value
public import Idealize.ShloMosaic.Lib.KernelVsHost
public import Idealize.ShloMosaic.Lib.Claim

@[expose] public section

set_option maxRecDepth 8192
set_option maxHeartbeats 4000000

noncomputable section

namespace Cert.Att

open Idealize.ShloMosaic Idealize.ShloMosaic.TcCoe Idealize.ShloMosaic.Tactic Idealize.ShloMosaic.ValueIdx Idealize.SL.Sem
open Cert.KernelIdeal Cert.KernelIdeal.Gen

variable (m : (ℓ : Loc nD τ sig) → Buf (Elt Ideal) ℓ)

/-- The head pair of a grid point. -/
abbrev pairOf (t : Fin cfg0.N) : Fin 8 := ⟨t.val / 4, by have := lt_of_lt_of_eq t.isLt (show cfg0.N = 32 from N_0); omega⟩
/-- The batch element of a grid point. -/
abbrev batchOf (t : Fin cfg0.N) : Fin 4 := ⟨t.val % 4, Nat.mod_lt _ (by decide)⟩

/-- The block each window reads at a point. -/
theorem windows : ∀ t : Fin cfg0.N,
    (win0_0.index t (0 : Fin 4) = t.val / 4 ∧ win0_0.index t (1 : Fin 4) = t.val % 4 ∧ win0_0.index t (2 : Fin 4) = 0
      ∧ win0_0.index t (3 : Fin 4) = 0)
    ∧ (win0_1.index t (0 : Fin 4) = 8 + t.val / 4 ∧ win0_1.index t (1 : Fin 4) = t.val % 4 ∧ win0_1.index t (2 : Fin 4) = 0
      ∧ win0_1.index t (3 : Fin 4) = 0)
    ∧ (win0_2.index t (0 : Fin 4) = 16 + t.val / 4 ∧ win0_2.index t (1 : Fin 4) = t.val % 4 ∧ win0_2.index t (2 : Fin 4) = 0
      ∧ win0_2.index t (3 : Fin 4) = 0)
    ∧ (win0_3.index t (0 : Fin 2) = 0 ∧ win0_3.index t (1 : Fin 2) = 8 + t.val / 4)
    ∧ (win0_4.index t (0 : Fin 2) = 0 ∧ win0_4.index t (1 : Fin 2) = 16 + t.val / 4)
    ∧ (win0_5.index t (0 : Fin 4) = t.val / 4 ∧ win0_5.index t (1 : Fin 4) = 0 ∧ win0_5.index t (2 : Fin 4) = 0
      ∧ win0_5.index t (3 : Fin 4) = 0)
    ∧ (win0_6.index t (0 : Fin 3) = t.val / 4 ∧ win0_6.index t (1 : Fin 3) = 0 ∧ win0_6.index t (2 : Fin 3) = 0) := by
  intro t
  rw [← show (⟨t.val, t.isLt⟩ : Fin cfg0.N) = t from rfl]
  exact (by decide +kernel : ∀ t : Fin grid0.N,
    (win0_0.index t (0 : Fin 4) = t.val / 4 ∧ win0_0.index t (1 : Fin 4) = t.val % 4 ∧ win0_0.index t (2 : Fin 4) = 0
      ∧ win0_0.index t (3 : Fin 4) = 0)
    ∧ (win0_1.index t (0 : Fin 4) = 8 + t.val / 4 ∧ win0_1.index t (1 : Fin 4) = t.val % 4 ∧ win0_1.index t (2 : Fin 4) = 0
      ∧ win0_1.index t (3 : Fin 4) = 0)
    ∧ (win0_2.index t (0 : Fin 4) = 16 + t.val / 4 ∧ win0_2.index t (1 : Fin 4) = t.val % 4 ∧ win0_2.index t (2 : Fin 4) = 0
      ∧ win0_2.index t (3 : Fin 4) = 0)
    ∧ (win0_3.index t (0 : Fin 2) = 0 ∧ win0_3.index t (1 : Fin 2) = 8 + t.val / 4)
    ∧ (win0_4.index t (0 : Fin 2) = 0 ∧ win0_4.index t (1 : Fin 2) = 16 + t.val / 4)
    ∧ (win0_5.index t (0 : Fin 4) = t.val / 4 ∧ win0_5.index t (1 : Fin 4) = 0 ∧ win0_5.index t (2 : Fin 4) = 0
      ∧ win0_5.index t (3 : Fin 4) = 0)
    ∧ (win0_6.index t (0 : Fin 3) = t.val / 4 ∧ win0_6.index t (1 : Fin 3) = 0 ∧ win0_6.index t (2 : Fin 3) = 0)) t

/-- The query block of a point. -/
theorem q_block (c : Dev nD) (t : Fin cfg0.N) (p : Fin 2048) (l : Fin 128) :
    iblk m c 0 t (ix4 0 0 p l : S1x1x2048x128.Idx)
      = V m c main_arg0 (ix4 (⟨(pairOf t).val, by have := (pairOf t).isLt; omega⟩ : Fin 24) (batchOf t) p l) := by
  obtain ⟨⟨e0, e1, e2, e3⟩, -⟩ := windows t
  refine congrArg (V m c main_arg0) (funext fun a => Fin.ext ?_)
  match a with
  | ⟨0, _⟩ => show win0_0.index t (0 : Fin 4) * 1 + 1 * 0 = t.val / 4; omega
  | ⟨1, _⟩ => show win0_0.index t (1 : Fin 4) * 1 + 1 * 0 = t.val % 4; omega
  | ⟨2, _⟩ => show win0_0.index t (2 : Fin 4) * 2048 + 1 * p.val = p.val; omega
  | ⟨3, _⟩ => show win0_0.index t (3 : Fin 4) * 128 + 1 * l.val = l.val; omega

/-- The key block of a point. -/
theorem k_block (c : Dev nD) (t : Fin cfg0.N) (p : Fin 2048) (l : Fin 128) :
    iblk m c 1 t (ix4 0 0 p l : S1x1x2048x128.Idx)
      = V m c main_arg0 (ix4 (⟨8 + (pairOf t).val, by have := (pairOf t).isLt; omega⟩ : Fin 24) (batchOf t) p l) := by
  obtain ⟨-, ⟨e0, e1, e2, e3⟩, -⟩ := windows t
  refine congrArg (V m c main_arg0) (funext fun a => Fin.ext ?_)
  match a with
  | ⟨0, _⟩ => show win0_1.index t (0 : Fin 4) * 1 + 1 * 0 = 8 + t.val / 4; omega
  | ⟨1, _⟩ => show win0_1.index t (1 : Fin 4) * 1 + 1 * 0 = t.val % 4; omega
  | ⟨2, _⟩ => show win0_1.index t (2 : Fin 4) * 2048 + 1 * p.val = p.val; omega
  | ⟨3, _⟩ => show win0_1.index t (3 : Fin 4) * 128 + 1 * l.val = l.val; omega

/-- The value block of a point. -/
theorem v_block (c : Dev nD) (t : Fin cfg0.N) (p : Fin 2048) (l : Fin 128) :
    iblk m c 2 t (ix4 0 0 p l : S1x1x2048x128.Idx)
      = V m c main_arg0 (ix4 (⟨16 + (pairOf t).val, by have := (pairOf t).isLt; omega⟩ : Fin 24) (batchOf t) p l) := by
  obtain ⟨-, -, ⟨e0, e1, e2, e3⟩, -⟩ := windows t
  refine congrArg (V m c main_arg0) (funext fun a => Fin.ext ?_)
  match a with
  | ⟨0, _⟩ => show win0_2.index t (0 : Fin 4) * 1 + 1 * 0 = 16 + t.val / 4; omega
  | ⟨1, _⟩ => show win0_2.index t (1 : Fin 4) * 1 + 1 * 0 = t.val % 4; omega
  | ⟨2, _⟩ => show win0_2.index t (2 : Fin 4) * 2048 + 1 * p.val = p.val; omega
  | ⟨3, _⟩ => show win0_2.index t (3 : Fin 4) * 128 + 1 * l.val = l.val; omega

/-- The meta key block of a point. -/
theorem km_block (c : Dev nD) (t : Fin cfg0.N) (r l : Fin 128) :
    iblk m c 3 t (ix2 r l : S128x128.Idx)
      = V m c main_v0 (ix2 r (⟨128 * (8 + (pairOf t).val) + l.val, by have := (pairOf t).isLt; omega⟩ : Fin 6144)) := by
  obtain ⟨-, -, -, ⟨e0, e1⟩, -⟩ := windows t
  refine congrArg (V m c main_v0) (funext fun a => Fin.ext ?_)
  match a with
  | ⟨0, _⟩ => show win0_3.index t (0 : Fin 2) * 128 + 1 * r.val = r.val; omega
  | ⟨1, _⟩ => show win0_3.index t (1 : Fin 2) * 128 + 1 * l.val = 128 * (8 + t.val / 4) + l.val; omega

/-- The meta value block of a point. -/
theorem vm_block (c : Dev nD) (t : Fin cfg0.N) (r l : Fin 128) :
    iblk m c 4 t (ix2 r l : S128x128.Idx)
      = V m c main_v0 (ix2 r (⟨128 * (16 + (pairOf t).val) + l.val, by have := (pairOf t).isLt; omega⟩ : Fin 6144)) := by
  obtain ⟨-, -, -, -, ⟨e0, e1⟩, -⟩ := windows t
  refine congrArg (V m c main_v0) (funext fun a => Fin.ext ?_)
  match a with
  | ⟨0, _⟩ => show win0_4.index t (0 : Fin 2) * 128 + 1 * r.val = r.val; omega
  | ⟨1, _⟩ => show win0_4.index t (1 : Fin 2) * 128 + 1 * l.val = 128 * (16 + t.val / 4) + l.val; omega

/-- The bias rows of a point. -/
theorem ext_block (c : Dev nD) (t : Fin cfg0.N) (z : S1x2x15x128.Idx) :
    iblk m c 5 t z = V m c main_v27 (ix4 (pairOf t) (z 1) (z 2) (z 3)) := by
  obtain ⟨-, -, -, -, -, ⟨e0, e1, e2, e3⟩, -⟩ := windows t
  have hz : (z 0).val < 1 := (z 0).isLt
  refine congrArg (V m c main_v27) (funext fun a => Fin.ext ?_)
  match a with
  | ⟨0, _⟩ => show win0_5.index t (0 : Fin 4) * 1 + 1 * (z 0).val = t.val / 4; omega
  | ⟨1, _⟩ => show win0_5.index t (1 : Fin 4) * 2 + 1 * (z 1).val = (z 1).val; omega
  | ⟨2, _⟩ => show win0_5.index t (2 : Fin 4) * 15 + 1 * (z 2).val = (z 2).val; omega
  | ⟨3, _⟩ => show win0_5.index t (3 : Fin 4) * 128 + 1 * (z 3).val = (z 3).val; omega

/-- The meta biases of a point. -/
theorem mb_block (c : Dev nD) (t : Fin cfg0.N) (h : Fin 2) (l : Fin 128) :
    iblk m c 6 t (ix3 0 h l : S1x2x128.Idx) = V m c main_v8 (ix3 (pairOf t) h l) := by
  obtain ⟨-, -, -, -, -, -, ⟨e0, e1, e2⟩⟩ := windows t
  refine congrArg (V m c main_v8) (funext fun a => Fin.ext ?_)
  match a with
  | ⟨0, _⟩ => show win0_6.index t (0 : Fin 3) * 1 + 1 * 0 = t.val / 4; omega
  | ⟨1, _⟩ => show win0_6.index t (1 : Fin 3) * 2 + 1 * h.val = h.val; omega
  | ⟨2, _⟩ => show win0_6.index t (2 : Fin 3) * 128 + 1 * l.val = l.val; omega

/-- Two points of one head pair read the same bias rows. -/
theorem rows_same (c : Dev nD) (t t' : Fin cfg0.N) (h : t.val / 4 = t'.val / 4) : iblk m c 5 t = iblk m c 5 t' := by
  funext z
  rw [ext_block, ext_block, show pairOf t = pairOf t' from Fin.ext h]

end Cert.Att
end
-- ==== Proof.Point.lean ====
/- What a grid point leaves: its output block and the bias planes it carries on, from the blocks it reads. The bias planes are
   built at the first point of a head pair and kept at the pair's later points, which read the same bias rows. -/
module

public import proofs.«01_k».proof.Proof.Meta
public import proofs.«01_k».proof.Proof.Entry

@[expose] public section

set_option maxRecDepth 8192
set_option maxHeartbeats 4000000

noncomputable section

namespace Cert.Att

open Idealize.ShloMosaic Idealize.ShloMosaic.TcCoe Idealize.ShloMosaic.Tactic Idealize.ShloMosaic.ValueIdx Idealize.SL.Sem
open Cert.KernelIdeal Cert.KernelIdeal.Gen

/-- The bias planes of a head pair, from its bias rows. -/
def biasPlanes (x : Vec Ideal S1x2x15x128 .f32) : Vec Ideal S8x128x512 .f32 :=
  fun z => biasAt x (z 0) (z 1) (z 2)

/-- The meta scores of a batch element and head pair. -/
def metaScores (q : Vec Ideal S1x1x2048x128 .bf16) (km : Vec Ideal S128x128 .bf16) (mb : Vec Ideal S1x2x128 .f32) :
    Vec Ideal S2x2048x128 .f32 :=
  fun z => metaAt q km mb (z 0) (z 1) (z 2)

/-- The output block of a batch element and head pair. -/
def outBlock (q k v : Vec Ideal S1x1x2048x128 .bf16) (km vm : Vec Ideal S128x128 .bf16) (x : Vec Ideal S1x2x15x128 .f32)
    (mb : Vec Ideal S1x2x128 .f32) : Vec Ideal S1x1x2048x128 .bf16 :=
  fun y => blockAt q k v vm (metaScores q km mb) (biasPlanes x) (y 2) (y 3)

section
variable (c : Dev nD) (i : grid0.Coords) (arg2 : Memref sig .tc .vmem S1x1x2048x128 .bf16) (harg2 : arg2.IsWhole) (arg3 : Memref sig .tc .vmem S1x1x2048x128 .bf16) (harg3 : arg3.IsWhole) (arg4 : Memref sig .tc .vmem S1x1x2048x128 .bf16) (harg4 : arg4.IsWhole) (arg5 : Memref sig .tc .vmem S128x128 .bf16) (harg5 : arg5.IsWhole) (arg6 : Memref sig .tc .vmem S128x128 .bf16) (harg6 : arg6.IsWhole) (arg7 : Memref sig .tc .vmem S1x2x15x128 .f32) (harg7 : arg7.IsWhole) (arg8 : Memref sig .tc .vmem S1x2x128 .f32) (harg8 : arg8.IsWhole) (arg9 : Memref sig .tc .vmem S1x1x2048x128 .bf16) (harg9 : arg9.IsWhole) (arg10 : Memref sig .tc .vmem S2x2048x128 .f32) (harg10 : arg10.IsWhole) (arg11 : Memref sig .tc .vmem S8x128x512 .f32) (harg11 : arg11.IsWhole)
  (q k v : Vec Ideal S1x1x2048x128 .bf16) (km vm : Vec Ideal S128x128 .bf16) (x : Vec Ideal S1x2x15x128 .f32)
  (mb : Vec Ideal S1x2x128 .f32) (xs : Vec Ideal S8x128x512 .f32)

include arg2 harg2 arg3 harg3 arg4 harg4 arg5 harg5 arg6 harg6 arg7 harg7 arg8 harg8 arg9 harg9 arg10 harg10 arg11 harg11 q k v km vm mb in
/-- The 64 stores of the bias planes cover the scratch, so it reads as the planes whatever it held. -/
theorem planes_read (hc0 : cond0_0 i) {κ sp} (w : View sig κ sp S8x128x512 .f32) (f) :
    w.read (Elt Ideal) (w.writes (Elt Ideal) f (kernelRun0_A.sl.HS1_64 (F := Ideal) c arg7 harg7 x)) = biasPlanes x := by
  have hcov : ∀ y : S8x128x512.Idx, ∃ pc ∈ kernelRun0_A.sl.HS1_64 (F := Ideal) c arg7 harg7 x, y ∈ pc.1.set := scover0_A_1 (F := Ideal) c i arg2 harg2 arg3 harg3 arg4 harg4 arg5 harg5 arg6 harg6 arg7 harg7 arg8 harg8 arg9 harg9 arg10 harg10 arg11 harg11 hc0 q k v km vm x mb
  rw [View.read_writes_eq_canon _ _ _ hcov]
  funext y
  refine View.canon_apply_of_pieces (biasPlanes x) _ ?_ y (hcov y)
  rw [bias_pieces]
  intro p hp z
  obtain ⟨j, -, rfl⟩ := List.mem_map.mp hp
  refine (biasPiece_apply _ j z).trans ?_
  rw [harg7.read_unread]
  rfl

/-- The bias planes a first point of a head pair leaves. -/
theorem sout_A (hc0 : cond0_0 i) : sout0_A_1 (F := Ideal) c i arg2 harg2 arg3 harg3 arg4 harg4 arg5 harg5 arg6 harg6 arg7 harg7 arg8 harg8 arg9 harg9 arg10 harg10 arg11 harg11 hc0 q k v km vm x mb = biasPlanes x :=
  planes_read c i arg2 harg2 arg3 harg3 arg4 harg4 arg5 harg5 arg6 harg6 arg7 harg7 arg8 harg8 arg9 harg9 arg10 harg10 arg11 harg11 q k v km vm x mb hc0 _ _

/-- The output block of a first point of a head pair. -/
theorem out_A (hc0 : cond0_0 i) : out0_A_7 (F := Ideal) c i arg2 harg2 arg3 harg3 arg4 harg4 arg5 harg5 arg6 harg6 arg7 harg7 arg8 harg8 arg9 harg9 arg10 harg10 arg11 harg11 hc0 q k v km vm x mb = outBlock q k v km vm x mb := by
  have hcov := cover0_A_7 (F := Ideal) c i arg2 harg2 arg3 harg3 arg4 harg4 arg5 harg5 arg6 harg6 arg7 harg7 arg8 harg8 arg9 harg9 arg10 harg10 arg11 harg11 hc0 q k v km vm x mb
  unfold out0_A_7
  rw [View.read_writes_eq_canon _ _ _ hcov]
  funext y
  refine View.canon_apply_of_pieces (outBlock q k v km vm x mb) _ ?_ y (hcov y)
  intro p hp z
  refine (pieces_apply _ c _ i arg2 harg2 arg3 harg3 arg4 harg4 arg5 harg5 arg6 harg6 arg7 harg7 arg8 harg8 arg9 harg9 arg10 harg10 arg11 harg11 _ _ _ _ _ _ _ (Nat.le_refl _) p hp z).trans ?_
  rw [harg2.read_unread, harg3.read_unread, harg4.read_unread, harg6.read_unread, metaPieces_A, metaPieces_read,
    planes_read c i arg2 harg2 arg3 harg3 arg4 harg4 arg5 harg5 arg6 harg6 arg7 harg7 arg8 harg8 arg9 harg9 arg10 harg10 arg11 harg11 q k v km vm x mb hc0]
  rfl

/-- The output block of a later point, whose bias planes are those the point before left. -/
theorem out_B (hc0 : ¬cond0_0 i) : out0_B_7 (F := Ideal) c i arg2 harg2 arg3 harg3 arg4 harg4 arg5 harg5 arg6 harg6 arg7 harg7 arg8 harg8 arg9 harg9 arg10 harg10 arg11 harg11 hc0 q k v km vm x mb (biasPlanes x)
    = outBlock q k v km vm x mb := by
  have hcov := cover0_B_7 (F := Ideal) c i arg2 harg2 arg3 harg3 arg4 harg4 arg5 harg5 arg6 harg6 arg7 harg7 arg8 harg8 arg9 harg9 arg10 harg10 arg11 harg11 hc0 q k v km vm x mb (biasPlanes x)
  unfold out0_B_7
  rw [View.read_writes_eq_canon _ _ _ hcov]
  funext y
  refine View.canon_apply_of_pieces (outBlock q k v km vm x mb) _ ?_ y (hcov y)
  intro p hp z
  refine (pieces_apply _ c _ i arg2 harg2 arg3 harg3 arg4 harg4 arg5 harg5 arg6 harg6 arg7 harg7 arg8 harg8 arg9 harg9 arg10 harg10 arg11 harg11 _ _ _ _ _ _ _ (Nat.le_refl _) p hp z).trans ?_
  rw [harg2.read_unread, harg3.read_unread, harg4.read_unread, harg6.read_unread, metaPieces_B, metaPieces_read,
    harg11.read_unread]
  rfl
end

section
variable (m : (ℓ : Loc nD τ sig) → Buf (Elt Ideal) ℓ)

/-- After every point: its output block, and the bias planes of its head pair. -/
theorem outs_eq (c : Dev nD) : ∀ (n : Nat) (hn : n < cfg0.N),
    outsAt0 m c n hn = (outBlock (iblk m c 0 ⟨n, hn⟩) (iblk m c 1 ⟨n, hn⟩) (iblk m c 2 ⟨n, hn⟩) (iblk m c 3 ⟨n, hn⟩)
      (iblk m c 4 ⟨n, hn⟩) (iblk m c 5 ⟨n, hn⟩) (iblk m c 6 ⟨n, hn⟩), biasPlanes (iblk m c 5 ⟨n, hn⟩))
  | 0, hn => by
    refine (outsAt0_A m c ⟨0, hn⟩ rfl).trans ?_
    rw [out_A, sout_A]
  | n + 1, hn => by
    by_cases h0 : (n + 1) % 4 = 0
    · refine (outsAt0_A m c ⟨n + 1, hn⟩ h0).trans ?_
      rw [out_A, sout_A]
    · have e : (outsAt0 m c (n + 1 - 1) (Nat.lt_of_succ_lt hn)).2 = biasPlanes (iblk m c 5 ⟨n + 1, hn⟩) := by
        rw [rows_same m c ⟨n + 1, hn⟩ ⟨n, Nat.lt_of_succ_lt hn⟩ (by show (n + 1) / 4 = n / 4; omega)]
        exact congrArg Prod.snd (outs_eq c n (Nat.lt_of_succ_lt hn))
      refine (outsAt0_B m c ⟨n + 1, hn⟩ h0).trans ?_
      rw [e, out_B]
      rfl
end

end Cert.Att
end
-- ==== Proof.Spec.lean ====
/- The attention's value as mathematics over the extended reals: for every head, batch element and grid position, the softmax
   over the window's 512 keys and the 16 meta keys, and the values averaged with it. -/
module

public import proofs.«01_k».proof.Proof.Meta
public import proofs.«01_k».proof.Proof.HostPrep

@[expose] public section

noncomputable section

namespace Cert.Att

open Idealize.ShloMosaic Idealize.ShloMosaic.ValueIdx
open Cert.KernelIdeal

variable (Q : S24x4x2048x128.Idx → EReal) (M : S16x6144.Idx → EReal) (R : S1x16x15x31.Idx → EReal) (B : S1x16x16.Idx → EReal)

/-- One number of the query (`o = 0`), key (`o = 1`) or value (`o = 2`) of head `h` at batch element `b` and position `p`. -/
def headAt (o : Fin 3) (h : Fin 16) (b : Fin 4) (p : Fin 2048) (d : Fin 64) : EReal :=
  Q (ix4 (⟨8 * o.val + h.val / 2, by omega⟩ : Fin 24) b p (⟨64 * (h.val % 2) + d.val, by omega⟩ : Fin 128))

/-- One number of a meta token's key (`o = 1`) or value (`o = 2`) of head `h`. -/
def metaHead (o : Fin 3) (i : Fin 16) (h : Fin 16) (d : Fin 64) : EReal :=
  M (ix2 i (⟨1024 * o.val + (64 * h.val + d.val), by omega⟩ : Fin 6144))

/-- The bias of position `p` and window key `j`: from the table by row and column difference, `-∞` outside the columns. -/
def winBias (h : Fin 16) (p : Fin 2048) (j : Fin 512) : EReal :=
  if colIn (p.val % 64) (j.val % 64) then
    R (ix4 0 h (⟨j.val / 64 + 7 - (rowOff (rowOf p)).val, by omega⟩ : Fin 15) (laneCol (j.val % 64 + 63 - p.val % 64)))
  else ⊥

/-- The score of position `p` against window key `j`. -/
def winScore (b : Fin 4) (h : Fin 16) (p : Fin 2048) (j : Fin 512) : EReal :=
  (∑ d : Fin 64, headAt Q 0 h b p d * ln2 * headAt Q 1 h b (winPos (p.val / 64) j) d) + winBias R h p j

/-- The score of position `p` against meta key `i`. -/
def metaScore (b : Fin 4) (h : Fin 16) (p : Fin 2048) (i : Fin 16) : EReal :=
  (∑ d : Fin 64, metaHead M 1 i h d * (headAt Q 0 h b p d * ln2)) + B (ix3 0 h i)

/-- The attention at head `h`, batch element `b`, position `p` and component `d`. -/
def attend (b : Fin 4) (h : Fin 16) (p : Fin 2048) (d : Fin 64) : EReal :=
  refOut (winScore Q R b h p) (metaScore Q M B b h p) (fun j => headAt Q 2 h b (winPos (p.val / 64) j) d)
    (fun i => metaHead M 2 i h d)

/-- The head of a head pair's lane. -/
abbrev laneHead (p : Fin 8) (l : Fin 128) : Fin 16 := ⟨2 * p.val + l.val / 64, by omega⟩
/-- The head component of a lane. -/
abbrev laneComp (l : Fin 128) : Fin 64 := ⟨l.val % 64, Nat.mod_lt _ (by decide)⟩

/-- A sum over the 128 lanes of which only the half of lane `l` counts is the sum over that half. -/
theorem half_sum (l : Fin 128) (f : Fin 128 → EReal) :
    (∑ c : Fin 128, if (l.val < 64 ↔ c.val < 64) then f c else 0)
      = ∑ d : Fin 64, f (⟨64 * (l.val / 64) + d.val, by omega⟩ : Fin 128) := by
  have e := Fin.sum_univ_add (a := 64) (b := 64) fun c : Fin 128 => if (l.val < 64 ↔ c.val < 64) then f c else 0
  refine e.trans ?_
  have h1 : ∀ d : Fin 64, (Fin.castAdd 64 d : Fin 128).val = d.val := fun d => rfl
  have h2 : ∀ d : Fin 64, (Fin.natAdd 64 d : Fin 128).val = 64 + d.val := fun d => rfl
  by_cases hl : l.val < 64
  · rw [Finset.sum_eq_zero (s := Finset.univ) (f := fun d : Fin 64 => if (l.val < 64 ↔ (Fin.natAdd 64 d : Fin 128).val < 64)
      then f (Fin.natAdd 64 d) else 0) fun d _ => if_neg (by rw [h2]; omega), add_zero]
    refine Finset.sum_congr rfl fun d _ => ?_
    rw [if_pos (by rw [h1]; omega)]
    exact congrArg f (Fin.ext (by rw [h1]; show d.val = 64 * (l.val / 64) + d.val; omega))
  · rw [Finset.sum_eq_zero (s := Finset.univ) (f := fun d : Fin 64 => if (l.val < 64 ↔ (Fin.castAdd 64 d : Fin 128).val < 64)
      then f (Fin.castAdd 64 d) else 0) fun d _ => if_neg (by rw [h1]; omega), zero_add]
    refine Finset.sum_congr rfl fun d _ => ?_
    rw [if_pos (by rw [h2]; omega)]
    exact congrArg f (Fin.ext (by rw [h2]; show 64 + d.val = 64 * (l.val / 64) + d.val; omega))

end Cert.Att
end
-- ==== Proof.KernelValue.lean ====
/- The kernel's result: at every index of its output the attention's value. -/
module

public import proofs.«01_k».proof.Proof.Point
public import proofs.«01_k».proof.Proof.Spec

@[expose] public section

set_option maxRecDepth 8192
set_option maxHeartbeats 1000000

noncomputable section

namespace Cert.Att

open Idealize.ShloMosaic Idealize.ShloMosaic.TcCoe Idealize.ShloMosaic.Tactic Idealize.ShloMosaic.ValueIdx Idealize.SL.Sem
open Cert.KernelIdeal Cert.KernelIdeal.Gen

variable (m : (ℓ : Loc nD τ sig) → Buf (Elt Ideal) ℓ)

/-- The queries, keys and values the call finds are the launched ones. -/
theorem V_qkv (c : Dev nD) : (V m c main_arg0 : S24x4x2048x128.Idx → EReal) = qkvArg m c := V_main_arg0 m c

/-- `log 2` times a window score of the kernel is the score of the attention. -/
theorem win_score (c : Dev nD) (t : Fin cfg0.N) (p : Fin 2048) (l : Fin 128) (j : Fin 512) :
    winScore (qkvArg m c) (relArg m c) (batchOf t) (laneHead (pairOf t) l) p j
      = ln2 * (dotWin (iblk m c 0 t) (iblk m c 1 t) p l j
          + biasPlanes (iblk m c 5 t) (ix3 (rowOff (rowOf p)) (headRow (colOf p) l) j)) := by
  have hdot : ln2 * dotWin (iblk m c 0 t) (iblk m c 1 t) p l j
      = ∑ d : Fin 64, headAt (qkvArg m c) 0 (laneHead (pairOf t) l) (batchOf t) p d * ln2
          * headAt (qkvArg m c) 1 (laneHead (pairOf t) l) (batchOf t) (winPos (p.val / 64) j) d := by
    unfold dotWin
    rw [mul_sum' _ ln2_nonneg ln2_ne_top]
    refine Eq.trans (Finset.sum_congr rfl fun (d : Fin 128) _ => ?_) ((half_sum l fun d =>
      qkvArg m c (ix4 (⟨(pairOf t).val, by have := (pairOf t).isLt; omega⟩ : Fin 24) (batchOf t) p d) * ln2
      * qkvArg m c (ix4 (⟨8 + (pairOf t).val, by have := (pairOf t).isLt; omega⟩ : Fin 24) (batchOf t) (winPos (p.val / 64) j) d)).trans ?_)
    · rw [q_block, k_block, V_qkv]
      by_cases h : (l.val < 64 ↔ d.val < 64)
      · rw [if_pos h, if_pos h, ← mul_assoc, mul_comm ln2]
      · rw [if_neg h, if_neg h, zero_mul, mul_zero]
    · refine Finset.sum_congr rfl fun d _ => ?_
      unfold headAt
      have hp := (pairOf t).isLt
      refine congrArg₂ (fun x y : EReal => x * ln2 * y) (congrArg _ ?_) (congrArg _ ?_)
      · funext a
        match a with
        | ⟨0, _⟩ => exact Fin.ext (by show t.val / 4 = 8 * 0 + (2 * (t.val / 4) + l.val / 64) / 2; omega)
        | ⟨1, _⟩ => rfl
        | ⟨2, _⟩ => rfl
        | ⟨3, _⟩ => exact Fin.ext (by show 64 * (l.val / 64) + d.val = 64 * ((2 * (t.val / 4) + l.val / 64) % 2) + d.val; omega)
      · funext a
        match a with
        | ⟨0, _⟩ => exact Fin.ext (by show 8 + t.val / 4 = 8 * 1 + (2 * (t.val / 4) + l.val / 64) / 2; omega)
        | ⟨1, _⟩ => rfl
        | ⟨2, _⟩ => rfl
        | ⟨3, _⟩ => exact Fin.ext (by show 64 * (l.val / 64) + d.val = 64 * ((2 * (t.val / 4) + l.val / 64) % 2) + d.val; omega)
  have hbias : biasPlanes (iblk m c 5 t) (ix3 (rowOff (rowOf p)) (headRow (colOf p) l) j)
      = if colIn (p.val % 64) (j.val % 64) then
          Ideal.div (relArg m c (ix4 0 (laneHead (pairOf t) l) (⟨j.val / 64 + 7 - (rowOff (rowOf p)).val, by omega⟩ : Fin 15)
            (laneCol (j.val % 64 + 63 - p.val % 64)))) ln2
        else ⊥ := by
    show biasAt (iblk m c 5 t) (rowOff (rowOf p)) (headRow (colOf p) l) j = _
    unfold biasAt
    have hr : (headRow (colOf p) l).val % 64 = p.val % 64 := by show (64 * (l.val / 64) + p.val % 64) % 64 = _; omega
    have hh : (headRow (colOf p) l).val / 64 = l.val / 64 := by show (64 * (l.val / 64) + p.val % 64) / 64 = _; omega
    refine if_congr (by rw [hr]) ?_ rfl
    rw [ext_block]
    refine (V_v27_apply m c (pairOf t) _ _ _).trans ?_
    refine congrArg (fun z => Ideal.div z ln2) (congrArg _ ?_)
    funext a
    match a with
    | ⟨0, _⟩ => rfl
    | ⟨1, _⟩ => exact Fin.ext (by show 2 * (t.val / 4) + (headRow (colOf p) l).val / 64 = 2 * (t.val / 4) + l.val / 64; rw [hh])
    | ⟨2, _⟩ => rfl
    | ⟨3, _⟩ => exact congrArg laneCol (by show j.val % 64 + 63 - (headRow (colOf p) l).val % 64 = _; rw [hr])
  rw [hbias]
  unfold winScore winBias
  by_cases hc : colIn (p.val % 64) (j.val % 64)
  · rw [if_pos hc, if_pos hc, ln2_mul_add_div, hdot]
  · rw [if_neg hc, if_neg hc, EReal.add_bot, EReal.add_bot, ln2_mul_bot]

/-- `log 2` times a meta score of the kernel is the score of the attention. -/
theorem meta_score (c : Dev nD) (t : Fin cfg0.N) (p : Fin 2048) (l : Fin 128) (i : Fin 16) :
    metaScore (qkvArg m c) (mprojArg m c) (mbiasArg m c) (batchOf t) (laneHead (pairOf t) l) p i
      = ln2 * metaScores (iblk m c 0 t) (iblk m c 3 t) (iblk m c 6 t) (ix3 (headOf l) p (metaLane i)) := by
  have hp := (pairOf t).isLt
  show _ = ln2 * metaAt (iblk m c 0 t) (iblk m c 3 t) (iblk m c 6 t) (headOf l) p (metaLane i)
  unfold metaAt
  rw [mb_block, V_v8_apply, dif_pos (show (metaLane i).val < 16 from i.isLt), ln2_mul_add_div]
  unfold metaScore
  refine congrArg₂ (· + ·) ?_ rfl
  rw [mul_sum' _ ln2_nonneg ln2_ne_top]
  refine Eq.symm (Eq.trans (Finset.sum_congr rfl fun (d : Fin 128) _ => ?_) ((half_sum l fun d =>
    mprojArg m c (ix2 i (⟨128 * (8 + (pairOf t).val) + d.val, by omega⟩ : Fin 6144))
    * (qkvArg m c (ix4 (⟨(pairOf t).val, by omega⟩ : Fin 24) (batchOf t) p d) * ln2)).trans ?_))
  · rw [q_block, V_qkv, km_block, V_v0_apply, dif_pos (show (metaLane i).val < 16 from i.isLt)]
    have hh : ((headOf l).val = 0 ↔ d.val < 64) ↔ (l.val < 64 ↔ d.val < 64) := by
      show (l.val / 64 = 0 ↔ _) ↔ _; omega
    by_cases h : (l.val < 64 ↔ d.val < 64)
    · rw [if_pos h, if_pos (hh.mpr h), ← mul_assoc, mul_comm ln2, mul_comm]
      rfl
    · rw [if_neg h, if_neg (fun h' => h (hh.mp h')), zero_mul, mul_zero]
  · refine Finset.sum_congr rfl fun d _ => ?_
    unfold headAt metaHead
    refine congrArg₂ (fun x y : EReal => x * (y * ln2)) (congrArg _ ?_) (congrArg _ ?_)
    · funext a
      match a with
      | ⟨0, _⟩ => rfl
      | ⟨1, _⟩ => exact Fin.ext (by
          show 128 * (8 + t.val / 4) + (64 * (l.val / 64) + d.val) = 1024 * 1 + (64 * (2 * (t.val / 4) + l.val / 64) + d.val); omega)
    · funext a
      match a with
      | ⟨0, _⟩ => exact Fin.ext (by show t.val / 4 = 8 * 0 + (2 * (t.val / 4) + l.val / 64) / 2; omega)
      | ⟨1, _⟩ => rfl
      | ⟨2, _⟩ => rfl
      | ⟨3, _⟩ => exact Fin.ext (by show 64 * (l.val / 64) + d.val = 64 * ((2 * (t.val / 4) + l.val / 64) % 2) + d.val; omega)

/-- The meta lanes past the sixteenth have score `-∞`. -/
theorem meta_pad (c : Dev nD) (t : Fin cfg0.N) (p : Fin 2048) (h : Fin 2) (i : Fin 128) (hi : 16 ≤ i.val) :
    metaScores (iblk m c 0 t) (iblk m c 3 t) (iblk m c 6 t) (ix3 h p i) = ⊥ := by
  show metaAt (iblk m c 0 t) (iblk m c 3 t) (iblk m c 6 t) h p i = ⊥
  unfold metaAt
  rw [mb_block, V_v8_apply, dif_neg (Nat.not_lt.mpr hi), EReal.add_bot]

/-- The output block of a point is the attention. -/
theorem block_value (c : Dev nD) (t : Fin cfg0.N) (p : Fin 2048) (l : Fin 128) :
    outBlock (iblk m c 0 t) (iblk m c 1 t) (iblk m c 2 t) (iblk m c 3 t) (iblk m c 4 t) (iblk m c 5 t) (iblk m c 6 t) (ix4 0 0 p l)
      = attend (qkvArg m c) (mprojArg m c) (relArg m c) (mbiasArg m c) (batchOf t) (laneHead (pairOf t) l) p (laneComp l) := by
  have hp := (pairOf t).isLt
  show blockAt _ _ _ _ _ _ p l = _
  unfold blockAt attend
  refine (kerOut_eq_refOut _ _ _ _ _ _ (fun i => metaHead (mprojArg m c) 2 i (laneHead (pairOf t) l) (laneComp l)) (fun j => win_score m c t p l j) (fun i => meta_score m c t p l i)
    (fun i hi => meta_pad m c t p (headOf l) i hi) (fun i => ?_)).trans ?_
  · rw [vm_block, V_v0_apply, dif_pos (show (metaLane i).val < 16 from i.isLt)]
    unfold metaHead
    refine congrArg _ ?_
    funext a
    match a with
    | ⟨0, _⟩ => rfl
    | ⟨1, _⟩ => exact Fin.ext (by
        show 1024 * 2 + (64 * (2 * (t.val / 4) + l.val / 64) + l.val % 64) = 128 * (16 + t.val / 4) + l.val; omega)
  · refine congrArg (fun v => refOut _ _ v _) (funext fun j => ?_)
    rw [v_block, V_qkv]
    unfold headAt
    refine congrArg _ ?_
    funext a
    match a with
    | ⟨0, _⟩ => exact Fin.ext (by show 16 + t.val / 4 = 8 * 2 + (2 * (t.val / 4) + l.val / 64) / 2; omega)
    | ⟨1, _⟩ => rfl
    | ⟨2, _⟩ => rfl
    | ⟨3, _⟩ => exact Fin.ext (by show l.val = 64 * ((2 * (t.val / 4) + l.val / 64) % 2) + l.val % 64; omega)

/-- The kernel's result is the attention. -/
theorem kernel_value (c : Dev nD) (p : Fin 8) (b : Fin 4) (q : Fin 2048) (l : Fin 128) :
    Cert.KernelIdeal.Value.G7 m c (ix4 p b q l)
      = attend (qkvArg m c) (mprojArg m c) (relArg m c) (mbiasArg m c) b (laneHead p l) q (laneComp l) := by
  have hn : Cert.KernelIdeal.Value.pt7Of (ix4 p b q l) = 4 * p.val + b.val := by
    show 4 * (p.val / 1 - 0) + 1 * (b.val / 1 - 0) + 1 * (q.val / 2048 - 0) + 1 * (l.val / 128 - 0) = _
    omega
  have hN : cfg0.N = 32 := N_0
  have ht : Cert.KernelIdeal.Value.pt7Of (ix4 p b q l) < cfg0.N := by rw [hn, hN]; omega
  unfold Cert.KernelIdeal.Value.G7
  rw [dif_pos ht, ← Cert.KernelIdeal.Value.outsAt0_sweep m c _ ht, outs_eq]
  have hl : Cert.KernelIdeal.Value.loc7Of (ix4 p b q l) = ix4 0 0 q l := by
    funext a
    match a with
    | ⟨0, _⟩ => exact Fin.ext (Nat.mod_one _)
    | ⟨1, _⟩ => exact Fin.ext (Nat.mod_one _)
    | ⟨2, _⟩ => exact Fin.ext (Nat.mod_eq_of_lt q.isLt)
    | ⟨3, _⟩ => exact Fin.ext (Nat.mod_eq_of_lt l.isLt)
  rw [hl]
  refine (block_value m c _ q l).trans ?_
  have hpair : pairOf ⟨Cert.KernelIdeal.Value.pt7Of (ix4 p b q l), ht⟩ = p := Fin.ext (by
    show Cert.KernelIdeal.Value.pt7Of (ix4 p b q l) / 4 = p.val; rw [hn]; omega)
  have hbat : batchOf ⟨Cert.KernelIdeal.Value.pt7Of (ix4 p b q l), ht⟩ = b := Fin.ext (by
    show Cert.KernelIdeal.Value.pt7Of (ix4 p b q l) % 4 = b.val; rw [hn]; omega)
  rw [hpair, hbat]

end Cert.Att
end
-- ==== Proof.RefHeads.lean ====
/- The reference's queries, keys and values read at a number: the slabs it slices, transposes and splits into heads are the
   head numbers of the specification. -/
module

public import proofs.«01_k».proof.Proof.Spec
public import proofs.«01_k».proof.Proof.Gen.ReferenceIdeal.Read

@[expose] public section

noncomputable section

namespace Cert.Att

open Idealize.ShloMosaic Idealize.ShloMosaic.ValueIdx
open Cert.ReferenceIdeal Cert.ReferenceIdeal.Read

variable (x0 : S24x4x2048x128.Idx → EReal) (x1 : S16x6144.Idx → EReal) (x2 : S1x16x15x31.Idx → EReal) (x3 : S1x16x16.Idx → EReal)

/-- The grid position in row `r` and column `q`. -/
abbrev gridPos (r : Fin 32) (q : Fin 64) : Fin 2048 := ⟨64 * r.val + q.val, by omega⟩

/-- Where the split into rows, columns and heads reads the slabs after the transpose. -/
theorem split_index (b : Fin 4) (r : Fin 32) (q : Fin 64) (h : Fin 16) (d : Fin 64) :
    idx_main_v4 (ix5 b r q h d)
      = ix4 b (gridPos r q) (⟨h.val / 2, by omega⟩ : Fin 8) (⟨64 * (h.val % 2) + d.val, by omega⟩ : Fin 128) := by
  funext a
  match a with
  | ⟨0, _⟩ => exact Fin.ext (show ((((b.val * 32 + r.val) * 64 + q.val) * 16 + h.val) * 64 + d.val) / 2097152 = b.val by omega)
  | ⟨1, _⟩ => exact Fin.ext (show ((((b.val * 32 + r.val) * 64 + q.val) * 16 + h.val) * 64 + d.val) / 1024 % 2048 = 64 * r.val + q.val by omega)
  | ⟨2, _⟩ => exact Fin.ext (show ((((b.val * 32 + r.val) * 64 + q.val) * 16 + h.val) * 64 + d.val) / 128 % 8 = h.val / 2 by omega)
  | ⟨3, _⟩ => exact Fin.ext (show ((((b.val * 32 + r.val) * 64 + q.val) * 16 + h.val) * 64 + d.val) % 128 = 64 * (h.val % 2) + d.val by omega)

/-- The scale of the queries is `log 2`. -/
theorem scale_at (i : S4x32x64x16x64.Idx) : val_main_v6 (F := Ideal) i = ln2 := by
  rw [val_main_v6_apply]
  exact log_two

/-- The scaled queries. -/
theorem query_at (b : Fin 4) (r : Fin 32) (q : Fin 64) (h : Fin 16) (d : Fin 64) :
    val_main_v7 (F := Ideal) x0 (ix5 b r q h d) = headAt x0 0 h b (gridPos r q) d * ln2 := by
  rw [val_main_v7_apply, scale_at, val_main_v4_apply, split_index, val_main_v3_apply]
  show val_main_v1 (F := Ideal) x0 _ * ln2 = _
  rw [val_main_v1_apply]
  refine congrArg (fun t => x0 t * ln2) (funext fun a => ?_)
  match a with
  | ⟨0, _⟩ => exact Fin.ext (show h.val / 2 = 8 * 0 + h.val / 2 by omega)
  | ⟨1, _⟩ => rfl
  | ⟨2, _⟩ => rfl
  | ⟨3, _⟩ => rfl

/-- The keys. -/
theorem key_at (b : Fin 4) (r : Fin 32) (q : Fin 64) (h : Fin 16) (d : Fin 64) :
    val_main_v11 (F := Ideal) x0 (ix5 b r q h d) = headAt x0 1 h b (gridPos r q) d := by
  rw [val_main_v11_apply]
  refine (congrArg (val_main_v10 (F := Ideal) x0) (split_index b r q h d)).trans ?_
  rw [val_main_v10_apply]
  show val_main_v8 (F := Ideal) x0 _ = _
  rw [val_main_v8_apply]
  refine congrArg x0 (funext fun a => ?_)
  match a with
  | ⟨0, _⟩ => exact Fin.ext (show 8 + h.val / 2 = 8 * 1 + h.val / 2 by omega)
  | ⟨1, _⟩ => rfl
  | ⟨2, _⟩ => rfl
  | ⟨3, _⟩ => rfl

/-- The values. -/
theorem value_at (b : Fin 4) (r : Fin 32) (q : Fin 64) (h : Fin 16) (d : Fin 64) :
    val_main_v15 (F := Ideal) x0 (ix5 b r q h d) = headAt x0 2 h b (gridPos r q) d := by
  rw [val_main_v15_apply]
  refine (congrArg (val_main_v14 (F := Ideal) x0) (split_index b r q h d)).trans ?_
  rw [val_main_v14_apply]
  show val_main_v12 (F := Ideal) x0 _ = _
  rw [val_main_v12_apply]
  refine congrArg x0 (funext fun a => ?_)
  match a with
  | ⟨0, _⟩ => exact Fin.ext (show 16 + h.val / 2 = 8 * 2 + h.val / 2 by omega)
  | ⟨1, _⟩ => rfl
  | ⟨2, _⟩ => rfl
  | ⟨3, _⟩ => rfl

/-- The meta tokens' keys. -/
theorem metaKey_at (i h : Fin 16) (d : Fin 64) : val_main_v18 (F := Ideal) x1 (ix3 i h d) = metaHead x1 1 i h d := by
  rw [val_main_v18_apply, val_main_v17_apply]
  show x1 _ = x1 _
  refine congrArg x1 (funext fun a => ?_)
  match a with
  | ⟨0, _⟩ => exact Fin.ext (show ((i.val * 16 + h.val) * 64 + d.val) / 1024 = i.val by omega)
  | ⟨1, _⟩ => exact Fin.ext (show 1024 + ((i.val * 16 + h.val) * 64 + d.val) % 1024 = 1024 * 1 + (64 * h.val + d.val) by omega)

/-- The meta tokens' values. -/
theorem metaValue_at (i h : Fin 16) (d : Fin 64) : val_main_v20 (F := Ideal) x1 (ix3 i h d) = metaHead x1 2 i h d := by
  rw [val_main_v20_apply, val_main_v19_apply]
  show x1 _ = x1 _
  refine congrArg x1 (funext fun a => ?_)
  match a with
  | ⟨0, _⟩ => exact Fin.ext (show ((i.val * 16 + h.val) * 64 + d.val) / 1024 = i.val by omega)
  | ⟨1, _⟩ => exact Fin.ext (show 2048 + ((i.val * 16 + h.val) * 64 + d.val) % 1024 = 1024 * 2 + (64 * h.val + d.val) by omega)

/-- The meta tokens' bias. -/
theorem metaBias_at (b : Fin 4) (h : Fin 16) (r : Fin 32) (q : Fin 64) (i : Fin 16) :
    val_main_v104 (F := Ideal) x3 (ix5 b h r q i) = x3 (ix3 0 h i) := by
  rw [val_main_v104_apply, val_main_v103_apply, val_main_v102_apply]
  refine congrArg x3 (funext fun a => ?_)
  match a with
  | ⟨0, _⟩ => rfl
  | ⟨1, _⟩ => exact Fin.ext (show (h.val * 16 + i.val) / 16 % 16 = h.val by omega)
  | ⟨2, _⟩ => exact Fin.ext (show (h.val * 16 + i.val) % 16 = i.val by omega)

end Cert.Att
end
-- ==== Proof.RefIndex.lean ====
/- The reference's integer arithmetic: the window's grid rows, the bias table's row and column, and the column mask, each as
   the number the specification writes. -/
module

public import proofs.«01_k».proof.Proof.Spec
public import proofs.«01_k».proof.Proof.Gen.ReferenceIdeal.Read

@[expose] public section

noncomputable section

namespace Cert.Att

open Idealize.ShloMosaic Idealize.ShloMosaic.ValueIdx
open Cert.ReferenceIdeal Cert.ReferenceIdeal.Read

/-- The first row of a window, as a word. -/
def startWord (r : Nat) : BitVec 32 := IntOp.minsi 24#32 (IntOp.maxsi 0#32 (BitVec.ofNat 32 r - 4#32))

/-- A window's row, as a word. -/
def rowWord (r w : Nat) : BitVec 32 := startWord r + BitVec.ofNat 32 w

/-- A negative index counts from the end. -/
def wrap (n x : BitVec 32) : BitVec 32 := Scalar.select (IntOp.cmpi .slt x 0#32) (x + n) x

/-- The window's row the reference computes. -/
theorem rowWord_eq (r : Fin 32) (w : Fin 8) : val_main_v31 (F := Ideal) (ix2 r w) = rowWord r.val w.val := by
  rw [val_main_v31_apply, val_main_v29_apply, val_main_v26_apply, val_main_v25_apply, val_main_call0_v2_apply, val_main_v24_apply,
    val_main_v23_apply, val_main_call0_v1_apply, val_main_call0_v4_apply, val_main_v30_apply, val_main_v28_apply]
  rfl

/-- The row the keys' gather reads. -/
theorem keyRow_word (r : Fin 32) (w : Fin 8) : val_main_v53 (F := Ideal) (ix3 r w 0) = wrap 32#32 (rowWord r.val w.val) := by
  rw [val_main_v53_apply, val_main_v52_apply, val_main_v49_apply, val_main_v51_apply, val_main_v48_apply, val_main_v50_apply]
  have e : idx_main_v53 (ix3 r w 0) = ix2 r w := by funext a; match a with | ⟨0, _⟩ => rfl | ⟨1, _⟩ => rfl
  rw [e, rowWord_eq]
  rfl

/-- The row the values' gather reads. -/
theorem valueRow_word (r : Fin 32) (w : Fin 8) : val_main_v60 (F := Ideal) (ix3 r w 0) = wrap 32#32 (rowWord r.val w.val) := by
  rw [val_main_v60_apply, val_main_v59_apply, val_main_v56_apply, val_main_v58_apply, val_main_v55_apply, val_main_v57_apply]
  have e : idx_main_v60 (ix3 r w 0) = ix2 r w := by funext a; match a with | ⟨0, _⟩ => rfl | ⟨1, _⟩ => rfl
  rw [e, rowWord_eq]
  rfl

/-- Both are the window's row. -/
theorem rowWord_val : ∀ (r : Fin 32) (w : Fin 8), (wrap 32#32 (rowWord r.val w.val)).toInt.toNat = rowStart r.val + w.val := by
  decide +kernel

/-- The bias table's row, as a word. -/
theorem biasRow_word (r : Fin 32) (q : Fin 64) (w : Fin 8) (k : Fin 64) :
    val_main_v88 (F := Ideal) (ix4 r q w k) = wrap 15#32 (rowWord r.val w.val - BitVec.ofNat 32 r.val + 7#32) := by
  rw [val_main_v88_apply, val_main_v82_apply, val_main_v79_apply, val_main_v81_apply, val_main_v78_apply, val_main_v80_apply,
    val_main_v76_apply, val_main_v66_apply, val_main_v64_apply, val_main_v65_apply, val_main_v63_apply, val_main_v62_apply]
  have e : idx_main_v76 (idx_main_v88 (ix4 r q w k)) = ix2 r w := by funext a; match a with | ⟨0, _⟩ => rfl | ⟨1, _⟩ => rfl
  rw [e, rowWord_eq]
  rfl

/-- It is the row difference plus seven. -/
theorem biasRow_val : ∀ (r : Fin 32) (w : Fin 8),
    (wrap 15#32 (rowWord r.val w.val - BitVec.ofNat 32 r.val + 7#32)).toInt.toNat = w.val + 7 - (rowOff r).val := by
  decide +kernel

/-- The column difference the bias table is read at, as a word. -/
def colWord (q k : Nat) : BitVec 32 :=
  IntOp.minsi 15#32 (IntOp.maxsi 4294967281#32 (BitVec.ofNat 32 k - BitVec.ofNat 32 q)) + 15#32

/-- The bias table's column, as a word. -/
theorem biasCol_word (r : Fin 32) (q : Fin 64) (w : Fin 8) (k : Fin 64) :
    val_main_v89 (F := Ideal) (ix4 r q w k) = wrap 31#32 (colWord q.val k.val) := by
  rw [val_main_v89_apply, val_main_v87_apply, val_main_v84_apply, val_main_v86_apply, val_main_v83_apply, val_main_v85_apply,
    val_main_v77_apply, val_main_v74_apply, val_main_v73_apply, val_main_v72_apply, val_main_call2_v4_apply, val_main_call2_v2_apply,
    val_main_call2_v1_apply, val_main_v71_apply, val_main_v69_apply, val_main_v70_apply, val_main_v67_apply, val_main_v68_apply]
  rfl

/-- It is the column difference, kept within the table. -/
theorem biasCol_val : ∀ q k : Fin 64, (wrap 31#32 (colWord q.val k.val)).toInt.toNat = (laneCol (k.val + 63 - q.val)).val := by
  decide +kernel

/-- The first column of a window, as a word. -/
def colStart (q : Nat) : BitVec 32 := IntOp.minsi 48#32 (IntOp.maxsi 0#32 (BitVec.ofNat 32 q - 8#32))

/-- Whether a column is in the window, as a bit. -/
def maskWord (q k : Nat) : BitVec 1 :=
  IntOp.andi (IntOp.cmpi .sge (BitVec.ofNat 32 k) (colStart q)) (IntOp.cmpi .slt (BitVec.ofNat 32 k) (colStart q + 16#32))

/-- The mask the reference computes. -/
theorem mask_word (h : Fin 16) (r : Fin 32) (q : Fin 64) (w : Fin 8) (k : Fin 64) :
    val_main_call3_v1 (F := Ideal) (ix5 h r q w k) = maskWord q.val k.val := by
  rw [val_main_call3_v1_apply, val_main_v94_apply, val_main_v47_apply, val_main_v39_apply, val_main_v46_apply, val_main_v37_apply,
    val_main_v38_apply, val_main_v44_apply, val_main_v45_apply, val_main_v35_apply, val_main_v36_apply, val_main_v40_apply,
    val_main_v43_apply, val_main_v41_apply, val_main_v42_apply, val_main_v34_apply, val_main_call1_v4_apply,
    val_main_call1_v2_apply, val_main_call1_v1_apply, val_main_v33_apply, val_main_v32_apply]
  rfl

/-- The mask is set exactly in the window's columns. -/
theorem mask_val : ∀ q k : Fin 64, maskWord q.val k.val = if colIn q.val k.val then 1#1 else 0#1 := by
  decide +kernel

end Cert.Att
end
-- ==== Proof.RefScores.lean ====
/- The reference's scores: the rows of keys and values its gathers read, the bias under the column mask, and the scores against
   the window's keys and the meta keys, each the specification's. -/
module

public import proofs.«01_k».proof.Proof.Gather
public import proofs.«01_k».proof.Proof.RefHeads
public import proofs.«01_k».proof.Proof.RefIndex
public import Idealize.ShloMosaic.Lib.ValueIdxRank6

@[expose] public section

noncomputable section

namespace Cert.Att

open Idealize.ShloMosaic Idealize.ShloMosaic.ValueIdx
open Cert.ReferenceIdeal Cert.ReferenceIdeal.Read

variable (x0 : S24x4x2048x128.Idx → EReal) (x1 : S16x6144.Idx → EReal) (x2 : S1x16x15x31.Idx → EReal) (x3 : S1x16x16.Idx → EReal)

/-- The window key in window row `w` and column `k`. -/
abbrev winKey (w : Fin 8) (k : Fin 64) : Fin 512 := ⟨64 * w.val + k.val, by omega⟩

/-- A gather of grid rows at the window's row words reads the window's rows. -/
theorem gather_rows (x : S4x32x64x16x64.Idx → EReal) (idx : IVec S32x8x1 32)
    (hi : ∀ (r : Fin 32) (w : Fin 8), idx (ix3 r w 0) = wrap 32#32 (rowWord r.val w.val))
    (b : Fin 4) (r : Fin 32) (w : Fin 8) (k : Fin 64) (h : Fin 16) (d : Fin 64) :
    Host.gather gather_S4x32x64x16x64_S32x8x1_S4x32x8x64x16x64_0345_1_n_n_1_2_41641664 x idx (ix6 b r w k h d)
      = x (ix5 b (⟨rowStart r.val + w.val, by have := rowStart_le r.val; omega⟩ : Fin 32) k h d) := by
  have f0 : (0 : Fin 5) ∉ gather_S4x32x64x16x64_S32x8x1_S4x32x8x64x16x64_0345_1_n_n_1_2_41641664.startIndexMap := by decide
  have f1 : (1 : Fin 5) ∈ gather_S4x32x64x16x64_S32x8x1_S4x32x8x64x16x64_0345_1_n_n_1_2_41641664.startIndexMap := by decide
  have c1 : (1 : Fin 5) ∈ gather_S4x32x64x16x64_S32x8x1_S4x32x8x64x16x64_0345_1_n_n_1_2_41641664.collapsedSliceDims := by decide
  have f2 : (2 : Fin 5) ∉ gather_S4x32x64x16x64_S32x8x1_S4x32x8x64x16x64_0345_1_n_n_1_2_41641664.startIndexMap := by decide
  have f3 : (3 : Fin 5) ∉ gather_S4x32x64x16x64_S32x8x1_S4x32x8x64x16x64_0345_1_n_n_1_2_41641664.startIndexMap := by decide
  have f4 : (4 : Fin 5) ∉ gather_S4x32x64x16x64_S32x8x1_S4x32x8x64x16x64_0345_1_n_n_1_2_41641664.startIndexMap := by decide
  refine gather_at _ _ _ _ _ fun a => ?_
  match a with
  | ⟨0, _⟩ => exact gather_free _ _ _ _ rfl f0 _ rfl
  | ⟨1, _⟩ =>
    refine gather_start _ _ _ _ rfl f1 c1 (ix3 r w 0) ?_ _ ((congrArg (fun z : BitVec 32 => z.toInt.toNat) (hi r w)).trans (rowWord_val r w)) ?_
    · funext b'
      match b' with | ⟨0, _⟩ => rfl | ⟨1, _⟩ => rfl | ⟨2, _⟩ => rfl
    · show rowStart r.val + w.val ≤ 32 - 1
      have := rowStart_le r.val
      omega
  | ⟨2, _⟩ => exact gather_free _ _ _ _ rfl f2 _ rfl
  | ⟨3, _⟩ => exact gather_free _ _ _ _ rfl f3 _ rfl
  | ⟨4, _⟩ => exact gather_free _ _ _ _ rfl f4 _ rfl

/-- The position of a window key, from its row and column. -/
theorem winPos_key (r : Fin 32) (w : Fin 8) (k : Fin 64) :
    gridPos (⟨rowStart r.val + w.val, by have := rowStart_le r.val; omega⟩ : Fin 32) k = winPos r.val (winKey w k) :=
  Fin.ext (by show 64 * (rowStart r.val + w.val) + k.val = 64 * rowStart r.val + (64 * w.val + k.val); omega)

/-- The window's keys. -/
theorem winKeys_at (b : Fin 4) (r : Fin 32) (w : Fin 8) (k : Fin 64) (h : Fin 16) (d : Fin 64) :
    val_main_v54 (F := Ideal) x0 (ix6 b r w k h d) = headAt x0 1 h b (winPos r.val (winKey w k)) d := by
  refine (gather_rows _ _ keyRow_word b r w k h d).trans ?_
  rw [key_at, winPos_key]

/-- The window's values. -/
theorem winValues_at (b : Fin 4) (r : Fin 32) (w : Fin 8) (k : Fin 64) (h : Fin 16) (d : Fin 64) :
    val_main_v61 (F := Ideal) x0 (ix6 b r w k h d) = headAt x0 2 h b (winPos r.val (winKey w k)) d := by
  refine (gather_rows _ _ valueRow_word b r w k h d).trans ?_
  rw [value_at, winPos_key]

/-- The pair of indices the bias's gather reads at: first the row, then the column. -/
theorem biasPair_row (r : Fin 32) (q : Fin 64) (w : Fin 8) (k : Fin 64) :
    val_main_v92 (F := Ideal) (ix5 r q w k (0 : Fin 2)) = wrap 15#32 (rowWord r.val w.val - BitVec.ofNat 32 r.val + 7#32) := by
  unfold val_main_v92
  refine (concatenate_pair_apply_left (t := S32x64x8x64x2) (s₁ := S32x64x8x64x1) (s₂ := S32x64x8x64x1) 4 _ _ _ _ rfl
    (ix5 r q w k (0 : Fin 1)) fun a => ?_).trans ?_
  · match a with | ⟨0, _⟩ => rfl | ⟨1, _⟩ => rfl | ⟨2, _⟩ => rfl | ⟨3, _⟩ => rfl | ⟨4, _⟩ => rfl
  · rw [val_main_v90_apply]
    have e : idx_main_v90 (ix5 r q w k (0 : Fin 1)) = ix4 r q w k := by
      funext a; match a with | ⟨0, _⟩ => rfl | ⟨1, _⟩ => rfl | ⟨2, _⟩ => rfl | ⟨3, _⟩ => rfl
    rw [e, biasRow_word]

/-- The second of the pair is the column. -/
theorem biasPair_col (r : Fin 32) (q : Fin 64) (w : Fin 8) (k : Fin 64) :
    val_main_v92 (F := Ideal) (ix5 r q w k (1 : Fin 2)) = wrap 31#32 (colWord q.val k.val) := by
  unfold val_main_v92
  refine (concatenate_pair_apply_right (t := S32x64x8x64x2) (s₁ := S32x64x8x64x1) (s₂ := S32x64x8x64x1) 4 _ _ _ _ rfl rfl
    (ix5 r q w k (0 : Fin 1)) (fun a => ?_) ?_).trans ?_
  · match a with
    | ⟨0, _⟩ => exact fun _ => rfl
    | ⟨1, _⟩ => exact fun _ => rfl
    | ⟨2, _⟩ => exact fun _ => rfl
    | ⟨3, _⟩ => exact fun _ => rfl
    | ⟨4, _⟩ => exact fun h => absurd rfl h
  · rfl
  · rw [val_main_v91_apply]
    have e : idx_main_v91 (ix5 r q w k (0 : Fin 1)) = ix4 r q w k := by
      funext a; match a with | ⟨0, _⟩ => rfl | ⟨1, _⟩ => rfl | ⟨2, _⟩ => rfl | ⟨3, _⟩ => rfl
    rw [e, biasCol_word]

/-- The bias before the mask. -/
theorem rawBias_at (h : Fin 16) (r : Fin 32) (q : Fin 64) (w : Fin 8) (k : Fin 64) :
    val_main_v93 (F := Ideal) x2 (ix5 h r q w k)
      = x2 (ix4 0 h (⟨w.val + 7 - (rowOff r).val, by omega⟩ : Fin 15) (laneCol (k.val + 63 - q.val))) := by
  unfold val_main_v93
  have f0 : (0 : Fin 3) ∉ gather_S16x15x31_S32x64x8x64x2_S16x32x64x8x64_0_12_n_n_12_4_1611.startIndexMap := by decide
  have f1 : (1 : Fin 3) ∈ gather_S16x15x31_S32x64x8x64x2_S16x32x64x8x64_0_12_n_n_12_4_1611.startIndexMap := by decide
  have c1 : (1 : Fin 3) ∈ gather_S16x15x31_S32x64x8x64x2_S16x32x64x8x64_0_12_n_n_12_4_1611.collapsedSliceDims := by decide
  have f2 : (2 : Fin 3) ∈ gather_S16x15x31_S32x64x8x64x2_S16x32x64x8x64_0_12_n_n_12_4_1611.startIndexMap := by decide
  have c2 : (2 : Fin 3) ∈ gather_S16x15x31_S32x64x8x64x2_S16x32x64x8x64_0_12_n_n_12_4_1611.collapsedSliceDims := by decide
  refine (gather_at _ _ _ _ (ix3 h (⟨w.val + 7 - (rowOff r).val, by omega⟩ : Fin 15) (laneCol (k.val + 63 - q.val)))
    fun a => ?_).trans ?_
  · match a with
    | ⟨0, _⟩ => exact gather_free _ _ _ _ rfl f0 _ rfl
    | ⟨1, _⟩ =>
      refine gather_start _ _ _ _ rfl f1 c1 (ix5 r q w k (0 : Fin 2)) ?_ _
        ((congrArg (fun z : BitVec 32 => z.toInt.toNat) (biasPair_row r q w k)).trans (biasRow_val r w)) ?_
      · funext b
        match b with | ⟨0, _⟩ => rfl | ⟨1, _⟩ => rfl | ⟨2, _⟩ => rfl | ⟨3, _⟩ => rfl | ⟨4, _⟩ => rfl
      · show w.val + 7 - (rowOff r).val ≤ 15 - 1
        omega
    | ⟨2, _⟩ =>
      refine gather_start _ _ _ _ rfl f2 c2 (ix5 r q w k (1 : Fin 2)) ?_ _
        ((congrArg (fun z : BitVec 32 => z.toInt.toNat) (biasPair_col r q w k)).trans (biasCol_val q k)) ?_
      · funext b
        match b with | ⟨0, _⟩ => rfl | ⟨1, _⟩ => rfl | ⟨2, _⟩ => rfl | ⟨3, _⟩ => rfl | ⟨4, _⟩ => rfl
      · show (laneCol (k.val + 63 - q.val)).val ≤ 31 - 1
        have := (laneCol (k.val + 63 - q.val)).isLt
        omega
  · rw [val_main_v75_apply]
    have hc := (laneCol (k.val + 63 - q.val)).isLt
    refine congrArg x2 (funext fun a => ?_)
    match a with
    | ⟨0, _⟩ => rfl
    | ⟨1, _⟩ => exact Fin.ext (show ((h.val * 15 + (w.val + 7 - (rowOff r).val)) * 31 + (laneCol (k.val + 63 - q.val)).val) / 465 % 16 = h.val by omega)
    | ⟨2, _⟩ => exact Fin.ext (show ((h.val * 15 + (w.val + 7 - (rowOff r).val)) * 31 + (laneCol (k.val + 63 - q.val)).val) / 31 % 15 = w.val + 7 - (rowOff r).val by omega)
    | ⟨3, _⟩ => exact Fin.ext (show ((h.val * 15 + (w.val + 7 - (rowOff r).val)) * 31 + (laneCol (k.val + 63 - q.val)).val) % 31 = (laneCol (k.val + 63 - q.val)).val by omega)

/-- The bias under the mask is the specification's. -/
theorem bias_at (h : Fin 16) (r : Fin 32) (q : Fin 64) (w : Fin 8) (k : Fin 64) :
    val_main_v95 (F := Ideal) x2 (ix5 h r q w k) = winBias x2 h (gridPos r q) (winKey w k) := by
  rw [val_main_v95_apply, mask_word, mask_val, rawBias_at, val_main_call3_v2_apply]
  have e1 : (gridPos r q).val % 64 = q.val := by show (64 * r.val + q.val) % 64 = q.val; omega
  have e2 : (winKey w k).val % 64 = k.val := by show (64 * w.val + k.val) % 64 = k.val; omega
  have e3 : (winKey w k).val / 64 = w.val := by show (64 * w.val + k.val) / 64 = w.val; omega
  have e4 : rowOf (gridPos r q) = r := Fin.ext (by show (64 * r.val + q.val) / 64 = r.val; omega)
  unfold winBias
  by_cases hc : colIn q.val k.val
  · rw [if_pos hc, if_pos (by rw [e1, e2]; exact hc)]
    show x2 _ = x2 _
    refine congrArg x2 (funext fun a => ?_)
    match a with
    | ⟨0, _⟩ => rfl
    | ⟨1, _⟩ => rfl
    | ⟨2, _⟩ => exact Fin.ext (by show w.val + 7 - (rowOff r).val = (winKey w k).val / 64 + 7 - (rowOff (rowOf (gridPos r q))).val; rw [e3, e4])
    | ⟨3, _⟩ => exact (by show laneCol (k.val + 63 - q.val) = laneCol ((winKey w k).val % 64 + 63 - (gridPos r q).val % 64); rw [e1, e2])
  · rw [if_neg hc, if_neg (by rw [e1, e2]; exact hc)]
    show Ideal.ofBits .f32 0xFF800000#32 = ⊥
    exact minus_inf_f32

/-- The score against a window key. -/
theorem winScore_at (b : Fin 4) (h : Fin 16) (r : Fin 32) (q : Fin 64) (w : Fin 8) (k : Fin 64) :
    val_main_v99 (F := Ideal) x0 x2 (ix6 b h r q w k) = winScore x0 x2 b h (gridPos r q) (winKey w k) := by
  rw [val_main_v99_apply]
  show val_main_v96 (F := Ideal) x0 _ + val_main_v98 (F := Ideal) x2 _ = _
  unfold winScore
  have e4 : (gridPos r q).val / 64 = r.val := by show (64 * r.val + q.val) / 64 = r.val; omega
  refine congrArg₂ (· + ·) ?_ ?_
  · rw [val_main_v96_apply, e4]
    refine Finset.sum_congr rfl fun d _ => ?_
    have el : lidx_main_v96 (ix6 b h r q w k) d = ix5 b r q h d := by
      funext a; match a with | ⟨0, _⟩ => rfl | ⟨1, _⟩ => rfl | ⟨2, _⟩ => rfl | ⟨3, _⟩ => rfl | ⟨4, _⟩ => rfl
    have er : ridx_main_v96 (ix6 b h r q w k) d = ix6 b r w k h d := by
      funext a; match a with | ⟨0, _⟩ => rfl | ⟨1, _⟩ => rfl | ⟨2, _⟩ => rfl | ⟨3, _⟩ => rfl | ⟨4, _⟩ => rfl | ⟨5, _⟩ => rfl
    rw [el, er, query_at, winKeys_at]
  · rw [val_main_v98_apply, val_main_v97_apply]
    have e : idx_main_v97 (idx_main_v98 (ix6 b h r q w k)) = ix5 h r q w k := by
      funext a; match a with | ⟨0, _⟩ => rfl | ⟨1, _⟩ => rfl | ⟨2, _⟩ => rfl | ⟨3, _⟩ => rfl | ⟨4, _⟩ => rfl
    rw [e, bias_at]

/-- The score against a meta key. -/
theorem metaScore_at (b : Fin 4) (h : Fin 16) (r : Fin 32) (q : Fin 64) (i : Fin 16) :
    val_main_v105 (F := Ideal) x0 x1 x3 (ix5 b h r q i) = metaScore x0 x1 x3 b h (gridPos r q) i := by
  rw [val_main_v105_apply]
  show val_main_v101 (F := Ideal) x0 x1 _ + val_main_v104 (F := Ideal) x3 _ = _
  unfold metaScore
  rw [metaBias_at, val_main_v101_apply, val_main_v100_apply]
  refine congrArg (· + _) (Finset.sum_congr rfl fun d _ => ?_)
  have el : lidx_main_v100 (idx_main_v101 (ix5 b h r q i)) d = ix3 i h d := by
    funext a; match a with | ⟨0, _⟩ => rfl | ⟨1, _⟩ => rfl | ⟨2, _⟩ => rfl
  have er : ridx_main_v100 (idx_main_v101 (ix5 b h r q i)) d = ix5 b r q h d := by
    funext a; match a with | ⟨0, _⟩ => rfl | ⟨1, _⟩ => rfl | ⟨2, _⟩ => rfl | ⟨3, _⟩ => rfl | ⟨4, _⟩ => rfl
  rw [el, er, query_at, metaKey_at]

end Cert.Att
end
-- ==== Proof.RefValue.lean ====
/- The reference's value: its softmax over the 528 scores of a query, split into the window's and the meta keys', its two
   averages of values, and the layout of its result. -/
module

public import proofs.«01_k».proof.Proof.RefScores
public import Idealize.ShloMosaic.Lib.TwoAxisContraction

@[expose] public section

noncomputable section

namespace Cert.Att

open Idealize.ShloMosaic Idealize.ShloMosaic.ValueIdx
open Cert.ReferenceIdeal Cert.ReferenceIdeal.Read

/-- The column of a window key among the 528 scores. -/
abbrev winCol (j : Fin 512) : Fin 528 := ⟨j.val, by omega⟩
/-- The column of a meta key among the 528 scores. -/
abbrev metaCol (i : Fin 16) : Fin 528 := ⟨512 + i.val, by omega⟩

/-- A sum over the 528 columns is the sum over the window's and that over the meta keys'. -/
theorem sum_cols (f : Fin 528 → EReal) : ∑ c, f c = (∑ j, f (winCol j)) + ∑ i, f (metaCol i) :=
  Fin.sum_univ_add (a := 512) (b := 16) f

/-- The largest of the 528 columns is the larger of the window's largest and the meta keys' largest. -/
theorem sup_cols (f : Fin 528 → EReal) :
    Finset.univ.sup f = max (Finset.univ.sup fun j => f (winCol j)) (Finset.univ.sup fun i => f (metaCol i)) := by
  refine le_antisymm (Finset.sup_le fun c _ => ?_) (max_le (Finset.sup_le fun j _ => ?_) (Finset.sup_le fun i _ => ?_))
  · by_cases hc : c.val < 512
    · exact le_trans (Finset.le_sup (f := fun j => f (winCol j)) (Finset.mem_univ (⟨c.val, hc⟩ : Fin 512))) (le_max_left _ _)
    · have e : metaCol (⟨c.val - 512, by omega⟩ : Fin 16) = c := Fin.ext (by show 512 + (c.val - 512) = c.val; omega)
      refine le_trans ?_ (le_max_right _ _)
      refine le_trans (le_of_eq (congrArg f e.symm)) ?_
      exact Finset.le_sup (f := fun i => f (metaCol i)) (Finset.mem_univ (⟨c.val - 512, by omega⟩ : Fin 16))
  · exact Finset.le_sup (Finset.mem_univ _)
  · exact Finset.le_sup (Finset.mem_univ _)

variable (x0 : S24x4x2048x128.Idx → EReal) (x1 : S16x6144.Idx → EReal) (x2 : S1x16x15x31.Idx → EReal) (x3 : S1x16x16.Idx → EReal)

/-- The window's columns of the joined scores. -/
theorem scores_win (b : Fin 4) (h : Fin 16) (r : Fin 32) (q : Fin 64) (j : Fin 512) :
    val_main_v107 (F := Ideal) x0 x1 x2 x3 (ix5 b h r q (winCol j)) = winScore x0 x2 b h (gridPos r q) j := by
  unfold val_main_v107
  refine (concatenate_pair_apply_left (t := S4x16x32x64x528) (s₁ := S4x16x32x64x512) (s₂ := S4x16x32x64x16) 4 _ _ _ _ rfl
    (ix5 b h r q j) fun a => ?_).trans ?_
  · match a with | ⟨0, _⟩ => rfl | ⟨1, _⟩ => rfl | ⟨2, _⟩ => rfl | ⟨3, _⟩ => rfl | ⟨4, _⟩ => rfl
  · have e : winKey (⟨j.val / 64, by omega⟩ : Fin 8) (⟨j.val % 64, by omega⟩ : Fin 64) = j :=
      Fin.ext (by show 64 * (j.val / 64) + j.val % 64 = j.val; omega)
    unfold val_main_v106
    refine (shapeCast_apply _ _ _ (ix6 b h r q (⟨j.val / 64, by omega⟩ : Fin 8) (⟨j.val % 64, by omega⟩ : Fin 64)) ?_).trans ?_
    · rw [Shape.rowMajor_val_six, Shape.rowMajor_val_five]
      show ((((b.val * 16 + h.val) * 32 + r.val) * 64 + q.val) * 8 + j.val / 64) * 64 + j.val % 64
        = (((b.val * 16 + h.val) * 32 + r.val) * 64 + q.val) * 512 + j.val
      omega
    · rw [winScore_at, e]

/-- The meta keys' columns of the joined scores. -/
theorem scores_meta (b : Fin 4) (h : Fin 16) (r : Fin 32) (q : Fin 64) (i : Fin 16) :
    val_main_v107 (F := Ideal) x0 x1 x2 x3 (ix5 b h r q (metaCol i)) = metaScore x0 x1 x3 b h (gridPos r q) i := by
  unfold val_main_v107
  refine (concatenate_pair_apply_right (t := S4x16x32x64x528) (s₁ := S4x16x32x64x512) (s₂ := S4x16x32x64x16) 4 _ _ _ _ rfl rfl
    (ix5 b h r q i) (fun a => ?_) ?_).trans ?_
  · match a with
    | ⟨0, _⟩ => exact fun _ => rfl
    | ⟨1, _⟩ => exact fun _ => rfl
    | ⟨2, _⟩ => exact fun _ => rfl
    | ⟨3, _⟩ => exact fun _ => rfl
    | ⟨4, _⟩ => exact fun h => absurd rfl h
  · show i.val + 512 = 512 + i.val
    omega
  · exact metaScore_at x0 x1 x3 b h r q i

/-- The largest score of a query. -/
def topScore (b : Fin 4) (h : Fin 16) (p : Fin 2048) : EReal :=
  max (Finset.univ.sup (winScore x0 x2 b h p)) (Finset.univ.sup (metaScore x0 x1 x3 b h p))

/-- The reduction with a maximum is the largest score. -/
theorem max_at (b : Fin 4) (h : Fin 16) (r : Fin 32) (q : Fin 64) :
    val_main_v108 (F := Ideal) x0 x1 x2 x3 (ix4 b h r q) = topScore x0 x1 x2 x3 b h (gridPos r q) := by
  unfold val_main_v108
  have hd : S4x16x32x64x528.Reduces [4] S4x16x32x64 := by decide
  refine (Host.reduce_eq_fold_single (α := EReal) (FloatOps.maximumf (F := Ideal) (φ := .f32)) _ _ _ hd _ _).trans ?_
  show Finset.fold max (Ideal.ofBits .f32 0xFF800000#32) _ (Finset.univ : Finset (Fin 528)) = _
  rw [minus_inf_f32]
  show Finset.univ.sup _ = _
  have e : (val_main_v107 (F := Ideal) x0 x1 x2 x3 ∘ hd.lift (ix4 b h r q))
      = fun c : Fin 528 => val_main_v107 (F := Ideal) x0 x1 x2 x3 (ix5 b h r q c) := by
    funext c
    refine congrArg (val_main_v107 (F := Ideal) x0 x1 x2 x3) (funext fun a => ?_)
    match a with | ⟨0, _⟩ => rfl | ⟨1, _⟩ => rfl | ⟨2, _⟩ => rfl | ⟨3, _⟩ => rfl | ⟨4, _⟩ => rfl
  refine (congrArg (fun f : Fin 528 → EReal => Finset.univ.sup f) e).trans ?_
  rw [sup_cols]
  unfold topScore
  refine congrArg₂ max (congrArg _ (funext fun j => scores_win x0 x1 x2 x3 b h r q j))
    (congrArg _ (funext fun i => scores_meta x0 x1 x2 x3 b h r q i))

/-- The exponential of a score less the largest. -/
theorem expo_at (b : Fin 4) (h : Fin 16) (r : Fin 32) (q : Fin 64) (c : Fin 528) :
    val_main_v112 (F := Ideal) x0 x1 x2 x3 (ix5 b h r q c)
      = Ideal.exp (val_main_v107 (F := Ideal) x0 x1 x2 x3 (ix5 b h r q c) - topScore x0 x1 x2 x3 b h (gridPos r q)) := by
  rw [val_main_v112_apply, val_main_v111_apply, val_main_v110_apply, val_main_v109_apply]
  have e : idx_main_v109 (idx_main_v110 (ix5 b h r q c)) = ix4 b h r q := by
    funext a; match a with | ⟨0, _⟩ => rfl | ⟨1, _⟩ => rfl | ⟨2, _⟩ => rfl | ⟨3, _⟩ => rfl
  rw [e, max_at]
  rfl

/-- The reciprocal of the sum of a query's exponentials. -/
def share (b : Fin 4) (h : Fin 16) (p : Fin 2048) : EReal :=
  Ideal.div 1 ((∑ j, Ideal.exp (winScore x0 x2 b h p j - topScore x0 x1 x2 x3 b h p))
    + ∑ i, Ideal.exp (metaScore x0 x1 x3 b h p i - topScore x0 x1 x2 x3 b h p))

/-- A softmax weight: the exponential times the reciprocal of the sum. -/
theorem weight_at (b : Fin 4) (h : Fin 16) (r : Fin 32) (q : Fin 64) (c : Fin 528) :
    val_main_v118 (F := Ideal) x0 x1 x2 x3 (ix5 b h r q c)
      = Ideal.exp (val_main_v107 (F := Ideal) x0 x1 x2 x3 (ix5 b h r q c) - topScore x0 x1 x2 x3 b h (gridPos r q))
        * share x0 x1 x2 x3 b h (gridPos r q) := by
  rw [val_main_v118_apply, expo_at, val_main_v117_apply, val_main_v116_apply, val_main_v115_apply, val_main_v114_apply,
    val_main_v113_apply]
  refine congrArg₂ (fun y z : EReal => y * z) rfl ?_
  have e : ∀ c' : Fin 528, idx_main_v113 (idx_main_v114 (idx_main_v117 (ix5 b h r q c))) c' = ix5 b h r q c' := fun c' => by
    funext a; match a with | ⟨0, _⟩ => rfl | ⟨1, _⟩ => rfl | ⟨2, _⟩ => rfl | ⟨3, _⟩ => rfl | ⟨4, _⟩ => rfl
  have hz : Ideal.ofBits .f32 0x00000000#32 = 0 := by simp [Ideal.ofBits, Ideal.ieee]
  show Ideal.div (Ideal.ofBits .f32 0x3F800000#32) (Ideal.ofBits .f32 0x00000000#32 + ∑ k : Fin 528, _) = _
  rw [one_f32, hz, zero_add, sum_cols]
  unfold share
  refine congrArg (Ideal.div 1) (congrArg₂ (· + ·) (Finset.sum_congr rfl fun j _ => ?_) (Finset.sum_congr rfl fun i _ => ?_))
  · rw [e, expo_at, scores_win]
  · rw [e, expo_at, scores_meta]

/-- The weight of a window key. -/
theorem winWeight_at (b : Fin 4) (h : Fin 16) (r : Fin 32) (q : Fin 64) (w : Fin 8) (k : Fin 64) :
    val_main_v120 (F := Ideal) x0 x1 x2 x3 (ix6 b h r q w k)
      = Ideal.exp (winScore x0 x2 b h (gridPos r q) (winKey w k) - topScore x0 x1 x2 x3 b h (gridPos r q))
        * share x0 x1 x2 x3 b h (gridPos r q) := by
  unfold val_main_v120
  refine (shapeCast_apply _ _ _ (ix5 b h r q (winKey w k)) ?_).trans ?_
  · rw [Shape.rowMajor_val_six, Shape.rowMajor_val_five]
    show (((b.val * 16 + h.val) * 32 + r.val) * 64 + q.val) * 512 + (64 * w.val + k.val)
      = ((((b.val * 16 + h.val) * 32 + r.val) * 64 + q.val) * 8 + w.val) * 64 + k.val
    omega
  · rw [val_main_v119_apply]
    have e : idx_main_v119 (ix5 b h r q (winKey w k)) = ix5 b h r q (winCol (winKey w k)) := by
      funext a; match a with | ⟨0, _⟩ => rfl | ⟨1, _⟩ => rfl | ⟨2, _⟩ => rfl | ⟨3, _⟩ => rfl | ⟨4, _⟩ => rfl
    rw [e, weight_at, scores_win]

/-- The weight of a meta key. -/
theorem metaWeight_at (b : Fin 4) (h : Fin 16) (r : Fin 32) (q : Fin 64) (i : Fin 16) :
    val_main_v121 (F := Ideal) x0 x1 x2 x3 (ix5 b h r q i)
      = Ideal.exp (metaScore x0 x1 x3 b h (gridPos r q) i - topScore x0 x1 x2 x3 b h (gridPos r q))
        * share x0 x1 x2 x3 b h (gridPos r q) := by
  rw [val_main_v121_apply]
  have e : idx_main_v121 (ix5 b h r q i) = ix5 b h r q (metaCol i) := by
    funext a; match a with | ⟨0, _⟩ => rfl | ⟨1, _⟩ => rfl | ⟨2, _⟩ => rfl | ⟨3, _⟩ => rfl | ⟨4, _⟩ => rfl
  rw [e, weight_at, scores_meta]

/-- The contraction of the values with the weights. -/
abbrev avgDims : DotDims S4x32x8x64x16x64 S4x16x32x64x8x64 S4x32x16x64x64 :=
  dot_S4x32x8x64x16x64_S4x16x32x64x8x64_S4x32x16x64x64_32_54_5_3_014_021

/-- The contracted index of window row `w` and column `k`. -/
abbrev avgIdx (w : Fin 8) (k : Fin 64) : avgDims.contr.Idx := (contrEquiv2 avgDims 64 8 rfl rfl rfl).symm (k, w)

/-- Where the contraction reads the values. -/
theorem avg_left (b : Fin 4) (r : Fin 32) (h : Fin 16) (d q : Fin 64) (w : Fin 8) (k : Fin 64) :
    avgDims.lhsIdx (ix5 b r h d q) (avgIdx w k) = ix6 b r w k h d := by
  have hk := contrEquiv2_symm_val0 avgDims 64 8 rfl rfl rfl (k, w)
  have hw := contrEquiv2_symm_val1 avgDims 64 8 rfl rfl rfl (k, w)
  have b0 : (0 : Fin 6) ∈ avgDims.lhsBatch := by decide
  have b1 : (1 : Fin 6) ∈ avgDims.lhsBatch := by decide
  have b2 : (2 : Fin 6) ∉ avgDims.lhsBatch := by decide
  have b3 : (3 : Fin 6) ∉ avgDims.lhsBatch := by decide
  have b4 : (4 : Fin 6) ∈ avgDims.lhsBatch := by decide
  have b5 : (5 : Fin 6) ∉ avgDims.lhsBatch := by decide
  have n2 : (2 : Fin 6) ∉ avgDims.lhsNonContracting := by decide
  have n3 : (3 : Fin 6) ∉ avgDims.lhsNonContracting := by decide
  have n5 : (5 : Fin 6) ∈ avgDims.lhsNonContracting := by decide
  funext a
  refine Fin.ext ?_
  unfold DotDims.lhsIdx
  match a with
  | ⟨0, _⟩ => refine (congrArg Fin.val (dif_pos b0)).trans ?_; rfl
  | ⟨1, _⟩ => refine (congrArg Fin.val (dif_pos b1)).trans ?_; rfl
  | ⟨2, _⟩ => refine (congrArg Fin.val ((dif_neg b2).trans (dif_neg n2))).trans ?_; exact hw
  | ⟨3, _⟩ => refine (congrArg Fin.val ((dif_neg b3).trans (dif_neg n3))).trans ?_; exact hk
  | ⟨4, _⟩ => refine (congrArg Fin.val (dif_pos b4)).trans ?_; rfl
  | ⟨5, _⟩ => refine (congrArg Fin.val ((dif_neg b5).trans (dif_pos n5))).trans ?_; rfl

/-- Where the contraction reads the weights. -/
theorem avg_right (b : Fin 4) (r : Fin 32) (h : Fin 16) (d q : Fin 64) (w : Fin 8) (k : Fin 64) :
    avgDims.rhsIdx (ix5 b r h d q) (avgIdx w k) = ix6 b h r q w k := by
  have hk := contrEquiv2_symm_val0 avgDims 64 8 rfl rfl rfl (k, w)
  have hw := contrEquiv2_symm_val1 avgDims 64 8 rfl rfl rfl (k, w)
  have b0 : (0 : Fin 6) ∈ avgDims.rhsBatch := by decide
  have b1 : (1 : Fin 6) ∈ avgDims.rhsBatch := by decide
  have b2 : (2 : Fin 6) ∈ avgDims.rhsBatch := by decide
  have b3 : (3 : Fin 6) ∉ avgDims.rhsBatch := by decide
  have b4 : (4 : Fin 6) ∉ avgDims.rhsBatch := by decide
  have b5 : (5 : Fin 6) ∉ avgDims.rhsBatch := by decide
  have n3 : (3 : Fin 6) ∈ avgDims.rhsNonContracting := by decide
  have n4 : (4 : Fin 6) ∉ avgDims.rhsNonContracting := by decide
  have n5 : (5 : Fin 6) ∉ avgDims.rhsNonContracting := by decide
  funext a
  refine Fin.ext ?_
  unfold DotDims.rhsIdx
  match a with
  | ⟨0, _⟩ => refine (congrArg Fin.val (dif_pos b0)).trans ?_; rfl
  | ⟨1, _⟩ => refine (congrArg Fin.val (dif_pos b1)).trans ?_; rfl
  | ⟨2, _⟩ => refine (congrArg Fin.val (dif_pos b2)).trans ?_; rfl
  | ⟨3, _⟩ => refine (congrArg Fin.val ((dif_neg b3).trans (dif_pos n3))).trans ?_; rfl
  | ⟨4, _⟩ => refine (congrArg Fin.val ((dif_neg b4).trans (dif_neg n4))).trans ?_; exact hw
  | ⟨5, _⟩ => refine (congrArg Fin.val ((dif_neg b5).trans (dif_neg n5))).trans ?_; exact hk

/-- A sum over the window's columns and rows is the sum over its keys. -/
theorem sum_keys (f : Fin 512 → EReal) : (∑ k : Fin 64, ∑ w : Fin 8, f (winKey w k)) = ∑ j, f j := by
  rw [Finset.sum_comm, ← Fintype.sum_prod_type' (f := fun w k => f (winKey w k)),
    ← Equiv.sum_comp (finProdFinEquiv : Fin 8 × Fin 64 ≃ Fin (8 * 64)) f]
  refine Finset.sum_congr rfl fun x _ => congrArg f (Fin.ext ?_)
  show 64 * x.1.val + x.2.val = x.2.val + 64 * x.1.val
  omega

/-- The average of the window's values. -/
theorem winAvg_at (b : Fin 4) (r : Fin 32) (q : Fin 64) (h : Fin 16) (d : Fin 64) :
    val_main_v122 (F := Ideal) x0 x1 x2 x3 (ix5 b r h d q)
      = ∑ j, Ideal.exp (winScore x0 x2 b h (gridPos r q) j - topScore x0 x1 x2 x3 b h (gridPos r q))
          * share x0 x1 x2 x3 b h (gridPos r q) * headAt x0 2 h b (winPos r.val j) d := by
  unfold val_main_v122
  simp only [Host.dotGeneral]
  rw [Ideal.dotGeneral_apply]
  refine (sum_contr2 avgDims 64 8 rfl rfl rfl _).trans ?_
  rw [← sum_keys]
  refine Finset.sum_congr rfl fun k _ => Finset.sum_congr rfl fun w _ => ?_
  refine (congrArg₂ (· * ·) ((congrArg _ (avg_left b r h d q w k)).trans (winValues_at x0 b r w k h d))
    ((congrArg _ (avg_right b r h d q w k)).trans (winWeight_at x0 x1 x2 x3 b h r q w k))).trans ?_
  exact mul_comm _ _

/-- The average of the meta tokens' values. -/
theorem metaAvg_at (b : Fin 4) (r : Fin 32) (q : Fin 64) (h : Fin 16) (d : Fin 64) :
    val_main_v125 (F := Ideal) x0 x1 x2 x3 (ix5 b r q h d)
      = ∑ i, Ideal.exp (metaScore x0 x1 x3 b h (gridPos r q) i - topScore x0 x1 x2 x3 b h (gridPos r q))
          * share x0 x1 x2 x3 b h (gridPos r q) * metaHead x1 2 i h d := by
  rw [val_main_v125_apply, val_main_v124_apply]
  refine Finset.sum_congr rfl fun i _ => ?_
  have el : lidx_main_v124 (idx_main_v125 (ix5 b r q h d)) i = ix3 i h d := by
    funext a; match a with | ⟨0, _⟩ => rfl | ⟨1, _⟩ => rfl | ⟨2, _⟩ => rfl
  have er : ridx_main_v124 (idx_main_v125 (ix5 b r q h d)) i = ix5 b h r q i := by
    funext a; match a with | ⟨0, _⟩ => rfl | ⟨1, _⟩ => rfl | ⟨2, _⟩ => rfl | ⟨3, _⟩ => rfl | ⟨4, _⟩ => rfl
  rw [el, er, metaValue_at, metaWeight_at]
  exact mul_comm _ _

/-- The attention before its layout as slabs. -/
theorem attend_at (b : Fin 4) (r : Fin 32) (q : Fin 64) (h : Fin 16) (d : Fin 64) :
    val_main_v126 (F := Ideal) x0 x1 x2 x3 (ix5 b r q h d) = attend x0 x1 x2 x3 b h (gridPos r q) d := by
  rw [val_main_v126_apply, metaAvg_at, val_main_v123_apply]
  have e : idx_main_v123 (ix5 b r q h d) = ix5 b r h d q := by
    funext a; match a with | ⟨0, _⟩ => rfl | ⟨1, _⟩ => rfl | ⟨2, _⟩ => rfl | ⟨3, _⟩ => rfl | ⟨4, _⟩ => rfl
  rw [e, winAvg_at]
  have e4 : (gridPos r q).val / 64 = r.val := by show (64 * r.val + q.val) / 64 = r.val; omega
  unfold attend
  rw [e4]
  rfl

/-- THE REFERENCE'S VALUE: the number at slab `p`, batch element `b`, position `q` and lane `l` is the attention of the lane's
    head and component. -/
theorem reference_value (p : Fin 8) (b : Fin 4) (q : Fin 2048) (l : Fin 128) :
    val_main_v129 (F := Ideal) x0 x1 x2 x3 (ix4 p b q l) = attend x0 x1 x2 x3 b (laneHead p l) q (laneComp l) := by
  rw [val_main_v129_apply]
  show val_main_v128 (F := Ideal) x0 x1 x2 x3 _ = _
  rw [val_main_v128_apply, val_main_v127_apply]
  have e : idx_main_v127 (idx_main_v128 (ix4 p b q l))
      = ix5 b (⟨q.val / 64, by omega⟩ : Fin 32) (⟨q.val % 64, by omega⟩ : Fin 64) (laneHead p l) (laneComp l) := by
    funext a
    match a with
    | ⟨0, _⟩ => exact Fin.ext (show (((b.val * 2048 + q.val) * 8 + p.val) * 128 + l.val) / 2097152 = b.val by omega)
    | ⟨1, _⟩ => exact Fin.ext (show (((b.val * 2048 + q.val) * 8 + p.val) * 128 + l.val) / 65536 % 32 = q.val / 64 by omega)
    | ⟨2, _⟩ => exact Fin.ext (show (((b.val * 2048 + q.val) * 8 + p.val) * 128 + l.val) / 1024 % 64 = q.val % 64 by omega)
    | ⟨3, _⟩ => exact Fin.ext (show (((b.val * 2048 + q.val) * 8 + p.val) * 128 + l.val) / 64 % 16 = 2 * p.val + l.val / 64 by omega)
    | ⟨4, _⟩ => exact Fin.ext (show (((b.val * 2048 + q.val) * 8 + p.val) * 128 + l.val) % 64 = l.val % 64 by omega)
  rw [e, attend_at]
  exact congrArg (fun z => attend x0 x1 x2 x3 b (laneHead p l) z (laneComp l))
    (Fin.ext (by show 64 * (q.val / 64) + q.val % 64 = q.val; omega))

end Cert.Att
end
-- ==== Proof.Equation.lean ====
/- The equation of the two programs: from one set of arguments, the kernel's attention and the reference's are the same array
   of extended reals. -/
module

public import proofs.«01_k».proof.Proof.KernelValue
public import proofs.«01_k».proof.Proof.RefValue

@[expose] public section

noncomputable section

namespace Cert.Att

open Idealize.ShloMosaic Idealize.ShloMosaic.ValueIdx

/-- The kernel's result is the reference's value of the kernel's arguments. -/
theorem kernel_eq_reference (m : (ℓ : Loc Cert.KernelIdeal.nD Cert.KernelIdeal.τ Cert.KernelIdeal.sig) → Buf (Elt Ideal) ℓ) (c : Dev Cert.KernelIdeal.nD) :
    Cert.KernelIdeal.Value.G7 m c
      = Cert.ReferenceIdeal.Read.val_main_v129 (F := Ideal) (qkvArg m c) (mprojArg m c) (relArg m c) (mbiasArg m c) := by
  funext i
  obtain ⟨p, b, q, l, rfl⟩ : ∃ (p : Fin 8) (b : Fin 4) (q : Fin 2048) (l : Fin 128), i = ix4 p b q l :=
    ⟨i 0, i 1, i 2, i 3, eq_ix4 i⟩
  exact (kernel_value m c p b q l).trans (reference_value _ _ _ _ p b q l).symm

end Cert.Att
end
-- ==== Proof.ProjRuns.lean ====
/- One run of the input projection's body per kind of grid point: what it stores, from what it finds. -/
module

public import proofs.«01_k».proof.Proof.Gen.Kernel2Ideal.Launch
public import proofs.«01_k».proof.Proof.Gen.Kernel2Ideal.Skeleton
public import proofs.«01_k».proof.Proof.Gen.Kernel2Ideal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow
public import Idealize.ShloMosaic.Lib.ValueIdx
public import Idealize.ShloMosaic.Lib.Pipeline.Value

@[expose] public section

set_option maxRecDepth 16384

noncomputable section

namespace Cert.Proj

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Cert.Kernel2Ideal Cert.Kernel2Ideal.Gen

variable {F : FTy → Type} [FloatOps F]

local notation "𝕄" => MT nD τ sig Unit (Elt F) ℕ (UR sig nD τ) ℕ

/-- The condition of the body's second branch: the first point of a row group. -/
abbrev atFirst (i : grid0.Coords) : Prop :=
  Scalar.cmpi .ne (Scalar.extui (Scalar.cmpi .eq (BitVec.ofNat 32 (i 1).val) 0#32)) 0#32 = 1#1

/-- A block of 512 product columns after the head norm with the gains `g`. -/
def heads (xs : Vec F S2064x2048 .bf16) (w : Vec F S2048x512 .f32) (g : Vec F S1x512 .f32) : FVec F S2064x512 .bf16 :=
  k0_pay27 (k0_pay22 xs w) (k0_pay23 g) k0_pay24 (iota .tc S256x256 32 [1] iota_S256x256_d1_w32) 64#32 k0_pay25 k0_pay26
    (Scalar.cmpi .sgt 64#32 0#32)

/-- A block of 512 product columns. -/
def plain (xs : Vec F S2064x2048 .bf16) (w : Vec F S2048x512 .f32) : FVec F S2064x512 .bf16 := k0_pay13 xs w

/-- The grid rows of a block of columns, as four slabs of 128 columns. -/
def slabs (Y : FVec F S2064x512 .bf16) : Vec F S4x2048x128 .bf16 := fun y =>
  Y (ix2 (⟨(y 1).val, Nat.lt_of_lt_of_le (y 1).isLt (by decide)⟩ : Fin 2064)
    (⟨128 * (y 0).val + (y 2).val, by
      have h0 : (y 0).val < 4 := (y 0).isLt
      have h2 : (y 2).val < 128 := (y 2).isLt
      omega⟩ : Fin 512))

/-- The grid rows of a block of columns. -/
def gridRows (Y : FVec F S2064x512 .bf16) : Vec F S2048x512 .bf16 :=
  extractStridedSlice S2048x512 ![0, 0] Y slices_S2064x512_o0_0_S2048x512

/-- The meta rows of a block of columns. -/
def metaRows (Y : FVec F S2064x512 .bf16) : Vec F S16x512 .bf16 :=
  extractStridedSlice S16x512 ![2048, 0] Y slices_S2064x512_o2048_0_S16x512

/-- One slab: 128 columns of the grid rows, a leading unit axis added. -/
theorem slab_apply (Y : FVec F S2064x512 .bf16) (b : Fin 4) (h : S2064x512.Slices ![0, 128 * b.val] S2048x128)
    (hc : S2048x128.ShapeCasts S1x2048x128) (z : S1x2048x128.Idx) (y : S4x2048x128.Idx)
    (hy0 : (y 0).val = b.val) (hy1 : (y 1).val = (z 1).val) (hy2 : (y 2).val = (z 2).val) :
    shapeCast S1x2048x128 (extractStridedSlice S2048x128 ![0, 128 * b.val] Y h) hc z = slabs Y y := by
  have hz : (z 0).val < 1 := (z 0).isLt
  have h1 : (z 1).val < 2048 := (z 1).isLt
  have h2 : (z 2).val < 128 := (z 2).isLt
  refine (shapeCast_apply _ hc z (ix2 (⟨(z 1).val, h1⟩ : Fin 2048) (⟨(z 2).val, h2⟩ : Fin 128)) (by
    rw [Shape.rowMajor_val_three, Shape.rowMajor_val_two]
    show (z 1).val * 128 + (z 2).val = ((z 0).val * 2048 + (z 1).val) * 128 + (z 2).val
    omega)).trans ?_
  refine congrArg Y (funext fun a => Fin.ext ?_)
  match a with
  | ⟨0, _⟩ => show 0 + (z 1).val = (y 1).val; omega
  | ⟨1, _⟩ => show 128 * b.val + (z 2).val = 128 * (y 0).val + (y 2).val; omega

/-- Four stores, one slab each, leave the slabs whatever was there. -/
theorem slabs_read {κ : Kind} {sp : Space} (v : View sig κ sp S4x2048x128 .bf16) (f : v.ty.Contents (Elt F))
    (Y : FVec F S2064x512 .bf16) (p0 p1 p2 p3 : Vec F S1x2048x128 .bf16) (hc : S2048x128.ShapeCasts S1x2048x128)
    (h0 : S2064x512.Slices ![0, 0] S2048x128) (h1 : S2064x512.Slices ![0, 128] S2048x128)
    (h2 : S2064x512.Slices ![0, 256] S2048x128) (h3 : S2064x512.Slices ![0, 384] S2048x128)
    (e0 : p0 = shapeCast S1x2048x128 (extractStridedSlice S2048x128 ![0, 0] Y h0) hc)
    (e1 : p1 = shapeCast S1x2048x128 (extractStridedSlice S2048x128 ![0, 128] Y h1) hc)
    (e2 : p2 = shapeCast S1x2048x128 (extractStridedSlice S2048x128 ![0, 256] Y h2) hc)
    (e3 : p3 = shapeCast S1x2048x128 (extractStridedSlice S2048x128 ![0, 384] Y h3) hc) :
    v.read (Elt F) (v.writes (Elt F) f
      [⟨Rect.unit (s := S4x2048x128) ![3, 0, 0] ![1, 2048, 128] inb_S4x2048x128_S1x2048x128_3_0_0, p3⟩,
        ⟨Rect.unit (s := S4x2048x128) ![2, 0, 0] ![1, 2048, 128] inb_S4x2048x128_S1x2048x128_2_0_0, p2⟩,
        ⟨Rect.unit (s := S4x2048x128) ![1, 0, 0] ![1, 2048, 128] inb_S4x2048x128_S1x2048x128_1_0_0, p1⟩,
        ⟨Rect.unit (s := S4x2048x128) ![0, 0, 0] ![1, 2048, 128] inb_S4x2048x128_S1x2048x128_0_0_0, p0⟩]) = slabs Y := by
  subst e0 e1 e2 e3
  funext y
  have hcov : ∀ b : Fin 4, (y 0).val = b.val → ∀ h, y ∈ (Rect.unit (s := S4x2048x128) ![b.val, 0, 0] S1x2048x128.size h).set := by
    intro b hb h
    rw [Rect.mem_set_unit]
    have hy1 : (y 1).val < 2048 := (y 1).isLt
    have hy2 : (y 2).val < 128 := (y 2).isLt
    intro a
    match a with
    | ⟨0, _⟩ => show b.val ≤ (y 0).val ∧ (y 0).val < b.val + 1; omega
    | ⟨1, _⟩ => show 0 ≤ (y 1).val ∧ (y 1).val < 0 + 2048; omega
    | ⟨2, _⟩ => show 0 ≤ (y 2).val ∧ (y 2).val < 0 + 128; omega
  refine View.read_writes_apply_of_pieces v f (slabs Y) _ ?_ y ?_
  · intro p hp x
    have hx : ∀ b : Fin 4, ∀ h, ∀ z : S1x2048x128.Idx, ∀ y' : S4x2048x128.Idx,
        y' = (Rect.unit (s := S4x2048x128) ![b.val, 0, 0] S1x2048x128.size h).emb z →
        (y' 0).val = b.val ∧ (y' 1).val = (z 1).val ∧ (y' 2).val = (z 2).val := by
      rintro b h z _ rfl
      have hz : (z 0).val < 1 := (z 0).isLt
      refine ⟨?_, ?_, ?_⟩
      · show b.val + 1 * (z 0).val = b.val; omega
      · show 0 + 1 * (z 1).val = (z 1).val; omega
      · show 0 + 1 * (z 2).val = (z 2).val; omega
    simp only [List.mem_cons, List.not_mem_nil, or_false] at hp
    rcases hp with rfl | rfl | rfl | rfl
    · obtain ⟨e0, e1, e2⟩ := hx 3 inb_S4x2048x128_S1x2048x128_3_0_0 x _ rfl
      exact slab_apply Y 3 h3 hc x _ e0 e1 e2
    · obtain ⟨e0, e1, e2⟩ := hx 2 inb_S4x2048x128_S1x2048x128_2_0_0 x _ rfl
      exact slab_apply Y 2 h2 hc x _ e0 e1 e2
    · obtain ⟨e0, e1, e2⟩ := hx 1 inb_S4x2048x128_S1x2048x128_1_0_0 x _ rfl
      exact slab_apply Y 1 h1 hc x _ e0 e1 e2
    · obtain ⟨e0, e1, e2⟩ := hx 0 inb_S4x2048x128_S1x2048x128_0_0_0 x _ rfl
      exact slab_apply Y 0 h0 hc x _ e0 e1 e2
  · have hy0 : (y 0).val < 4 := (y 0).isLt
    rcases (by omega : (y 0).val = 3 ∨ (y 0).val = 2 ∨ (y 0).val = 1 ∨ (y 0).val = 0) with h | h | h | h
    · exact ⟨_, List.mem_cons_self, hcov 3 h inb_S4x2048x128_S1x2048x128_3_0_0⟩
    · exact ⟨_, List.mem_cons_of_mem _ List.mem_cons_self, hcov 2 h inb_S4x2048x128_S1x2048x128_2_0_0⟩
    · exact ⟨_, List.mem_cons_of_mem _ (List.mem_cons_of_mem _ List.mem_cons_self), hcov 1 h inb_S4x2048x128_S1x2048x128_1_0_0⟩
    · exact ⟨_, List.mem_cons_of_mem _ (List.mem_cons_of_mem _ (List.mem_cons_of_mem _ List.mem_cons_self)), hcov 0 h inb_S4x2048x128_S1x2048x128_0_0_0⟩

/-- Reading all of a whole buffer gives what it was filled with. -/
theorem read_all {κ : Kind} {sp : Space} {s : Shape} {e : EltTy} {m : Memref sig κ sp s e} (h : m.IsWhole) (x : Vec F s e)
    {off : Fin s.rank → ℕ} (inb : ∀ a, off a + s.size a ≤ s.size a) :
    m.view.readAt (Elt F) (Rect.unit off s.size inb).toLoadRect (h.unread x) = x :=
  (View.readAt_full _ _ inb).trans (h.read_unread _)

/-- The normalised rows a first point of a row group leaves: the first 1024 rows and the meta rows over what was there. -/
def rowsFirst (d : Vec F S2064x2048 .bf16) (x0 : Vec F S1024x2048 .f32) (x1 : Vec F S16x2048 .f32) (x2 : Vec F S1x2048 .f32) :
    Vec F S2064x2048 .bf16 :=
  VecWindow.put (VecWindow.put d ![0, 0] S1024x2048.size (k0_pay1 x0 x2)) ![2048, 0] S16x2048.size (k0_pay2 x1 x2)

/-- The normalised rows a second point leaves: the second 1024 rows over what was there. -/
def rowsSecond (d : Vec F S2064x2048 .bf16) (x0 : Vec F S1024x2048 .f32) (x2 : Vec F S1x2048 .f32) : Vec F S2064x2048 .bf16 :=
  VecWindow.put d ![1024, 0] S1024x2048.size (k0_pay1 x0 x2)

section
variable (c : Dev nD) (i : grid0.Coords) (arg2 : Memref sig .tc .vmem S1024x2048 .f32) (harg2 : arg2.IsWhole)
  (arg3 : Memref sig .tc .vmem S16x2048 .f32) (harg3 : arg3.IsWhole) (arg4 : Memref sig .tc .vmem S1x2048 .f32) (harg4 : arg4.IsWhole)
  (arg5 : Memref sig .tc .vmem S2048x512 .f32) (harg5 : arg5.IsWhole) (arg6 : Memref sig .tc .vmem S1x512 .f32) (harg6 : arg6.IsWhole)
  (arg7 : Memref sig .tc .vmem S1x512 .f32) (harg7 : arg7.IsWhole) (arg8 : Memref sig .tc .vmem S4x2048x128 .bf16) (harg8 : arg8.IsWhole)
  (arg9 : Memref sig .tc .vmem S2048x512 .bf16) (harg9 : arg9.IsWhole) (arg10 : Memref sig .tc .vmem S16x512 .bf16) (harg10 : arg10.IsWhole)
  (arg11 : Memref sig .tc .vmem S2064x2048 .bf16) (harg11 : arg11.IsWhole)
  (x0 : Vec F S1024x2048 .f32) (x1 : Vec F S16x2048 .f32) (x2 : Vec F S1x2048 .f32) (x3 : Vec F S2048x512 .f32)
  (x4 x5 : Vec F S1x512 .f32) (xs : Vec F S2064x2048 .bf16)

/-- A point of the query columns past the second. -/
theorem point_q (hc1 : ¬k0_cond1 i = 1#1) (hc2 : ¬atFirst i) (hc3 : k0_cond3 i = 1#1) (hc4 : k0_cond4 i = 1#1) (hc5 : ¬k0_cond5 i = 1#1) (hc6 : ¬k0_cond6 i = 1#1) (hc7 : ¬k0_cond7 i = 1#1) (E : Set ℕ) (K : PUnit → sProp 𝕄) :
    iprop(owns (c : Thread nD τ) arg5 fullShare x3 ∗ owns (c : Thread nD τ) arg6 fullShare x4 ∗ (∃ d, owns (c : Thread nD τ) arg8 fullShare d) ∗ (∃ d, owns (c : Thread nD τ) arg10 fullShare d) ∗ owns (c : Thread nD τ) arg11 fullShare xs
        ∗ (iprop(owns (c : Thread nD τ) arg5 fullShare x3 ∗ owns (c : Thread nD τ) arg6 fullShare x4 ∗ owns (c : Thread nD τ) arg8 fullShare (slabs (heads xs x3 x4)) ∗ owns (c : Thread nD τ) arg10 fullShare (metaRows (heads xs x3 x4)) ∗ owns (c : Thread nD τ) arg11 fullShare xs) -∗ K ⟨⟩))
      ⊢ wp frame (wpE (defs₀ (F := F)) Variants.none c none) E
          (cc0_in_proj i arg2 harg2 arg3 harg3 arg4 harg4 arg5 harg5 arg6 harg6 arg7 harg7 arg8 harg8 arg9 harg9 arg10 harg10 arg11 harg11) K := by
  simp only [cc0_in_proj_eq_skeleton]; unfold cc0_in_proj_skel
  simp only [k0_part1_eq_skeleton, k0_part2_eq_skeleton]
  unfold owns
  iintro ⟨⟨%fH3, %hH3, H3⟩, ⟨%fH4, %hH4, H4⟩, ⟨%d7, %f7, -, H7⟩, ⟨%d8, %f8, -, H8⟩, ⟨%fs, %hfs, HS⟩, Hk⟩
  obtain rfl := harg5.eq_unread hH3
  obtain rfl := harg6.eq_unread hH4
  obtain rfl := harg11.eq_unread hfs
  sl_exec (disch := first | sl_exact hc1 | sl_exact hc2 | sl_exact hc3 | sl_exact hc4 | sl_exact hc5 | sl_exact hc6 | sl_exact hc7)
  sl_step
  have hY : point_q.sl.r_2 c arg5 harg5 arg6 harg6 arg11 harg11 x3 x4 xs = heads xs x3 x4 := by
    unfold point_q.sl.r_2 point_q.sl.r point_q.sl.r_1
    rw [read_all harg5, read_all harg6, read_all harg11]
    rfl
  have hY0 : point_q.sl.r_3 c arg5 harg5 arg6 harg6 arg11 harg11 x3 x4 xs
      = extractStridedSlice S2048x128 ![0, 0] (heads xs x3 x4) slices_S2064x512_o0_0_S2048x128 := by
    unfold point_q.sl.r_3 point_q.sl.r point_q.sl.r_1
    rw [read_all harg5, read_all harg6, read_all harg11]
    rfl
  iapply Hk
  isplitl [H3]
  · iexists _; isplitr; · ipureintro; exact harg5.read_unread _
    iexact H3
  isplitl [H4]
  · iexists _; isplitr; · ipureintro; exact harg6.read_unread _
    iexact H4
  isplitl [H7]
  · iexists _; isplitr; swap; · iexact H7
    ipureintro
    exact slabs_read _ _ (heads xs x3 x4) _ _ _ _ _ _ _ _ _ (congrArg k0_pay3 hY0) (congrArg k0_pay4 hY) (congrArg k0_pay5 hY) (congrArg k0_pay6 hY)
  isplitl [H8]
  · iexists _; isplitr; swap; · iexact H8
    ipureintro
    rw [View.read_writes_full]
    exact congrArg k0_pay7 hY
  iexists _; isplitr; · ipureintro; exact harg11.read_unread _
  iexact HS

/-- A point of the key columns. -/
theorem point_k (hc1 : ¬k0_cond1 i = 1#1) (hc2 : ¬atFirst i) (hc3 : k0_cond3 i = 1#1) (hc4 : ¬k0_cond4 i = 1#1) (hc5 : k0_cond5 i = 1#1) (hc6 : ¬k0_cond6 i = 1#1) (hc7 : ¬k0_cond7 i = 1#1) (E : Set ℕ) (K : PUnit → sProp 𝕄) :
    iprop(owns (c : Thread nD τ) arg5 fullShare x3 ∗ owns (c : Thread nD τ) arg7 fullShare x5 ∗ (∃ d, owns (c : Thread nD τ) arg8 fullShare d) ∗ (∃ d, owns (c : Thread nD τ) arg10 fullShare d) ∗ owns (c : Thread nD τ) arg11 fullShare xs
        ∗ (iprop(owns (c : Thread nD τ) arg5 fullShare x3 ∗ owns (c : Thread nD τ) arg7 fullShare x5 ∗ owns (c : Thread nD τ) arg8 fullShare (slabs (heads xs x3 x5)) ∗ owns (c : Thread nD τ) arg10 fullShare (metaRows (heads xs x3 x5)) ∗ owns (c : Thread nD τ) arg11 fullShare xs) -∗ K ⟨⟩))
      ⊢ wp frame (wpE (defs₀ (F := F)) Variants.none c none) E
          (cc0_in_proj i arg2 harg2 arg3 harg3 arg4 harg4 arg5 harg5 arg6 harg6 arg7 harg7 arg8 harg8 arg9 harg9 arg10 harg10 arg11 harg11) K := by
  simp only [cc0_in_proj_eq_skeleton]; unfold cc0_in_proj_skel
  simp only [k0_part3_eq_skeleton, k0_part4_eq_skeleton]
  unfold owns
  iintro ⟨⟨%fH3, %hH3, H3⟩, ⟨%fH4, %hH4, H4⟩, ⟨%d7, %f7, -, H7⟩, ⟨%d8, %f8, -, H8⟩, ⟨%fs, %hfs, HS⟩, Hk⟩
  obtain rfl := harg5.eq_unread hH3
  obtain rfl := harg7.eq_unread hH4
  obtain rfl := harg11.eq_unread hfs
  sl_exec (disch := first | sl_exact hc1 | sl_exact hc2 | sl_exact hc3 | sl_exact hc4 | sl_exact hc5 | sl_exact hc6 | sl_exact hc7)
  sl_step
  have hY : point_k.sl.r_2 c arg5 harg5 arg7 harg7 arg11 harg11 x3 x5 xs = heads xs x3 x5 := by
    unfold point_k.sl.r_2 point_k.sl.r point_k.sl.r_1
    rw [read_all harg5, read_all harg7, read_all harg11]
    rfl
  have hY0 : point_k.sl.r_3 c arg5 harg5 arg7 harg7 arg11 harg11 x3 x5 xs
      = extractStridedSlice S2048x128 ![0, 0] (heads xs x3 x5) slices_S2064x512_o0_0_S2048x128 := by
    unfold point_k.sl.r_3 point_k.sl.r point_k.sl.r_1
    rw [read_all harg5, read_all harg7, read_all harg11]
    rfl
  iapply Hk
  isplitl [H3]
  · iexists _; isplitr; · ipureintro; exact harg5.read_unread _
    iexact H3
  isplitl [H4]
  · iexists _; isplitr; · ipureintro; exact harg7.read_unread _
    iexact H4
  isplitl [H7]
  · iexists _; isplitr; swap; · iexact H7
    ipureintro
    exact slabs_read _ _ (heads xs x3 x5) _ _ _ _ _ _ _ _ _ (congrArg k0_pay8 hY0) (congrArg k0_pay9 hY) (congrArg k0_pay10 hY) (congrArg k0_pay11 hY)
  isplitl [H8]
  · iexists _; isplitr; swap; · iexact H8
    ipureintro
    rw [View.read_writes_full]
    exact congrArg k0_pay12 hY
  iexists _; isplitr; · ipureintro; exact harg11.read_unread _
  iexact HS

/-- A point of the value columns. -/
theorem point_v (hc1 : ¬k0_cond1 i = 1#1) (hc2 : ¬atFirst i) (hc3 : k0_cond3 i = 1#1) (hc4 : ¬k0_cond4 i = 1#1) (hc5 : ¬k0_cond5 i = 1#1) (hc6 : k0_cond6 i = 1#1) (hc7 : ¬k0_cond7 i = 1#1) (E : Set ℕ) (K : PUnit → sProp 𝕄) :
    iprop(owns (c : Thread nD τ) arg5 fullShare x3 ∗ (∃ d, owns (c : Thread nD τ) arg8 fullShare d) ∗ (∃ d, owns (c : Thread nD τ) arg10 fullShare d) ∗ owns (c : Thread nD τ) arg11 fullShare xs
        ∗ (iprop(owns (c : Thread nD τ) arg5 fullShare x3 ∗ owns (c : Thread nD τ) arg8 fullShare (slabs (plain xs x3)) ∗ owns (c : Thread nD τ) arg10 fullShare (metaRows (plain xs x3)) ∗ owns (c : Thread nD τ) arg11 fullShare xs) -∗ K ⟨⟩))
      ⊢ wp frame (wpE (defs₀ (F := F)) Variants.none c none) E
          (cc0_in_proj i arg2 harg2 arg3 harg3 arg4 harg4 arg5 harg5 arg6 harg6 arg7 harg7 arg8 harg8 arg9 harg9 arg10 harg10 arg11 harg11) K := by
  simp only [cc0_in_proj_eq_skeleton]; unfold cc0_in_proj_skel
  unfold owns
  iintro ⟨⟨%fH3, %hH3, H3⟩, ⟨%d7, %f7, -, H7⟩, ⟨%d8, %f8, -, H8⟩, ⟨%fs, %hfs, HS⟩, Hk⟩
  obtain rfl := harg5.eq_unread hH3
  obtain rfl := harg11.eq_unread hfs
  sl_exec (disch := first | sl_exact hc1 | sl_exact hc2 | sl_exact hc3 | sl_exact hc4 | sl_exact hc5 | sl_exact hc6 | sl_exact hc7)
  sl_step
  iapply Hk
  isplitl [H3]
  · iexists _; isplitr; · ipureintro; exact harg5.read_unread _
    iexact H3
  isplitl [H7]
  · iexists _; isplitr; swap; · iexact H7
    ipureintro
    rw [read_all harg5, read_all harg11]
    exact slabs_read _ _ (plain xs x3) _ _ _ _ _ _ _ _ _ rfl rfl rfl rfl
  isplitl [H8]
  · iexists _; isplitr; swap; · iexact H8
    ipureintro
    rw [View.read_writes_full, read_all harg5, read_all harg11]
    rfl
  iexists _; isplitr; · ipureintro; exact harg11.read_unread _
  iexact HS

/-- A point of the convolution's columns. -/
theorem point_gates (hc1 : ¬k0_cond1 i = 1#1) (hc2 : ¬atFirst i) (hc3 : k0_cond3 i = 1#1) (hc4 : ¬k0_cond4 i = 1#1)
    (hc5 : ¬k0_cond5 i = 1#1) (hc6 : ¬k0_cond6 i = 1#1) (hc7 : k0_cond7 i = 1#1) (E : Set ℕ) (K : PUnit → sProp 𝕄) :
    iprop(owns (c : Thread nD τ) arg5 fullShare x3 ∗ (∃ d, owns (c : Thread nD τ) arg9 fullShare d)
        ∗ (∃ d, owns (c : Thread nD τ) arg10 fullShare d) ∗ owns (c : Thread nD τ) arg11 fullShare xs
        ∗ (iprop(owns (c : Thread nD τ) arg5 fullShare x3 ∗ owns (c : Thread nD τ) arg9 fullShare (gridRows (plain xs x3))
            ∗ owns (c : Thread nD τ) arg10 fullShare (metaRows (plain xs x3)) ∗ owns (c : Thread nD τ) arg11 fullShare xs) -∗ K ⟨⟩))
      ⊢ wp frame (wpE (defs₀ (F := F)) Variants.none c none) E
          (cc0_in_proj i arg2 harg2 arg3 harg3 arg4 harg4 arg5 harg5 arg6 harg6 arg7 harg7 arg8 harg8 arg9 harg9 arg10 harg10 arg11 harg11) K := by
  simp only [cc0_in_proj_eq_skeleton]; unfold cc0_in_proj_skel
  unfold owns
  iintro ⟨⟨%f3, %hf3, H3⟩, ⟨%d7, %f7, -, H7⟩, ⟨%d8, %f8, -, H8⟩, ⟨%fs, %hfs, HS⟩, Hk⟩
  obtain rfl := harg5.eq_unread hf3; obtain rfl := harg11.eq_unread hfs
  sl_exec (disch := first | sl_exact hc1 | sl_exact hc2 | sl_exact hc3 | sl_exact hc4 | sl_exact hc5 | sl_exact hc6 | sl_exact hc7)
  sl_step
  iapply Hk
  isplitl [H3]
  · iexists _; isplitr; · ipureintro; exact harg5.read_unread _
    iexact H3
  isplitl [H7]
  · iexists _; isplitr; swap; · iexact H7
    ipureintro
    rw [View.read_writes_full, View.readAt_full, View.readAt_full, harg11.read_unread, harg5.read_unread]
    rfl
  isplitl [H8]
  · iexists _; isplitr; swap; · iexact H8
    ipureintro
    rw [View.read_writes_full, View.readAt_full, View.readAt_full, harg11.read_unread, harg5.read_unread]
    rfl
  iexists _; isplitr; · ipureintro; exact harg11.read_unread _
  iexact HS

/-- The first point of a row group: the first half of its rows and the meta rows, normalised. -/
theorem point_first (hc1 : k0_cond1 i = 1#1) (hc2 : atFirst i) (hc3 : ¬k0_cond3 i = 1#1) (h0 : (i 1).val = 0) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg11 fullShare xs
        ∗ (iprop(owns (c : Thread nD τ) arg2 fullShare x0 ∗ owns (c : Thread nD τ) arg3 fullShare x1 ∗ owns (c : Thread nD τ) arg4 fullShare x2 ∗ owns (c : Thread nD τ) arg11 fullShare (rowsFirst xs x0 x1 x2)) -∗ K ⟨⟩))
      ⊢ wp frame (wpE (defs₀ (F := F)) Variants.none c none) E
          (cc0_in_proj i arg2 harg2 arg3 harg3 arg4 harg4 arg5 harg5 arg6 harg6 arg7 harg7 arg8 harg8 arg9 harg9 arg10 harg10 arg11 harg11) K := by
  simp only [cc0_in_proj_eq_skeleton]; unfold cc0_in_proj_skel
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1; obtain rfl := harg4.eq_unread hf2; obtain rfl := harg11.eq_unread hfs
  sl_exec (disch := first | sl_exact hc1 | sl_exact hc2 | sl_exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr; swap; · iexact HS
  ipureintro
  have ho : k0_off1 i = ![0, 0] := by unfold k0_off1; rw [h0]; rfl
  rw [View.read_writes_cons_put _ _ _ _ _ rfl, View.read_writes_cons_put _ _ _ _ _ ho, View.writes_nil, harg11.read_unread]
  rw [read_all harg2, read_all harg3, read_all harg4]
  rfl

/-- The second point of a row group: the second half of its rows normalised, then the first query columns. -/
theorem point_second (hc1 : k0_cond1 i = 1#1) (hc2 : ¬atFirst i) (hc3 : k0_cond3 i = 1#1) (hc4 : k0_cond4 i = 1#1) (hc5 : ¬k0_cond5 i = 1#1) (hc6 : ¬k0_cond6 i = 1#1) (hc7 : ¬k0_cond7 i = 1#1) (h1 : (i 1).val = 1) (E : Set ℕ) (K : PUnit → sProp 𝕄) :
    iprop(owns (c : Thread nD τ) arg2 fullShare x0 ∗ owns (c : Thread nD τ) arg4 fullShare x2 ∗ owns (c : Thread nD τ) arg5 fullShare x3 ∗ owns (c : Thread nD τ) arg6 fullShare x4 ∗ (∃ d, owns (c : Thread nD τ) arg8 fullShare d) ∗ (∃ d, owns (c : Thread nD τ) arg10 fullShare d) ∗ owns (c : Thread nD τ) arg11 fullShare xs
        ∗ (iprop(owns (c : Thread nD τ) arg2 fullShare x0 ∗ owns (c : Thread nD τ) arg4 fullShare x2 ∗ owns (c : Thread nD τ) arg5 fullShare x3 ∗ owns (c : Thread nD τ) arg6 fullShare x4 ∗ owns (c : Thread nD τ) arg8 fullShare (slabs (heads (rowsSecond xs x0 x2) x3 x4)) ∗ owns (c : Thread nD τ) arg10 fullShare (metaRows (heads (rowsSecond xs x0 x2) x3 x4)) ∗ owns (c : Thread nD τ) arg11 fullShare (rowsSecond xs x0 x2)) -∗ K ⟨⟩))
      ⊢ wp frame (wpE (defs₀ (F := F)) Variants.none c none) E
          (cc0_in_proj i arg2 harg2 arg3 harg3 arg4 harg4 arg5 harg5 arg6 harg6 arg7 harg7 arg8 harg8 arg9 harg9 arg10 harg10 arg11 harg11) K := by
  simp only [cc0_in_proj_eq_skeleton]; unfold cc0_in_proj_skel
  simp only [k0_part1_eq_skeleton, k0_part2_eq_skeleton]
  unfold owns
  iintro ⟨⟨%f0, %hf0, H0⟩, ⟨%f2, %hf2, H2⟩, ⟨%f3, %hf3, H3⟩, ⟨%f4, %hf4, H4⟩, ⟨%d7, %f7, -, H7⟩, ⟨%d8, %f8, -, H8⟩, ⟨%fs, %hfs, HS⟩, Hk⟩
  obtain rfl := harg2.eq_unread hf0; obtain rfl := harg4.eq_unread hf2; obtain rfl := harg5.eq_unread hf3; obtain rfl := harg6.eq_unread hf4; obtain rfl := harg11.eq_unread hfs
  sl_exec (disch := first | sl_exact hc1 | sl_exact hc2 | sl_exact hc3 | sl_exact hc4 | sl_exact hc5 | sl_exact hc6 | sl_exact hc7)
  sl_step
  iapply Hk
  have ho : k0_off1 i = ![1024, 0] := by unfold k0_off1; rw [h1]; rfl
  have hX : arg11.view.read (Elt F) (arg11.view.writes (Elt F) (harg11.unread xs)
      (point_second.sl.HS_1 c i arg2 harg2 arg4 harg4 x0 x2 hc1)) = rowsSecond xs x0 x2 := by
    unfold point_second.sl.HS_1
    rw [View.read_writes_cons_put _ _ _ _ _ ho, View.writes_nil, harg11.read_unread, read_all harg2, read_all harg4]
    rfl
  have hY : point_second.sl.r_2 c i arg2 harg2 arg4 harg4 arg5 harg5 arg6 harg6 arg11 harg11 x0 x2 x3 x4 xs hc1 = heads (rowsSecond xs x0 x2) x3 x4 := by
    unfold point_second.sl.r_2 point_second.sl.r point_second.sl.r_1
    rw [read_all harg5, read_all harg6, View.readAt_full, hX]
    rfl
  have hY0 : point_second.sl.r_3 c i arg2 harg2 arg4 harg4 arg5 harg5 arg6 harg6 arg11 harg11 x0 x2 x3 x4 xs hc1
      = extractStridedSlice S2048x128 ![0, 0] (heads (rowsSecond xs x0 x2) x3 x4) slices_S2064x512_o0_0_S2048x128 := by
    unfold point_second.sl.r_3 point_second.sl.r point_second.sl.r_1
    rw [read_all harg5, read_all harg6, View.readAt_full, hX]
    rfl
  isplitl [H0]
  · iexists _; isplitr; · ipureintro; exact harg2.read_unread _
    iexact H0
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H7]
  · iexists _; isplitr; swap; · iexact H7
    ipureintro
    exact slabs_read _ _ (heads (rowsSecond xs x0 x2) x3 x4) _ _ _ _ _ _ _ _ _ (congrArg k0_pay3 hY0) (congrArg k0_pay4 hY) (congrArg k0_pay5 hY) (congrArg k0_pay6 hY)
  isplitl [H8]
  · iexists _; isplitr; swap; · iexact H8
    ipureintro
    rw [View.read_writes_full]
    exact congrArg k0_pay7 hY
  iexists _; isplitr; swap; · iexact HS
  ipureintro
  exact hX

end

end Cert.Proj

end
-- ==== Proof.ProjFrame.lean ====
/- The input projection's launch: what its buffers hold point by point, and the run from start to end. -/
module

public import proofs.«01_k».proof.Proof.ProjRuns
public import Idealize.ShloMosaic.Lib.Pipeline.TableIdle
public import Idealize.ShloMosaic.Lib.Claim

@[expose] public section

set_option maxRecDepth 16384

noncomputable section

namespace Cert.Proj

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the launch -/

/-- What core `c`'s buffers hold when the launch begins. -/
abbrev atEntry (c : Dev nD) (b : Ref sig .tc) : Buf (Elt F) ((c : Thread nD τ).loc b) :=
  StableHlo.after (List.flatten [hostOps0]) (fun b => m (c, b)) b

/-- No operation before the launch allocates. -/
theorem host_fresh : (hostOps0 : List (HloOp τ sig (Elt F))).Forall fun op => op.fresh = ∅ := by
  simp only [List.Forall]; repeat' constructor

set_option maxHeartbeats 800000 in
/-- The program is its host operations, then the launch. -/
theorem host_main (𝒱₀ : Variants) :
    Pipeline.HMain (Ix := Unit) (Name := ℕ) (U := UR sig nD τ) (Lvl := ℕ) cfgs 0 defs₀ 𝒱₀ m (main (F := F)) (atEntry m) :=
  Pipeline.hmain_prefixes cfgs 0 defs₀ 𝒱₀ m main [hostOps0] (by simp only [List.Forall]; exact hostOps0_sub)
    (by simp only [List.Forall]; exact host_fresh) main_chain

/-- A buffer none of the host operations writes is as it was at the start. -/
theorem entry_of (c : Dev nD) (b : Ref sig .tc)
    (h : ∀ op ∈ (hostOps0 : List (HloOp τ sig (Elt F))), Proc.devRef (τ := τ) .tc b ∉ op.writes) :
    atEntry m c b = m ((c : Thread nD τ).loc b) :=
  StableHlo.after_of_forall_not_mem (b := Proc.devRef .tc b) _ _ (by simpa using h)

/-- The six argument arrays are as they were at the start. -/
theorem entry_args (c : Dev nD) : ∀ b ∈ [main_arg0, main_arg1, main_arg2, main_arg3, main_arg4, main_arg5],
    atEntry m c b = m ((c : Thread nD τ).loc b) := by
  intro b hb
  refine entry_of m c b (List.forall_iff_forall_mem.mp ?_)
  simp only [List.mem_cons, List.not_mem_nil, or_false] at hb
  rcases hb with rfl | rfl | rfl | rfl | rfl | rfl <;>
  · simp only [hostOps0, List.Forall, StableHlo.nullary_writes, StableHlo.unary_writes, StableHlo.binary_writes,
      StableHlo.reshape_writes, Finset.mem_singleton]
    repeat' apply And.intro
    all_goals exact StableHlo.devRef_ne_of_ne (by decide)

/-! ## The schedule, decided over the 52 points -/

/-- The second grid coordinate of a point. -/
theorem second_coord : ∀ t : Fin cfg0.N, (grid0.coords t 1).val = t.val % 13 :=
  (by decide +kernel : ∀ t : Fin grid0.N, (grid0.coords t 1).val = t.val % 13)
/-- The first two points of a group norm grid rows; -/
theorem cond1_iff : ∀ t : Fin cfg0.N, k0_cond1 (grid0.coords t) = 1#1 ↔ t.val % 13 < 2 :=
  (by decide +kernel : ∀ t : Fin grid0.N, k0_cond1 (grid0.coords t) = 1#1 ↔ t.val % 13 < 2)
/-- the first one norms the meta rows; -/
theorem atFirst_iff : ∀ t : Fin cfg0.N, atFirst (grid0.coords t) ↔ t.val % 13 = 0 :=
  (by decide +kernel : ∀ t : Fin grid0.N, atFirst (grid0.coords t) ↔ t.val % 13 = 0)
/-- all but the first multiply; -/
theorem cond3_iff : ∀ t : Fin cfg0.N, k0_cond3 (grid0.coords t) = 1#1 ↔ 1 ≤ t.val % 13 :=
  (by decide +kernel : ∀ t : Fin grid0.N, k0_cond3 (grid0.coords t) = 1#1 ↔ 1 ≤ t.val % 13)
/-- up to the third, the queries' heads are normed; -/
theorem cond4_iff : ∀ t : Fin cfg0.N, k0_cond4 (grid0.coords t) = 1#1 ↔ t.val % 13 ≤ 2 :=
  (by decide +kernel : ∀ t : Fin grid0.N, k0_cond4 (grid0.coords t) = 1#1 ↔ t.val % 13 ≤ 2)
/-- at the next two, the keys' heads are normed; -/
theorem cond5_iff : ∀ t : Fin cfg0.N, k0_cond5 (grid0.coords t) = 1#1 ↔ 3 ≤ t.val % 13 ∧ t.val % 13 ≤ 4 :=
  (by decide +kernel : ∀ t : Fin grid0.N, k0_cond5 (grid0.coords t) = 1#1 ↔ 3 ≤ t.val % 13 ∧ t.val % 13 ≤ 4)
/-- at the next two, the values are stored as they are; -/
theorem cond6_iff : ∀ t : Fin cfg0.N, k0_cond6 (grid0.coords t) = 1#1 ↔ 5 ≤ t.val % 13 ∧ t.val % 13 ≤ 6 :=
  (by decide +kernel : ∀ t : Fin grid0.N, k0_cond6 (grid0.coords t) = 1#1 ↔ 5 ≤ t.val % 13 ∧ t.val % 13 ≤ 6)
/-- at the rest, the convolution's columns are. -/
theorem cond7_iff : ∀ t : Fin cfg0.N, k0_cond7 (grid0.coords t) = 1#1 ↔ 7 ≤ t.val % 13 :=
  (by decide +kernel : ∀ t : Fin grid0.N, k0_cond7 (grid0.coords t) = 1#1 ↔ 7 ≤ t.val % 13)
/-- Where the slabs are not stored. -/
theorem idle6 : ∀ t : Fin cfg0.N, cfg0.idle 6 (cfg0.grid.coords t) = decide (t.val % 13 = 0 ∨ 7 ≤ t.val % 13) :=
  (by decide +kernel : ∀ t : Fin grid0.N, idle0 6 (grid0.coords t) = decide (t.val % 13 = 0 ∨ 7 ≤ t.val % 13))
/-- Where the slabs are written back. -/
theorem flush6 : ∀ t : Fin cfg0.N, (cfg0.win 6).flush t = decide (1 ≤ t.val % 13 ∧ t.val % 13 ≤ 5 ∨ t.val % 13 = 12) :=
  (by decide +kernel : ∀ t : Fin grid0.N, win0_6.flush t = decide (1 ≤ t.val % 13 ∧ t.val % 13 ≤ 5 ∨ t.val % 13 = 12))
/-- Where the convolution's columns are not stored. -/
theorem idle7 : ∀ t : Fin cfg0.N, cfg0.idle 7 (cfg0.grid.coords t) = decide (t.val % 13 < 7) :=
  (by decide +kernel : ∀ t : Fin grid0.N, idle0 7 (grid0.coords t) = decide (t.val % 13 < 7))
/-- Where the convolution's columns are written back. -/
theorem flush7 : ∀ t : Fin cfg0.N, (cfg0.win 7).flush t = decide (7 ≤ t.val % 13) :=
  (by decide +kernel : ∀ t : Fin grid0.N, win0_7.flush t = decide (7 ≤ t.val % 13))
/-- Where the meta rows are not stored. -/
theorem idle8 : ∀ t : Fin cfg0.N, cfg0.idle 8 (cfg0.grid.coords t) = decide (t.val % 13 = 0) :=
  (by decide +kernel : ∀ t : Fin grid0.N, idle0 8 (grid0.coords t) = decide (t.val % 13 = 0))
/-- Where the meta rows are written back. -/
theorem flush8 : ∀ t : Fin cfg0.N, (cfg0.win 8).flush t = decide (1 ≤ t.val % 13) :=
  (by decide +kernel : ∀ t : Fin grid0.N, win0_8.flush t = decide (1 ≤ t.val % 13))

/-! ## What the buffers hold -/

/-- Window `w`'s block at point `t`, of its array as the launch finds it. -/
def blockAt (c : Dev nD) (w : Fin cfg0.W) (t : Fin cfg0.N) : ((cfg0.win w).xblock (cfg0.grid.coords t)).Idx → Elt F (cfg0.win w).elt :=
  ((cfg0.win w).blk t).view.read (Elt F) (atEntry m c (Pipeline.arrRef spec0 w))

/-- Position `j` of the row group of point `t`. -/
def groupPt (t : Fin cfg0.N) (j : ℕ) (hj : j < 13) : Fin cfg0.N :=
  ⟨13 * (t.val / 13) + j, by
    have h : cfg0.N = 52 := N_0
    have := t.isLt
    omega⟩

/-- A point at position `j` of its row group is that position's point. -/
theorem groupPt_eq (t : Fin cfg0.N) (j : ℕ) (hj : j < 13) (h : t.val % 13 = j) : groupPt t j hj = t :=
  Fin.ext (show 13 * (t.val / 13) + j = t.val by omega)

/-- Points of one row group have the same positions. -/
theorem groupPt_congr (t t' : Fin cfg0.N) (j : ℕ) (hj : j < 13) (h : t.val / 13 = t'.val / 13) : groupPt t j hj = groupPt t' j hj :=
  Fin.ext (show 13 * (t.val / 13) + j = 13 * (t'.val / 13) + j by rw [h])

abbrev scratch : Memref sig .tc .vmem S2064x2048 .bf16 := Memref.whole cc0_scratch0

/-- The normalised rows of the row group of point `t`: 2048 grid rows, then the 16 meta rows. -/
def rows (c : Dev nD) (t : Fin cfg0.N) : Vec F S2064x2048 .bf16 :=
  rowsSecond (rowsFirst (scratch.view.read (Elt F) scratch.view.junk) (blockAt m c 0 (groupPt t 0 (by decide)))
      (blockAt m c 1 (groupPt t 0 (by decide))) (blockAt m c 2 (groupPt t 0 (by decide))))
    (blockAt m c 0 (groupPt t 1 (by decide))) (blockAt m c 2 (groupPt t 1 (by decide)))

/-- The rows are the row group's. -/
theorem rows_congr (c : Dev nD) (t t' : Fin cfg0.N) (h : t.val / 13 = t'.val / 13) : rows m c t = rows m c t' := by
  unfold rows; rw [groupPt_congr t t' 0 _ h, groupPt_congr t t' 1 _ h]

/-- The two halves and the meta rows fill the buffer: what was there before does not matter. -/
theorem rows_any (d d' : Vec F S2064x2048 .bf16) (x0 x0' : Vec F S1024x2048 .f32) (x1 : Vec F S16x2048 .f32)
    (x2 x2' : Vec F S1x2048 .f32) : rowsSecond (rowsFirst d x0 x1 x2) x0' x2' = rowsSecond (rowsFirst d' x0 x1 x2) x0' x2' := by
  funext y
  have hy0 : (y 0).val < 2064 := (y 0).isLt
  have hy1 : (y 1).val < 2048 := (y 1).isLt
  unfold rowsSecond rowsFirst VecWindow.put
  by_cases hb : ∀ a, (![1024, 0] : Fin 2 → ℕ) a ≤ (y a).val ∧ (y a).val < (![1024, 0] : Fin 2 → ℕ) a + S1024x2048.size a
  · rw [dif_pos hb, dif_pos hb]
  rw [dif_neg hb, dif_neg hb]
  by_cases hm : ∀ a, (![2048, 0] : Fin 2 → ℕ) a ≤ (y a).val ∧ (y a).val < (![2048, 0] : Fin 2 → ℕ) a + S16x2048.size a
  · rw [dif_pos hm, dif_pos hm]
  rw [dif_neg hm, dif_neg hm]
  have ha : ∀ a, (![0, 0] : Fin 2 → ℕ) a ≤ (y a).val ∧ (y a).val < (![0, 0] : Fin 2 → ℕ) a + S1024x2048.size a := by
    have n1 : ¬(1024 ≤ (y 0).val ∧ (y 0).val < 2048) := fun h => hb fun a => match a with
      | ⟨0, _⟩ => h
      | ⟨1, _⟩ => ⟨Nat.zero_le _, by show (y 1).val < 0 + 2048; omega⟩
    have n2 : ¬(2048 ≤ (y 0).val ∧ (y 0).val < 2064) := fun h => hm fun a => match a with
      | ⟨0, _⟩ => h
      | ⟨1, _⟩ => ⟨Nat.zero_le _, by show (y 1).val < 0 + 2048; omega⟩
    intro a
    match a with
    | ⟨0, _⟩ => show 0 ≤ (y 0).val ∧ (y 0).val < 0 + 1024; omega
    | ⟨1, _⟩ => show 0 ≤ (y 1).val ∧ (y 1).val < 0 + 2048; omega
  rw [dif_pos ha, dif_pos ha]

/-- The 512 product columns of point `t`: queries and keys normalised by head, the others as they are. -/
def cols (c : Dev nD) (t : Fin cfg0.N) : FVec F S2064x512 .bf16 :=
  if t.val % 13 ≤ 2 then heads (rows m c t) (blockAt m c 3 t) (blockAt m c 4 t)
  else if t.val % 13 ≤ 4 then heads (rows m c t) (blockAt m c 3 t) (blockAt m c 5 t)
  else plain (rows m c t) (blockAt m c 3 t)

/-- The point whose slabs the slab buffer holds after point `t`: the last of the row group's six that is not later. -/
def slabPt (t : Fin cfg0.N) : Fin cfg0.N := groupPt t (min (max (t.val % 13) 1) 6) (by omega)

/-- What the scratch is known to hold before point `t`. -/
def Holds (c : Dev nD) (t : Fin cfg0.N) (d : Vec F S2064x2048 .bf16) : Prop :=
  (t.val % 13 = 1 → ∃ d0, d = rowsFirst d0 (blockAt m c 0 (groupPt t 0 (by decide)))
      (blockAt m c 1 (groupPt t 0 (by decide))) (blockAt m c 2 (groupPt t 0 (by decide))))
    ∧ (2 ≤ t.val % 13 → d = rows m c t)

/-- The invariant before position `n`: the scratch, and the generator register. -/
def inv (c : Dev nD) (n : ℕ) : sProp 𝕄 :=
  iprop((∃ d, ⌜∀ t : Fin cfg0.N, t.val = n → Holds m c t d⌝ ∗ owns (c : Thread nD τ) scratch fullShare d) ∗ (∃ r, prngReg c r))

/-- The launch's proof data: the arrays as found, each input's block in place, the outputs as above. -/
def dats (_ : Fin 1) (c : Dev nD) : Dat τ (Elt F) Unit ℕ (UR sig nD τ) ℕ cfg0 c where
  A w := atEntry m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => blockAt m c 5 t
    | ⟨6, _⟩ => slabs (cols m c (slabPt t))
    | ⟨7, _⟩ => gridRows (cols m c t)
    | ⟨8, _⟩ => metaRows (cols m c t)
  Φ t := inv m c t.val
  q _ := fullShare
  owed _ := 0

/-- Each window's array is the one the launch finds. -/
theorem dats_A (c : Dev nD) (w : Fin cfg0.W) : (dats m 0 c).A w = atEntry m c (Pipeline.arrRef spec0 w) := by dsimp only [dats]
/-- Window 0 is an input: its buffer holds its block. -/
theorem after_0 (c : Dev nD) (t : Fin cfg0.N) : (dats m 0 c).after 0 t = blockAt m c 0 t := by dsimp only [dats]
/-- Window 1 is an input: its buffer holds its block. -/
theorem after_1 (c : Dev nD) (t : Fin cfg0.N) : (dats m 0 c).after 1 t = blockAt m c 1 t := by dsimp only [dats]
/-- Window 2 is an input: its buffer holds its block. -/
theorem after_2 (c : Dev nD) (t : Fin cfg0.N) : (dats m 0 c).after 2 t = blockAt m c 2 t := by dsimp only [dats]
/-- Window 3 is an input: its buffer holds its block. -/
theorem after_3 (c : Dev nD) (t : Fin cfg0.N) : (dats m 0 c).after 3 t = blockAt m c 3 t := by dsimp only [dats]
/-- Window 4 is an input: its buffer holds its block. -/
theorem after_4 (c : Dev nD) (t : Fin cfg0.N) : (dats m 0 c).after 4 t = blockAt m c 4 t := by dsimp only [dats]
/-- Window 5 is an input: its buffer holds its block. -/
theorem after_5 (c : Dev nD) (t : Fin cfg0.N) : (dats m 0 c).after 5 t = blockAt m c 5 t := by dsimp only [dats]
/-- The slabs a point leaves in its buffer, those of the point that stored last. -/
theorem after_6 (c : Dev nD) (t : Fin cfg0.N) : (dats m 0 c).after 6 t = slabs (cols m c (slabPt t)) := by dsimp only [dats]
/-- The grid rows a point leaves. -/
theorem after_7 (c : Dev nD) (t : Fin cfg0.N) : (dats m 0 c).after 7 t = gridRows (cols m c t) := by dsimp only [dats]
/-- The meta rows a point leaves. -/
theorem after_8 (c : Dev nD) (t : Fin cfg0.N) : (dats m 0 c).after 8 t = metaRows (cols m c t) := by dsimp only [dats]

/-- An input's buffer holds its block at every point, fetched there or not. -/
theorem before_0 (c : Dev nD) (t : Fin cfg0.N) (d) : (dats m 0 c).before 0 t d = blockAt m c 0 t :=
  ((dats m 0 c).before_in_eq_fetched 0 rfl (fun _ => rfl) (fun _ _ _ => rfl)
    (fun t => by rw [after_0]; unfold Dat.blockOf blockAt; rw [dats_A]; try rfl) t d).trans
    (by unfold Dat.fetched Dat.blockOf blockAt; rw [dats_A]; try rfl)
/-- Window 1, likewise. -/
theorem before_1 (c : Dev nD) (t : Fin cfg0.N) (d) : (dats m 0 c).before 1 t d = blockAt m c 1 t :=
  ((dats m 0 c).before_in_eq_fetched 1 rfl (fun _ => rfl) (fun _ _ _ => rfl)
    (fun t => by rw [after_1]; unfold Dat.blockOf blockAt; rw [dats_A]; try rfl) t d).trans
    (by unfold Dat.fetched Dat.blockOf blockAt; rw [dats_A]; try rfl)
/-- Window 2, likewise. -/
theorem before_2 (c : Dev nD) (t : Fin cfg0.N) (d) : (dats m 0 c).before 2 t d = blockAt m c 2 t :=
  ((dats m 0 c).before_in_eq_fetched 2 rfl (fun _ => rfl) (fun _ _ _ => rfl)
    (fun t => by rw [after_2]; unfold Dat.blockOf blockAt; rw [dats_A]; try rfl) t d).trans
    (by unfold Dat.fetched Dat.blockOf blockAt; rw [dats_A]; try rfl)
/-- Window 3, likewise. -/
theorem before_3 (c : Dev nD) (t : Fin cfg0.N) (d) : (dats m 0 c).before 3 t d = blockAt m c 3 t :=
  ((dats m 0 c).before_in_eq_fetched 3 rfl (fun _ => rfl) (fun _ _ _ => rfl)
    (fun t => by rw [after_3]; unfold Dat.blockOf blockAt; rw [dats_A]; try rfl) t d).trans
    (by unfold Dat.fetched Dat.blockOf blockAt; rw [dats_A]; try rfl)
/-- Window 4, likewise. -/
theorem before_4 (c : Dev nD) (t : Fin cfg0.N) (d) : (dats m 0 c).before 4 t d = blockAt m c 4 t :=
  ((dats m 0 c).before_in_eq_fetched 4 rfl (fun _ => rfl) (fun _ _ _ => rfl)
    (fun t => by rw [after_4]; unfold Dat.blockOf blockAt; rw [dats_A]; try rfl) t d).trans
    (by unfold Dat.fetched Dat.blockOf blockAt; rw [dats_A]; try rfl)
/-- Window 5, likewise. -/
theorem before_5 (c : Dev nD) (t : Fin cfg0.N) (d) : (dats m 0 c).before 5 t d = blockAt m c 5 t :=
  ((dats m 0 c).before_in_eq_fetched 5 rfl (fun _ => rfl) (fun _ _ _ => rfl)
    (fun t => by rw [after_5]; unfold Dat.blockOf blockAt; rw [dats_A]; try rfl) t d).trans
    (by unfold Dat.fetched Dat.blockOf blockAt; rw [dats_A]; try rfl)

/-- What a storing point leaves in the slab buffer, as the next point finds it. -/
theorem left_6 (c : Dev nD) (t : Fin cfg0.N) (d) (ht : ¬(t.val % 13 = 0 ∨ 7 ≤ t.val % 13)) :
    (dats m 0 c).left 6 t d = slabs (cols m c (slabPt t)) := by
  have hi : cfg0.idle 6 (cfg0.grid.coords t) = false := by rw [idle6]; exact decide_eq_false ht
  rw [← after_6]
  unfold Dat.left
  rw [hi]
  rfl

/-- At the last point of a row group the slab buffer still holds the sixth column block's slabs. -/
theorem before_6_last (c : Dev nD) (t : Fin cfg0.N) (d) (ht : t.val % 13 = 12) :
    (dats m 0 c).before 6 t d = slabs (cols m c (slabPt t)) := by
  rw [(dats m 0 c).before_idle_run 6 (fun _ => rfl) d 5 t (by omega) (fun j h1 h2 => ⟨by
    rw [idle6]; exact decide_eq_true (by omega), by rw [flush6]; exact decide_eq_false (by omega)⟩),
    (dats m 0 c).before_of_pos 6 _ (by show t.val - 5 ≠ 0; omega) rfl,
    if_neg (by rw [flush6]; exact fun h => by have := of_decide_eq_true h; dsimp only at this; omega),
    left_6 m c _ d (by dsimp only; omega)]
  have e : slabPt ⟨t.val - 5 - 1, Nat.lt_of_le_of_lt (Nat.le_trans (Nat.sub_le _ _) (Nat.sub_le _ _)) t.isLt⟩ = slabPt t := by
    refine Fin.ext ?_
    show 13 * ((t.val - 5 - 1) / 13) + min (max ((t.val - 5 - 1) % 13) 1) 6 = 13 * (t.val / 13) + min (max (t.val % 13) 1) 6
    omega
  exact congrArg (fun u => slabs (cols m c u)) e

/-! ## What a point leaves in the three output buffers -/

/-- A point that stores an output leaves what the proof data states. -/
theorem leaves_live (c : Dev nD) (w : Fin cfg0.W) (t : Fin cfg0.N) (hi : cfg0.idle w (cfg0.grid.coords t) = false) :
    (dats m 0 c).leavesExact w t
      = owns (c : Thread nD τ) ((cfg0.win w).stage (cfg0.slots t w)) fullShare ((dats m 0 c).after w t) := by
  unfold Dat.leavesExact; rw [hi]

/-- A point that writes an output back has what the proof data states there, stored or not. -/
theorem leaves_flush (c : Dev nD) (w : Fin cfg0.W) (t : Fin cfg0.N) (hf : (cfg0.win w).flush t = true) :
    (dats m 0 c).leavesExact w t
      = owns (c : Thread nD τ) ((cfg0.win w).stage (cfg0.slots t w)) fullShare ((dats m 0 c).after w t) := by
  unfold Dat.leavesExact
  cases cfg0.idle w (cfg0.grid.coords t)
  · rfl
  · rw [hf]

/-! ## The body at any point -/

abbrev stg0 (t : Fin cfg0.N) : Memref sig .tc .vmem S1024x2048 .f32 := win0_0.stage (cfg0.slots t 0)
abbrev stg1 (t : Fin cfg0.N) : Memref sig .tc .vmem S16x2048 .f32 := win0_1.stage (cfg0.slots t 1)
abbrev stg2 (t : Fin cfg0.N) : Memref sig .tc .vmem S1x2048 .f32 := win0_2.stage (cfg0.slots t 2)
abbrev stg3 (t : Fin cfg0.N) : Memref sig .tc .vmem S2048x512 .f32 := win0_3.stage (cfg0.slots t 3)
abbrev stg4 (t : Fin cfg0.N) : Memref sig .tc .vmem S1x512 .f32 := win0_4.stage (cfg0.slots t 4)
abbrev stg5 (t : Fin cfg0.N) : Memref sig .tc .vmem S1x512 .f32 := win0_5.stage (cfg0.slots t 5)
abbrev stg6 (t : Fin cfg0.N) : Memref sig .tc .vmem S4x2048x128 .bf16 := win0_6.stage (cfg0.slots t 6)
abbrev stg7 (t : Fin cfg0.N) : Memref sig .tc .vmem S2048x512 .bf16 := win0_7.stage (cfg0.slots t 7)
abbrev stg8 (t : Fin cfg0.N) : Memref sig .tc .vmem S16x512 .bf16 := win0_8.stage (cfg0.slots t 8)

/-- What the body starts from at point `t`, -/
def bodyPre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d))
    ∗ (∃ d, owns (c : Thread nD τ) (stg5 t) fullShare ((dats m 0 c).before 5 t d))
    ∗ (∃ d, owns (c : Thread nD τ) (stg6 t) fullShare ((dats m 0 c).before 6 t d))
    ∗ (∃ d, owns (c : Thread nD τ) (stg7 t) fullShare ((dats m 0 c).before 7 t d))
    ∗ (∃ d, owns (c : Thread nD τ) (stg8 t) fullShare ((dats m 0 c).before 8 t d)))

/-- and what it ends with. -/
def bodyPost (c : Dev nD) (t : Fin cfg0.N) : sProp 𝕄 :=
  iprop((dats m 0 c).Φ t.succ ∗ (dats m 0 c).owesAt () t.succ
    ∗ owns (c : Thread nD τ) (stg0 t) fullShare ((dats m 0 c).after 0 t)
    ∗ owns (c : Thread nD τ) (stg1 t) fullShare ((dats m 0 c).after 1 t)
    ∗ owns (c : Thread nD τ) (stg2 t) fullShare ((dats m 0 c).after 2 t)
    ∗ owns (c : Thread nD τ) (stg3 t) fullShare ((dats m 0 c).after 3 t)
    ∗ owns (c : Thread nD τ) (stg4 t) fullShare ((dats m 0 c).after 4 t)
    ∗ owns (c : Thread nD τ) (stg5 t) fullShare ((dats m 0 c).after 5 t)
    ∗ (dats m 0 c).leavesExact 6 t ∗ (dats m 0 c).leavesExact 7 t ∗ (dats m 0 c).leavesExact 8 t)

/-- A point's scratch, kept as it is, is what the next point expects. -/
theorem holds_next (c : Dev nD) (t : Fin cfg0.N) (h : 1 ≤ t.val % 13) :
    ∀ t' : Fin cfg0.N, t'.val = t.val + 1 → Holds m c t' (rows m c t) := fun t' ht' =>
  ⟨fun h1 => absurd h1 (by omega), fun h2 => rows_congr m c t t' (by omega)⟩

set_option maxHeartbeats 3200000 in
/-- The body at any point, by the kind of the point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).owesAt () t.succ = (dats m 0 c).owesAt () t.castSucc from rfl,
    after_0, after_1, after_2, after_3, after_4, after_5]
  rw [show (dats m 0 c).Φ t.succ = inv m c (t.val + 1) from rfl, show (dats m 0 c).Φ t.castSucc = inv m c t.val from rfl]
  unfold inv
  have hN : t.val < 52 := lt_of_lt_of_eq t.isLt (show cfg0.N = 52 from N_0)
  have e1 := cond1_iff t
  have e2 := atFirst_iff t
  have e3 := cond3_iff t
  have e4 := cond4_iff t
  have e5 := cond5_iff t
  have e6 := cond6_iff t
  have e7 := cond7_iff t
  rcases (by omega : t.val % 13 = 0 ∨ t.val % 13 = 1 ∨ t.val % 13 = 2 ∨ (t.val % 13 = 3 ∨ t.val % 13 = 4)
    ∨ (t.val % 13 = 5 ∨ t.val % 13 = 6) ∨ (7 ≤ t.val % 13 ∧ t.val % 13 ≤ 11) ∨ t.val % 13 = 12) with h | h | h | h | h | h | h
  · rw [(dats m 0 c).leavesExact_idle 6 t (by rw [idle6]; exact decide_eq_true (by omega)) (by rw [flush6]; exact decide_eq_false (by omega)),
      (dats m 0 c).leavesExact_idle 7 t (by rw [idle7]; exact decide_eq_true (by omega)) (by rw [flush7]; exact decide_eq_false (by omega)),
      (dats m 0 c).leavesExact_idle 8 t (by rw [idle8]; exact decide_eq_true (by omega)) (by rw [flush8]; exact decide_eq_false (by omega))]
    iintro ⟨⟨⟨%xs, -, HS⟩, Hg⟩, Ho, ⟨%d0, H0⟩, ⟨%d1, H1⟩, ⟨%d2, H2⟩, ⟨%d3, H3⟩, ⟨%d4, H4⟩, ⟨%d5, H5⟩, H6, H7, H8⟩
    iapply (point_first c (grid0.coords t) _ _ _ _ _ _ _ _ _ _ _ _ _ _ _ _ _ _ _ _ (blockAt m c 0 t) (blockAt m c 1 t) (blockAt m c 2 t) xs
      (e1.2 (by omega)) (e2.2 h) (fun k => absurd (e3.1 k) (by omega)) (by rw [second_coord]; exact h) Set.univ _)
    isplitl [H0]; · iexact H0
    isplitl [H1]; · iexact H1
    isplitl [H2]; · iexact H2
    isplitl [HS]; · iexact HS
    iintro ⟨H0, H1, H2, HS⟩
    isplitl [HS Hg]
    · isplitl [HS]
      · iexists _; isplitr; swap; · iexact HS
        ipureintro
        intro t' ht'
        refine ⟨fun _ => ⟨xs, ?_⟩, fun k => absurd k (by omega)⟩
        rw [show groupPt t' 0 (by decide) = t from Fin.ext (show 13 * (t'.val / 13) + 0 = t.val by omega)]
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · rw [leaves_live m c 6 t (by rw [idle6]; exact decide_eq_false (by omega)),
      (dats m 0 c).leavesExact_idle 7 t (by rw [idle7]; exact decide_eq_true (by omega)) (by rw [flush7]; exact decide_eq_false (by omega)),
      leaves_live m c 8 t (by rw [idle8]; exact decide_eq_false (by omega)), after_6, after_8]
    have hs : slabPt t = t := Fin.ext (show 13 * (t.val / 13) + min (max (t.val % 13) 1) 6 = t.val by omega)
    have hc : cols m c t = heads (rows m c t) (blockAt m c 3 t) (blockAt m c 4 t) := if_pos (by omega)
    rw [hs, hc]
    iintro ⟨⟨⟨%xs, %hxs, HS⟩, Hg⟩, Ho, ⟨%d0, H0⟩, ⟨%d1, H1⟩, ⟨%d2, H2⟩, ⟨%d3, H3⟩, ⟨%d4, H4⟩, ⟨%d5, H5⟩, ⟨%d6, H6⟩, H7, ⟨%d8, H8⟩⟩
    obtain ⟨d0, hd0⟩ := (hxs t rfl).1 h
    have hr : rowsSecond xs (blockAt m c 0 t) (blockAt m c 2 t) = rows m c t := by
      rw [hd0]
      unfold rows
      rw [groupPt_eq t 1 (by decide) h]
      exact rows_any _ _ _ _ _ _ _
    iapply (point_second c (grid0.coords t) _ _ _ _ _ _ _ _ _ _ _ _ _ _ _ _ _ _ _ _ (blockAt m c 0 t) (blockAt m c 2 t) (blockAt m c 3 t) (blockAt m c 4 t) xs
      (e1.2 (by omega)) (fun k => absurd (e2.1 k) (by omega)) (e3.2 (by omega)) (e4.2 (by omega)) (fun k => absurd (e5.1 k) (by omega))
      (fun k => absurd (e6.1 k) (by omega)) (fun k => absurd (e7.1 k) (by omega)) (by rw [second_coord]; exact h) Set.univ _)
    rw [hr]
    isplitl [H0]; · iexact H0
    isplitl [H2]; · iexact H2
    isplitl [H3]; · iexact H3
    isplitl [H4]; · iexact H4
    isplitl [H6]; · iexists _; iexact H6
    isplitl [H8]; · iexists _; iexact H8
    isplitl [HS]; · iexact HS
    iintro ⟨H0, H2, H3, H4, H6, H8, HS⟩
    isplitl [HS Hg]
    · isplitl [HS]
      · iexists _; isplitr; swap; · iexact HS
        ipureintro; exact holds_next m c t (by omega)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · rw [leaves_live m c 6 t (by rw [idle6]; exact decide_eq_false (by omega)),
      (dats m 0 c).leavesExact_idle 7 t (by rw [idle7]; exact decide_eq_true (by omega)) (by rw [flush7]; exact decide_eq_false (by omega)),
      leaves_live m c 8 t (by rw [idle8]; exact decide_eq_false (by omega)), after_6, after_8]
    have hs : slabPt t = t := Fin.ext (show 13 * (t.val / 13) + min (max (t.val % 13) 1) 6 = t.val by omega)
    have hc : cols m c t = heads (rows m c t) (blockAt m c 3 t) (blockAt m c 4 t) := if_pos (by omega)
    rw [hs, hc]
    iintro ⟨⟨⟨%xs, %hxs, HS⟩, Hg⟩, Ho, ⟨%d0, H0⟩, ⟨%d1, H1⟩, ⟨%d2, H2⟩, ⟨%d3, H3⟩, ⟨%d4, H4⟩, ⟨%d5, H5⟩, ⟨%d6, H6⟩, H7, ⟨%d8, H8⟩⟩
    obtain rfl := (hxs t rfl).2 (by omega)
    iapply (point_q c (grid0.coords t) _ _ _ _ _ _ _ _ _ _ _ _ _ _ _ _ _ _ _ _ (blockAt m c 3 t) (blockAt m c 4 t) (rows m c t)
      (fun k => absurd (e1.1 k) (by omega)) (fun k => absurd (e2.1 k) (by omega)) (e3.2 (by omega)) (e4.2 (by omega)) (fun k => absurd (e5.1 k) (by omega)) (fun k => absurd (e6.1 k) (by omega)) (fun k => absurd (e7.1 k) (by omega)) Set.univ _)
    isplitl [H3]; · iexact H3
    isplitl [H4]; · iexact H4
    isplitl [H6]; · iexists _; iexact H6
    isplitl [H8]; · iexists _; iexact H8
    isplitl [HS]; · iexact HS
    iintro ⟨H3, H4, H6, H8, HS⟩
    isplitl [HS Hg]
    · isplitl [HS]
      · iexists _; isplitr; swap; · iexact HS
        ipureintro; exact holds_next m c t (by omega)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · rw [leaves_live m c 6 t (by rw [idle6]; exact decide_eq_false (by omega)),
      (dats m 0 c).leavesExact_idle 7 t (by rw [idle7]; exact decide_eq_true (by omega)) (by rw [flush7]; exact decide_eq_false (by omega)),
      leaves_live m c 8 t (by rw [idle8]; exact decide_eq_false (by omega)), after_6, after_8]
    have hs : slabPt t = t := Fin.ext (show 13 * (t.val / 13) + min (max (t.val % 13) 1) 6 = t.val by omega)
    have hc : cols m c t = heads (rows m c t) (blockAt m c 3 t) (blockAt m c 5 t) := (if_neg (by omega)).trans (if_pos (by omega))
    rw [hs, hc]
    iintro ⟨⟨⟨%xs, %hxs, HS⟩, Hg⟩, Ho, ⟨%d0, H0⟩, ⟨%d1, H1⟩, ⟨%d2, H2⟩, ⟨%d3, H3⟩, ⟨%d4, H4⟩, ⟨%d5, H5⟩, ⟨%d6, H6⟩, H7, ⟨%d8, H8⟩⟩
    obtain rfl := (hxs t rfl).2 (by omega)
    iapply (point_k c (grid0.coords t) _ _ _ _ _ _ _ _ _ _ _ _ _ _ _ _ _ _ _ _ (blockAt m c 3 t) (blockAt m c 5 t) (rows m c t)
      (fun k => absurd (e1.1 k) (by omega)) (fun k => absurd (e2.1 k) (by omega)) (e3.2 (by omega)) (fun k => absurd (e4.1 k) (by omega)) (e5.2 (by omega)) (fun k => absurd (e6.1 k) (by omega)) (fun k => absurd (e7.1 k) (by omega)) Set.univ _)
    isplitl [H3]; · iexact H3
    isplitl [H5]; · iexact H5
    isplitl [H6]; · iexists _; iexact H6
    isplitl [H8]; · iexists _; iexact H8
    isplitl [HS]; · iexact HS
    iintro ⟨H3, H5, H6, H8, HS⟩
    isplitl [HS Hg]
    · isplitl [HS]
      · iexists _; isplitr; swap; · iexact HS
        ipureintro; exact holds_next m c t (by omega)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · rw [leaves_live m c 6 t (by rw [idle6]; exact decide_eq_false (by omega)),
      (dats m 0 c).leavesExact_idle 7 t (by rw [idle7]; exact decide_eq_true (by omega)) (by rw [flush7]; exact decide_eq_false (by omega)),
      leaves_live m c 8 t (by rw [idle8]; exact decide_eq_false (by omega)), after_6, after_8]
    have hs : slabPt t = t := Fin.ext (show 13 * (t.val / 13) + min (max (t.val % 13) 1) 6 = t.val by omega)
    have hc : cols m c t = plain (rows m c t) (blockAt m c 3 t) := (if_neg (by omega)).trans (if_neg (by omega))
    rw [hs, hc]
    iintro ⟨⟨⟨%xs, %hxs, HS⟩, Hg⟩, Ho, ⟨%d0, H0⟩, ⟨%d1, H1⟩, ⟨%d2, H2⟩, ⟨%d3, H3⟩, ⟨%d4, H4⟩, ⟨%d5, H5⟩, ⟨%d6, H6⟩, H7, ⟨%d8, H8⟩⟩
    obtain rfl := (hxs t rfl).2 (by omega)
    iapply (point_v c (grid0.coords t) _ _ _ _ _ _ _ _ _ _ _ _ _ _ _ _ _ _ _ _ (blockAt m c 3 t) (rows m c t)
      (fun k => absurd (e1.1 k) (by omega)) (fun k => absurd (e2.1 k) (by omega)) (e3.2 (by omega)) (fun k => absurd (e4.1 k) (by omega)) (fun k => absurd (e5.1 k) (by omega)) (e6.2 (by omega)) (fun k => absurd (e7.1 k) (by omega)) Set.univ _)
    isplitl [H3]; · iexact H3
    isplitl [H6]; · iexists _; iexact H6
    isplitl [H8]; · iexists _; iexact H8
    isplitl [HS]; · iexact HS
    iintro ⟨H3, H6, H8, HS⟩
    isplitl [HS Hg]
    · isplitl [HS]
      · iexists _; isplitr; swap; · iexact HS
        ipureintro; exact holds_next m c t (by omega)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · rw [(dats m 0 c).leavesExact_idle 6 t (by rw [idle6]; exact decide_eq_true (by omega)) (by rw [flush6]; exact decide_eq_false (by omega)),
      leaves_live m c 7 t (by rw [idle7]; exact decide_eq_false (by omega)),
      leaves_live m c 8 t (by rw [idle8]; exact decide_eq_false (by omega)), after_7, after_8]
    have hc : cols m c t = plain (rows m c t) (blockAt m c 3 t) := (if_neg (by omega)).trans (if_neg (by omega))
    rw [hc]
    iintro ⟨⟨⟨%xs, %hxs, HS⟩, Hg⟩, Ho, ⟨%d0, H0⟩, ⟨%d1, H1⟩, ⟨%d2, H2⟩, ⟨%d3, H3⟩, ⟨%d4, H4⟩, ⟨%d5, H5⟩, H6, ⟨%d7, H7⟩, ⟨%d8, H8⟩⟩
    obtain rfl := (hxs t rfl).2 (by omega)
    iapply (point_gates c (grid0.coords t) _ _ _ _ _ _ _ _ _ _ _ _ _ _ _ _ _ _ _ _ (blockAt m c 3 t) (rows m c t)
      (fun k => absurd (e1.1 k) (by omega)) (fun k => absurd (e2.1 k) (by omega)) (e3.2 (by omega)) (fun k => absurd (e4.1 k) (by omega)) (fun k => absurd (e5.1 k) (by omega)) (fun k => absurd (e6.1 k) (by omega)) (e7.2 (by omega)) Set.univ _)
    isplitl [H3]; · iexact H3
    isplitl [H7]; · iexists _; iexact H7
    isplitl [H8]; · iexists _; iexact H8
    isplitl [HS]; · iexact HS
    iintro ⟨H3, H7, H8, HS⟩
    isplitl [HS Hg]
    · isplitl [HS]
      · iexists _; isplitr; swap; · iexact HS
        ipureintro; exact holds_next m c t (by omega)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · rw [leaves_flush m c 6 t (by rw [flush6]; exact decide_eq_true (by omega)),
      leaves_live m c 7 t (by rw [idle7]; exact decide_eq_false (by omega)),
      leaves_live m c 8 t (by rw [idle8]; exact decide_eq_false (by omega)), after_6, after_7, after_8]
    have hc : cols m c t = plain (rows m c t) (blockAt m c 3 t) := (if_neg (by omega)).trans (if_neg (by omega))
    rw [hc]
    simp only [fun d => before_6_last m c t d h]
    iintro ⟨⟨⟨%xs, %hxs, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    obtain rfl := (hxs t rfl).2 (by omega)
    iapply (point_gates c (grid0.coords t) _ _ _ _ _ _ _ _ _ _ _ _ _ _ _ _ _ _ _ _ (blockAt m c 3 t) (rows m c t)
      (fun k => absurd (e1.1 k) (by omega)) (fun k => absurd (e2.1 k) (by omega)) (e3.2 (by omega)) (fun k => absurd (e4.1 k) (by omega)) (fun k => absurd (e5.1 k) (by omega)) (fun k => absurd (e6.1 k) (by omega)) (e7.2 (by omega)) Set.univ _)
    isplitl [H3]; · iexact H3
    isplitl [H7]; · iexists _; iexact H7
    isplitl [H8]; · iexists _; iexact H8
    isplitl [HS]; · iexact HS
    iintro ⟨H3, H7, H8, HS⟩
    isplitl [HS Hg]
    · isplitl [HS]
      · iexists _; isplitr; swap; · iexact HS
        ipureintro; exact holds_next m c t (by omega)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

/-! ## The run -/

/-- The launch runs this body. -/
theorem body_row (t : Fin cfg0.N) : defs₀ (F := F) .tc cfg0.body (cfg0.bodyArgs t (cfg0.slots t)) = bodyAt0 t := by
  unfold defs₀; rw [Defs.onTc_tc]

/-- The body keeps the proof data at every point. -/
theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

/-- The scratch as the launch hands it over: at anything. -/
theorem handed_eq (c : Dev nD) :
    (Pipeline.ΦA spec0 c : sProp 𝕄) = iprop((∃ d, owns (c : Thread nD τ) scratch fullShare d) ∗ (∃ r, prngReg c r)) := by
  unfold Pipeline.ΦA; rw [scopedRest0_eq]; simp only [scratch, owns_whole]; try rfl

/-- Before the first point nothing is known of the scratch, -/
theorem inv_in (c : Dev nD) : Pipeline.ΦA spec0 c ⊢ (dats m 0 c).Φ 0 := by
  rw [show (dats m 0 c).Φ 0 = inv m c 0 from rfl, handed_eq]
  unfold inv
  iintro ⟨⟨%d, HS⟩, Hg⟩
  isplitl [HS]
  · iexists d; isplitr; swap; · iexact HS
    ipureintro
    intro t ht
    exact ⟨fun h => absurd h (by omega), fun h => absurd h (by omega)⟩
  iexact Hg

/-- and after the last it is forgotten. -/
theorem inv_out (c : Dev nD) : (dats m 0 c).Φ (Fin.last cfg0.N) ⊢ Pipeline.ΦA spec0 c := by
  rw [show (dats m 0 c).Φ (Fin.last cfg0.N) = inv m c cfg0.N from rfl, handed_eq]
  unfold inv
  iintro ⟨⟨%d, -, HS⟩, Hg⟩
  isplitl [HS]
  · iexists d; iexact HS
  iexact Hg

set_option backward.isDefEq.respectTransparency.types false in
/-- Every run ends, with the arrays at what the proof data states and every counter at zero. -/
theorem run_ends : θ_run defs (onTc (τ := τ) (main (F := F))) (s₀ m ρ)
    (fun r => (Pipeline.FramePost cfgs (dats m) 0 (atEntry m)) r ∧ r.2.sem = fun _ => 0) :=
  Pipeline.θ_run_frame_track (Q' := _) cfgs (dats m) (0 : Fin 1) launch0 defs₀ Variants.none m ρ main
    (hbody := fun c => (body_obligation m c).loose) (hshare := fun c w => by unfold Dat.share; split <;> rfl)
    (howed := fun _ _ => rfl) (V := atEntry m) (hmain := host_main m Variants.none) (hA := dats_A m) (hin := inv_in m) (hout := inv_out m)

/-- Every run ends with the three outputs at what the proof data writes back, the arguments unchanged and every counter at zero. -/
theorem run_outputs : θ_run defs (onTc (τ := τ) (main (F := F))) ⟨m, fun _ => 0, ρ⟩ (fun r => (∀ c : Dev nD,
      (r.2.mem ((c : Thread nD τ).loc main_v19_0) = (dats m 0 c).arrAt 6 cfg0.N
        ∧ r.2.mem ((c : Thread nD τ).loc main_v19_1) = (dats m 0 c).arrAt 7 cfg0.N
        ∧ r.2.mem ((c : Thread nD τ).loc main_v19_2) = (dats m 0 c).arrAt 8 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨⟨(h.1 c).1 6, (h.1 c).1 7, (h.1 c).1 8⟩,
      ((h.1 c).2 main_arg0 (Pipeline.mem_restRefs_of main_arg0 (by decide) (by decide))).trans (entry_args m c main_arg0 (by decide)),
      ((h.1 c).1 1).trans (((dats m 0 c).arrAt_in 1 rfl _).trans ((dats_A m c 1).trans (entry_args m c main_arg1 (by decide)))),
      ((h.1 c).2 main_arg2 (Pipeline.mem_restRefs_of main_arg2 (by decide) (by decide))).trans (entry_args m c main_arg2 (by decide)),
      ((h.1 c).2 main_arg3 (Pipeline.mem_restRefs_of main_arg3 (by decide) (by decide))).trans (entry_args m c main_arg3 (by decide)),
      ((h.1 c).2 main_arg4 (Pipeline.mem_restRefs_of main_arg4 (by decide) (by decide))).trans (entry_args m c main_arg4 (by decide)),
      ((h.1 c).2 main_arg5 (Pipeline.mem_restRefs_of main_arg5 (by decide) (by decide))).trans (entry_args m c main_arg5 (by decide))⟩,
    h.2⟩) (run_ends m ρ)

/-- The frame: every run ends with the arguments unchanged and every counter at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => (h.1 c).2, h.2⟩) (run_outputs m ρ)

end Cert.Proj

end
-- ==== Proof.ProjWords.lean ====
/- The input projection's frame over machine words: the kernel as it is run has the bodies, launches and host program of the
   kernel read over the extended reals, so the frame proved for every number type is its frame too. -/
module

public import proofs.«01_k».proof.Defs
public import proofs.«01_k».proof.Proof.Gen.Kernel2
public import proofs.«01_k».proof.Proof.ProjFrame

@[expose] public section

noncomputable section

namespace Cert.Proj

open Idealize.ShloMosaic Idealize.SL.Sem

attribute [local instance] Cert.Kernel2.Gen.facts Cert.Kernel2Ideal.Gen.facts

/-- The kernel as it is run and the kernel read over the extended reals have the same bodies, -/
theorem bodies_eq {F : FTy → Type} [FloatOps F] : Cert.Kernel2.defs₀ (F := F) = Cert.Kernel2Ideal.defs₀ (F := F) := by
  funext κ l a
  cases κ with
  | tc =>
    match l, a with
    | ⟨0, _⟩, (t, s) => rfl
    | ⟨_ + 1, h⟩, _ => exact absurd h (Nat.not_lt.2 (Nat.le_add_left _ _))
  | _ => rfl

/-- the same launches -/
theorem tables_eq {F : FTy → Type} [FloatOps F] : Cert.Kernel2.defs (F := F) = Cert.Kernel2Ideal.defs (F := F) :=
  congrArg (Pipeline.defs (Cert.Kernel2Ideal.pcfgs (F := F))) bodies_eq

/-- and the same host program. -/
theorem mains_eq {F : FTy → Type} [FloatOps F] : Cert.Kernel2.main (F := F) = Cert.Kernel2Ideal.main (F := F) := rfl

/-- The kernel as it is run ends with its arguments unchanged and every counter at zero. -/
theorem frame_words : Cert.quiescent_Kernel2 := by
  intro m ρ _
  have h := frame_run (F := Bits) m ρ
  rw [← tables_eq] at h
  exact h

end Cert.Proj
end
-- ==== Proof.ProjSpec.lean ====
/- The input projection as formulas over the extended reals: the row norm, a column of the product and the head norm. -/
module

public import Idealize.ShloMosaic.PureOps.Ideal
public import Idealize.ShloMosaic.PureOps.Ideal.Laws

@[expose] public section

noncomputable section

namespace Cert.Proj

open Idealize.ShloMosaic

/-- The constant added under the root. -/
def eps : EReal := Ideal.ofBits .f32 0x358637BD#32

/-- A row scaled by the reciprocal root of its mean square, times the norm weights. -/
def normRow (h g : Fin 2048 → EReal) (d : Fin 2048) : EReal :=
  h d * Ideal.rsqrt (Ideal.div (∑ k, h k * h k) (Ideal.ofBits .f32 0x45000000#32) + eps) * g d

/-- A row times a column. -/
def column (r w : Fin 2048 → EReal) : EReal := ∑ d, r d * w d

/-- An entry of a head scaled by the reciprocal root of the head's mean square. -/
def headNorm (y : Fin 64 → EReal) (k : Fin 64) : EReal :=
  y k * Ideal.rsqrt (Ideal.div (∑ j, y j * y j) (Ideal.ofBits .f32 0x42800000#32) + eps)

/-- Column `k` of the head that column `n` belongs to. -/
def headCol (n : Fin 6144) (k : Fin 64) : Fin 6144 := ⟨64 * (n.val / 64) + k.val, by
  have := n.isLt; have := k.isLt; omega⟩

/-- The place of a column in its head. -/
def headPos (n : Nat) : Fin 64 := ⟨n % 64, Nat.mod_lt _ (by decide)⟩

/-- The factor of the queries: one over the root of the head size, over the logarithm of two. -/
def queryScale : EReal := Ideal.div (Ideal.ofBits .f32 0x3E000000#32) (Ideal.log (Ideal.ofBits .f32 0x40000000#32))

/-- Column `n` of the projected row `r`: a query column, a key column or one of the rest. -/
def projected (r : Fin 2048 → EReal) (w : Fin 2048 → Fin 6144 → EReal) (qg kg : Fin 64 → EReal) (n : Fin 6144) : EReal :=
  if n.val < 1024 then headNorm (fun k => column r fun d => w d (headCol n k)) (headPos n.val) * qg (headPos n.val) * queryScale
  else if n.val < 2048 then headNorm (fun k => column r fun d => w d (headCol n k)) (headPos n.val) * kg (headPos n.val)
  else column r fun d => w d n

/-- The six arguments of the projection: grid rows, meta rows, norm weights, matrix, and the gains of the queries and the keys. -/
structure Inputs where
  x : Fin 4 → Fin 2048 → Fin 2048 → EReal
  extra : Fin 16 → Fin 2048 → EReal
  norm : Fin 2048 → EReal
  w : Fin 2048 → Fin 6144 → EReal
  qg : Fin 64 → EReal
  kg : Fin 64 → EReal

/-- Row `r` of batch element `b`: its 2048 grid rows, then the 16 meta rows. -/
def rowIn (I : Inputs) (b : Fin 4) (r : Fin 2064) (d : Fin 2048) : EReal :=
  if h : r.val < 2048 then I.x b ⟨r.val, h⟩ d else I.extra ⟨r.val - 2048, by have := r.isLt; omega⟩ d

/-- Column `n` of the projection of row `r` of batch element `b`. -/
def entry (I : Inputs) (b : Fin 4) (r : Fin 2064) (n : Fin 6144) : EReal :=
  projected (normRow (rowIn I b r) I.norm) I.w I.qg I.kg n

/-- Grid row `q` of all batch elements, column `l` of slab `s` of 128 columns: queries, keys and values. -/
def slabOut (I : Inputs) (s : Fin 24) (q : Fin 8192) (l : Fin 128) : EReal :=
  entry I ⟨q.val / 2048, by have := q.isLt; omega⟩ ⟨q.val % 2048, by omega⟩
    ⟨128 * s.val + l.val, by have := s.isLt; have := l.isLt; omega⟩

/-- Grid row `q` of all batch elements, column `n` past the values. -/
def colOut (I : Inputs) (q : Fin 8192) (n : Fin 3072) : EReal :=
  entry I ⟨q.val / 2048, by have := q.isLt; omega⟩ ⟨q.val % 2048, by omega⟩ ⟨3072 + n.val, by have := n.isLt; omega⟩

/-- Meta row `q` of all batch elements, every column. -/
def metaOut (I : Inputs) (q : Fin 64) (n : Fin 6144) : EReal :=
  entry I ⟨q.val / 16, by have := q.isLt; omega⟩ ⟨2048 + q.val % 16, by omega⟩ n

/-- The projection depends on the numbers of its row and column only. -/
theorem entry_congr (I : Inputs) {b b' : Fin 4} {r r' : Fin 2064} {n n' : Fin 6144} (hb : b.val = b'.val) (hr : r.val = r'.val)
    (hn : n.val = n'.val) : entry I b r n = entry I b' r' n' := by
  obtain rfl := Fin.ext hb
  obtain rfl := Fin.ext hr
  obtain rfl := Fin.ext hn
  rfl

/-- Division by 64 is multiplication by 1/64. -/
theorem div_64 (x : EReal) : Ideal.div x (Ideal.ofBits .f32 0x42800000#32) = x * Ideal.ofBits .f32 0x3C800000#32 := by
  have h64 : (Ideal.ofBits .f32 0x42800000#32 : EReal) = ((64 : ℝ) : EReal) := by
    simp [Ideal.ofBits, Ideal.ieee]
    rw [← EReal.coe_mul]
    norm_num
  have hinv : (Ideal.ofBits .f32 0x3C800000#32 : EReal) = (((64 : ℝ)⁻¹ : ℝ) : EReal) := by
    simp [Ideal.ofBits, Ideal.ieee]
    rw [← EReal.coe_mul]
    norm_num
  rw [h64, hinv]
  unfold Ideal.div
  rw [if_neg (by exact_mod_cast (by norm_num : (64 : ℝ) ≠ 0)), EReal.coe_inv]

/-- A sum over 256 lanes that keeps the lanes of one head is the sum over the head's 64 lanes. -/
theorem sum_head (f : Fin 256 → EReal) (l : Fin 256) :
    ∑ c : Fin 256, f c * (if c.val / 64 = l.val / 64 then 1 else 0)
      = ∑ k : Fin 64, f ⟨64 * (l.val / 64) + k.val, by have := l.isLt; have := k.isLt; omega⟩ := by
  simp only [mul_ite, mul_one, mul_zero]
  rw [← Finset.sum_filter]
  refine (Finset.sum_bij' (fun k _ => (⟨64 * (l.val / 64) + k.val, by have := l.isLt; have := k.isLt; omega⟩ : Fin 256))
    (fun c _ => headPos c.val) ?_ ?_ ?_ ?_ ?_).symm
  · intro k _
    simp only [Finset.mem_filter, Finset.mem_univ, true_and]
    have := k.isLt
    omega
  · intro c _
    exact Finset.mem_univ _
  · intro k _
    apply Fin.ext
    have := k.isLt
    show (64 * (l.val / 64) + k.val) % 64 = k.val
    omega
  · intro c hc
    apply Fin.ext
    have h := (Finset.mem_filter.mp hc).2
    show 64 * (l.val / 64) + c.val % 64 = c.val
    omega
  · intro k _
    rfl

end Cert.Proj
-- ==== Proof.ProjBody.lean ====
/- What the input projection's body computes, at the ideal instance: the normed rows, a product column, a head-normed column. -/
module

public import proofs.«01_k».proof.Proof.ProjRuns
public import proofs.«01_k».proof.Proof.ProjSpec

@[expose] public section

set_option maxRecDepth 16384

noncomputable section

namespace Cert.Proj

open Idealize.ShloMosaic Idealize.ShloMosaic.TcCoe Idealize.ShloMosaic.Tactic Idealize.ShloMosaic.ValueIdx
open Cert.Kernel2Ideal Cert.Kernel2Ideal.Gen

/-- The norm of 1024 grid rows. -/
theorem pay1_apply (x : Vec Ideal S1024x2048 .f32) (g : Vec Ideal S1x2048 .f32) (r : Fin 1024) (d : Fin 2048) :
    (k0_pay1 x g (ix2 r d) : EReal) = normRow (fun k => x (ix2 r k)) (fun k => g (ix2 0 k)) d := by
  unfold k0_pay1 normRow
  dsimp only
  refine (shapeCast_apply _ _ (ix2 r d) (ix2 r d) rfl).trans ?_
  refine congrArg₂ (fun y z : EReal => y * z) (congrArg₂ (fun y z : EReal => y * z)
    (shapeCast_apply x _ (ix2 r d) (ix2 r d) rfl) ?_) ?_
  · refine (broadcastTo_apply _ _ (ix2 r d) (ix2 r 0) (fun a => by match a with | ⟨0, _⟩ => rfl | ⟨1, _⟩ => rfl)).trans ?_
    refine congrArg Ideal.rsqrt (congrArg₂ (fun y z : EReal => y + z) (congrArg₂ Ideal.div ?_ rfl) rfl)
    refine (shapeCast_apply _ _ (ix2 r 0) (ix1 r) ?_).trans ?_
    · rw [Shape.rowMajor_val_one, Shape.rowMajor_val_two]; show r.val = r.val * 1 + 0; omega
    refine (Ideal.multiReduction_add_single _ _ _ _ _ _).trans (Finset.sum_congr rfl fun k _ => ?_)
    rw [show (reduces_S1024x2048_S1024.lift (ix1 r) k) = ix2 r k from by
      funext a; match a with | ⟨0, _⟩ => rfl | ⟨1, _⟩ => rfl]
    exact congrArg₂ (fun y z : EReal => y * z) (shapeCast_apply x _ _ _ rfl) (shapeCast_apply x _ _ _ rfl)
  · refine (broadcastTo_apply _ _ (ix2 r d) (ix2 0 d) (fun a => by match a with | ⟨0, _⟩ => rfl | ⟨1, _⟩ => rfl)).trans ?_
    exact shapeCast_apply g _ _ _ rfl

/-- The norm of the 16 meta rows. -/
theorem pay2_apply (x : Vec Ideal S16x2048 .f32) (g : Vec Ideal S1x2048 .f32) (r : Fin 16) (d : Fin 2048) :
    (k0_pay2 x g (ix2 r d) : EReal) = normRow (fun k => x (ix2 r k)) (fun k => g (ix2 0 k)) d := by
  unfold k0_pay2 normRow
  dsimp only
  refine (shapeCast_apply _ _ (ix2 r d) (ix2 r d) rfl).trans ?_
  refine congrArg₂ (fun y z : EReal => y * z) (congrArg₂ (fun y z : EReal => y * z) rfl ?_) ?_
  · refine (broadcastTo_apply _ _ (ix2 r d) (ix2 r 0) (fun a => by match a with | ⟨0, _⟩ => rfl | ⟨1, _⟩ => rfl)).trans ?_
    refine congrArg Ideal.rsqrt (congrArg₂ (fun y z : EReal => y + z) (congrArg₂ Ideal.div ?_ rfl) rfl)
    refine (shapeCast_apply _ _ (ix2 r 0) (ix1 r) ?_).trans ?_
    · rw [Shape.rowMajor_val_one, Shape.rowMajor_val_two]; show r.val = r.val * 1 + 0; omega
    refine (Ideal.multiReduction_add_single _ _ _ _ _ _).trans (Finset.sum_congr rfl fun k _ => ?_)
    rw [show (reduces_S16x2048_S16.lift (ix1 r) k) = ix2 r k from by
      funext a; match a with | ⟨0, _⟩ => rfl | ⟨1, _⟩ => rfl]
    rfl
  · refine (broadcastTo_apply _ _ (ix2 r d) (ix2 0 d) (fun a => by match a with | ⟨0, _⟩ => rfl | ⟨1, _⟩ => rfl)).trans ?_
    exact shapeCast_apply g _ _ _ rfl

/-- The product of the rows with a block of columns: entry `(r, n)` is the sum over the 2048 features. -/
theorem dot_columns (A : FVec Ideal S2064x2048 .bf16) (B : FVec Ideal S2048x512 .f32) (r : Fin 2064) (n : Fin 512) :
    matmul dot_S2064x2048_S2048x512_S2064x512_1_0_0_1_n_n none A B (constant S2064x512 .f32 0x00000000#32) (ix2 r n)
      = ∑ d : Fin 2048, A (ix2 r d) * B (ix2 d n) := by
  refine (Ideal.matmul_constant_zero_apply _ _ A B _).trans ?_
  rw [← Equiv.sum_comp (contrEquiv1 dot_S2064x2048_S2048x512_S2064x512_1_0_0_1_n_n 2048 rfl rfl).symm]
  refine Finset.sum_congr rfl fun d _ => congrArg₂ _ (congrArg A ?_) (congrArg B ?_)
  · funext a; match a with | ⟨0, _⟩ => rfl | ⟨1, _⟩ => rfl
  · funext a; match a with | ⟨0, _⟩ => rfl | ⟨1, _⟩ => rfl

/-- The product with the matrix of heads: entry `(r, l)` is the sum over 256 lanes. -/
theorem dot_lanes (A : FVec Ideal S2064x256 .bf16) (B : FVec Ideal S256x256 .bf16) (r : Fin 2064) (l : Fin 256) :
    matmul dot_S2064x256_S256x256_S2064x256_1_0_0_1_n_n none A B (constant S2064x256 .f32 0x00000000#32) (ix2 r l)
      = ∑ c : Fin 256, A (ix2 r c) * B (ix2 c l) := by
  refine (Ideal.matmul_constant_zero_apply _ _ A B _).trans ?_
  rw [← Equiv.sum_comp (contrEquiv1 dot_S2064x256_S256x256_S2064x256_1_0_0_1_n_n 256 rfl rfl).symm]
  refine Finset.sum_congr rfl fun c _ => congrArg₂ _ (congrArg A ?_) (congrArg B ?_)
  · funext a; match a with | ⟨0, _⟩ => rfl | ⟨1, _⟩ => rfl
  · funext a; match a with | ⟨0, _⟩ => rfl | ⟨1, _⟩ => rfl

/-- One entry of the product of the rows with a block of columns. -/
theorem product_apply (xs : Vec Ideal S2064x2048 .bf16) (w : Vec Ideal S2048x512 .f32) (r : Fin 2064) (n : Fin 512) :
    (k0_pay22 xs w (ix2 r n) : EReal) = column (fun d => xs (ix2 r d)) fun d => w (ix2 d n) := by
  unfold k0_pay22 column
  dsimp only
  rw [dot_columns]
  exact Finset.sum_congr rfl fun d _ => congrArg₂ (fun y z : EReal => y * z) rfl (shapeCast_apply w _ _ _ rfl)

/-- One entry of a plain block of columns. -/
theorem plain_apply (xs : Vec Ideal S2064x2048 .bf16) (w : Vec Ideal S2048x512 .f32) (r : Fin 2064) (n : Fin 512) :
    (plain xs w (ix2 r n) : EReal) = column (fun d => xs (ix2 r d)) fun d => w (ix2 d n) :=
  (show (plain xs w (ix2 r n) : EReal) = k0_pay22 xs w (ix2 r n) from rfl).trans (product_apply xs w r n)

/-- The body's floor division of a word by 64. -/
def floor64 (x : BitVec 32) : BitVec 32 :=
  Scalar.select
    (IntOp.andi
      (IntOp.cmpi .ne (IntOp.subi ((IntOp.cmpi .sgt x 0#32).setWidth 32) ((IntOp.cmpi .slt x 0#32).setWidth 32))
        (Scalar.subi (Scalar.extui (Scalar.cmpi .sgt 64#32 0#32)) (Scalar.extui (Scalar.cmpi .slt 64#32 0#32))))
      (IntOp.cmpi .ne (IntOp.remsi .vector x 64#32) 0#32))
    (IntOp.subi (IntOp.divsi .vector x 64#32) 1#32) (IntOp.divsi .vector x 64#32)

/-- Below 256 it is the division of numbers. -/
theorem floor64_eq : ∀ c : Fin 256, floor64 (BitVec.ofNat 32 c.val) = BitVec.ofNat 32 (c.val / 64) := by
  decide +kernel

/-- Whether two lanes are of one head. -/
theorem same_head : ∀ c l : Fin 256,
    (IntOp.cmpi .eq (BitVec.ofNat 32 (c.val / 64)) (BitVec.ofNat 32 (l.val / 64)) : BitVec 1)
      = if c.val / 64 = l.val / 64 then 1#1 else 0#1 := by
  decide +kernel

/-- The matrix of ones where the row's and the column's lane are of one head. -/
def headMatrix : FVec Ideal S256x256 .bf16 := fun i =>
  if IntOp.cmpi .eq (floor64 (iota .tc S256x256 32 [0] iota_S256x256_d0_w32 i)) (floor64 (iota .tc S256x256 32 [1] iota_S256x256_d1_w32 i))
    = 1#1 then Ideal.ofBits .f32 0x3F800000#32 else Ideal.ofBits .f32 0x00000000#32

/-- Its entries. -/
theorem headMatrix_apply (c l : Fin 256) : (headMatrix (ix2 c l) : EReal) = if c.val / 64 = l.val / 64 then 1 else 0 := by
  unfold headMatrix
  rw [iota_single_apply, iota_single_apply]
  show (if IntOp.cmpi .eq (floor64 (BitVec.ofNat 32 c.val)) (floor64 (BitVec.ofNat 32 l.val)) = 1#1 then _ else _ : EReal) = _
  rw [floor64_eq, floor64_eq, same_head]
  by_cases h : c.val / 64 = l.val / 64
  · rw [if_pos h, if_pos h, if_pos rfl]
    simp [Ideal.ofBits, Ideal.ieee]; norm_num [← EReal.coe_mul, ← EReal.coe_one]
  · rw [if_neg h, if_neg h, if_neg (by decide)]
    simp [Ideal.ofBits, Ideal.ieee]

/-- The head norm of the 256 columns from `o` on. -/
def half (Y : FVec Ideal S2064x512 .f32) (o : Nat) (h : S2064x512.Slices ![0, o] S2064x256) : FVec Ideal S2064x256 .f32 :=
  mulf (extractStridedSlice S2064x256 ![0, o] Y h)
    (rsqrt (addf (mulf (matmul dot_S2064x256_S256x256_S2064x256_1_0_0_1_n_n none
      (extractStridedSlice S2064x256 ![0, o] (truncf .bf16 (mulf Y Y) bitsLt_bf16_f32) h) headMatrix
      (constant S2064x256 .f32 0x00000000#32)) (broadcast S2064x256 (Scalar.ofBits .f32 0x3C800000#32)))
      (broadcast S2064x256 (Scalar.ofBits .f32 0x358637BD#32))))

/-- An entry of it. -/
theorem half_apply (Y : FVec Ideal S2064x512 .f32) (o : Nat) (h : S2064x512.Slices ![0, o] S2064x256) (ho : o % 64 = 0)
    (ho' : o ≤ 256) (r : Fin 2064) (l : Fin 256) (n : Fin 512) (hn : n.val = o + l.val) :
    (half Y o h (ix2 r l) : EReal)
      = headNorm (fun k => Y (ix2 r ⟨64 * (n.val / 64) + k.val, by have := n.isLt; have := k.isLt; omega⟩)) (headPos n.val) := by
  have hl := l.isLt
  unfold half headNorm
  have hat (c : Fin 256) : (extractStridedSlice S2064x256 ![0, o] Y h (ix2 r c) : EReal)
      = Y (ix2 r ⟨o + c.val, by have := c.isLt; omega⟩) :=
    extractStridedSlice_apply _ Y h _ _ fun a => by
      match a with
      | ⟨0, _⟩ => exact (Nat.zero_add _).symm
      | ⟨1, _⟩ => rfl
  refine congrArg₂ (fun y z : EReal => y * z) ?_ (congrArg Ideal.rsqrt (congrArg₂ (fun y z : EReal => y + z) ?_ rfl))
  · refine (hat l).trans (congrArg Y (congrArg (ix2 r) (Fin.ext ?_)))
    show o + l.val = 64 * (n.val / 64) + n.val % 64
    omega
  · rw [div_64]
    refine congrArg₂ (fun y z : EReal => y * z) ?_ rfl
    refine (dot_lanes _ _ r l).trans ?_
    refine (Finset.sum_congr rfl (g := fun c : Fin 256 => (Y (ix2 r ⟨o + c.val, by have := c.isLt; omega⟩) * Y (ix2 r ⟨o + c.val, by
      have := c.isLt; omega⟩) : EReal) * (if c.val / 64 = l.val / 64 then 1 else 0)) fun c _ => ?_).trans ?_
    · rw [headMatrix_apply]
      refine congrArg₂ (fun y z : EReal => y * z) ?_ rfl
      exact extractStridedSlice_apply _ (truncf .bf16 (mulf Y Y) bitsLt_bf16_f32) h _ (ix2 r ⟨o + c.val, by
          have := c.isLt; omega⟩) fun a => by
        match a with
        | ⟨0, _⟩ => exact (Nat.zero_add _).symm
        | ⟨1, _⟩ => rfl
    · refine (sum_head _ l).trans (Finset.sum_congr rfl fun k _ => ?_)
      have hk : (⟨o + (64 * (l.val / 64) + k.val), by have := k.isLt; omega⟩ : Fin 512)
          = ⟨64 * (n.val / 64) + k.val, by have := n.isLt; have := k.isLt; omega⟩ := Fin.ext (by
        show o + (64 * (l.val / 64) + k.val) = 64 * (n.val / 64) + k.val
        omega)
      show (Y (ix2 r ⟨o + (64 * (l.val / 64) + k.val), _⟩) * Y (ix2 r ⟨o + (64 * (l.val / 64) + k.val), _⟩) : EReal) = _
      rw [hk]

/-- The block of head-normed columns is two halves side by side, times the gains. -/
theorem heads_eq (xs : Vec Ideal S2064x2048 .bf16) (w : Vec Ideal S2048x512 .f32) (g : Vec Ideal S1x512 .f32) :
    heads xs w g = truncf .bf16 (mulf (concatenate S2064x512 1
      [⟨S2064x256, half (k0_pay22 xs w) 0 slices_S2064x512_o0_0_S2064x256⟩,
        ⟨S2064x256, half (k0_pay22 xs w) 256 slices_S2064x512_o0_256_S2064x256⟩]
      concatenates_S2064x256_S2064x256_S2064x512_d1) (broadcastTo S2064x512 (k0_pay23 g) broadcasts_S1x512_S2064x512))
      bitsLt_bf16_f32 := rfl

/-- One entry of a block of head-normed columns. -/
theorem heads_apply (xs : Vec Ideal S2064x2048 .bf16) (w : Vec Ideal S2048x512 .f32) (g : Vec Ideal S1x512 .f32)
    (r : Fin 2064) (n : Fin 512) :
    (heads xs w g (ix2 r n) : EReal)
      = headNorm (fun k => column (fun d => xs (ix2 r d)) fun d => w (ix2 d ⟨64 * (n.val / 64) + k.val, by
          have := n.isLt; have := k.isLt; omega⟩)) (headPos n.val) * g (ix2 0 n) := by
  have hn := n.isLt
  rw [heads_eq]
  refine congrArg₂ (fun y z : EReal => y * z) ?_ ?_
  · simp only [← product_apply]
    by_cases h : n.val < 256
    · exact (concatenate_pair_apply_left (t := S2064x512) (s₁ := S2064x256) (s₂ := S2064x256) 1 _ _ _ _ rfl
        (ix2 r (⟨n.val, h⟩ : Fin 256)) fun a => by match a with | ⟨0, _⟩ => rfl | ⟨1, _⟩ => rfl).trans
        (half_apply _ 0 _ rfl (by decide) r _ n (Nat.zero_add _).symm)
    · refine (concatenate_pair_apply_right (t := S2064x512) (s₁ := S2064x256) (s₂ := S2064x256) 1 _ _ _ _ rfl rfl
        (ix2 r (⟨n.val - 256, by omega⟩ : Fin 256)) (fun a ha => ?_) ?_).trans
        (half_apply _ 256 _ rfl (by decide) r _ n (by show n.val = 256 + (n.val - 256); omega))
      · match a with
        | ⟨0, _⟩ => rfl
        | ⟨1, _⟩ => exact absurd rfl ha
      · show n.val - 256 + 256 = n.val
        omega
  · refine (broadcastTo_apply _ _ (ix2 r n) (ix2 0 n) (fun a => by match a with | ⟨0, _⟩ => rfl | ⟨1, _⟩ => rfl)).trans ?_
    exact shapeCast_apply g _ _ _ rfl

end Cert.Proj
-- ==== Proof.ProjEntry.lean ====
/- What the input projection's call finds: the arrays the host operations prepare, the blocks of a grid point, the normed rows
   and the product columns as functions of the arguments. -/
module

public import proofs.«01_k».proof.Proof.ProjBody
public import proofs.«01_k».proof.Proof.ProjFrame
public import Idealize.ShloMosaic.Lib.KernelVsHost

@[expose] public section

set_option maxRecDepth 16384

noncomputable section

namespace Cert.Proj

open Idealize.ShloMosaic Idealize.ShloMosaic.TcCoe Idealize.ShloMosaic.Tactic Idealize.ShloMosaic.ValueIdx Idealize.SL.Sem
open Cert.Kernel2Ideal Cert.Kernel2Ideal.Gen

variable (m : (ℓ : Loc nD τ sig) → Buf (Elt Ideal) ℓ)

/-- The grid rows, as launched. -/
def xArg (c : Dev nD) : S4x2048x2048.Idx → EReal := m (c, Proc.devRef .tc main_arg0)
/-- The meta rows. -/
def extraArg (c : Dev nD) : S16x2048.Idx → EReal := m (c, Proc.devRef .tc main_arg1)
/-- The norm's weights. -/
def normArg (c : Dev nD) : S1x2048.Idx → EReal := m (c, Proc.devRef .tc main_arg2)
/-- The matrix. -/
def weightArg (c : Dev nD) : S1x2048x6144.Idx → EReal := m (c, Proc.devRef .tc main_arg3)
/-- The queries' gains. -/
def qgArg (c : Dev nD) : S1x64.Idx → EReal := m (c, Proc.devRef .tc main_arg4)
/-- The keys' gains. -/
def kgArg (c : Dev nD) : S1x64.Idx → EReal := m (c, Proc.devRef .tc main_arg5)

/-- The same as one record. -/
def inputs (c : Dev nD) : Inputs where
  x b p d := xArg m c (ix3 b p d)
  extra r d := extraArg m c (ix2 r d)
  norm d := normArg m c (ix2 0 d)
  w d n := weightArg m c (ix3 0 d n)
  qg k := qgArg m c (ix2 0 k)
  kg k := kgArg m c (ix2 0 k)

/-! ## The arrays at entry -/

/-- The grid rows, all batch elements in one array. -/
theorem entry_v0 (c : Dev nD) : (atEntry m c main_v0 : S8192x2048.Idx → EReal)
    = shapeCast S8192x2048 (xArg m c) shapeCasts_S4x2048x2048_S8192x2048 := by
  simp only [atEntry, hostOps0, List.flatten_cons, List.flatten_nil, List.append_nil]
  after_results
  rfl

/-- The norm's weights as one row. -/
theorem entry_v2 (c : Dev nD) : (atEntry m c main_v2 : S1x2048.Idx → EReal)
    = broadcastInDim S1x2048 ![1] bcast_S2048_S1x2048_1 (shapeCast S2048 (normArg m c) shapeCasts_S1x2048_S2048) := by
  simp only [atEntry, hostOps0, List.flatten_cons, List.flatten_nil, List.append_nil]
  after_results
  rfl

/-- The matrix without its leading axis. -/
theorem entry_v18 (c : Dev nD) : (atEntry m c main_v18 : S2048x6144.Idx → EReal)
    = shapeCast S2048x6144 (weightArg m c) shapeCasts_S1x2048x6144_S2048x6144 := by
  simp only [atEntry, hostOps0, List.flatten_cons, List.flatten_nil, List.append_nil]
  after_results
  rfl

/-- A row of 64 gains, laid eight times side by side. -/
def tiled (g : S64.Idx → EReal) : S1x512.Idx → EReal :=
  broadcastInDim S1x512 ![1] bcast_S512_S1x512_1 (shapeCast S512 (broadcastInDim S8x64 ![0, 1] bcast_S1x64_S8x64_0_1
    (shapeCast S1x64 g shapeCasts_S64_S1x64)) shapeCasts_S8x64_S512)

/-- The queries' gains, scaled and tiled. -/
theorem entry_v12 (c : Dev nD) : (atEntry m c main_v12 : S1x512.Idx → EReal)
    = tiled (mulf (F := Ideal) (φ := .f32) (shapeCast S64 (qgArg m c) shapeCasts_S1x64_S64)
        (broadcastInDim S64 ![] bcast_S_S64 (Host.divf (F := Ideal) (constant S_ .f32 0x3E000000#32)
          (Host.log (constant S_ .f32 0x40000000#32))))) := by
  simp only [atEntry, hostOps0, List.flatten_cons, List.flatten_nil, List.append_nil]
  after_results
  rfl

/-- The keys' gains, tiled. -/
theorem entry_v17 (c : Dev nD) : (atEntry m c main_v17 : S1x512.Idx → EReal)
    = tiled (shapeCast S64 (kgArg m c) shapeCasts_S1x64_S64) := by
  simp only [atEntry, hostOps0, List.flatten_cons, List.flatten_nil, List.append_nil]
  after_results
  rfl

/-- A tiled row at a column is the gain of the column's place in its head. -/
theorem tiled_apply (g : S64.Idx → EReal) (n : Fin 512) : tiled g (ix2 0 n) = g (ix1 (headPos n.val)) := by
  have hn := n.isLt
  unfold tiled
  refine (broadcastInDim_apply _ bcast_S512_S1x512_1 _ (ix2 0 n) (ix1 n) (fun a => by match a with | ⟨0, _⟩ => rfl)).trans ?_
  refine (shapeCast_apply _ _ (ix1 n) (ix2 (⟨n.val / 64, by omega⟩ : Fin 8) (headPos n.val)) ?_).trans ?_
  · rw [Shape.rowMajor_val_two, Shape.rowMajor_val_one]
    show n.val / 64 * 64 + n.val % 64 = n.val
    omega
  refine (broadcastInDim_apply _ bcast_S1x64_S8x64_0_1 _ _ (ix2 0 (headPos n.val)) (fun a => by
    match a with | ⟨0, _⟩ => rfl | ⟨1, _⟩ => rfl)).trans ?_
  refine shapeCast_apply g _ _ (ix1 (headPos n.val)) ?_
  rw [Shape.rowMajor_val_two, Shape.rowMajor_val_one]
  show n.val % 64 = 0 * 64 + n.val % 64
  omega

/-- A row of 64 gains without its leading axis. -/
theorem cast64_apply (g : S1x64.Idx → EReal) (k : Fin 64) : shapeCast S64 g shapeCasts_S1x64_S64 (ix1 k) = g (ix2 0 k) := by
  refine shapeCast_apply g _ _ (ix2 0 k) ?_
  rw [Shape.rowMajor_val_two, Shape.rowMajor_val_one]
  show 0 * 64 + k.val = k.val
  omega

/-- The query gains the call finds: the arguments times the scale. -/
theorem entry_v12_apply (c : Dev nD) (n : Fin 512) : (atEntry m c main_v12 : S1x512.Idx → EReal) (ix2 0 n)
    = (inputs m c).qg (headPos n.val) * queryScale := by
  rw [entry_v12, tiled_apply]
  exact congrArg₂ (fun y z : EReal => y * z) (cast64_apply _ _) rfl

/-- The key gains the call finds. -/
theorem entry_v17_apply (c : Dev nD) (n : Fin 512) : (atEntry m c main_v17 : S1x512.Idx → EReal) (ix2 0 n)
    = (inputs m c).kg (headPos n.val) := by
  rw [entry_v17, tiled_apply]
  exact cast64_apply _ _

/-- The grid rows at an index. -/
theorem entry_v0_apply (c : Dev nD) (r : Fin 8192) (d : Fin 2048) : (atEntry m c main_v0 : S8192x2048.Idx → EReal) (ix2 r d)
    = (inputs m c).x ⟨r.val / 2048, by have := r.isLt; omega⟩ ⟨r.val % 2048, Nat.mod_lt _ (by decide)⟩ d := by
  rw [entry_v0]
  refine shapeCast_apply _ _ _ (ix3 _ _ _) ?_
  rw [Shape.rowMajor_val_two, Shape.rowMajor_val_three]
  show (r.val / 2048 * 2048 + r.val % 2048) * 2048 + d.val = r.val * 2048 + d.val
  omega

/-- The norm's weights at an index. -/
theorem entry_v2_apply (c : Dev nD) (d : Fin 2048) : (atEntry m c main_v2 : S1x2048.Idx → EReal) (ix2 0 d)
    = (inputs m c).norm d := by
  rw [entry_v2]
  refine (broadcastInDim_apply _ bcast_S2048_S1x2048_1 _ (ix2 0 d) (ix1 d) (fun a => by match a with | ⟨0, _⟩ => rfl)).trans ?_
  refine shapeCast_apply _ _ _ (ix2 0 d) ?_
  rw [Shape.rowMajor_val_two, Shape.rowMajor_val_one]
  show 0 * 2048 + d.val = d.val
  omega

/-- The matrix at an index. -/
theorem entry_v18_apply (c : Dev nD) (d : Fin 2048) (n : Fin 6144) : (atEntry m c main_v18 : S2048x6144.Idx → EReal) (ix2 d n)
    = (inputs m c).w d n := by
  rw [entry_v18]
  refine shapeCast_apply _ _ _ (ix3 0 d n) ?_
  rw [Shape.rowMajor_val_two, Shape.rowMajor_val_three]
  show (0 * 2048 + d.val) * 6144 + n.val = d.val * 6144 + n.val
  omega

/-- The meta rows at an index. -/
theorem entry_extra_apply (c : Dev nD) (r : Fin 16) (d : Fin 2048) : (atEntry m c main_arg1 : S16x2048.Idx → EReal) (ix2 r d)
    = (inputs m c).extra r d :=
  congrFun (entry_args m c main_arg1 (by simp)) (ix2 r d)

/-! ## The blocks of a point -/

/-- Which blocks a point takes. -/
theorem windows : ∀ t : Fin cfg0.N,
    (win0_0.index t (0 : Fin 2) = 2 * (t.val / 13) + min (t.val % 13) 1 ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = t.val % 13 - 1)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 3) = min (t.val % 13 - 1) 5 ∧ win0_6.index t (1 : Fin 3) = t.val / 13
      ∧ win0_6.index t (2 : Fin 3) = 0)
    ∧ (win0_7.index t (0 : Fin 2) = t.val / 13 ∧ win0_7.index t (1 : Fin 2) = t.val % 13 - 1 - 6)
    ∧ (win0_8.index t (0 : Fin 2) = t.val / 13 ∧ win0_8.index t (1 : Fin 2) = t.val % 13 - 1) :=
  (by decide +kernel : ∀ t : Fin grid0.N,
    (win0_0.index t (0 : Fin 2) = 2 * (t.val / 13) + min (t.val % 13) 1 ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = t.val % 13 - 1)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 3) = min (t.val % 13 - 1) 5 ∧ win0_6.index t (1 : Fin 3) = t.val / 13
      ∧ win0_6.index t (2 : Fin 3) = 0)
    ∧ (win0_7.index t (0 : Fin 2) = t.val / 13 ∧ win0_7.index t (1 : Fin 2) = t.val % 13 - 1 - 6)
    ∧ (win0_8.index t (0 : Fin 2) = t.val / 13 ∧ win0_8.index t (1 : Fin 2) = t.val % 13 - 1))

/-- The batch element of a point. -/
def batchOf (t : Fin cfg0.N) : Fin 4 := ⟨t.val / 13, by
  have h : cfg0.N = 52 := N_0
  have := t.isLt
  omega⟩

/-- The block of 1024 grid rows of the first or the second point of a group. -/
theorem x_block (c : Dev nD) (t : Fin cfg0.N) (j : ℕ) (hj : j < 2) (r : Fin 1024) (d : Fin 2048) :
    (blockAt m c 0 (groupPt t j (by omega)) (ix2 r d : S1024x2048.Idx) : EReal)
      = (inputs m c).x (batchOf t) ⟨1024 * j + r.val, by have := r.isLt; omega⟩ d := by
  have hr := r.isLt
  have hN : cfg0.N = 52 := N_0
  have ht := t.isLt
  obtain ⟨⟨e0, e1⟩, -⟩ := windows (groupPt t j (by omega))
  have hg : (groupPt t j (by omega)).val = 13 * (t.val / 13) + j := rfl
  rw [hg] at e0
  refine (congrArg (atEntry m c main_v0) (a₂ := (ix2 (⟨2048 * (t.val / 13) + 1024 * j + r.val, by omega⟩ : Fin 8192) d
    : S8192x2048.Idx)) (funext fun a => Fin.ext ?_)).trans ?_
  · match a with
    | ⟨0, _⟩ =>
      show win0_0.index (groupPt t j (by omega)) (0 : Fin 2) * 1024 + 1 * r.val = 2048 * (t.val / 13) + 1024 * j + r.val
      omega
    | ⟨1, _⟩ => show win0_0.index (groupPt t j (by omega)) (1 : Fin 2) * 2048 + 1 * d.val = d.val; omega
  · refine (entry_v0_apply m c _ d).trans (congrArg₂ (fun b p => (inputs m c).x b p d) (Fin.ext ?_) (Fin.ext ?_))
    · show (2048 * (t.val / 13) + 1024 * j + r.val) / 2048 = t.val / 13; omega
    · show (2048 * (t.val / 13) + 1024 * j + r.val) % 2048 = 1024 * j + r.val; omega

/-- The block of meta rows. -/
theorem extra_block (c : Dev nD) (t : Fin cfg0.N) (r : Fin 16) (d : Fin 2048) :
    (blockAt m c 1 t (ix2 r d : S16x2048.Idx) : EReal) = (inputs m c).extra r d := by
  obtain ⟨-, ⟨e0, e1⟩, -⟩ := windows t
  refine (congrArg (atEntry m c main_arg1) (a₂ := (ix2 r d : S16x2048.Idx)) (funext fun a => Fin.ext ?_)).trans
    (entry_extra_apply m c r d)
  match a with
  | ⟨0, _⟩ => show win0_1.index t (0 : Fin 2) * 16 + 1 * r.val = r.val; omega
  | ⟨1, _⟩ => show win0_1.index t (1 : Fin 2) * 2048 + 1 * d.val = d.val; omega

/-- The block of norm weights. -/
theorem norm_block (c : Dev nD) (t : Fin cfg0.N) (d : Fin 2048) :
    (blockAt m c 2 t (ix2 0 d : S1x2048.Idx) : EReal) = (inputs m c).norm d := by
  obtain ⟨-, -, ⟨e0, e1⟩, -⟩ := windows t
  refine (congrArg (atEntry m c main_v2) (a₂ := (ix2 0 d : S1x2048.Idx)) (funext fun a => Fin.ext ?_)).trans
    (entry_v2_apply m c d)
  match a with
  | ⟨0, _⟩ => show win0_2.index t (0 : Fin 2) * 1 + 1 * 0 = 0; omega
  | ⟨1, _⟩ => show win0_2.index t (1 : Fin 2) * 2048 + 1 * d.val = d.val; omega

/-- The block of 512 columns of the matrix. -/
theorem w_block (c : Dev nD) (t : Fin cfg0.N) (d : Fin 2048) (n : Fin 512) :
    (blockAt m c 3 t (ix2 d n : S2048x512.Idx) : EReal)
      = (inputs m c).w d ⟨512 * (t.val % 13 - 1) + n.val, by have := n.isLt; omega⟩ := by
  have hn := n.isLt
  obtain ⟨-, -, -, ⟨e0, e1⟩, -⟩ := windows t
  refine (congrArg (atEntry m c main_v18) (a₂ := (ix2 d (⟨512 * (t.val % 13 - 1) + n.val, by omega⟩ : Fin 6144) : S2048x6144.Idx))
    (funext fun a => Fin.ext ?_)).trans (entry_v18_apply m c d _)
  match a with
  | ⟨0, _⟩ => show win0_3.index t (0 : Fin 2) * 2048 + 1 * d.val = d.val; omega
  | ⟨1, _⟩ => show win0_3.index t (1 : Fin 2) * 512 + 1 * n.val = 512 * (t.val % 13 - 1) + n.val; omega

/-- The block of query gains. -/
theorem qg_block (c : Dev nD) (t : Fin cfg0.N) (n : Fin 512) :
    (blockAt m c 4 t (ix2 0 n : S1x512.Idx) : EReal) = (inputs m c).qg (headPos n.val) * queryScale := by
  obtain ⟨-, -, -, -, ⟨e0, e1⟩, -⟩ := windows t
  refine (congrArg (atEntry m c main_v12) (a₂ := (ix2 0 n : S1x512.Idx)) (funext fun a => Fin.ext ?_)).trans
    (entry_v12_apply m c n)
  match a with
  | ⟨0, _⟩ => show win0_4.index t (0 : Fin 2) * 1 + 1 * 0 = 0; omega
  | ⟨1, _⟩ => show win0_4.index t (1 : Fin 2) * 512 + 1 * n.val = n.val; omega

/-- The block of key gains. -/
theorem kg_block (c : Dev nD) (t : Fin cfg0.N) (n : Fin 512) :
    (blockAt m c 5 t (ix2 0 n : S1x512.Idx) : EReal) = (inputs m c).kg (headPos n.val) := by
  obtain ⟨-, -, -, -, -, ⟨e0, e1⟩, -⟩ := windows t
  refine (congrArg (atEntry m c main_v17) (a₂ := (ix2 0 n : S1x512.Idx)) (funext fun a => Fin.ext ?_)).trans
    (entry_v17_apply m c n)
  match a with
  | ⟨0, _⟩ => show win0_5.index t (0 : Fin 2) * 1 + 1 * 0 = 0; omega
  | ⟨1, _⟩ => show win0_5.index t (1 : Fin 2) * 512 + 1 * n.val = n.val; omega

/-! ## The rows and the columns of a point -/

/-- A put read at an index inside the window. -/
theorem put_inside {s : Shape} {α : Type} (x : s.Idx → α) (off size : Fin s.rank → ℕ) (w : ((a : Fin s.rank) → Fin (size a)) → α)
    (y : s.Idx) (z : (a : Fin s.rank) → Fin (size a)) (h : ∀ a, (y a).val = off a + (z a).val) :
    VecWindow.put x off size w y = w z := by
  have hin : ∀ a, off a ≤ (y a).val ∧ (y a).val < off a + size a := fun a => by
    have := h a; have := (z a).isLt; omega
  unfold VecWindow.put
  rw [dif_pos hin]
  refine congrArg w (funext fun a => Fin.ext ?_)
  show (y a).val - off a = (z a).val
  have := h a
  omega

/-- A put read at an index outside the window. -/
theorem put_outside {s : Shape} {α : Type} (x : s.Idx → α) (off size : Fin s.rank → ℕ) (w : ((a : Fin s.rank) → Fin (size a)) → α)
    (y : s.Idx) (a : Fin s.rank) (h : ¬(off a ≤ (y a).val ∧ (y a).val < off a + size a)) :
    VecWindow.put x off size w y = x y := by
  unfold VecWindow.put
  exact dif_neg fun hin => h (hin a)

/-- The normed rows of a point's group. -/
theorem rows_apply (c : Dev nD) (t : Fin cfg0.N) (r : Fin 2064) (d : Fin 2048) :
    (rows m c t (ix2 r d) : EReal) = normRow (rowIn (inputs m c) (batchOf t) r) (inputs m c).norm d := by
  have hr := r.isLt
  unfold rows rowsSecond rowsFirst
  by_cases h2 : 1024 ≤ r.val ∧ r.val < 2048
  · refine (put_inside _ _ _ _ (ix2 r d) (ix2 (⟨r.val - 1024, by omega⟩ : Fin 1024) d : S1024x2048.Idx) fun a => ?_).trans ?_
    · match a with
      | ⟨0, _⟩ => show r.val = 1024 + (r.val - 1024); omega
      | ⟨1, _⟩ => show d.val = 0 + d.val; omega
    · refine (pay1_apply _ _ _ d).trans (congrArg₂ (fun y z => normRow y z d) (funext fun k => ?_) (funext fun k => norm_block m c _ k))
      refine (x_block m c t 1 (by decide) _ k).trans ?_
      unfold rowIn
      rw [dif_pos h2.2]
      refine congrArg (fun p => (inputs m c).x (batchOf t) p k) (Fin.ext ?_)
      show 1024 * 1 + (r.val - 1024) = r.val
      omega
  refine (put_outside _ _ _ _ (ix2 r d) (0 : Fin 2) h2).trans ?_
  by_cases h3 : 2048 ≤ r.val
  · refine (put_inside _ _ _ _ (ix2 r d) (ix2 (⟨r.val - 2048, by omega⟩ : Fin 16) d : S16x2048.Idx) fun a => ?_).trans ?_
    · match a with
      | ⟨0, _⟩ => show r.val = 2048 + (r.val - 2048); omega
      | ⟨1, _⟩ => show d.val = 0 + d.val; omega
    · refine (pay2_apply _ _ _ d).trans (congrArg₂ (fun y z => normRow y z d) (funext fun k => ?_) (funext fun k => norm_block m c _ k))
      refine (extra_block m c _ _ k).trans ?_
      unfold rowIn
      rw [dif_neg (by omega)]
  refine (put_outside _ _ _ _ (ix2 r d) (0 : Fin 2) (fun h => h3 h.1)).trans ?_
  refine (put_inside _ _ _ _ (ix2 r d) (ix2 (⟨r.val, by omega⟩ : Fin 1024) d : S1024x2048.Idx) fun a => ?_).trans ?_
  · match a with
    | ⟨0, _⟩ => show r.val = 0 + r.val; omega
    | ⟨1, _⟩ => show d.val = 0 + d.val; omega
  · refine (pay1_apply _ _ _ d).trans (congrArg₂ (fun y z => normRow y z d) (funext fun k => ?_) (funext fun k => norm_block m c _ k))
    refine (x_block m c t 0 (by decide) _ k).trans ?_
    unfold rowIn
    rw [dif_pos (by omega)]
    refine congrArg (fun p => (inputs m c).x (batchOf t) p k) (Fin.ext ?_)
    show 1024 * 0 + r.val = r.val
    omega

/-- A column of a point's product. -/
theorem column_at (c : Dev nD) (t : Fin cfg0.N) (r : Fin 2064) (n : Fin 512) :
    column (fun d => rows m c t (ix2 r d)) (fun d => blockAt m c 3 t (ix2 d n : S2048x512.Idx))
      = column (normRow (rowIn (inputs m c) (batchOf t) r) (inputs m c).norm) (fun d => (inputs m c).w d
          ⟨512 * (t.val % 13 - 1) + n.val, by have := n.isLt; omega⟩) :=
  congrArg₂ column (funext fun d => rows_apply m c t r d) (funext fun d => w_block m c t d n)

/-- The head-normed column of a point, with any gains. -/
theorem heads_at (c : Dev nD) (t : Fin cfg0.N) (g : Vec Ideal S1x512 .f32) (r : Fin 2064) (n : Fin 512) (N : Fin 6144)
    (hN : N.val = 512 * (t.val % 13 - 1) + n.val) :
    (heads (rows m c t) (blockAt m c 3 t) g (ix2 r n) : EReal)
      = headNorm (fun k => column (normRow (rowIn (inputs m c) (batchOf t) r) (inputs m c).norm) fun d =>
          (inputs m c).w d (headCol N k)) (headPos N.val) * g (ix2 0 n) := by
  have hn := n.isLt
  refine (heads_apply _ _ g r n).trans (congrArg₂ (fun y z : EReal => y * z) (congrArg₂ headNorm (funext fun k => ?_) (Fin.ext ?_)) rfl)
  · have hk := k.isLt
    refine (column_at m c t r _).trans (congrArg (column _) (funext fun d => congrArg ((inputs m c).w d) (Fin.ext ?_)))
    show 512 * (t.val % 13 - 1) + (64 * (n.val / 64) + k.val) = 64 * (N.val / 64) + k.val
    omega
  · show n.val % 64 = N.val % 64
    omega

/-- THE COLUMNS OF A POINT are the projection's. -/
theorem cols_apply (c : Dev nD) (t : Fin cfg0.N) (r : Fin 2064) (n : Fin 512) (N : Fin 6144)
    (hN : N.val = 512 * (t.val % 13 - 1) + n.val) (ht : 1 ≤ t.val % 13) :
    (cols m c t (ix2 r n) : EReal) = entry (inputs m c) (batchOf t) r N := by
  have hn := n.isLt
  have hp : headPos n.val = headPos N.val := Fin.ext (by show n.val % 64 = N.val % 64; omega)
  unfold cols entry projected
  by_cases h1 : t.val % 13 ≤ 2
  · have n1 : N.val < 1024 := by omega
    rw [if_pos h1, if_pos n1, heads_at m c t _ r n N hN, qg_block, hp]
    exact (mul_assoc _ _ _).symm
  have n1 : ¬N.val < 1024 := by omega
  rw [if_neg h1, if_neg n1]
  by_cases h2 : t.val % 13 ≤ 4
  · have n2 : N.val < 2048 := by omega
    rw [if_pos h2, if_pos n2, heads_at m c t _ r n N hN, kg_block, hp]
  have n2 : ¬N.val < 2048 := by omega
  rw [if_neg h2, if_neg n2]
  refine (plain_apply _ _ r n).trans ((column_at m c t r n).trans (congrArg (column _) (funext fun d => ?_)))
  exact congrArg ((inputs m c).w d) (Fin.ext hN.symm)

end Cert.Proj
-- ==== Proof.ProjArrays.lean ====
/- The three arrays the input projection's call ends with, each the projection at every index: what a flushing point writes is its
   block of the array, and the flushed blocks cover the array. -/
module

public import proofs.«01_k».proof.Proof.ProjEntry

@[expose] public section

set_option maxRecDepth 16384

noncomputable section

namespace Cert.Proj

open Idealize.ShloMosaic Idealize.ShloMosaic.TcCoe Idealize.ShloMosaic.ValueIdx Idealize.SL.Sem
open Cert.Kernel2Ideal Cert.Kernel2Ideal.Gen

variable (m : (ℓ : Loc nD τ sig) → Buf (Elt Ideal) ℓ)

/-- The slabs of queries, keys and values. -/
def slabArr (c : Dev nD) : Buf (Elt Ideal) ((c : Thread nD τ).loc main_v19_0) :=
  fun i : S24x8192x128.Idx => slabOut (inputs m c) (i 0) (i 1) (i 2)

/-- The columns past the values. -/
def colArr (c : Dev nD) : Buf (Elt Ideal) ((c : Thread nD τ).loc main_v19_1) :=
  fun i : S8192x3072.Idx => colOut (inputs m c) (i 0) (i 1)

/-- The meta rows. -/
def metaArr (c : Dev nD) : Buf (Elt Ideal) ((c : Thread nD τ).loc main_v19_2) :=
  fun i : S64x6144.Idx => metaOut (inputs m c) (i 0) (i 1)

/-! ## The slabs -/

/-- A flushing point writes its block of the slabs. -/
theorem flushed_6 (c : Dev nD) (t : Fin cfg0.N) (hf : (cfg0.win 6).flush t = true) :
    (dats m 0 c).flushed 6 t = ((cfg0.win 6).blk t).view.read (Elt Ideal) (slabArr m c) := by
  show (cfg0.win 6).cut (grid0.coords t) ((dats m 0 c).after 6 t) = _
  rw [after_6]
  rw [flush6] at hf
  have hf := of_decide_eq_true hf
  obtain ⟨-, -, -, -, -, -, ⟨e0, e1, e2⟩, -⟩ := windows t
  funext y
  have hy0 : (y 0).val < 4 := (y 0).isLt
  have hy1 : (y 1).val < 2048 := (y 1).isLt
  have hy2 : (y 2).val < 128 := (y 2).isLt
  have hb0 : (((cfg0.win 6).blk t).view.emb y 0).val = win0_6.index t (0 : Fin 3) * 4 + 1 * (y 0).val := rfl
  have hb1 : (((cfg0.win 6).blk t).view.emb y 1).val = win0_6.index t (1 : Fin 3) * 2048 + 1 * (y 1).val := rfl
  have hb2 : (((cfg0.win 6).blk t).view.emb y 2).val = win0_6.index t (2 : Fin 3) * 128 + 1 * (y 2).val := rfl
  have hs : (slabPt t).val = 13 * (t.val / 13) + min (max (t.val % 13) 1) 6 := rfl
  show (cols m c (slabPt t) (ix2 (⟨(y 1).val, by omega⟩ : Fin 2064) (⟨128 * (y 0).val + (y 2).val, by omega⟩ : Fin 512)) : EReal)
    = slabOut (inputs m c) (((cfg0.win 6).blk t).view.emb y 0) (((cfg0.win 6).blk t).view.emb y 1) (((cfg0.win 6).blk t).view.emb y 2)
  refine (cols_apply m c _ _ _ (⟨128 * (((cfg0.win 6).blk t).view.emb y 0).val + (((cfg0.win 6).blk t).view.emb y 2).val, by omega⟩
    : Fin 6144) ?_ (by omega)).trans (entry_congr _ ?_ ?_ rfl)
  · show 128 * (((cfg0.win 6).blk t).view.emb y 0).val + (((cfg0.win 6).blk t).view.emb y 2).val
      = 512 * ((slabPt t).val % 13 - 1) + (128 * (y 0).val + (y 2).val)
    omega
  · show (slabPt t).val / 13 = (((cfg0.win 6).blk t).view.emb y 1).val / 2048
    omega
  · show (y 1).val = (((cfg0.win 6).blk t).view.emb y 1).val % 2048
    omega

/-- The indices of a point's block of the slabs. -/
theorem mem_6 (t : Fin cfg0.N) (i : S24x8192x128.Idx) : i ∈ ((cfg0.win 6).blk t).view.set ↔ ∀ a : Fin 3,
    win0_6.index t a * S4x2048x128.size a ≤ (i a).val ∧ (i a).val < win0_6.index t a * S4x2048x128.size a + S4x2048x128.size a := by
  show i ∈ ((View.whole main_v19_0).slice (win0_6.rect t)).set ↔ _
  rw [View.set_slice_whole, Rect.mem_set_unit]
  exact Iff.rfl

/-- Point `j` of row group `b`. -/
def pointAt (b : ℕ) (j : ℕ) (hb : b < 4) (hj : j < 13) : Fin cfg0.N := ⟨13 * b + j, by
  have h : cfg0.N = 52 := N_0
  omega⟩

/-- The array of slabs after the run: every slab of 128 columns is written at some point of its rows' group. -/
theorem slabs_final (c : Dev nD) : (dats m 0 c).arrAt 6 cfg0.N = slabArr m c := by
  refine (dats m 0 c).arrAt_eq_of_cover 6 _ (flushed_6 m c) fun i => ?_
  have h0 : (i 0).val < 24 := (i 0).isLt
  have h1 : (i 1).val < 8192 := (i 1).isLt
  have h2 : (i 2).val < 128 := (i 2).isLt
  have hp : ∀ hb hj, (pointAt ((i 1).val / 2048) (if (i 0).val < 20 then (i 0).val / 4 + 1 else 12) hb hj).val
    = 13 * ((i 1).val / 2048) + (if (i 0).val < 20 then (i 0).val / 4 + 1 else 12) := fun _ _ => rfl
  refine ⟨pointAt ((i 1).val / 2048) (if (i 0).val < 20 then (i 0).val / 4 + 1 else 12) (by omega) (by split <;> omega), ?_, ?_⟩
  · rw [flush6]
    refine decide_eq_true ?_
    rw [hp]
    split <;> omega
  · rw [mem_6]
    obtain ⟨-, -, -, -, -, -, ⟨e0, e1, e2⟩, -⟩ := windows (pointAt ((i 1).val / 2048)
      (if (i 0).val < 20 then (i 0).val / 4 + 1 else 12) (by omega) (by split <;> omega))
    rw [hp] at e0 e1
    intro a
    match a with
    | ⟨0, _⟩ =>
      show win0_6.index _ (0 : Fin 3) * 4 ≤ (i 0).val ∧ (i 0).val < win0_6.index _ (0 : Fin 3) * 4 + 4
      rw [e0]
      split <;> omega
    | ⟨1, _⟩ =>
      show win0_6.index _ (1 : Fin 3) * 2048 ≤ (i 1).val ∧ (i 1).val < win0_6.index _ (1 : Fin 3) * 2048 + 2048
      rw [e1]
      split <;> omega
    | ⟨2, _⟩ =>
      show win0_6.index _ (2 : Fin 3) * 128 ≤ (i 2).val ∧ (i 2).val < win0_6.index _ (2 : Fin 3) * 128 + 128
      rw [e2]
      omega

/-! ## The columns past the values -/

/-- A flushing point writes its block of the columns. -/
theorem flushed_7 (c : Dev nD) (t : Fin cfg0.N) (hf : (cfg0.win 7).flush t = true) :
    (dats m 0 c).flushed 7 t = ((cfg0.win 7).blk t).view.read (Elt Ideal) (colArr m c) := by
  show (cfg0.win 7).cut (grid0.coords t) ((dats m 0 c).after 7 t) = _
  rw [after_7]
  rw [flush7] at hf
  have hf := of_decide_eq_true hf
  obtain ⟨-, -, -, -, -, -, -, ⟨e0, e1⟩, -⟩ := windows t
  funext y
  have hy0 : (y 0).val < 2048 := (y 0).isLt
  have hy1 : (y 1).val < 512 := (y 1).isLt
  have hb0 : (((cfg0.win 7).blk t).view.emb y 0).val = win0_7.index t (0 : Fin 2) * 2048 + 1 * (y 0).val := rfl
  have hb1 : (((cfg0.win 7).blk t).view.emb y 1).val = win0_7.index t (1 : Fin 2) * 512 + 1 * (y 1).val := rfl
  show (gridRows (cols m c t) ((cfg0.win 7).xinj (grid0.coords t) y) : EReal)
    = colOut (inputs m c) (((cfg0.win 7).blk t).view.emb y 0) (((cfg0.win 7).blk t).view.emb y 1)
  refine (extractStridedSlice_apply _ (cols m c t) slices_S2064x512_o0_0_S2048x512 _
    (ix2 (⟨(y 0).val, by omega⟩ : Fin 2064) (⟨(y 1).val, hy1⟩ : Fin 512)) (fun a => ?_)).trans ?_
  · match a with
    | ⟨0, _⟩ => show (y 0).val = 0 + (y 0).val; omega
    | ⟨1, _⟩ => show (y 1).val = 0 + (y 1).val; omega
  refine (cols_apply m c _ _ _ (⟨3072 + (((cfg0.win 7).blk t).view.emb y 1).val, by omega⟩ : Fin 6144) ?_ (by omega)).trans
    (entry_congr _ ?_ ?_ rfl)
  · show 3072 + (((cfg0.win 7).blk t).view.emb y 1).val = 512 * (t.val % 13 - 1) + (y 1).val
    omega
  · show t.val / 13 = (((cfg0.win 7).blk t).view.emb y 0).val / 2048
    omega
  · show (y 0).val = (((cfg0.win 7).blk t).view.emb y 0).val % 2048
    omega

/-- The indices of a point's block of the columns. -/
theorem mem_7 (t : Fin cfg0.N) (i : S8192x3072.Idx) : i ∈ ((cfg0.win 7).blk t).view.set ↔ ∀ a : Fin 2,
    win0_7.index t a * S2048x512.size a ≤ (i a).val ∧ (i a).val < win0_7.index t a * S2048x512.size a + S2048x512.size a := by
  show i ∈ ((View.whole main_v19_1).slice (win0_7.rect t)).set ↔ _
  rw [View.set_slice_whole, Rect.mem_set_unit]
  exact Iff.rfl

/-- The array of the columns past the values after the run. -/
theorem cols_final (c : Dev nD) : (dats m 0 c).arrAt 7 cfg0.N = colArr m c := by
  refine (dats m 0 c).arrAt_eq_of_cover 7 _ (flushed_7 m c) fun i => ?_
  have h0 : (i 0).val < 8192 := (i 0).isLt
  have h1 : (i 1).val < 3072 := (i 1).isLt
  have hp : ∀ hb hj, (pointAt ((i 0).val / 2048) ((i 1).val / 512 + 7) hb hj).val = 13 * ((i 0).val / 2048) + ((i 1).val / 512 + 7) :=
    fun _ _ => rfl
  refine ⟨pointAt ((i 0).val / 2048) ((i 1).val / 512 + 7) (by omega) (by omega), ?_, ?_⟩
  · rw [flush7]
    refine decide_eq_true ?_
    rw [hp]
    omega
  · rw [mem_7]
    obtain ⟨-, -, -, -, -, -, -, ⟨e0, e1⟩, -⟩ := windows (pointAt ((i 0).val / 2048) ((i 1).val / 512 + 7) (by omega) (by omega))
    rw [hp] at e0 e1
    intro a
    match a with
    | ⟨0, _⟩ =>
      show win0_7.index _ (0 : Fin 2) * 2048 ≤ (i 0).val ∧ (i 0).val < win0_7.index _ (0 : Fin 2) * 2048 + 2048
      omega
    | ⟨1, _⟩ =>
      show win0_7.index _ (1 : Fin 2) * 512 ≤ (i 1).val ∧ (i 1).val < win0_7.index _ (1 : Fin 2) * 512 + 512
      omega

/-! ## The meta rows -/

/-- A flushing point writes its block of the meta rows. -/
theorem flushed_8 (c : Dev nD) (t : Fin cfg0.N) (hf : (cfg0.win 8).flush t = true) :
    (dats m 0 c).flushed 8 t = ((cfg0.win 8).blk t).view.read (Elt Ideal) (metaArr m c) := by
  show (cfg0.win 8).cut (grid0.coords t) ((dats m 0 c).after 8 t) = _
  rw [after_8]
  rw [flush8] at hf
  have hf := of_decide_eq_true hf
  obtain ⟨-, -, -, -, -, -, -, -, ⟨e0, e1⟩⟩ := windows t
  funext y
  have hy0 : (y 0).val < 16 := (y 0).isLt
  have hy1 : (y 1).val < 512 := (y 1).isLt
  have hb0 : (((cfg0.win 8).blk t).view.emb y 0).val = win0_8.index t (0 : Fin 2) * 16 + 1 * (y 0).val := rfl
  have hb1 : (((cfg0.win 8).blk t).view.emb y 1).val = win0_8.index t (1 : Fin 2) * 512 + 1 * (y 1).val := rfl
  show (metaRows (cols m c t) ((cfg0.win 8).xinj (grid0.coords t) y) : EReal)
    = metaOut (inputs m c) (((cfg0.win 8).blk t).view.emb y 0) (((cfg0.win 8).blk t).view.emb y 1)
  refine (extractStridedSlice_apply _ (cols m c t) slices_S2064x512_o2048_0_S16x512 _
    (ix2 (⟨2048 + (y 0).val, by omega⟩ : Fin 2064) (⟨(y 1).val, hy1⟩ : Fin 512)) (fun a => ?_)).trans ?_
  · match a with
    | ⟨0, _⟩ => rfl
    | ⟨1, _⟩ => show (y 1).val = 0 + (y 1).val; omega
  refine (cols_apply m c _ _ _ (((cfg0.win 8).blk t).view.emb y 1) ?_ (by omega)).trans (entry_congr _ ?_ ?_ rfl)
  · show (((cfg0.win 8).blk t).view.emb y 1).val = 512 * (t.val % 13 - 1) + (y 1).val
    omega
  · show t.val / 13 = (((cfg0.win 8).blk t).view.emb y 0).val / 16
    omega
  · show 2048 + (y 0).val = 2048 + (((cfg0.win 8).blk t).view.emb y 0).val % 16
    omega

/-- The indices of a point's block of the meta rows. -/
theorem mem_8 (t : Fin cfg0.N) (i : S64x6144.Idx) : i ∈ ((cfg0.win 8).blk t).view.set ↔ ∀ a : Fin 2,
    win0_8.index t a * S16x512.size a ≤ (i a).val ∧ (i a).val < win0_8.index t a * S16x512.size a + S16x512.size a := by
  show i ∈ ((View.whole main_v19_2).slice (win0_8.rect t)).set ↔ _
  rw [View.set_slice_whole, Rect.mem_set_unit]
  exact Iff.rfl

/-- The array of the meta rows after the run. -/
theorem meta_final (c : Dev nD) : (dats m 0 c).arrAt 8 cfg0.N = metaArr m c := by
  refine (dats m 0 c).arrAt_eq_of_cover 8 _ (flushed_8 m c) fun i => ?_
  have h0 : (i 0).val < 64 := (i 0).isLt
  have h1 : (i 1).val < 6144 := (i 1).isLt
  have hp : ∀ hb hj, (pointAt ((i 0).val / 16) ((i 1).val / 512 + 1) hb hj).val = 13 * ((i 0).val / 16) + ((i 1).val / 512 + 1) :=
    fun _ _ => rfl
  refine ⟨pointAt ((i 0).val / 16) ((i 1).val / 512 + 1) (by omega) (by omega), ?_, ?_⟩
  · rw [flush8]
    refine decide_eq_true ?_
    rw [hp]
    omega
  · rw [mem_8]
    obtain ⟨-, -, -, -, -, -, -, -, ⟨e0, e1⟩⟩ := windows (pointAt ((i 0).val / 16) ((i 1).val / 512 + 1) (by omega) (by omega))
    rw [hp] at e0 e1
    intro a
    match a with
    | ⟨0, _⟩ =>
      show win0_8.index _ (0 : Fin 2) * 16 ≤ (i 0).val ∧ (i 0).val < win0_8.index _ (0 : Fin 2) * 16 + 16
      omega
    | ⟨1, _⟩ =>
      show win0_8.index _ (1 : Fin 2) * 512 ≤ (i 1).val ∧ (i 1).val < win0_8.index _ (1 : Fin 2) * 512 + 512
      omega

end Cert.Proj
-- ==== Proof.ProjRef.lean ====
/- The input projection's reference, read index by index: the rows with the meta rows first, their norms, the product, and the
   head norms of queries and keys. -/
module

public import proofs.«01_k».proof.Proof.ProjSpec
public import proofs.«01_k».proof.Proof.Gen.Reference2Ideal.Read

@[expose] public section

noncomputable section

namespace Cert.Proj.Ref

open Idealize.ShloMosaic Idealize.ShloMosaic.ValueIdx
open Cert.Reference2Ideal Cert.Reference2Ideal.Read

variable (x0 : S4x2048x2048.Idx → EReal) (x1 : S16x2048.Idx → EReal) (x2 : S1x2048.Idx → EReal)
  (x3 : S1x2048x6144.Idx → EReal) (x4 x5 : S1x64.Idx → EReal)

/-- The reference's arguments as one record. -/
def inputs : Inputs where
  x b p d := x0 (ix3 b p d)
  extra r d := x1 (ix2 r d)
  norm d := x2 (ix2 0 d)
  w d n := x3 (ix3 0 d n)
  qg k := x4 (ix2 0 k)
  kg k := x5 (ix2 0 k)

/-- The reference's row `R` (meta rows first) among the rows with the meta rows last. -/
def place (R : Fin 2064) : Fin 2064 :=
  ⟨if R.val < 16 then 2048 + R.val else R.val - 16, by have := R.isLt; split <;> omega⟩

/-- Zero of the float words. -/
theorem zero_word : Ideal.ofBits .f32 0x00000000#32 = 0 := by simp [Ideal.ofBits, Ideal.ieee]

/-- The rows. -/
theorem row_at (b : Fin 4) (R : Fin 2064) (d : Fin 2048) : val_main_v2 (F := Ideal) x0 x1 (ix3 b R d)
    = rowIn (inputs x0 x1 x2 x3 x4 x5) b (place R) d := by
  have hR := R.isLt
  unfold val_main_v2 rowIn
  by_cases h : R.val < 16
  · have hp : (place R).val = 2048 + R.val := if_pos h
    rw [dif_neg (by omega)]
    refine (concatenate_pair_apply_left (t := S4x2064x2048) (s₁ := S4x16x2048) (s₂ := S4x2048x2048) 1 _ _ _ _ rfl
      (ix3 b (⟨R.val, h⟩ : Fin 16) d) fun a => ?_).trans ?_
    · match a with | ⟨0, _⟩ => rfl | ⟨1, _⟩ => rfl | ⟨2, _⟩ => rfl
    · rw [val_main_v1_apply, val_main_v0_apply]
      refine congrArg x1 (funext fun a => ?_)
      match a with
      | ⟨0, _⟩ => exact Fin.ext (by show R.val = (place R).val - 2048; omega)
      | ⟨1, _⟩ => rfl
  · have hp : (place R).val = R.val - 16 := if_neg h
    rw [dif_pos (by omega)]
    refine (concatenate_pair_apply_right (t := S4x2064x2048) (s₁ := S4x16x2048) (s₂ := S4x2048x2048) 1 _ _ _ _ rfl rfl
      (ix3 b (⟨R.val - 16, by omega⟩ : Fin 2048) d) (fun a ha => ?_) ?_).trans ?_
    · match a, ha with
      | ⟨0, _⟩, _ => rfl
      | ⟨1, _⟩, ha => exact absurd rfl ha
      | ⟨2, _⟩, _ => rfl
    · show R.val - 16 + 16 = R.val
      omega
    · refine congrArg x0 (funext fun a => ?_)
      match a with
      | ⟨0, _⟩ => rfl
      | ⟨1, _⟩ => exact Fin.ext hp.symm
      | ⟨2, _⟩ => rfl

/-- The reference's root mean square factor of a row. -/
theorem rms_at (b : Fin 4) (R : Fin 2064) : val_main_v11 (F := Ideal) x0 x1 (ix3 b R 0)
    = Ideal.rsqrt (Ideal.div (∑ k, val_main_v2 (F := Ideal) x0 x1 (ix3 b R k) * val_main_v2 (F := Ideal) x0 x1 (ix3 b R k))
        (Ideal.ofBits .f32 0x45000000#32) + eps) := by
  rw [val_main_v11_apply, val_main_v10_apply, val_main_v8_apply, val_main_v6_apply, val_main_v7_apply, val_main_v9_apply,
    val_main_v5_apply, val_main_cst_apply, val_main_cst_0_apply, val_main_cst_1_apply]
  show Ideal.rsqrt (Ideal.div (Ideal.ofBits .f32 0x00000000#32 + ∑ k : Fin 2048, _) (Ideal.ofBits .f32 0x45000000#32) + eps) = _
  rw [zero_word, zero_add]
  refine congrArg (fun z => Ideal.rsqrt (Ideal.div z (Ideal.ofBits .f32 0x45000000#32) + eps)) (Finset.sum_congr rfl fun k _ => ?_)
  have e : idx_main_v5 (idx_main_v6 (ix3 b R (0 : Fin 1))) k = ix3 b R k := by
    funext a; match a with | ⟨0, _⟩ => rfl | ⟨1, _⟩ => rfl | ⟨2, _⟩ => rfl
  rw [e, val_main_v4_apply]
  rfl

/-- The normed rows. -/
theorem normed_at (b : Fin 4) (R : Fin 2064) (d : Fin 2048) : val_main_v16 (F := Ideal) x0 x1 x2 (ix3 b R d)
    = normRow (rowIn (inputs x0 x1 x2 x3 x4 x5) b (place R)) (inputs x0 x1 x2 x3 x4 x5).norm d := by
  have e12 : idx_main_v12 (ix3 b R d) = ix3 b R (0 : Fin 1) := by
    funext a; match a with | ⟨0, _⟩ => rfl | ⟨1, _⟩ => rfl | ⟨2, _⟩ => rfl
  have e3 : idx_main_v3 (idx_main_v14 (idx_main_v15 (ix3 b R d))) = ix2 (0 : Fin 1) d := by
    funext a
    match a with
    | ⟨0, _⟩ => rfl
    | ⟨1, _⟩ => exact Fin.ext (Nat.mod_eq_of_lt d.isLt)
  rw [val_main_v16_apply, val_main_v13_apply, val_main_v12_apply, val_main_v15_apply, val_main_v14_apply, val_main_v3_apply,
    e12, e3, rms_at]
  simp only [row_at x0 x1 x2 x3 x4 x5]
  rfl

/-- The product. -/
theorem product_at (b : Fin 4) (R : Fin 2064) (n : Fin 6144) : val_main_v18 (F := Ideal) x0 x1 x2 x3 (ix3 b R n)
    = column (normRow (rowIn (inputs x0 x1 x2 x3 x4 x5) b (place R)) (inputs x0 x1 x2 x3 x4 x5).norm)
        fun d => (inputs x0 x1 x2 x3 x4 x5).w d n := by
  rw [val_main_v18_apply]
  refine Finset.sum_congr rfl fun d _ => congrArg₂ (fun y z : EReal => y * z) ?_ ?_
  · have e : lidx_main_v18 (ix3 b R n) d = ix3 b R d := by
      funext a; match a with | ⟨0, _⟩ => rfl | ⟨1, _⟩ => rfl | ⟨2, _⟩ => rfl
    rw [e, normed_at x0 x1 x2 x3 x4 x5]
  · have hd := d.isLt
    have hn := n.isLt
    rw [val_main_v17_apply]
    refine congrArg x3 (funext fun a => ?_)
    match a with
    | ⟨0, _⟩ => rfl
    | ⟨1, _⟩ => exact Fin.ext (by show (d.val * 6144 + n.val) / 6144 % 2048 = d.val; omega)
    | ⟨2, _⟩ => exact Fin.ext (by show (d.val * 6144 + n.val) % 6144 = n.val; omega)

/-- Head `h`, component `k` of the queries. -/
theorem query_at (b : Fin 4) (R : Fin 2064) (h : Fin 16) (k : Fin 64) : val_main_v20 (F := Ideal) x0 x1 x2 x3 (ix4 b R h k)
    = val_main_v18 (F := Ideal) x0 x1 x2 x3 (ix3 b R (⟨64 * h.val + k.val, by omega⟩ : Fin 6144)) := by
  have hb := b.isLt
  have hR := R.isLt
  have hh := h.isLt
  have hk := k.isLt
  rw [val_main_v20_apply, val_main_v19_apply]
  refine congrArg (val_main_v18 (F := Ideal) x0 x1 x2 x3) (funext fun a => ?_)
  match a with
  | ⟨0, _⟩ => exact Fin.ext (by show (((b.val * 2064 + R.val) * 16 + h.val) * 64 + k.val) / 2113536 = b.val; omega)
  | ⟨1, _⟩ => exact Fin.ext (by show (((b.val * 2064 + R.val) * 16 + h.val) * 64 + k.val) / 1024 % 2064 = R.val; omega)
  | ⟨2, _⟩ => exact Fin.ext (by show (((b.val * 2064 + R.val) * 16 + h.val) * 64 + k.val) % 1024 = 64 * h.val + k.val; omega)

/-- Head `h`, component `k` of the keys. -/
theorem key_at (b : Fin 4) (R : Fin 2064) (h : Fin 16) (k : Fin 64) : val_main_v42 (F := Ideal) x0 x1 x2 x3 (ix4 b R h k)
    = val_main_v18 (F := Ideal) x0 x1 x2 x3 (ix3 b R (⟨1024 + (64 * h.val + k.val), by omega⟩ : Fin 6144)) := by
  have hb := b.isLt
  have hR := R.isLt
  have hh := h.isLt
  have hk := k.isLt
  rw [val_main_v42_apply, val_main_v41_apply]
  refine congrArg (val_main_v18 (F := Ideal) x0 x1 x2 x3) (funext fun a => ?_)
  match a with
  | ⟨0, _⟩ => exact Fin.ext (by show (((b.val * 2064 + R.val) * 16 + h.val) * 64 + k.val) / 2113536 = b.val; omega)
  | ⟨1, _⟩ => exact Fin.ext (by show (((b.val * 2064 + R.val) * 16 + h.val) * 64 + k.val) / 1024 % 2064 = R.val; omega)
  | ⟨2, _⟩ => exact Fin.ext (by
      show 1024 + (((b.val * 2064 + R.val) * 16 + h.val) * 64 + k.val) % 1024 = 1024 + (64 * h.val + k.val); omega)

/-- A head of the queries, normed, gained and scaled. -/
theorem query_normed (b : Fin 4) (R : Fin 2064) (h : Fin 16) (k : Fin 64) :
    val_main_v39 (F := Ideal) x0 x1 x2 x3 x4 (ix4 b R h k)
      = headNorm (fun j => val_main_v20 (F := Ideal) x0 x1 x2 x3 (ix4 b R h j)) k * x4 (ix2 0 k) * queryScale := by
  have e30 : idx_main_v30 (ix4 b R h k) = ix4 b R h (0 : Fin 1) := by
    funext a; match a with | ⟨0, _⟩ => rfl | ⟨1, _⟩ => rfl | ⟨2, _⟩ => rfl | ⟨3, _⟩ => rfl
  have e21 : idx_main_v21 (idx_main_v32 (idx_main_v33 (ix4 b R h k))) = ix2 (0 : Fin 1) k := by
    funext a
    match a with
    | ⟨0, _⟩ => rfl
    | ⟨1, _⟩ => exact Fin.ext (Nat.mod_eq_of_lt k.isLt)
  have e23 : ∀ j : Fin 64, idx_main_v23 (idx_main_v24 (ix4 b R h (0 : Fin 1))) j = ix4 b R h j := fun j => by
    funext a; match a with | ⟨0, _⟩ => rfl | ⟨1, _⟩ => rfl | ⟨2, _⟩ => rfl | ⟨3, _⟩ => rfl
  rw [val_main_v39_apply, val_main_v34_apply, val_main_v31_apply, val_main_v30_apply, val_main_v29_apply, val_main_v28_apply,
    val_main_v26_apply, val_main_v24_apply, val_main_v25_apply, val_main_v27_apply, val_main_v23_apply, val_main_v33_apply,
    val_main_v32_apply, val_main_v21_apply, val_main_v38_apply, val_main_v37_apply, val_main_v36_apply, val_main_v35_apply,
    val_main_cst_2_apply, val_main_cst_3_apply, val_main_cst_4_apply, val_main_cst_5_apply, val_main_cst_6_apply, e30, e21]
  simp only [e23, val_main_v22_apply]
  show val_main_v20 (F := Ideal) x0 x1 x2 x3 (ix4 b R h k)
      * Ideal.rsqrt (Ideal.div (Ideal.ofBits .f32 0x00000000#32 + ∑ j : Fin 64, _) (Ideal.ofBits .f32 0x42800000#32) + eps)
      * x4 (ix2 0 k) * queryScale = _
  rw [zero_word, zero_add]
  rfl

/-- A head of the keys, normed and gained. -/
theorem key_normed (b : Fin 4) (R : Fin 2064) (h : Fin 16) (k : Fin 64) :
    val_main_v56 (F := Ideal) x0 x1 x2 x3 x5 (ix4 b R h k)
      = headNorm (fun j => val_main_v42 (F := Ideal) x0 x1 x2 x3 (ix4 b R h j)) k * x5 (ix2 0 k) := by
  have e52 : idx_main_v52 (ix4 b R h k) = ix4 b R h (0 : Fin 1) := by
    funext a; match a with | ⟨0, _⟩ => rfl | ⟨1, _⟩ => rfl | ⟨2, _⟩ => rfl | ⟨3, _⟩ => rfl
  have e43 : idx_main_v43 (idx_main_v54 (idx_main_v55 (ix4 b R h k))) = ix2 (0 : Fin 1) k := by
    funext a
    match a with
    | ⟨0, _⟩ => rfl
    | ⟨1, _⟩ => exact Fin.ext (Nat.mod_eq_of_lt k.isLt)
  have e45 : ∀ j : Fin 64, idx_main_v45 (idx_main_v46 (ix4 b R h (0 : Fin 1))) j = ix4 b R h j := fun j => by
    funext a; match a with | ⟨0, _⟩ => rfl | ⟨1, _⟩ => rfl | ⟨2, _⟩ => rfl | ⟨3, _⟩ => rfl
  rw [val_main_v56_apply, val_main_v53_apply, val_main_v52_apply, val_main_v51_apply, val_main_v50_apply,
    val_main_v48_apply, val_main_v46_apply, val_main_v47_apply, val_main_v49_apply, val_main_v45_apply, val_main_v55_apply,
    val_main_v54_apply, val_main_v43_apply, val_main_cst_7_apply, val_main_cst_8_apply, val_main_cst_9_apply, e52, e43]
  simp only [e45, val_main_v44_apply]
  show val_main_v42 (F := Ideal) x0 x1 x2 x3 (ix4 b R h k)
      * Ideal.rsqrt (Ideal.div (Ideal.ofBits .f32 0x00000000#32 + ∑ j : Fin 64, _) (Ideal.ofBits .f32 0x42800000#32) + eps)
      * x5 (ix2 0 k) = _
  rw [zero_word, zero_add]
  rfl

end Cert.Proj.Ref
-- ==== Proof.ProjRefOut.lean ====
/- The three results of the input projection's reference as the projection of the specification: queries, keys and the other
   columns side by side, cut into the grid rows' slabs and columns and the meta rows. -/
module

public import proofs.«01_k».proof.Proof.ProjRef

@[expose] public section

noncomputable section

namespace Cert.Proj.Ref

open Idealize.ShloMosaic Idealize.ShloMosaic.ValueIdx
open Cert.Reference2Ideal Cert.Reference2Ideal.Read

variable (x0 : S4x2048x2048.Idx → EReal) (x1 : S16x2048.Idx → EReal) (x2 : S1x2048.Idx → EReal)
  (x3 : S1x2048x6144.Idx → EReal) (x4 x5 : S1x64.Idx → EReal)

/-- The queries, keys and other columns side by side are the projection. -/
theorem projected_at (b : Fin 4) (R : Fin 2064) (n : Fin 6144) :
    val_main_v59 (F := Ideal) x0 x1 x2 x3 x4 x5 (ix3 b R n) = entry (inputs x0 x1 x2 x3 x4 x5) b (place R) n := by
  have hb := b.isLt
  have hR := R.isLt
  have hn := n.isLt
  unfold val_main_v59 entry projected
  by_cases h1 : n.val < 1024
  · rw [if_pos h1]
    refine (concatenate_apply_piece (t := S4x2064x6144) 2 _ _ _ 0 (by simp) S4x2064x1024 _ rfl rfl 0 rfl
      (ix3 b R (⟨n.val, h1⟩ : Fin 1024)) (fun a ha => ?_) ?_).trans ?_
    · match a, ha with
      | ⟨0, _⟩, _ => rfl
      | ⟨1, _⟩, _ => rfl
      | ⟨2, _⟩, ha => exact absurd rfl ha
    · show 0 + n.val = n.val
      omega
    rw [val_main_v40_apply]
    have e : idx_main_v40 (ix3 b R (⟨n.val, h1⟩ : Fin 1024)) = ix4 b R (⟨n.val / 64, by omega⟩ : Fin 16) (headPos n.val) := by
      funext a
      match a with
      | ⟨0, _⟩ => exact Fin.ext (by show ((b.val * 2064 + R.val) * 1024 + n.val) / 2113536 = b.val; omega)
      | ⟨1, _⟩ => exact Fin.ext (by show ((b.val * 2064 + R.val) * 1024 + n.val) / 1024 % 2064 = R.val; omega)
      | ⟨2, _⟩ => exact Fin.ext (by show ((b.val * 2064 + R.val) * 1024 + n.val) / 64 % 16 = n.val / 64; omega)
      | ⟨3, _⟩ => exact Fin.ext (by show ((b.val * 2064 + R.val) * 1024 + n.val) % 64 = n.val % 64; omega)
    rw [e, query_normed]
    refine congrArg (fun z : EReal => z * x4 (ix2 0 (headPos n.val)) * queryScale)
      (congrArg (headNorm · (headPos n.val)) (funext fun k => ?_))
    rw [query_at, product_at x0 x1 x2 x3 x4 x5]
    rfl
  rw [if_neg h1]
  by_cases h2 : n.val < 2048
  · rw [if_pos h2]
    refine (concatenate_apply_piece (t := S4x2064x6144) 2 _ _ _ 1 (by simp) S4x2064x1024 _ rfl rfl 1024 rfl
      (ix3 b R (⟨n.val - 1024, by omega⟩ : Fin 1024)) (fun a ha => ?_) ?_).trans ?_
    · match a, ha with
      | ⟨0, _⟩, _ => rfl
      | ⟨1, _⟩, _ => rfl
      | ⟨2, _⟩, ha => exact absurd rfl ha
    · show 1024 + (n.val - 1024) = n.val
      omega
    rw [val_main_v57_apply]
    have e : idx_main_v57 (ix3 b R (⟨n.val - 1024, by omega⟩ : Fin 1024))
        = ix4 b R (⟨n.val / 64 - 16, by omega⟩ : Fin 16) (headPos n.val) := by
      funext a
      match a with
      | ⟨0, _⟩ => exact Fin.ext (by show ((b.val * 2064 + R.val) * 1024 + (n.val - 1024)) / 2113536 = b.val; omega)
      | ⟨1, _⟩ => exact Fin.ext (by show ((b.val * 2064 + R.val) * 1024 + (n.val - 1024)) / 1024 % 2064 = R.val; omega)
      | ⟨2, _⟩ => exact Fin.ext (by show ((b.val * 2064 + R.val) * 1024 + (n.val - 1024)) / 64 % 16 = n.val / 64 - 16; omega)
      | ⟨3, _⟩ => exact Fin.ext (by show ((b.val * 2064 + R.val) * 1024 + (n.val - 1024)) % 64 = n.val % 64; omega)
    rw [e, key_normed]
    refine congrArg (fun z : EReal => z * x5 (ix2 0 (headPos n.val))) (congrArg (headNorm · (headPos n.val)) (funext fun k => ?_))
    rw [key_at, product_at x0 x1 x2 x3 x4 x5]
    refine congrArg (column _) (funext fun d => congrArg ((inputs x0 x1 x2 x3 x4 x5).w d) (Fin.ext ?_))
    show 1024 + (64 * (n.val / 64 - 16) + k.val) = 64 * (n.val / 64) + k.val
    omega
  rw [if_neg h2]
  refine (concatenate_apply_piece (t := S4x2064x6144) 2 _ _ _ 2 (by simp) S4x2064x4096 _ rfl rfl 2048 rfl
    (ix3 b R (⟨n.val - 2048, by omega⟩ : Fin 4096)) (fun a ha => ?_) ?_).trans ?_
  · match a, ha with
    | ⟨0, _⟩, _ => rfl
    | ⟨1, _⟩, _ => rfl
    | ⟨2, _⟩, ha => exact absurd rfl ha
  · show 2048 + (n.val - 2048) = n.val
    omega
  rw [val_main_v58_apply]
  have e : idx_main_v58 (ix3 b R (⟨n.val - 2048, by omega⟩ : Fin 4096)) = ix3 b R n := by
    funext a
    match a with
    | ⟨0, _⟩ => rfl
    | ⟨1, _⟩ => rfl
    | ⟨2, _⟩ => exact Fin.ext (by show 2048 + (n.val - 2048) = n.val; omega)
  rw [e, product_at x0 x1 x2 x3 x4 x5]

/-- The first result: slabs of queries, keys and values. -/
theorem slabs_at (i : S24x8192x128.Idx) : val_main_v67 (F := Ideal) x0 x1 x2 x3 x4 x5 i
    = slabOut (inputs x0 x1 x2 x3 x4 x5) (i 0) (i 1) (i 2) := by
  have h0 : (i 0).val < 24 := (i 0).isLt
  have h1 : (i 1).val < 8192 := (i 1).isLt
  have h2 : (i 2).val < 128 := (i 2).isLt
  rw [val_main_v67_apply, val_main_v62_apply, val_main_v61_apply, val_main_v60_apply]
  have e : idx_main_v60 (idx_main_v61 (idx_main_v62 i)) = ix3 (⟨(i 1).val / 2048, by omega⟩ : Fin 4)
      (⟨16 + (i 1).val % 2048, by omega⟩ : Fin 2064) (⟨128 * (i 0).val + (i 2).val, by omega⟩ : Fin 6144) := by
    funext a
    match a with
    | ⟨0, _⟩ => exact Fin.ext (by show (((i 1).val * 24 + (i 0).val) * 128 + (i 2).val) / 6291456 = (i 1).val / 2048; omega)
    | ⟨1, _⟩ => exact Fin.ext (by
        show 16 + (((i 1).val * 24 + (i 0).val) * 128 + (i 2).val) / 3072 % 2048 = 16 + (i 1).val % 2048; omega)
    | ⟨2, _⟩ => exact Fin.ext (by
        show (((i 1).val * 24 + (i 0).val) * 128 + (i 2).val) % 3072 = 128 * (i 0).val + (i 2).val; omega)
  rw [e]
  refine (projected_at x0 x1 x2 x3 x4 x5 _ _ _).trans (entry_congr _ rfl ?_ rfl)
  refine (if_neg (by show ¬16 + (i 1).val % 2048 < 16; omega)).trans ?_
  show 16 + (i 1).val % 2048 - 16 = (i 1).val % 2048
  omega

/-- The second result: the columns past the values. -/
theorem cols_at (i : S8192x3072.Idx) : val_main_v68 (F := Ideal) x0 x1 x2 x3 x4 x5 i
    = colOut (inputs x0 x1 x2 x3 x4 x5) (i 0) (i 1) := by
  have h0 : (i 0).val < 8192 := (i 0).isLt
  have h1 : (i 1).val < 3072 := (i 1).isLt
  rw [val_main_v68_apply, val_main_v64_apply, val_main_v63_apply]
  have e : idx_main_v63 (idx_main_v64 i) = ix3 (⟨(i 0).val / 2048, by omega⟩ : Fin 4)
      (⟨16 + (i 0).val % 2048, by omega⟩ : Fin 2064) (⟨3072 + (i 1).val, by omega⟩ : Fin 6144) := by
    funext a
    match a with
    | ⟨0, _⟩ => exact Fin.ext (by show ((i 0).val * 3072 + (i 1).val) / 6291456 = (i 0).val / 2048; omega)
    | ⟨1, _⟩ => exact Fin.ext (by show 16 + ((i 0).val * 3072 + (i 1).val) / 3072 % 2048 = 16 + (i 0).val % 2048; omega)
    | ⟨2, _⟩ => exact Fin.ext (by show 3072 + ((i 0).val * 3072 + (i 1).val) % 3072 = 3072 + (i 1).val; omega)
  rw [e]
  refine (projected_at x0 x1 x2 x3 x4 x5 _ _ _).trans (entry_congr _ rfl ?_ rfl)
  refine (if_neg (by show ¬16 + (i 0).val % 2048 < 16; omega)).trans ?_
  show 16 + (i 0).val % 2048 - 16 = (i 0).val % 2048
  omega

/-- The third result: the meta rows. -/
theorem meta_at (i : S64x6144.Idx) : val_main_v69 (F := Ideal) x0 x1 x2 x3 x4 x5 i
    = metaOut (inputs x0 x1 x2 x3 x4 x5) (i 0) (i 1) := by
  have h0 : (i 0).val < 64 := (i 0).isLt
  have h1 : (i 1).val < 6144 := (i 1).isLt
  rw [val_main_v69_apply, val_main_v66_apply, val_main_v65_apply]
  have e : idx_main_v65 (idx_main_v66 i) = ix3 (⟨(i 0).val / 16, by omega⟩ : Fin 4)
      (⟨(i 0).val % 16, by omega⟩ : Fin 2064) (⟨(i 1).val, h1⟩ : Fin 6144) := by
    funext a
    match a with
    | ⟨0, _⟩ => exact Fin.ext (by show ((i 0).val * 6144 + (i 1).val) / 98304 = (i 0).val / 16; omega)
    | ⟨1, _⟩ => exact Fin.ext (by show ((i 0).val * 6144 + (i 1).val) / 6144 % 16 = (i 0).val % 16; omega)
    | ⟨2, _⟩ => exact Fin.ext (by show ((i 0).val * 6144 + (i 1).val) % 6144 = (i 1).val; omega)
  rw [e]
  refine (projected_at x0 x1 x2 x3 x4 x5 _ _ _).trans (entry_congr _ rfl ?_ rfl)
  exact if_pos (by show (i 0).val % 16 < 16; omega)

end Cert.Proj.Ref
-- ==== Proof.ProjEquation.lean ====
/- The equation of the two programs of the input projection: from one set of arguments, the kernel's three arrays are the
   reference's three results over the extended reals. -/
module

public import proofs.«01_k».proof.Proof.ProjArrays
public import proofs.«01_k».proof.Proof.ProjRefOut

@[expose] public section

noncomputable section

namespace Cert.Proj

open Idealize.ShloMosaic Idealize.ShloMosaic.TcCoe
open Cert.Kernel2Ideal Cert.Kernel2Ideal.Gen

variable (m : (ℓ : Loc nD τ sig) → Buf (Elt Ideal) ℓ)

/-- The slabs of queries, keys and values. -/
theorem slabs_eq (c : Dev nD) : slabArr m c = Cert.Reference2Ideal.Read.val_main_v67 (F := Ideal) (xArg m c) (extraArg m c)
    (normArg m c) (weightArg m c) (qgArg m c) (kgArg m c) :=
  funext fun i => (Ref.slabs_at (xArg m c) (extraArg m c) (normArg m c) (weightArg m c) (qgArg m c) (kgArg m c) i).symm

/-- The columns past the values. -/
theorem cols_eq (c : Dev nD) : colArr m c = Cert.Reference2Ideal.Read.val_main_v68 (F := Ideal) (xArg m c) (extraArg m c)
    (normArg m c) (weightArg m c) (qgArg m c) (kgArg m c) :=
  funext fun i => (Ref.cols_at (xArg m c) (extraArg m c) (normArg m c) (weightArg m c) (qgArg m c) (kgArg m c) i).symm

/-- The meta rows. -/
theorem meta_eq (c : Dev nD) : metaArr m c = Cert.Reference2Ideal.Read.val_main_v69 (F := Ideal) (xArg m c) (extraArg m c)
    (normArg m c) (weightArg m c) (qgArg m c) (kgArg m c) :=
  funext fun i => (Ref.meta_at (xArg m c) (extraArg m c) (normArg m c) (weightArg m c) (qgArg m c) (kgArg m c) i).symm

/-- What the kernel's run leaves, with the arrays read. -/
theorem run_values (ρ : Dev nD → PrngReg) :
    θ_run (defs (F := Ideal)) (onTc (τ := τ) (main (F := Ideal))) ⟨m, fun _ => 0, ρ⟩ fun r => ∀ c : Dev nD,
      r.2.mem ((c : Thread nD τ).loc main_v19_0) = slabArr m c
      ∧ r.2.mem ((c : Thread nD τ).loc main_v19_1) = colArr m c
      ∧ r.2.mem ((c : Thread nD τ).loc main_v19_2) = metaArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => by
    obtain ⟨⟨h0, h1, h2⟩, ha⟩ := h.1 c
    exact ⟨h0.trans (slabs_final m c), h1.trans (cols_final m c), h2.trans (meta_final m c), ha⟩)
    (run_outputs (F := Ideal) m ρ)

end Cert.Proj
-- ==== Proof.MixWordRuns.lean ====
/- One run of the third call's body over machine words: it leaves its inputs as they were. -/
module

public import proofs.«01_k».proof.Proof.Gen.Kernel3.Launch
public import proofs.«01_k».proof.Proof.Gen.Kernel3.Skeleton
public import proofs.«01_k».proof.Proof.Gen.Kernel3.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow
public import Idealize.ShloMosaic.Lib.Pipeline.Value

@[expose] public section

set_option maxRecDepth 16384

noncomputable section

namespace Cert.MixWords

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.View (ld)
open Cert.Kernel3 Cert.Kernel3.Gen

variable {F : FTy → Type} [BitOps F]

local notation "𝕄" => MT nD τ sig Unit (Elt F) ℕ (UR sig nD τ) ℕ

section
variable (c : Dev nD) (i : grid0.Coords)
  (arg1 : Memref sig .tc .vmem S8x256x128 .bf16) (harg1 : arg1.IsWhole) (arg2 : Memref sig .tc .vmem S256x1024 .bf16) (harg2 : arg2.IsWhole)
  (arg3 : Memref sig .tc .vmem S256x1024 .bf16) (harg3 : arg3.IsWhole) (arg4 : Memref sig .tc .vmem S256x1024 .bf16) (harg4 : arg4.IsWhole)
  (arg5 : Memref sig .tc .vmem S16x1024 .bf16) (harg5 : arg5.IsWhole) (arg6 : Memref sig .tc .vmem S16x1024 .bf16) (harg6 : arg6.IsWhole)
  (arg7 : Memref sig .tc .vmem S16x1024 .bf16) (harg7 : arg7.IsWhole) (arg8 : Memref sig .tc .vmem S16x1024 .bf16) (harg8 : arg8.IsWhole)
  (arg9 : Memref sig .tc .vmem S16x1024 .bf16) (harg9 : arg9.IsWhole) (arg10 : Memref sig .tc .vmem S16x1024 .bf16) (harg10 : arg10.IsWhole)
  (arg11 : Memref sig .tc .vmem S256x2048 .f32) (harg11 : arg11.IsWhole) (arg12 : Memref sig .tc .vmem S3x1024 .f32) (harg12 : arg12.IsWhole)
  (arg13 : Memref sig .tc .vmem S1x1024 .f32) (harg13 : arg13.IsWhole) (arg14 : Memref sig .tc .vmem S1x1024 .f32) (harg14 : arg14.IsWhole)
  (arg15 : Memref sig .tc .vmem S2048x2048 .f32) (harg15 : arg15.IsWhole) (arg16 : Memref sig .tc .vmem S1x2048 .f32) (harg16 : arg16.IsWhole)
  (arg17 : Memref sig .tc .vmem S2048x128 .bf16) (harg17 : arg17.IsWhole) (arg18 : Memref sig .tc .vmem S1x128 .f32) (harg18 : arg18.IsWhole)
  (arg19 : Memref sig .tc .vmem S256x2048 .f32) (harg19 : arg19.IsWhole) (arg20 : Memref sig .tc .vmem S2048x128 .i32) (harg20 : arg20.IsWhole)
  (arg21 : Memref sig .tc .vmem S256x128 .i32) (harg21 : arg21.IsWhole) (arg22 : Memref sig .tc .vmem S256x128 .f32) (harg22 : arg22.IsWhole)
  (x0 : Vec F S8x256x128 .bf16) (x1 : Vec F S256x1024 .bf16) (x2 : Vec F S256x1024 .bf16) (x3 : Vec F S256x1024 .bf16) (x4 : Vec F S16x1024 .bf16) (x5 : Vec F S16x1024 .bf16) (x6 : Vec F S16x1024 .bf16) (x7 : Vec F S16x1024 .bf16) (x8 : Vec F S16x1024 .bf16) (x9 : Vec F S16x1024 .bf16) (x10 : Vec F S256x2048 .f32) (x11 : Vec F S3x1024 .f32) (x12 : Vec F S1x1024 .f32) (x13 : Vec F S1x1024 .f32) (x14 : Vec F S2048x2048 .f32) (x15 : Vec F S1x2048 .f32) (x16 : Vec F S2048x128 .bf16) (x17 : Vec F S1x128 .f32)

set_option maxHeartbeats 6400000 in
/-- A point leaves its inputs as they were, and anything in its outputs. -/
theorem body_run (E : Set ℕ) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ owns (c : Thread nD τ) arg9 fullShare x8
        ∗ owns (c : Thread nD τ) arg10 fullShare x9
        ∗ owns (c : Thread nD τ) arg11 fullShare x10
        ∗ owns (c : Thread nD τ) arg12 fullShare x11
        ∗ owns (c : Thread nD τ) arg13 fullShare x12
        ∗ owns (c : Thread nD τ) arg14 fullShare x13
        ∗ owns (c : Thread nD τ) arg15 fullShare x14
        ∗ owns (c : Thread nD τ) arg16 fullShare x15
        ∗ owns (c : Thread nD τ) arg17 fullShare x16
        ∗ owns (c : Thread nD τ) arg18 fullShare x17
        ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d)
        ∗ (iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ owns (c : Thread nD τ) arg9 fullShare x8
        ∗ owns (c : Thread nD τ) arg10 fullShare x9
        ∗ owns (c : Thread nD τ) arg11 fullShare x10
        ∗ owns (c : Thread nD τ) arg12 fullShare x11
        ∗ owns (c : Thread nD τ) arg13 fullShare x12
        ∗ owns (c : Thread nD τ) arg14 fullShare x13
        ∗ owns (c : Thread nD τ) arg15 fullShare x14
        ∗ owns (c : Thread nD τ) arg16 fullShare x15
        ∗ owns (c : Thread nD τ) arg17 fullShare x16
        ∗ owns (c : Thread nD τ) arg18 fullShare x17
        ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d)) -∗ K ⟨⟩))
      ⊢ wp frame (wpE (defs₀ (F := F)) Variants.none c none) E
          (cc0_mix_outproj_router i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  simp only [cc0_mix_outproj_router_eq_skeleton]; unfold cc0_mix_outproj_router_skel
  simp only [k0_part1_eq_skeleton, k0_part2_eq_skeleton, k0_part3_eq_skeleton, k0_part4_eq_skeleton, k0_part5_eq_skeleton, k0_part6_eq_skeleton]
  unfold owns
  iintro ⟨⟨%f0, %h0, H0⟩, ⟨%f1, %h1, H1⟩, ⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%f11, %h11, H11⟩, ⟨%f12, %h12, H12⟩, ⟨%f13, %h13, H13⟩, ⟨%f14, %h14, H14⟩, ⟨%f15, %h15, H15⟩, ⟨%f16, %h16, H16⟩, ⟨%f17, %h17, H17⟩, ⟨%d18, %f18, -, H18⟩, ⟨%d19, %f19, -, H19⟩, ⟨%d20, %f20, -, H20⟩, ⟨%d21, %f21, -, H21⟩, Hk⟩
  obtain rfl := harg1.eq_unread h0
  obtain rfl := harg2.eq_unread h1
  obtain rfl := harg3.eq_unread h2
  obtain rfl := harg4.eq_unread h3
  obtain rfl := harg5.eq_unread h4
  obtain rfl := harg6.eq_unread h5
  obtain rfl := harg7.eq_unread h6
  obtain rfl := harg8.eq_unread h7
  obtain rfl := harg9.eq_unread h8
  obtain rfl := harg10.eq_unread h9
  obtain rfl := harg11.eq_unread h10
  obtain rfl := harg12.eq_unread h11
  obtain rfl := harg13.eq_unread h12
  obtain rfl := harg14.eq_unread h13
  obtain rfl := harg15.eq_unread h14
  obtain rfl := harg16.eq_unread h15
  obtain rfl := harg17.eq_unread h16
  obtain rfl := harg18.eq_unread h17
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  isplitl [H10]
  · iexists _; isplitr; · ipureintro; exact harg11.read_unread _
    iexact H10
  isplitl [H11]
  · iexists _; isplitr; · ipureintro; exact harg12.read_unread _
    iexact H11
  isplitl [H12]
  · iexists _; isplitr; · ipureintro; exact harg13.read_unread _
    iexact H12
  isplitl [H13]
  · iexists _; isplitr; · ipureintro; exact harg14.read_unread _
    iexact H13
  isplitl [H14]
  · iexists _; isplitr; · ipureintro; exact harg15.read_unread _
    iexact H14
  isplitl [H15]
  · iexists _; isplitr; · ipureintro; exact harg16.read_unread _
    iexact H15
  isplitl [H16]
  · iexists _; isplitr; · ipureintro; exact harg17.read_unread _
    iexact H16
  isplitl [H17]
  · iexists _; isplitr; · ipureintro; exact harg18.read_unread _
    iexact H17
  isplitl [H18]
  · iexists _, _; isplitr; swap; · iexact H18
    ipureintro; rfl
  isplitl [H19]
  · iexists _, _; isplitr; swap; · iexact H19
    ipureintro; rfl
  isplitl [H20]
  · iexists _, _; isplitr; swap; · iexact H20
    ipureintro; rfl
  iexists _, _; isplitr; swap; · iexact H21
  ipureintro; rfl

end

end Cert.MixWords

end
-- ==== Proof.MixRuns.lean ====
/- One run of the third call's body: what it stores into its first output, from what it finds. -/
module

public import proofs.«01_k».proof.Proof.Gen.Kernel3Ideal.Launch
public import proofs.«01_k».proof.Proof.Gen.Kernel3Ideal.Skeleton
public import proofs.«01_k».proof.Proof.Gen.Kernel3Ideal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow
public import Idealize.ShloMosaic.Lib.Pipeline.Value

@[expose] public section

set_option maxRecDepth 16384

noncomputable section

namespace Cert.Mix

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.View (ld)
open Cert.Kernel3Ideal Cert.Kernel3Ideal.Gen

variable {F : FTy → Type} [FloatOps F]

local notation "𝕄" => MT nD τ sig Unit (Elt F) ℕ (UR sig nD τ) ℕ

/-- A buffer read at a rectangle is the rectangle of what it holds. -/
theorem read_part {κ : Kind} {sp : Space} {s : Shape} {e : EltTy} {m : Memref sig κ sp s e} (h : m.IsWhole) (x : Vec F s e)
    (r : Rect s) : m.view.readAt (Elt F) r.toLoadRect (h.unread x) = ld x r :=
  congrArg (fun z => ld z r) (h.read_unread x)

/-- A buffer read whole is what it holds. -/
theorem read_all {κ : Kind} {sp : Space} {s : Shape} {e : EltTy} {m : Memref sig κ sp s e} (h : m.IsWhole) (x : Vec F s e)
    {off : Fin s.rank → ℕ} (inb : ∀ a, off a + s.size a ≤ s.size a) :
    m.view.readAt (Elt F) (Rect.unit off s.size inb).toLoadRect (h.unread x) = x :=
  (View.readAt_full _ _ inb).trans (h.read_unread _)

/-- The rectangle at the origin of a block's own size is the block. -/
theorem ld_whole {s : Shape} {e : EltTy} (x : Vec F s e) (off : Fin s.rank → ℕ) (h : ∀ a, off a = 0)
    (inb : ∀ a, off a + s.size a ≤ s.size a) : ld x (Rect.unit off s.size inb) = x :=
  funext fun y => congrArg x (funext fun a => Fin.ext (by show off a + 1 * (y a).val = (y a).val; rw [h]; omega))

/-- The last row of a block of sixteen. -/
abbrev lastRow (x : Vec F S16x1024 .bf16) : Vec F S1x1024 .bf16 :=
  ld x (Rect.unit (s := S16x1024) ![15, 0] S1x1024.size inb_S16x1024_S1x1024_15_0)

/-- The first row of a block of sixteen. -/
abbrev firstRow (x : Vec F S16x1024 .bf16) : Vec F S1x1024 .bf16 :=
  ld x (Rect.unit (s := S16x1024) ![0, 0] S1x1024.size inb_S16x1024_S1x1024_0_0)

/-- Whether a point is its sequence's last. -/
def lastTile (i : grid0.Coords) : BitVec 1 :=
  let v1 : BitVec 32 := Scalar.select (Scalar.cmpi .eq 8#32 0#32) 1#32 8#32
  let v2 : BitVec 32 := Scalar.remsi (BitVec.ofNat 32 (i 0).val) v1
  Scalar.cmpi .eq (Scalar.select (Scalar.andi (Scalar.xori (Scalar.cmpi .slt v2 0#32) (Scalar.cmpi .slt v1 0#32)) (Scalar.cmpi .ne v2 0#32))
    (Scalar.addi v2 v1) v2) 7#32

/-- The gated short convolution of a block of 256 rows. -/
def convBlock (i : grid0.Coords) (x1 x2 x3 : Vec F S256x1024 .bf16) (x4 x5 x6 x7 x8 x9 : Vec F S16x1024 .bf16)
    (x11 : Vec F S3x1024 .f32) : FVec F S256x1024 .f32 :=
  k0_pay7 (k0_pay3 x2 x3) (k0_pay4 (firstRow x6) (firstRow x7)) (k0_pay5 i (lastRow x8) (lastRow x9) (lastRow x4) (lastRow x5))
    (lastTile i) k0_pay6 (ld x11 (Rect.unit (s := S3x1024) ![0, 0] S1x1024.size inb_S3x1024_S1x1024_0_0))
    (ld x11 (Rect.unit (s := S3x1024) ![1, 0] S1x1024.size inb_S3x1024_S1x1024_1_0))
    (ld x11 (Rect.unit (s := S3x1024) ![2, 0] S1x1024.size inb_S3x1024_S1x1024_2_0)) x1

/-- The two normalised halves of a block, side by side. -/
def mixedBlock (Y : FVec F S256x1024 .f32) (x0 : Vec F S8x256x128 .bf16) (x12 x13 : Vec F S1x1024 .f32) : FVec F S256x2048 .bf16 :=
  k0_pay12 Y
    (k0_pay8 (ld x0 (Rect.unit (s := S8x256x128) ![0, 0, 0] S1x256x128.size inb_S8x256x128_S1x256x128_0_0_0)))
    (k0_pay9 (ld x0 (Rect.unit (s := S8x256x128) ![1, 0, 0] S1x256x128.size inb_S8x256x128_S1x256x128_1_0_0)))
    (k0_pay10 (ld x0 (Rect.unit (s := S8x256x128) ![2, 0, 0] S1x256x128.size inb_S8x256x128_S1x256x128_2_0_0)))
    (k0_pay11 (ld x0 (Rect.unit (s := S8x256x128) ![3, 0, 0] S1x256x128.size inb_S8x256x128_S1x256x128_3_0_0)))
    (ld x0 (Rect.unit (s := S8x256x128) ![4, 0, 0] S1x256x128.size inb_S8x256x128_S1x256x128_4_0_0))
    (ld x0 (Rect.unit (s := S8x256x128) ![5, 0, 0] S1x256x128.size inb_S8x256x128_S1x256x128_5_0_0))
    (ld x0 (Rect.unit (s := S8x256x128) ![6, 0, 0] S1x256x128.size inb_S8x256x128_S1x256x128_6_0_0))
    (ld x0 (Rect.unit (s := S8x256x128) ![7, 0, 0] S1x256x128.size inb_S8x256x128_S1x256x128_7_0_0))
    x12 x13

/-- A block of the first output: the mixed rows times the weights, on top of the residual. -/
def hmidBlock (i : grid0.Coords) (x0 : Vec F S8x256x128 .bf16) (x1 x2 x3 : Vec F S256x1024 .bf16)
    (x4 x5 x6 x7 x8 x9 : Vec F S16x1024 .bf16) (x10 : Vec F S256x2048 .f32) (x11 : Vec F S3x1024 .f32) (x12 x13 : Vec F S1x1024 .f32)
    (x14 : Vec F S2048x2048 .f32) : FVec F S256x2048 .f32 :=
  k0_pay13 (mixedBlock (convBlock i x1 x2 x3 x4 x5 x6 x7 x8 x9 x11) x0 x12 x13) x10 x14

section
variable (c : Dev nD) (i : grid0.Coords)
  (arg1 : Memref sig .tc .vmem S8x256x128 .bf16) (harg1 : arg1.IsWhole) (arg2 : Memref sig .tc .vmem S256x1024 .bf16) (harg2 : arg2.IsWhole)
  (arg3 : Memref sig .tc .vmem S256x1024 .bf16) (harg3 : arg3.IsWhole) (arg4 : Memref sig .tc .vmem S256x1024 .bf16) (harg4 : arg4.IsWhole)
  (arg5 : Memref sig .tc .vmem S16x1024 .bf16) (harg5 : arg5.IsWhole) (arg6 : Memref sig .tc .vmem S16x1024 .bf16) (harg6 : arg6.IsWhole)
  (arg7 : Memref sig .tc .vmem S16x1024 .bf16) (harg7 : arg7.IsWhole) (arg8 : Memref sig .tc .vmem S16x1024 .bf16) (harg8 : arg8.IsWhole)
  (arg9 : Memref sig .tc .vmem S16x1024 .bf16) (harg9 : arg9.IsWhole) (arg10 : Memref sig .tc .vmem S16x1024 .bf16) (harg10 : arg10.IsWhole)
  (arg11 : Memref sig .tc .vmem S256x2048 .f32) (harg11 : arg11.IsWhole) (arg12 : Memref sig .tc .vmem S3x1024 .f32) (harg12 : arg12.IsWhole)
  (arg13 : Memref sig .tc .vmem S1x1024 .f32) (harg13 : arg13.IsWhole) (arg14 : Memref sig .tc .vmem S1x1024 .f32) (harg14 : arg14.IsWhole)
  (arg15 : Memref sig .tc .vmem S2048x2048 .f32) (harg15 : arg15.IsWhole) (arg16 : Memref sig .tc .vmem S1x2048 .f32) (harg16 : arg16.IsWhole)
  (arg17 : Memref sig .tc .vmem S2048x128 .bf16) (harg17 : arg17.IsWhole) (arg18 : Memref sig .tc .vmem S1x128 .f32) (harg18 : arg18.IsWhole)
  (arg19 : Memref sig .tc .vmem S256x2048 .f32) (harg19 : arg19.IsWhole) (arg20 : Memref sig .tc .vmem S2048x2x128 .bf16) (harg20 : arg20.IsWhole)
  (arg21 : Memref sig .tc .vmem S256x128 .i32) (harg21 : arg21.IsWhole) (arg22 : Memref sig .tc .vmem S256x128 .f32) (harg22 : arg22.IsWhole)
  (x0 : Vec F S8x256x128 .bf16) (x1 : Vec F S256x1024 .bf16) (x2 : Vec F S256x1024 .bf16) (x3 : Vec F S256x1024 .bf16) (x4 : Vec F S16x1024 .bf16) (x5 : Vec F S16x1024 .bf16) (x6 : Vec F S16x1024 .bf16) (x7 : Vec F S16x1024 .bf16) (x8 : Vec F S16x1024 .bf16) (x9 : Vec F S16x1024 .bf16) (x10 : Vec F S256x2048 .f32) (x11 : Vec F S3x1024 .f32) (x12 : Vec F S1x1024 .f32) (x13 : Vec F S1x1024 .f32) (x14 : Vec F S2048x2048 .f32) (x15 : Vec F S1x2048 .f32) (x16 : Vec F S2048x128 .bf16) (x17 : Vec F S1x128 .f32)

set_option maxHeartbeats 6400000 in
/-- A point stores the block of its first output, and anything into the others. -/
theorem body_run (E : Set ℕ) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ owns (c : Thread nD τ) arg9 fullShare x8
        ∗ owns (c : Thread nD τ) arg10 fullShare x9
        ∗ owns (c : Thread nD τ) arg11 fullShare x10
        ∗ owns (c : Thread nD τ) arg12 fullShare x11
        ∗ owns (c : Thread nD τ) arg13 fullShare x12
        ∗ owns (c : Thread nD τ) arg14 fullShare x13
        ∗ owns (c : Thread nD τ) arg15 fullShare x14
        ∗ owns (c : Thread nD τ) arg16 fullShare x15
        ∗ owns (c : Thread nD τ) arg17 fullShare x16
        ∗ owns (c : Thread nD τ) arg18 fullShare x17
        ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d)
        ∗ (iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ owns (c : Thread nD τ) arg9 fullShare x8
        ∗ owns (c : Thread nD τ) arg10 fullShare x9
        ∗ owns (c : Thread nD τ) arg11 fullShare x10
        ∗ owns (c : Thread nD τ) arg12 fullShare x11
        ∗ owns (c : Thread nD τ) arg13 fullShare x12
        ∗ owns (c : Thread nD τ) arg14 fullShare x13
        ∗ owns (c : Thread nD τ) arg15 fullShare x14
        ∗ owns (c : Thread nD τ) arg16 fullShare x15
        ∗ owns (c : Thread nD τ) arg17 fullShare x16
        ∗ owns (c : Thread nD τ) arg18 fullShare x17
        ∗ owns (c : Thread nD τ) arg19 fullShare (hmidBlock i x0 x1 x2 x3 x4 x5 x6 x7 x8 x9 x10 x11 x12 x13 x14) ∗ (∃ d, owns (c : Thread nD τ) arg20 fullShare d) ∗ (∃ d, owns (c : Thread nD τ) arg21 fullShare d) ∗ (∃ d, owns (c : Thread nD τ) arg22 fullShare d)) -∗ K ⟨⟩))
      ⊢ wp frame (wpE (defs₀ (F := F)) Variants.none c none) E
          (cc0_mix_outproj_router i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  simp only [cc0_mix_outproj_router_eq_skeleton]; unfold cc0_mix_outproj_router_skel
  simp only [k0_part1_eq_skeleton, k0_part2_eq_skeleton, k0_part3_eq_skeleton, k0_part4_eq_skeleton, k0_part5_eq_skeleton, k0_part6_eq_skeleton]
  unfold owns
  iintro ⟨⟨%f0, %h0, H0⟩, ⟨%f1, %h1, H1⟩, ⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%f11, %h11, H11⟩, ⟨%f12, %h12, H12⟩, ⟨%f13, %h13, H13⟩, ⟨%f14, %h14, H14⟩, ⟨%f15, %h15, H15⟩, ⟨%f16, %h16, H16⟩, ⟨%f17, %h17, H17⟩, ⟨%d18, %f18, -, H18⟩, ⟨%d19, %f19, -, H19⟩, ⟨%d20, %f20, -, H20⟩, ⟨%d21, %f21, -, H21⟩, Hk⟩
  obtain rfl := harg1.eq_unread h0
  obtain rfl := harg2.eq_unread h1
  obtain rfl := harg3.eq_unread h2
  obtain rfl := harg4.eq_unread h3
  obtain rfl := harg5.eq_unread h4
  obtain rfl := harg6.eq_unread h5
  obtain rfl := harg7.eq_unread h6
  obtain rfl := harg8.eq_unread h7
  obtain rfl := harg9.eq_unread h8
  obtain rfl := harg10.eq_unread h9
  obtain rfl := harg11.eq_unread h10
  obtain rfl := harg12.eq_unread h11
  obtain rfl := harg13.eq_unread h12
  obtain rfl := harg14.eq_unread h13
  obtain rfl := harg15.eq_unread h14
  obtain rfl := harg16.eq_unread h15
  obtain rfl := harg17.eq_unread h16
  obtain rfl := harg18.eq_unread h17
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  isplitl [H10]
  · iexists _; isplitr; · ipureintro; exact harg11.read_unread _
    iexact H10
  isplitl [H11]
  · iexists _; isplitr; · ipureintro; exact harg12.read_unread _
    iexact H11
  isplitl [H12]
  · iexists _; isplitr; · ipureintro; exact harg13.read_unread _
    iexact H12
  isplitl [H13]
  · iexists _; isplitr; · ipureintro; exact harg14.read_unread _
    iexact H13
  isplitl [H14]
  · iexists _; isplitr; · ipureintro; exact harg15.read_unread _
    iexact H14
  isplitl [H15]
  · iexists _; isplitr; · ipureintro; exact harg16.read_unread _
    iexact H15
  isplitl [H16]
  · iexists _; isplitr; · ipureintro; exact harg17.read_unread _
    iexact H16
  isplitl [H17]
  · iexists _; isplitr; · ipureintro; exact harg18.read_unread _
    iexact H17
  isplitl [H18]
  · iexists _; isplitr; swap; · iexact H18
    ipureintro
    rw [View.read_writes_full, read_all harg11, read_all harg15]
    refine congrArg (fun z => k0_pay13 z x10 x14) ?_
    repeat first | unfold body_run.sl.r_8 | unfold body_run.sl.r_7 | unfold body_run.sl.r_6 | unfold body_run.sl.r_5 | unfold body_run.sl.r_4 | unfold body_run.sl.r_3 | unfold body_run.sl.r_2 | unfold body_run.sl.r_1 | unfold body_run.sl.r
    simp only [read_all]
    simp only [read_part]
    have w1 : ld x1 (Rect.unit (s := S256x1024) ![0, 0] ![256, 1024] inb_S256x1024_S256x1024_0_0) = x1 := ld_whole x1 _ (by decide) _
    have w2 : ld x2 (Rect.unit (s := S256x1024) ![0, 0] ![256, 1024] inb_S256x1024_S256x1024_0_0) = x2 := ld_whole x2 _ (by decide) _
    have w3 : ld x3 (Rect.unit (s := S256x1024) ![0, 0] ![256, 1024] inb_S256x1024_S256x1024_0_0) = x3 := ld_whole x3 _ (by decide) _
    have w12 : ld x12 (Rect.unit (s := S1x1024) ![0, 0] ![1, 1024] inb_S1x1024_S1x1024_0_0) = x12 := ld_whole x12 _ (by decide) _
    have w13 : ld x13 (Rect.unit (s := S1x1024) ![0, 0] ![1, 1024] inb_S1x1024_S1x1024_0_0) = x13 := ld_whole x13 _ (by decide) _
    rw [w1, w2, w3, w12, w13]
    rfl
  isplitl [H19]
  · iexists _, _; isplitr; swap; · iexact H19
    ipureintro; rfl
  isplitl [H20]
  · iexists _, _; isplitr; swap; · iexact H20
    ipureintro; rfl
  iexists _, _; isplitr; swap; · iexact H21
  ipureintro; rfl

end

end Cert.Mix

end
-- ==== Proof.MixFrame.lean ====
/- The third call's launch: what its buffers hold point by point, and the run from start to end. -/
module

public import proofs.«01_k».proof.Proof.MixRuns
public import proofs.«01_k».proof.Proof.Gen.Kernel3Ideal.Frame
public import Idealize.ShloMosaic.Lib.Claim

@[expose] public section

set_option maxRecDepth 16384

noncomputable section

namespace Cert.Mix

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose RDat cellOf)
open Cert.Kernel3Ideal Cert.Kernel3Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The outputs whose contents the proof does not follow: the normed rows, the expert ids and the expert weights. -/
def unfollowed : Fin cfg0.W → Bool := fun w => decide (19 ≤ w.val)

/-- The block of the first output at a point, from the inputs' blocks there. -/
def hmidAt (c : Dev nD) (t : Fin cfg0.N) : Vec F S256x2048 .f32 :=
  hmidBlock (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)

/-- The launch's proof data: the arrays as found, each input's block in place, the first output at its block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => hmidAt m c t
    | ⟨19, _⟩ => iblk m c 19 t
    | ⟨20, _⟩ => iblk m c 20 t
    | ⟨21, _⟩ => iblk m c 21 t
    | ⟨n + 22, h⟩ => absurd h (Nat.not_lt.2 (Nat.le_add_left 22 n))
  Φ _ := Pipeline.ΦA spec0 c
  q w := Pipeline.shareOf spec0 w
  owed _ := 0

/-- Each window's array is the one the launch finds. -/
theorem dats_A (c : Dev nD) (w : Fin cfg0.W) : (dats m 0 c).A w = V m c (Pipeline.arrRef spec0 w) := by dsimp only [dats]
/-- Input 0's buffer keeps its block, -/
theorem after_0 (c : Dev nD) (t : Fin cfg0.N) : (dats m 0 c).after 0 t = iblk m c 0 t := by dsimp only [dats]
/-- and holds it at every point. -/
theorem before_0 (c : Dev nD) (t : Fin cfg0.N) (d) : (dats m 0 c).before 0 t d = iblk m c 0 t :=
  before0_0_of m (dats m 0 c) (dats_A m c 0) (after_0 m c) t d
/-- Input 1's buffer keeps its block, -/
theorem after_1 (c : Dev nD) (t : Fin cfg0.N) : (dats m 0 c).after 1 t = iblk m c 1 t := by dsimp only [dats]
/-- and holds it at every point. -/
theorem before_1 (c : Dev nD) (t : Fin cfg0.N) (d) : (dats m 0 c).before 1 t d = iblk m c 1 t :=
  before0_1_of m (dats m 0 c) (dats_A m c 1) (after_1 m c) t d
/-- Input 2's buffer keeps its block, -/
theorem after_2 (c : Dev nD) (t : Fin cfg0.N) : (dats m 0 c).after 2 t = iblk m c 2 t := by dsimp only [dats]
/-- and holds it at every point. -/
theorem before_2 (c : Dev nD) (t : Fin cfg0.N) (d) : (dats m 0 c).before 2 t d = iblk m c 2 t :=
  before0_2_of m (dats m 0 c) (dats_A m c 2) (after_2 m c) t d
/-- Input 3's buffer keeps its block, -/
theorem after_3 (c : Dev nD) (t : Fin cfg0.N) : (dats m 0 c).after 3 t = iblk m c 3 t := by dsimp only [dats]
/-- and holds it at every point. -/
theorem before_3 (c : Dev nD) (t : Fin cfg0.N) (d) : (dats m 0 c).before 3 t d = iblk m c 3 t :=
  before0_3_of m (dats m 0 c) (dats_A m c 3) (after_3 m c) t d
/-- Input 4's buffer keeps its block, -/
theorem after_4 (c : Dev nD) (t : Fin cfg0.N) : (dats m 0 c).after 4 t = iblk m c 4 t := by dsimp only [dats]
/-- and holds it at every point. -/
theorem before_4 (c : Dev nD) (t : Fin cfg0.N) (d) : (dats m 0 c).before 4 t d = iblk m c 4 t :=
  before0_4_of m (dats m 0 c) (dats_A m c 4) (after_4 m c) t d
/-- Input 5's buffer keeps its block, -/
theorem after_5 (c : Dev nD) (t : Fin cfg0.N) : (dats m 0 c).after 5 t = iblk m c 5 t := by dsimp only [dats]
/-- and holds it at every point. -/
theorem before_5 (c : Dev nD) (t : Fin cfg0.N) (d) : (dats m 0 c).before 5 t d = iblk m c 5 t :=
  before0_5_of m (dats m 0 c) (dats_A m c 5) (after_5 m c) t d
/-- Input 6's buffer keeps its block, -/
theorem after_6 (c : Dev nD) (t : Fin cfg0.N) : (dats m 0 c).after 6 t = iblk m c 6 t := by dsimp only [dats]
/-- and holds it at every point. -/
theorem before_6 (c : Dev nD) (t : Fin cfg0.N) (d) : (dats m 0 c).before 6 t d = iblk m c 6 t :=
  before0_6_of m (dats m 0 c) (dats_A m c 6) (after_6 m c) t d
/-- Input 7's buffer keeps its block, -/
theorem after_7 (c : Dev nD) (t : Fin cfg0.N) : (dats m 0 c).after 7 t = iblk m c 7 t := by dsimp only [dats]
/-- and holds it at every point. -/
theorem before_7 (c : Dev nD) (t : Fin cfg0.N) (d) : (dats m 0 c).before 7 t d = iblk m c 7 t :=
  before0_7_of m (dats m 0 c) (dats_A m c 7) (after_7 m c) t d
/-- Input 8's buffer keeps its block, -/
theorem after_8 (c : Dev nD) (t : Fin cfg0.N) : (dats m 0 c).after 8 t = iblk m c 8 t := by dsimp only [dats]
/-- and holds it at every point. -/
theorem before_8 (c : Dev nD) (t : Fin cfg0.N) (d) : (dats m 0 c).before 8 t d = iblk m c 8 t :=
  before0_8_of m (dats m 0 c) (dats_A m c 8) (after_8 m c) t d
/-- Input 9's buffer keeps its block, -/
theorem after_9 (c : Dev nD) (t : Fin cfg0.N) : (dats m 0 c).after 9 t = iblk m c 9 t := by dsimp only [dats]
/-- and holds it at every point. -/
theorem before_9 (c : Dev nD) (t : Fin cfg0.N) (d) : (dats m 0 c).before 9 t d = iblk m c 9 t :=
  before0_9_of m (dats m 0 c) (dats_A m c 9) (after_9 m c) t d
/-- Input 10's buffer keeps its block, -/
theorem after_10 (c : Dev nD) (t : Fin cfg0.N) : (dats m 0 c).after 10 t = iblk m c 10 t := by dsimp only [dats]
/-- and holds it at every point. -/
theorem before_10 (c : Dev nD) (t : Fin cfg0.N) (d) : (dats m 0 c).before 10 t d = iblk m c 10 t :=
  before0_10_of m (dats m 0 c) (dats_A m c 10) (after_10 m c) t d
/-- Input 11's buffer keeps its block, -/
theorem after_11 (c : Dev nD) (t : Fin cfg0.N) : (dats m 0 c).after 11 t = iblk m c 11 t := by dsimp only [dats]
/-- and holds it at every point. -/
theorem before_11 (c : Dev nD) (t : Fin cfg0.N) (d) : (dats m 0 c).before 11 t d = iblk m c 11 t :=
  before0_11_of m (dats m 0 c) (dats_A m c 11) (after_11 m c) t d
/-- Input 12's buffer keeps its block, -/
theorem after_12 (c : Dev nD) (t : Fin cfg0.N) : (dats m 0 c).after 12 t = iblk m c 12 t := by dsimp only [dats]
/-- and holds it at every point. -/
theorem before_12 (c : Dev nD) (t : Fin cfg0.N) (d) : (dats m 0 c).before 12 t d = iblk m c 12 t :=
  before0_12_of m (dats m 0 c) (dats_A m c 12) (after_12 m c) t d
/-- Input 13's buffer keeps its block, -/
theorem after_13 (c : Dev nD) (t : Fin cfg0.N) : (dats m 0 c).after 13 t = iblk m c 13 t := by dsimp only [dats]
/-- and holds it at every point. -/
theorem before_13 (c : Dev nD) (t : Fin cfg0.N) (d) : (dats m 0 c).before 13 t d = iblk m c 13 t :=
  before0_13_of m (dats m 0 c) (dats_A m c 13) (after_13 m c) t d
/-- Input 14's buffer keeps its block, -/
theorem after_14 (c : Dev nD) (t : Fin cfg0.N) : (dats m 0 c).after 14 t = iblk m c 14 t := by dsimp only [dats]
/-- and holds it at every point. -/
theorem before_14 (c : Dev nD) (t : Fin cfg0.N) (d) : (dats m 0 c).before 14 t d = iblk m c 14 t :=
  before0_14_of m (dats m 0 c) (dats_A m c 14) (after_14 m c) t d
/-- Input 15's buffer keeps its block, -/
theorem after_15 (c : Dev nD) (t : Fin cfg0.N) : (dats m 0 c).after 15 t = iblk m c 15 t := by dsimp only [dats]
/-- and holds it at every point. -/
theorem before_15 (c : Dev nD) (t : Fin cfg0.N) (d) : (dats m 0 c).before 15 t d = iblk m c 15 t :=
  before0_15_of m (dats m 0 c) (dats_A m c 15) (after_15 m c) t d
/-- Input 16's buffer keeps its block, -/
theorem after_16 (c : Dev nD) (t : Fin cfg0.N) : (dats m 0 c).after 16 t = iblk m c 16 t := by dsimp only [dats]
/-- and holds it at every point. -/
theorem before_16 (c : Dev nD) (t : Fin cfg0.N) (d) : (dats m 0 c).before 16 t d = iblk m c 16 t :=
  before0_16_of m (dats m 0 c) (dats_A m c 16) (after_16 m c) t d
/-- Input 17's buffer keeps its block, -/
theorem after_17 (c : Dev nD) (t : Fin cfg0.N) : (dats m 0 c).after 17 t = iblk m c 17 t := by dsimp only [dats]
/-- and holds it at every point. -/
theorem before_17 (c : Dev nD) (t : Fin cfg0.N) (d) : (dats m 0 c).before 17 t d = iblk m c 17 t :=
  before0_17_of m (dats m 0 c) (dats_A m c 17) (after_17 m c) t d
/-- The first output's buffer after a point. -/
theorem after_18 (c : Dev nD) (t : Fin cfg0.N) : (dats m 0 c).after 18 t = hmidAt m c t := by dsimp only [dats]

/-- What the body starts from at a point, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ X, owns (c : Thread nD τ) (st0_19 t) fullShare X)
    ∗ (∃ X, owns (c : Thread nD τ) (st0_20 t) fullShare X)
    ∗ (∃ X, owns (c : Thread nD τ) (st0_21 t) fullShare X))

/-- and what it ends with. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ (∃ X, owns (c : Thread nD τ) (st0_19 t) fullShare X)
    ∗ (∃ X, owns (c : Thread nD τ) (st0_20 t) fullShare X)
    ∗ (∃ X, owns (c : Thread nD τ) (st0_21 t) fullShare X))

set_option maxHeartbeats 3200000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12, before_13, before_14, before_15, before_16, before_17]
  rw [show (dats m 0 c).owesAt () t.succ = (dats m 0 c).owesAt () t.castSucc from rfl,
    show (dats m 0 c).Φ t.succ = (dats m 0 c).Φ t.castSucc from rfl,
    after_0, after_1, after_2, after_3, after_4, after_5, after_6, after_7, after_8, after_9, after_10, after_11, after_12, after_13, after_14, after_15, after_16, after_17, after_18]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, H19, H20, H21⟩
  iapply (body_run c (grid0.coords t) _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexists _; iexact H18
  isplitl [H19]; · iexact H19
  isplitl [H20]; · iexact H20
  isplitl [H21]; · iexact H21
  iintro ⟨H0, H1, H2, H3, H4, H5, H6, H7, H8, H9, H10, H11, H12, H13, H14, H15, H16, H17, H18, H19, H20, H21⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  iexact H21

/-- The label the pipeline calls at a point is the body there. -/
theorem body_row (t : Fin cfg0.N) : defs₀ (F := F) .tc cfg0.body (cfg0.bodyArgs t (cfg0.slots t)) = bodyAt0 t := by
  unfold defs₀; rw [Defs.onTc_tc]

/-- The body keeps the proof data at every point. -/
theorem body_obligation (c : Dev nD) :
    BodyObligation (dats (F := F) m 0 c) (defs₀ (F := F)) Variants.none () Set.univ unfollowed := fun t => by
  rw [bigSep_W0, bigSep_W0, body_row]
  exact triple_restated (sound_body m c t) rfl .rfl fun _ => .rfl

set_option backward.isDefEq.respectTransparency.types false in
/-- Every run ends, with the arrays as the proof data states and every counter at zero. -/
theorem run_ends : θ_run defs (onTc (τ := τ) (main (F := F))) (s₀ m ρ)
    (fun r => RDat.FramePost cfg0 (fun c => (dats m 0 c).toRForget unfollowed) (V m) r ∧ r.2.sem = fun _ => 0) :=
  Pipeline.θ_run_frame_forget_shared (Q' := _) cfgs (dats m) (0 : Fin 1) launch₀0 defs₀ Variants.none unfollowed m ρ main
    (hbody := fun c => (body_obligation m c).loose) (hq := fun _ _ _ => rfl)
    (howed := fun _ _ => rfl) (V := V m) (hmain := hmain m Variants.none) (hA := dats_A m) (hΦ := fun _ _ => rfl)
    (hQ' := fun _ h => h)

/-- Every run ends with the first output at what the proof data writes back, the arguments unchanged and every counter at zero. -/
theorem run_outputs : θ_run defs (onTc (τ := τ) (main (F := F))) ⟨m, fun _ => 0, ρ⟩ (fun r => (∀ c : Dev nD,
      r.2.mem ((c.tc : Thread nD τ).loc main_v0_0) = (dats m 0 c).arrAt 18 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  (θ_run defs _ _).mono (fun _ h => ⟨fun c => ⟨
      (Dat.toRForget_arrAt_iff (dat := dats m 0 c) (fgt := unfollowed) (w := 18) rfl _ _).mp ((h.1 c).1 18),
      ((Dat.toRForget_arrAt_iff (dat := dats m 0 c) (fgt := unfollowed) (w := 0) rfl _ _).mp ((h.1 c).1 0)).trans
        (((dats m 0 c).arrAt_in 0 rfl _).trans (dats_A m c 0)),
      ((Dat.toRForget_arrAt_iff (dat := dats m 0 c) (fgt := unfollowed) (w := 7) rfl _ _).mp ((h.1 c).1 7)).trans
        (((dats m 0 c).arrAt_in 7 rfl _).trans (dats_A m c 7)),
      ((Dat.toRForget_arrAt_iff (dat := dats m 0 c) (fgt := unfollowed) (w := 9) rfl _ _).mp ((h.1 c).1 9)).trans
        (((dats m 0 c).arrAt_in 9 rfl _).trans (dats_A m c 9)),
      ((Dat.toRForget_arrAt_iff (dat := dats m 0 c) (fgt := unfollowed) (w := 10) rfl _ _).mp ((h.1 c).1 10)).trans
        (((dats m 0 c).arrAt_in 10 rfl _).trans (dats_A m c 10)),
      ((Dat.toRForget_arrAt_iff (dat := dats m 0 c) (fgt := unfollowed) (w := 11) rfl _ _).mp ((h.1 c).1 11)).trans
        (((dats m 0 c).arrAt_in 11 rfl _).trans (dats_A m c 11)),
      ((Dat.toRForget_arrAt_iff (dat := dats m 0 c) (fgt := unfollowed) (w := 12) rfl _ _).mp ((h.1 c).1 12)).trans
        (((dats m 0 c).arrAt_in 12 rfl _).trans (dats_A m c 12)),
      ((Dat.toRForget_arrAt_iff (dat := dats m 0 c) (fgt := unfollowed) (w := 13) rfl _ _).mp ((h.1 c).1 13)).trans
        (((dats m 0 c).arrAt_in 13 rfl _).trans (dats_A m c 13)),
      ((Dat.toRForget_arrAt_iff (dat := dats m 0 c) (fgt := unfollowed) (w := 14) rfl _ _).mp ((h.1 c).1 14)).trans
        (((dats m 0 c).arrAt_in 14 rfl _).trans (dats_A m c 14)),
      ((Dat.toRForget_arrAt_iff (dat := dats m 0 c) (fgt := unfollowed) (w := 15) rfl _ _).mp ((h.1 c).1 15)).trans
        (((dats m 0 c).arrAt_in 15 rfl _).trans (dats_A m c 15)),
      ((Dat.toRForget_arrAt_iff (dat := dats m 0 c) (fgt := unfollowed) (w := 16) rfl _ _).mp ((h.1 c).1 16)).trans
        (((dats m 0 c).arrAt_in 16 rfl _).trans (dats_A m c 16)),
      ((Dat.toRForget_arrAt_iff (dat := dats m 0 c) (fgt := unfollowed) (w := 17) rfl _ _).mp ((h.1 c).1 17)).trans
        (((dats m 0 c).arrAt_in 17 rfl _).trans (dats_A m c 17))⟩, h.2⟩) (run_ends m ρ)

/-- The frame: every run ends with the arguments unchanged and every counter at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  (θ_run defs _ _).mono (fun _ h => ⟨fun c => (h.1 c).2, h.2⟩) (run_outputs m ρ)

end Cert.Mix

end
-- ==== Proof.MixSpec.lean ====
/- The third call's first output as formulas over the extended reals: the gated short convolution, the norms of the two halves, the
   product and the residual. -/
module

public import proofs.«01_k».proof.Proof.ProjSpec

@[expose] public section

noncomputable section

namespace Cert.Mix

open Idealize.ShloMosaic

/-- The arguments of the call that its first output reads. -/
structure Inputs where
  attn : Fin 8 → Fin 8192 → Fin 128 → EReal
  conv : Fin 8192 → Fin 3072 → EReal
  extra : Fin 16 → Fin 6144 → EReal
  x : Fin 8192 → Fin 2048 → EReal
  taps : Fin 3 → Fin 1024 → EReal
  attnGain : Fin 1024 → EReal
  convGain : Fin 1024 → EReal
  w : Fin 2048 → Fin 2048 → EReal

/-- A number as a row of the four sequences of 2048 rows. -/
def rowOf (n : ℕ) : Fin 8192 := ⟨n % 8192, Nat.mod_lt _ (by decide)⟩

/-- A column of group `k` of the three groups of 1024 columns. -/
def colOf (k : ℕ) (hk : k < 3) (j : Fin 1024) : Fin 3072 := ⟨1024 * k + j.val, by have := j.isLt; omega⟩

/-- The product of a row's two gated columns. -/
def gated (I : Inputs) (n : ℕ) (j : Fin 1024) : EReal :=
  I.conv (rowOf n) (colOf 1 (by decide) j) * I.conv (rowOf n) (colOf 2 (by decide) j)

/-- The same product of the last meta row. -/
def gatedMeta (I : Inputs) (j : Fin 1024) : EReal :=
  I.extra 15 ⟨4096 + j.val, by have := j.isLt; omega⟩ * I.extra 15 ⟨5120 + j.val, by have := j.isLt; omega⟩

/-- What precedes a row: the row before it, or the last meta row at the start of a sequence. -/
def precedes (I : Inputs) (n : ℕ) (j : Fin 1024) : EReal := if n % 2048 = 0 then gatedMeta I j else gated I (n - 1) j

/-- What follows a row: the row after it, or zero at the end of a sequence. -/
def follows (I : Inputs) (n : ℕ) (j : Fin 1024) : EReal := if n % 2048 = 2047 then 0 else gated I (n + 1) j

/-- The gated short convolution over three rows. -/
def shortConv (I : Inputs) (n : ℕ) (j : Fin 1024) : EReal :=
  I.conv (rowOf n) (colOf 0 (by decide) j)
    * (precedes I n j * I.taps 0 j + gated I n j * I.taps 1 j + follows I n j * I.taps 2 j)

/-- A row of attention, its eight slabs of 128 columns side by side. -/
def attnRow (I : Inputs) (n : ℕ) (k : Fin 1024) : EReal :=
  I.attn ⟨k.val / 128, by have := k.isLt; omega⟩ (rowOf n) ⟨k.val % 128, Nat.mod_lt _ (by decide)⟩

/-- A row of 1024 scaled by the reciprocal root of its mean square, times the gains. -/
def halfNorm (h g : Fin 1024 → EReal) (d : Fin 1024) : EReal :=
  h d * Ideal.rsqrt (Ideal.div (∑ k, h k * h k) (Ideal.ofBits .f32 0x44800000#32) + Cert.Proj.eps) * g d

/-- The normed row of attention, then the normed row of the convolution. -/
def mixed (I : Inputs) (n : ℕ) (k : Fin 2048) : EReal :=
  if h : k.val < 1024 then halfNorm (attnRow I n) I.attnGain ⟨k.val, h⟩
  else halfNorm (shortConv I n) I.convGain ⟨k.val - 1024, by have := k.isLt; omega⟩

/-- The mixed row times the weights, on top of the residual. -/
def hidden (I : Inputs) (n : Fin 8192) (d : Fin 2048) : EReal := I.x n d + ∑ k, mixed I n.val k * I.w k d

end Cert.Mix
-- ==== Proof.MixBody.lean ====
/- The third call's block operations read entry by entry over the extended reals. -/
module

public import proofs.«01_k».proof.Proof.MixRuns
public import proofs.«01_k».proof.Proof.MixSpec
public import Idealize.ShloMosaic.Lib.KernelVsHost
public import Idealize.ShloMosaic.PureOps.Ideal.Laws

@[expose] public section

set_option maxRecDepth 16384

noncomputable section

namespace Cert.Mix

open Idealize.ShloMosaic Idealize.ShloMosaic.ValueIdx
open Cert.Kernel3Ideal Cert.Kernel3Ideal.Gen
open Idealize.ShloMosaic.View (ld)

/-- The norm of 256 rows of 1024, as the body writes it. -/
def normBlock (Y : FVec Ideal S256x1024 .f32) (g : Vec Ideal S1x1024 .f32) : FVec Ideal S256x1024 .f32 :=
  mulf (mulf Y (broadcastTo S256x1024 (rsqrt (addf (divf (shapeCast S256x1
    (multiReduction .add [1] S256 (mulf Y Y) 0x00000000#32 reduces_S256x1024_S256 (.inl rfl) rfl) shapeCasts_S256_S256x1)
    (broadcast S256x1 (Scalar.ofBits .f32 0x44800000#32))) (broadcast S256x1 (Scalar.ofBits .f32 0x358637BD#32))))
    broadcasts_S256x1_S256x1024)) (broadcastTo S256x1024 g broadcasts_S1x1024_S256x1024)

/-- Its entries. -/
theorem normBlock_apply (Y : FVec Ideal S256x1024 .f32) (g : Vec Ideal S1x1024 .f32) (r : Fin 256) (d : Fin 1024) :
    (normBlock Y g (ix2 r d) : EReal) = halfNorm (fun k => Y (ix2 r k)) (fun k => g (ix2 0 k)) d := by
  unfold normBlock halfNorm
  refine congrArg₂ (fun y z : EReal => y * z) (congrArg₂ (fun y z : EReal => y * z) rfl ?_) ?_
  · refine (broadcastTo_apply _ _ (ix2 r d) (ix2 r 0) (fun a => by match a with | ⟨0, _⟩ => rfl | ⟨1, _⟩ => rfl)).trans ?_
    refine congrArg Ideal.rsqrt (congrArg₂ (fun y z : EReal => y + z) (congrArg₂ Ideal.div ?_ rfl) rfl)
    refine (shapeCast_apply _ _ (ix2 r 0) (ix1 r) ?_).trans ?_
    · rw [Shape.rowMajor_val_one, Shape.rowMajor_val_two]; show r.val = r.val * 1 + 0; omega
    refine (Ideal.multiReduction_add_single _ _ _ _ _ _).trans (Finset.sum_congr rfl fun k _ => ?_)
    rw [show (reduces_S256x1024_S256.lift (ix1 r) k) = ix2 r k from by
      funext a; match a with | ⟨0, _⟩ => rfl | ⟨1, _⟩ => rfl]
    rfl
  · exact broadcastTo_apply _ _ (ix2 r d) (ix2 0 d) (fun a => by match a with | ⟨0, _⟩ => rfl | ⟨1, _⟩ => rfl)

/-- Slab `s` of a block of attention. -/
def slab (x0 : Vec Ideal S8x256x128 .bf16) (s : Fin 8) : FVec Ideal S256x128 .bf16 := fun i => x0 (ix3 s (i 0) (i 1))

/-- A slab cut out of the block and flattened is the slab. -/
theorem slab_of (x0 : Vec Ideal S8x256x128 .bf16) (s : Fin 8)
    (inb : ∀ a, (![s.val, 0, 0] : Fin 3 → ℕ) a + S1x256x128.size a ≤ S8x256x128.size a) :
    (shapeCast S256x128 (ld x0 (Rect.unit (s := S8x256x128) ![s.val, 0, 0] S1x256x128.size inb)) shapeCasts_S1x256x128_S256x128
      : FVec Ideal S256x128 .bf16) = slab x0 s := by
  funext i
  obtain ⟨r, d, rfl⟩ : ∃ (r : Fin 256) (d : Fin 128), i = ix2 r d := ⟨i 0, i 1, by
    funext a; match a with | ⟨0, _⟩ => rfl | ⟨1, _⟩ => rfl⟩
  refine (shapeCast_apply _ _ (ix2 r d) (ix3 (0 : Fin 1) r d) ?_).trans (congrArg x0 (funext fun a => Fin.ext ?_))
  · rw [Shape.rowMajor_val_two, Shape.rowMajor_val_three]
    show (0 * 256 + r.val) * 128 + d.val = r.val * 128 + d.val
    omega
  · match a with
    | ⟨0, _⟩ => show s.val + 1 * 0 = s.val; omega
    | ⟨1, _⟩ => show 0 + 1 * r.val = r.val; omega
    | ⟨2, _⟩ => show 0 + 1 * d.val = d.val; omega

/-- Eight pieces side by side. -/
def sideBySide (a0 a1 a2 a3 a4 a5 a6 a7 : FVec Ideal S256x128 .bf16) : FVec Ideal S256x1024 .bf16 :=
  concatenate S256x1024 1 [⟨S256x128, a0⟩, ⟨S256x128, a1⟩, ⟨S256x128, a2⟩, ⟨S256x128, a3⟩, ⟨S256x128, a4⟩, ⟨S256x128, a5⟩,
    ⟨S256x128, a6⟩, ⟨S256x128, a7⟩]
    concatenates_S256x128_S256x128_S256x128_S256x128_S256x128_S256x128_S256x128_S256x128_S256x1024_d1

/-- Equal pieces make equal rows. -/
theorem sideBySide_congr {a0 a1 a2 a3 a4 a5 a6 a7 b0 b1 b2 b3 b4 b5 b6 b7 : FVec Ideal S256x128 .bf16} (h0 : a0 = b0) (h1 : a1 = b1)
    (h2 : a2 = b2) (h3 : a3 = b3) (h4 : a4 = b4) (h5 : a5 = b5) (h6 : a6 = b6) (h7 : a7 = b7) :
    sideBySide a0 a1 a2 a3 a4 a5 a6 a7 = sideBySide b0 b1 b2 b3 b4 b5 b6 b7 := by
  subst h0 h1 h2 h3 h4 h5 h6 h7
  rfl

/-- The eight slabs side by side. -/
def slabRow (x0 : Vec Ideal S8x256x128 .bf16) : FVec Ideal S256x1024 .bf16 :=
  sideBySide (slab x0 0) (slab x0 1) (slab x0 2) (slab x0 3) (slab x0 4) (slab x0 5) (slab x0 6) (slab x0 7)

/-- Column `k` of them is column `k mod 128` of slab `k / 128`. -/
theorem slabRow_apply (x0 : Vec Ideal S8x256x128 .bf16) (r : Fin 256) (k : Fin 1024) : (slabRow x0 (ix2 r k) : EReal)
    = x0 (ix3 (⟨k.val / 128, by have := k.isLt; omega⟩ : Fin 8) r (⟨k.val % 128, Nat.mod_lt _ (by decide)⟩ : Fin 128)) := by
  have hk := k.isLt
  have piece : ∀ (s : Fin 8) (pre : ℕ), k.val / 128 = s.val → pre = 128 * s.val →
      pre + (ix2 r (⟨k.val % 128, Nat.mod_lt _ (by decide)⟩ : Fin 128) : S256x128.Idx) 1 = ((ix2 r k : S256x1024.Idx) 1).val :=
    fun s pre h hp => by show pre + k.val % 128 = k.val; omega
  have at_slab : ∀ s : Fin 8, k.val / 128 = s.val →
      (slab x0 s (ix2 r (⟨k.val % 128, Nat.mod_lt _ (by decide)⟩ : Fin 128)) : EReal)
        = x0 (ix3 (⟨k.val / 128, by omega⟩ : Fin 8) r (⟨k.val % 128, Nat.mod_lt _ (by decide)⟩ : Fin 128)) :=
    fun s h => congrArg (fun z : Fin 8 => (x0 (ix3 z r (⟨k.val % 128, Nat.mod_lt _ (by decide)⟩ : Fin 128)) : EReal)) (Fin.ext h.symm)
  have other : ∀ b : Fin S256x128.rank, b.cast (rfl : S256x128.rank = S256x1024.rank) ≠ 1 →
      ((ix2 r (⟨k.val % 128, Nat.mod_lt _ (by decide)⟩ : Fin 128) : S256x128.Idx) b).val
        = ((ix2 r k : S256x1024.Idx) (b.cast rfl)).val := fun b hb => by
    match b, hb with
    | ⟨0, _⟩, _ => rfl
    | ⟨1, _⟩, hb => exact absurd rfl hb
  unfold slabRow sideBySide
  rcases (by omega : k.val / 128 = 0 ∨ k.val / 128 = 1 ∨ k.val / 128 = 2 ∨ k.val / 128 = 3 ∨ k.val / 128 = 4 ∨ k.val / 128 = 5
    ∨ k.val / 128 = 6 ∨ k.val / 128 = 7) with h | h | h | h | h | h | h | h
  · exact (concatenate_apply_piece (t := S256x1024) 1 _ _ _ 0 (by simp) S256x128 _ rfl rfl 0 rfl _ other (piece 0 0 h rfl)).trans (at_slab 0 h)
  · exact (concatenate_apply_piece (t := S256x1024) 1 _ _ _ 1 (by simp) S256x128 _ rfl rfl 128 rfl _ other (piece 1 128 h rfl)).trans (at_slab 1 h)
  · exact (concatenate_apply_piece (t := S256x1024) 1 _ _ _ 2 (by simp) S256x128 _ rfl rfl 256 rfl _ other (piece 2 256 h rfl)).trans (at_slab 2 h)
  · exact (concatenate_apply_piece (t := S256x1024) 1 _ _ _ 3 (by simp) S256x128 _ rfl rfl 384 rfl _ other (piece 3 384 h rfl)).trans (at_slab 3 h)
  · exact (concatenate_apply_piece (t := S256x1024) 1 _ _ _ 4 (by simp) S256x128 _ rfl rfl 512 rfl _ other (piece 4 512 h rfl)).trans (at_slab 4 h)
  · exact (concatenate_apply_piece (t := S256x1024) 1 _ _ _ 5 (by simp) S256x128 _ rfl rfl 640 rfl _ other (piece 5 640 h rfl)).trans (at_slab 5 h)
  · exact (concatenate_apply_piece (t := S256x1024) 1 _ _ _ 6 (by simp) S256x128 _ rfl rfl 768 rfl _ other (piece 6 768 h rfl)).trans (at_slab 6 h)
  · exact (concatenate_apply_piece (t := S256x1024) 1 _ _ _ 7 (by simp) S256x128 _ rfl rfl 896 rfl _ other (piece 7 896 h rfl)).trans (at_slab 7 h)

/-- The mixed block is the two normed halves side by side. -/
theorem mixedBlock_eq (Y : FVec Ideal S256x1024 .f32) (x0 : Vec Ideal S8x256x128 .bf16) (g0 g1 : Vec Ideal S1x1024 .f32) :
    mixedBlock Y x0 g0 g1 = truncf .bf16 (concatenate S256x2048 1 [⟨S256x1024, normBlock (extf .f32 (slabRow x0) bitsLt_bf16_f32) g0⟩,
      ⟨S256x1024, normBlock Y g1⟩] concatenates_S256x1024_S256x1024_S256x2048_d1) bitsLt_bf16_f32 := by
  exact congrArg (fun R : FVec Ideal S256x1024 .bf16 => truncf (F := Ideal) .bf16 (concatenate S256x2048 1
      [⟨S256x1024, normBlock (extf .f32 R bitsLt_bf16_f32) g0⟩, ⟨S256x1024, normBlock Y g1⟩]
      concatenates_S256x1024_S256x1024_S256x2048_d1) bitsLt_bf16_f32)
    (sideBySide_congr (slab_of x0 0 inb_S8x256x128_S1x256x128_0_0_0) (slab_of x0 1 inb_S8x256x128_S1x256x128_1_0_0)
      (slab_of x0 2 inb_S8x256x128_S1x256x128_2_0_0) (slab_of x0 3 inb_S8x256x128_S1x256x128_3_0_0)
      (slab_of x0 4 inb_S8x256x128_S1x256x128_4_0_0) (slab_of x0 5 inb_S8x256x128_S1x256x128_5_0_0)
      (slab_of x0 6 inb_S8x256x128_S1x256x128_6_0_0) (slab_of x0 7 inb_S8x256x128_S1x256x128_7_0_0))

/-- One entry of the mixed block. -/
theorem mixedBlock_apply (Y : FVec Ideal S256x1024 .f32) (x0 : Vec Ideal S8x256x128 .bf16) (g0 g1 : Vec Ideal S1x1024 .f32)
    (r : Fin 256) (k : Fin 2048) : (mixedBlock Y x0 g0 g1 (ix2 r k) : EReal)
      = if h : k.val < 1024 then halfNorm (fun j => x0 (ix3 (⟨j.val / 128, by have := j.isLt; omega⟩ : Fin 8) r
          (⟨j.val % 128, Nat.mod_lt _ (by decide)⟩ : Fin 128))) (fun j => g0 (ix2 0 j)) ⟨k.val, h⟩
        else halfNorm (fun j => Y (ix2 r j)) (fun j => g1 (ix2 0 j)) ⟨k.val - 1024, by have := k.isLt; omega⟩ := by
  have hk := k.isLt
  rw [mixedBlock_eq]
  show (concatenate S256x2048 1 [⟨S256x1024, normBlock (extf .f32 (slabRow x0) bitsLt_bf16_f32) g0⟩,
      ⟨S256x1024, normBlock Y g1⟩] concatenates_S256x1024_S256x1024_S256x2048_d1 (ix2 r k) : EReal) = _
  by_cases h : k.val < 1024
  · rw [dif_pos h]
    refine (concatenate_pair_apply_left (t := S256x2048) (s₁ := S256x1024) (s₂ := S256x1024) 1 _ _ _ _ rfl
      (ix2 r (⟨k.val, h⟩ : Fin 1024)) fun a => ?_).trans ?_
    · match a with | ⟨0, _⟩ => rfl | ⟨1, _⟩ => rfl
    · refine (normBlock_apply _ _ _ _).trans ?_
      refine congrArg (fun f : Fin 1024 → EReal => halfNorm f (fun j => g0 (ix2 0 j)) ⟨k.val, h⟩) (funext fun j => ?_)
      exact slabRow_apply x0 r j
  · rw [dif_neg h]
    refine (concatenate_pair_apply_right (t := S256x2048) (s₁ := S256x1024) (s₂ := S256x1024) 1 _ _ _ _ rfl rfl
      (ix2 r (⟨k.val - 1024, by omega⟩ : Fin 1024)) (fun a ha => ?_) ?_).trans (normBlock_apply _ _ _ _)
    · match a, ha with
      | ⟨0, _⟩, _ => rfl
      | ⟨1, _⟩, ha => exact absurd rfl ha
    · show k.val - 1024 + 1024 = k.val
      omega

/-- The product with the weights: entry `(r, n)` is the sum over the 2048 features. -/
theorem dot_weights (A : FVec Ideal S256x2048 .bf16) (B : FVec Ideal S2048x2048 .f32) (r : Fin 256) (n : Fin 2048) :
    matmul dot_S256x2048_S2048x2048_S256x2048_1_0_0_1_n_n none A B (constant S256x2048 .f32 0x00000000#32) (ix2 r n)
      = ∑ d : Fin 2048, A (ix2 r d) * B (ix2 d n) := by
  refine (Ideal.matmul_constant_zero_apply _ _ A B _).trans ?_
  rw [← Equiv.sum_comp (contrEquiv1 dot_S256x2048_S2048x2048_S256x2048_1_0_0_1_n_n 2048 rfl rfl).symm]
  refine Finset.sum_congr rfl fun d _ => congrArg₂ _ (congrArg A ?_) (congrArg B ?_)
  · funext a; match a with | ⟨0, _⟩ => rfl | ⟨1, _⟩ => rfl
  · funext a; match a with | ⟨0, _⟩ => rfl | ⟨1, _⟩ => rfl

/-- Whether a point is its sequence's first. -/
def firstTile (i : grid0.Coords) : BitVec 1 :=
  let v1 : BitVec 32 := Scalar.select (Scalar.cmpi .eq 8#32 0#32) 1#32 8#32
  let v2 : BitVec 32 := Scalar.remsi (BitVec.ofNat 32 (i 0).val) v1
  Scalar.cmpi .eq (Scalar.select (Scalar.andi (Scalar.xori (Scalar.cmpi .slt v2 0#32) (Scalar.cmpi .slt v1 0#32)) (Scalar.cmpi .ne v2 0#32))
    (Scalar.addi v2 v1) v2) 0#32

/-- It is at every eighth point. -/
theorem firstTile_eq : ∀ t : Fin cfg0.N, firstTile (grid0.coords t) = if t.val % 8 = 0 then 1#1 else 0#1 :=
  (by decide +kernel : ∀ t : Fin grid0.N, firstTile (grid0.coords t) = if t.val % 8 = 0 then 1#1 else 0#1)

/-- The last is the one before. -/
theorem lastTile_eq : ∀ t : Fin cfg0.N, lastTile (grid0.coords t) = if t.val % 8 = 7 then 1#1 else 0#1 :=
  (by decide +kernel : ∀ t : Fin grid0.N, lastTile (grid0.coords t) = if t.val % 8 = 7 then 1#1 else 0#1)

/-- Whether a row is the block's first row. -/
theorem row_is : ∀ r : Fin 256, (IntOp.cmpi .eq (BitVec.ofNat 32 r.val) 0#32 : BitVec 1) = if r.val = 0 then 1#1 else 0#1 := by
  decide +kernel

/-- Whether a row is the block's last. -/
theorem row_is_last : ∀ r : Fin 256, (IntOp.cmpi .eq (BitVec.ofNat 32 r.val) 255#32 : BitVec 1) = if r.val = 255 then 1#1 else 0#1 := by
  decide +kernel

/-- The convolution of a block with the row before it and the row after it. -/
theorem conv_apply (u : FVec Ideal S256x1024 .f32) (after before zero w0 w1 w2 : FVec Ideal S1x1024 .f32) (l : BitVec 1)
    (b : Vec Ideal S256x1024 .bf16) (r : Fin 256) (j : Fin 1024) :
    (k0_pay7 (F := Ideal) u after before l zero w0 w1 w2 b (ix2 r j) : EReal)
      = b (ix2 r j) * ((if h : r.val = 0 then before (ix2 0 j) else u (ix2 (⟨r.val - 1, by have := r.isLt; omega⟩ : Fin 256) j)) * w0 (ix2 0 j)
        + u (ix2 r j) * w1 (ix2 0 j)
        + (if h : r.val = 255 then (if l = 1#1 then zero (ix2 0 j) else after (ix2 0 j))
            else u (ix2 (⟨r.val + 1, by have := r.isLt; omega⟩ : Fin 256) j)) * w2 (ix2 0 j)) := by
  have hr := r.isLt
  have row0 : ∀ v : FVec Ideal S1x1024 .f32, (broadcastTo S256x1024 v broadcasts_S1x1024_S256x1024 (ix2 r j) : EReal) = v (ix2 0 j) :=
    fun v => broadcastTo_apply _ _ (ix2 r j) (ix2 0 j) (fun a => by match a with | ⟨0, _⟩ => rfl | ⟨1, _⟩ => rfl)
  have cast0 : ∀ v : FVec Ideal S1x1024 .f32, shapeCast S1x1024 v shapeCasts_S1x1024_S1x1024 = v :=
    fun v => funext fun i => shapeCast_apply v _ i i rfl
  unfold k0_pay7
  dsimp only
  refine congrArg₂ (fun y z : EReal => y * z) rfl (congrArg₂ (fun y z : EReal => y + z) (congrArg₂ (fun y z : EReal => y + z)
    (congrArg₂ (fun y z : EReal => y * z) ?_ (row0 w0)) (congrArg₂ (fun y z : EReal => y * z) rfl (row0 w1)))
    (congrArg₂ (fun y z : EReal => y * z) ?_ (row0 w2)))
  · rw [cast0]
    show Scalar.select (IntOp.cmpi .eq (iota .tc S256x1024 32 [0] iota_S256x1024_d0_w32 (ix2 r j)) 0#32) _ _ = _
    rw [iota_single_apply]
    show Scalar.select (IntOp.cmpi .eq (BitVec.ofNat 32 r.val) 0#32) _ _ = _
    rw [row_is]
    by_cases h : r.val = 0
    · rw [if_pos h, dif_pos h]
      exact row0 before
    · rw [if_neg h, dif_neg h]
      refine dynamicRotate_apply 0 1#32 u rotates_S256x1024_d0 _ _ fun a => ?_
      match a with
      | ⟨0, _⟩ =>
        show r.val - 1 = (r.val + 256 - 1 % 256) % 256
        omega
      | ⟨1, _⟩ => rfl
  · rw [cast0]
    show Scalar.select (IntOp.cmpi .eq (iota .tc S256x1024 32 [0] iota_S256x1024_d0_w32 (ix2 r j)) 255#32) _ _ = _
    rw [iota_single_apply]
    show Scalar.select (IntOp.cmpi .eq (BitVec.ofNat 32 r.val) 255#32) _ _ = _
    rw [row_is_last]
    by_cases h : r.val = 255
    · rw [if_pos h, dif_pos h]
      refine (row0 _).trans ?_
      rcases BitVec.eq_zero_or_eq_one l with rfl | rfl
      · rw [if_neg (by decide)]
        rfl
      · rw [if_pos rfl]
        rfl
    · rw [if_neg h, dif_neg h]
      refine dynamicRotate_apply 0 255#32 u rotates_S256x1024_d0 _ _ fun a => ?_
      match a with
      | ⟨0, _⟩ =>
        show r.val + 1 = (r.val + 256 - 255 % 256) % 256
        omega
      | ⟨1, _⟩ => rfl

end Cert.Mix
-- ==== Proof.MixEntry.lean ====
/- The array the third call's first output ends with: what each block of the arguments holds, what a point computes from them, and
   that the points' blocks cover the array. -/
module

public import proofs.«01_k».proof.Proof.MixFrame
public import proofs.«01_k».proof.Proof.MixBody

@[expose] public section

set_option maxRecDepth 16384

noncomputable section

namespace Cert.Mix

open Idealize.ShloMosaic Idealize.ShloMosaic.TcCoe Idealize.ShloMosaic.ValueIdx Idealize.SL.Sem
open Cert.Kernel3Ideal Cert.Kernel3Ideal.Gen

variable (m : (ℓ : Loc nD τ sig) → Buf (Elt Ideal) ℓ)

/-- The attention slabs. -/
abbrev attnArg (c : Dev nD) : S8x8192x128.Idx → EReal := m ((c.tc : Thread nD τ).loc main_arg0)
/-- The columns of the convolution. -/
abbrev convArg (c : Dev nD) : S8192x3072.Idx → EReal := m ((c.tc : Thread nD τ).loc main_arg1)
/-- The meta rows. -/
abbrev metaArg (c : Dev nD) : S16x6144.Idx → EReal := m ((c.tc : Thread nD τ).loc main_arg2)
/-- The residual rows. -/
abbrev residArg (c : Dev nD) : S8192x2048.Idx → EReal := m ((c.tc : Thread nD τ).loc main_arg3)
/-- The weights of the convolution. -/
abbrev tapsArg (c : Dev nD) : S3x1024.Idx → EReal := m ((c.tc : Thread nD τ).loc main_arg4)
/-- The gains of the attention half. -/
abbrev attnGainArg (c : Dev nD) : S1x1024.Idx → EReal := m ((c.tc : Thread nD τ).loc main_arg5)
/-- The gains of the convolution half. -/
abbrev convGainArg (c : Dev nD) : S1x1024.Idx → EReal := m ((c.tc : Thread nD τ).loc main_arg6)
/-- The weights of the product. -/
abbrev weightArg (c : Dev nD) : S2048x2048.Idx → EReal := m ((c.tc : Thread nD τ).loc main_arg7)

/-- The same as one record. -/
def inputs (c : Dev nD) : Inputs where
  attn s r l := attnArg m c (ix3 s r l)
  conv r j := convArg m c (ix2 r j)
  extra r j := metaArg m c (ix2 r j)
  x r d := residArg m c (ix2 r d)
  taps k j := tapsArg m c (ix2 k j)
  attnGain j := attnGainArg m c (ix2 0 j)
  convGain j := convGainArg m c (ix2 0 j)
  w k d := weightArg m c (ix2 k d)

/-- Where each window's block lies at each point. -/
theorem windows : ∀ t : Fin cfg0.N,
    (win0_0.index t (0 : Fin 3) = 0 ∧ win0_0.index t (1 : Fin 3) = t.val ∧ win0_0.index t (2 : Fin 3) = 0)
    ∧ (win0_1.index t (0 : Fin 2) = t.val ∧ win0_1.index t (1 : Fin 2) = 0)
    ∧ (win0_2.index t (0 : Fin 2) = t.val ∧ win0_2.index t (1 : Fin 2) = 1)
    ∧ (win0_3.index t (0 : Fin 2) = t.val ∧ win0_3.index t (1 : Fin 2) = 2)
    ∧ (win0_4.index t (0 : Fin 2) = 16 * t.val - 1 ∧ win0_4.index t (1 : Fin 2) = 1)
    ∧ (win0_5.index t (0 : Fin 2) = 16 * t.val - 1 ∧ win0_5.index t (1 : Fin 2) = 2)
    ∧ (win0_6.index t (0 : Fin 2) = min (16 * (t.val + 1)) 511 ∧ win0_6.index t (1 : Fin 2) = 1)
    ∧ (win0_7.index t (0 : Fin 2) = min (16 * (t.val + 1)) 511 ∧ win0_7.index t (1 : Fin 2) = 2)
    ∧ (win0_8.index t (0 : Fin 2) = 0 ∧ win0_8.index t (1 : Fin 2) = 4)
    ∧ (win0_9.index t (0 : Fin 2) = 0 ∧ win0_9.index t (1 : Fin 2) = 5)
    ∧ (win0_10.index t (0 : Fin 2) = t.val ∧ win0_10.index t (1 : Fin 2) = 0)
    ∧ (win0_11.index t (0 : Fin 2) = 0 ∧ win0_11.index t (1 : Fin 2) = 0)
    ∧ (win0_12.index t (0 : Fin 2) = 0 ∧ win0_12.index t (1 : Fin 2) = 0)
    ∧ (win0_13.index t (0 : Fin 2) = 0 ∧ win0_13.index t (1 : Fin 2) = 0)
    ∧ (win0_14.index t (0 : Fin 2) = 0 ∧ win0_14.index t (1 : Fin 2) = 0)
    ∧ (win0_18.index t (0 : Fin 2) = t.val ∧ win0_18.index t (1 : Fin 2) = 0) :=
  (by decide +kernel : ∀ t : Fin grid0.N,
    (win0_0.index t (0 : Fin 3) = 0 ∧ win0_0.index t (1 : Fin 3) = t.val ∧ win0_0.index t (2 : Fin 3) = 0)
    ∧ (win0_1.index t (0 : Fin 2) = t.val ∧ win0_1.index t (1 : Fin 2) = 0)
    ∧ (win0_2.index t (0 : Fin 2) = t.val ∧ win0_2.index t (1 : Fin 2) = 1)
    ∧ (win0_3.index t (0 : Fin 2) = t.val ∧ win0_3.index t (1 : Fin 2) = 2)
    ∧ (win0_4.index t (0 : Fin 2) = 16 * t.val - 1 ∧ win0_4.index t (1 : Fin 2) = 1)
    ∧ (win0_5.index t (0 : Fin 2) = 16 * t.val - 1 ∧ win0_5.index t (1 : Fin 2) = 2)
    ∧ (win0_6.index t (0 : Fin 2) = min (16 * (t.val + 1)) 511 ∧ win0_6.index t (1 : Fin 2) = 1)
    ∧ (win0_7.index t (0 : Fin 2) = min (16 * (t.val + 1)) 511 ∧ win0_7.index t (1 : Fin 2) = 2)
    ∧ (win0_8.index t (0 : Fin 2) = 0 ∧ win0_8.index t (1 : Fin 2) = 4)
    ∧ (win0_9.index t (0 : Fin 2) = 0 ∧ win0_9.index t (1 : Fin 2) = 5)
    ∧ (win0_10.index t (0 : Fin 2) = t.val ∧ win0_10.index t (1 : Fin 2) = 0)
    ∧ (win0_11.index t (0 : Fin 2) = 0 ∧ win0_11.index t (1 : Fin 2) = 0)
    ∧ (win0_12.index t (0 : Fin 2) = 0 ∧ win0_12.index t (1 : Fin 2) = 0)
    ∧ (win0_13.index t (0 : Fin 2) = 0 ∧ win0_13.index t (1 : Fin 2) = 0)
    ∧ (win0_14.index t (0 : Fin 2) = 0 ∧ win0_14.index t (1 : Fin 2) = 0)
    ∧ (win0_18.index t (0 : Fin 2) = t.val ∧ win0_18.index t (1 : Fin 2) = 0))

/-- A point's number is below 32. -/
theorem point_lt (t : Fin cfg0.N) : t.val < 32 := lt_of_lt_of_eq t.isLt (show cfg0.N = 32 from N_0)

/-! ## The blocks -/

/-- The block of attention. -/
theorem attn_block (c : Dev nD) (t : Fin cfg0.N) (s : Fin 8) (r : Fin 256) (l : Fin 128) :
    (iblk m c 0 t (ix3 s r l : S8x256x128.Idx) : EReal) = (inputs m c).attn s (rowOf (256 * t.val + r.val)) l := by
  have ht := point_lt t
  have hr := r.isLt
  obtain ⟨⟨e0, e1, e2⟩, -⟩ := windows t
  refine congrArg (attnArg m c) (a₂ := (ix3 s (rowOf (256 * t.val + r.val)) l : S8x8192x128.Idx)) (funext fun a => Fin.ext ?_)
  match a with
  | ⟨0, _⟩ => show win0_0.index t (0 : Fin 3) * 8 + 1 * s.val = s.val; omega
  | ⟨1, _⟩ => show win0_0.index t (1 : Fin 3) * 256 + 1 * r.val = (256 * t.val + r.val) % 8192; omega
  | ⟨2, _⟩ => show win0_0.index t (2 : Fin 3) * 128 + 1 * l.val = l.val; omega

/-- The block of the convolution's first group of columns. -/
theorem b_block (c : Dev nD) (t : Fin cfg0.N) (r : Fin 256) (j : Fin 1024) (n : ℕ) (hn : n = 256 * t.val + r.val) :
    (iblk m c 1 t (ix2 r j : S256x1024.Idx) : EReal) = (inputs m c).conv (rowOf n) (colOf 0 (by decide) j) := by
  have ht := point_lt t
  have hr := r.isLt
  obtain ⟨-, ⟨e0, e1⟩, -⟩ := windows t
  refine congrArg (convArg m c) (a₂ := (ix2 (rowOf n) (colOf 0 (by decide) j) : S8192x3072.Idx)) (funext fun a => Fin.ext ?_)
  match a with
  | ⟨0, _⟩ => show win0_1.index t (0 : Fin 2) * 256 + 1 * r.val = n % 8192; omega
  | ⟨1, _⟩ => show win0_1.index t (1 : Fin 2) * 1024 + 1 * j.val = 1024 * 0 + j.val; omega

/-- The product of the second group's and the third group's columns. -/
theorem gated_block (c : Dev nD) (t : Fin cfg0.N) (r : Fin 256) (j : Fin 1024) (n : ℕ) (hn : n = 256 * t.val + r.val) :
    (k0_pay3 (F := Ideal) (iblk m c 2 t) (iblk m c 3 t) (ix2 r j : S256x1024.Idx) : EReal) = gated (inputs m c) n j := by
  have ht := point_lt t
  have hr := r.isLt
  obtain ⟨-, -, ⟨e0, e1⟩, ⟨f0, f1⟩, -⟩ := windows t
  refine congrArg₂ (fun y z : EReal => y * z)
    (congrArg (convArg m c) (a₂ := (ix2 (rowOf n) (colOf 1 (by decide) j) : S8192x3072.Idx)) (funext fun a => Fin.ext ?_))
    (congrArg (convArg m c) (a₂ := (ix2 (rowOf n) (colOf 2 (by decide) j) : S8192x3072.Idx)) (funext fun a => Fin.ext ?_))
  · match a with
    | ⟨0, _⟩ => show win0_2.index t (0 : Fin 2) * 256 + 1 * r.val = n % 8192; omega
    | ⟨1, _⟩ => show win0_2.index t (1 : Fin 2) * 1024 + 1 * j.val = 1024 * 1 + j.val; omega
  · match a with
    | ⟨0, _⟩ => show win0_3.index t (0 : Fin 2) * 256 + 1 * r.val = n % 8192; omega
    | ⟨1, _⟩ => show win0_3.index t (1 : Fin 2) * 1024 + 1 * j.val = 1024 * 2 + j.val; omega

/-- The same product of the row before the block, inside a sequence. -/
theorem gated_before (c : Dev nD) (t : Fin cfg0.N) (j : Fin 1024) (h : t.val % 8 ≠ 0) :
    (lastRow (F := Ideal) (iblk m c 4 t) (ix2 0 j) * lastRow (F := Ideal) (iblk m c 5 t) (ix2 0 j) : EReal)
      = gated (inputs m c) (256 * t.val - 1) j := by
  have ht := point_lt t
  obtain ⟨-, -, -, -, ⟨e0, e1⟩, ⟨f0, f1⟩, -⟩ := windows t
  refine congrArg₂ (fun y z : EReal => y * z)
    (congrArg (convArg m c) (a₂ := (ix2 (rowOf (256 * t.val - 1)) (colOf 1 (by decide) j) : S8192x3072.Idx)) (funext fun a => Fin.ext ?_))
    (congrArg (convArg m c) (a₂ := (ix2 (rowOf (256 * t.val - 1)) (colOf 2 (by decide) j) : S8192x3072.Idx)) (funext fun a => Fin.ext ?_))
  · match a with
    | ⟨0, _⟩ => show win0_4.index t (0 : Fin 2) * 16 + 1 * (15 + 1 * 0) = (256 * t.val - 1) % 8192; omega
    | ⟨1, _⟩ => show win0_4.index t (1 : Fin 2) * 1024 + 1 * (0 + 1 * j.val) = 1024 * 1 + j.val; omega
  · match a with
    | ⟨0, _⟩ => show win0_5.index t (0 : Fin 2) * 16 + 1 * (15 + 1 * 0) = (256 * t.val - 1) % 8192; omega
    | ⟨1, _⟩ => show win0_5.index t (1 : Fin 2) * 1024 + 1 * (0 + 1 * j.val) = 1024 * 2 + j.val; omega

/-- The same product of the row after the block, inside a sequence. -/
theorem gated_after (c : Dev nD) (t : Fin cfg0.N) (j : Fin 1024) (h : t.val % 8 ≠ 7) :
    (firstRow (F := Ideal) (iblk m c 6 t) (ix2 0 j) * firstRow (F := Ideal) (iblk m c 7 t) (ix2 0 j) : EReal)
      = gated (inputs m c) (256 * t.val + 256) j := by
  have ht := point_lt t
  obtain ⟨-, -, -, -, -, -, ⟨e0, e1⟩, ⟨f0, f1⟩, -⟩ := windows t
  refine congrArg₂ (fun y z : EReal => y * z)
    (congrArg (convArg m c) (a₂ := (ix2 (rowOf (256 * t.val + 256)) (colOf 1 (by decide) j) : S8192x3072.Idx)) (funext fun a => Fin.ext ?_))
    (congrArg (convArg m c) (a₂ := (ix2 (rowOf (256 * t.val + 256)) (colOf 2 (by decide) j) : S8192x3072.Idx)) (funext fun a => Fin.ext ?_))
  · match a with
    | ⟨0, _⟩ => show win0_6.index t (0 : Fin 2) * 16 + 1 * (0 + 1 * 0) = (256 * t.val + 256) % 8192; omega
    | ⟨1, _⟩ => show win0_6.index t (1 : Fin 2) * 1024 + 1 * (0 + 1 * j.val) = 1024 * 1 + j.val; omega
  · match a with
    | ⟨0, _⟩ => show win0_7.index t (0 : Fin 2) * 16 + 1 * (0 + 1 * 0) = (256 * t.val + 256) % 8192; omega
    | ⟨1, _⟩ => show win0_7.index t (1 : Fin 2) * 1024 + 1 * (0 + 1 * j.val) = 1024 * 2 + j.val; omega

/-- The same product of the last meta row. -/
theorem gated_meta (c : Dev nD) (t : Fin cfg0.N) (j : Fin 1024) :
    (lastRow (F := Ideal) (iblk m c 8 t) (ix2 0 j) * lastRow (F := Ideal) (iblk m c 9 t) (ix2 0 j) : EReal)
      = gatedMeta (inputs m c) j := by
  have hj := j.isLt
  obtain ⟨-, -, -, -, -, -, -, -, ⟨e0, e1⟩, ⟨f0, f1⟩, -⟩ := windows t
  refine congrArg₂ (fun y z : EReal => y * z)
    (congrArg (metaArg m c) (a₂ := (ix2 (15 : Fin 16) (⟨4096 + j.val, by omega⟩ : Fin 6144) : S16x6144.Idx)) (funext fun a => Fin.ext ?_))
    (congrArg (metaArg m c) (a₂ := (ix2 (15 : Fin 16) (⟨5120 + j.val, by omega⟩ : Fin 6144) : S16x6144.Idx)) (funext fun a => Fin.ext ?_))
  · match a with
    | ⟨0, _⟩ => show win0_8.index t (0 : Fin 2) * 16 + 1 * (15 + 1 * 0) = 15; omega
    | ⟨1, _⟩ => show win0_8.index t (1 : Fin 2) * 1024 + 1 * (0 + 1 * j.val) = 4096 + j.val; omega
  · match a with
    | ⟨0, _⟩ => show win0_9.index t (0 : Fin 2) * 16 + 1 * (15 + 1 * 0) = 15; omega
    | ⟨1, _⟩ => show win0_9.index t (1 : Fin 2) * 1024 + 1 * (0 + 1 * j.val) = 5120 + j.val; omega

/-- The block of the residual. -/
theorem resid_block (c : Dev nD) (t : Fin cfg0.N) (r : Fin 256) (d : Fin 2048) (n : Fin 8192) (hn : n.val = 256 * t.val + r.val) :
    (iblk m c 10 t (ix2 r d : S256x2048.Idx) : EReal) = (inputs m c).x n d := by
  obtain ⟨-, -, -, -, -, -, -, -, -, -, ⟨e0, e1⟩, -⟩ := windows t
  refine congrArg (residArg m c) (a₂ := (ix2 n d : S8192x2048.Idx)) (funext fun a => Fin.ext ?_)
  match a with
  | ⟨0, _⟩ => show win0_10.index t (0 : Fin 2) * 256 + 1 * r.val = n.val; omega
  | ⟨1, _⟩ => show win0_10.index t (1 : Fin 2) * 2048 + 1 * d.val = d.val; omega

/-- A row of the convolution's weights. -/
theorem taps_block (c : Dev nD) (t : Fin cfg0.N) (k : Fin 3) (j : Fin 1024)
    (inb : ∀ a, (![k.val, 0] : Fin 2 → ℕ) a + S1x1024.size a ≤ S3x1024.size a) :
    (View.ld (iblk m c 11 t : Vec Ideal S3x1024 .f32) (Rect.unit (s := S3x1024) ![k.val, 0] S1x1024.size inb) (ix2 0 j) : EReal)
      = (inputs m c).taps k j := by
  obtain ⟨-, -, -, -, -, -, -, -, -, -, -, ⟨e0, e1⟩, -⟩ := windows t
  refine congrArg (tapsArg m c) (a₂ := (ix2 k j : S3x1024.Idx)) (funext fun a => Fin.ext ?_)
  match a with
  | ⟨0, _⟩ => show win0_11.index t (0 : Fin 2) * 3 + 1 * (k.val + 1 * 0) = k.val; omega
  | ⟨1, _⟩ => show win0_11.index t (1 : Fin 2) * 1024 + 1 * (0 + 1 * j.val) = j.val; omega

/-- The gains of the attention half. -/
theorem attnGain_block (c : Dev nD) (t : Fin cfg0.N) (j : Fin 1024) :
    (iblk m c 12 t (ix2 0 j : S1x1024.Idx) : EReal) = (inputs m c).attnGain j := by
  obtain ⟨-, -, -, -, -, -, -, -, -, -, -, -, ⟨e0, e1⟩, -⟩ := windows t
  refine congrArg (attnGainArg m c) (a₂ := (ix2 0 j : S1x1024.Idx)) (funext fun a => Fin.ext ?_)
  match a with
  | ⟨0, _⟩ => show win0_12.index t (0 : Fin 2) * 1 + 1 * 0 = 0; omega
  | ⟨1, _⟩ => show win0_12.index t (1 : Fin 2) * 1024 + 1 * j.val = j.val; omega

/-- The gains of the convolution half. -/
theorem convGain_block (c : Dev nD) (t : Fin cfg0.N) (j : Fin 1024) :
    (iblk m c 13 t (ix2 0 j : S1x1024.Idx) : EReal) = (inputs m c).convGain j := by
  obtain ⟨-, -, -, -, -, -, -, -, -, -, -, -, -, ⟨e0, e1⟩, -⟩ := windows t
  refine congrArg (convGainArg m c) (a₂ := (ix2 0 j : S1x1024.Idx)) (funext fun a => Fin.ext ?_)
  match a with
  | ⟨0, _⟩ => show win0_13.index t (0 : Fin 2) * 1 + 1 * 0 = 0; omega
  | ⟨1, _⟩ => show win0_13.index t (1 : Fin 2) * 1024 + 1 * j.val = j.val; omega

/-- The weights of the product. -/
theorem w_block (c : Dev nD) (t : Fin cfg0.N) (k d : Fin 2048) :
    (iblk m c 14 t (ix2 k d : S2048x2048.Idx) : EReal) = (inputs m c).w k d := by
  obtain ⟨-, -, -, -, -, -, -, -, -, -, -, -, -, -, ⟨e0, e1⟩, -⟩ := windows t
  refine congrArg (weightArg m c) (a₂ := (ix2 k d : S2048x2048.Idx)) (funext fun a => Fin.ext ?_)
  match a with
  | ⟨0, _⟩ => show win0_14.index t (0 : Fin 2) * 2048 + 1 * k.val = k.val; omega
  | ⟨1, _⟩ => show win0_14.index t (1 : Fin 2) * 2048 + 1 * d.val = d.val; omega

/-! ## What a point computes -/

/-- The row before a block, chosen by the point. -/
theorem before_row (c : Dev nD) (t : Fin cfg0.N) (j : Fin 1024) :
    (k0_pay5 (F := Ideal) (grid0.coords t) (lastRow (iblk m c 8 t)) (lastRow (iblk m c 9 t)) (lastRow (iblk m c 4 t))
      (lastRow (iblk m c 5 t)) (ix2 0 j) : EReal) = precedes (inputs m c) (256 * t.val) j := by
  have e : ∀ a b d f : Vec Ideal S1x1024 .bf16, k0_pay5 (F := Ideal) (grid0.coords t) a b d f
      = Scalar.select (firstTile (grid0.coords t)) (mulf (extf .f32 a bitsLt_bf16_f32) (extf .f32 b bitsLt_bf16_f32))
          (mulf (extf .f32 d bitsLt_bf16_f32) (extf .f32 f bitsLt_bf16_f32)) := fun _ _ _ _ => rfl
  rw [e, firstTile_eq]
  unfold precedes
  by_cases h : t.val % 8 = 0
  · have h' : 256 * t.val % 2048 = 0 := by omega
    rw [if_pos h, if_pos h']
    exact gated_meta m c t j
  · have h' : ¬256 * t.val % 2048 = 0 := by omega
    rw [if_neg h, if_neg h']
    exact gated_before m c t j h

/-- The row after a block, zero at the end of a sequence. -/
theorem after_row (c : Dev nD) (t : Fin cfg0.N) (j : Fin 1024) :
    (if lastTile (grid0.coords t) = 1#1 then (k0_pay6 (F := Ideal) (ix2 0 j) : EReal)
      else k0_pay4 (F := Ideal) (firstRow (iblk m c 6 t)) (firstRow (iblk m c 7 t)) (ix2 0 j))
      = follows (inputs m c) (256 * t.val + 255) j := by
  rw [lastTile_eq]
  unfold follows
  by_cases h : t.val % 8 = 7
  · have h' : (256 * t.val + 255) % 2048 = 2047 := by omega
    rw [if_pos h, if_pos rfl, if_pos h']
    show Ideal.ofBits .f32 0x00000000#32 = 0
    simp [Ideal.ofBits, Ideal.ieee]
  · have h' : ¬(256 * t.val + 255) % 2048 = 2047 := by omega
    rw [if_neg h, if_neg (by decide), if_neg h']
    exact gated_after m c t j h

/-- The convolution of a block. -/
theorem conv_entry (c : Dev nD) (t : Fin cfg0.N) (r : Fin 256) (j : Fin 1024) :
    (convBlock (F := Ideal) (grid0.coords t) (iblk m c 1 t) (iblk m c 2 t) (iblk m c 3 t) (iblk m c 4 t) (iblk m c 5 t) (iblk m c 6 t)
      (iblk m c 7 t) (iblk m c 8 t) (iblk m c 9 t) (iblk m c 11 t) (ix2 r j) : EReal)
      = shortConv (inputs m c) (256 * t.val + r.val) j := by
  have hr := r.isLt
  unfold convBlock shortConv
  refine (conv_apply _ _ _ _ _ _ _ _ _ r j).trans ?_
  refine congrArg₂ (fun y z : EReal => y * z) (b_block m c t r j _ rfl) (congrArg₂ (fun y z : EReal => y + z)
    (congrArg₂ (fun y z : EReal => y + z) (congrArg₂ (fun y z : EReal => y * z) ?_ (taps_block m c t 0 j _))
      (congrArg₂ (fun y z : EReal => y * z) (gated_block m c t r j _ rfl) (taps_block m c t 1 j _)))
    (congrArg₂ (fun y z : EReal => y * z) ?_ (taps_block m c t 2 j _)))
  · by_cases h : r.val = 0
    · rw [dif_pos h, h]
      exact before_row m c t j
    · have h' : ¬(256 * t.val + r.val) % 2048 = 0 := by omega
      rw [dif_neg h]
      unfold precedes
      rw [if_neg h']
      exact gated_block m c t _ j _ (by show 256 * t.val + r.val - 1 = 256 * t.val + (r.val - 1); omega)
  · by_cases h : r.val = 255
    · rw [dif_pos h, h]
      exact after_row m c t j
    · have h' : ¬(256 * t.val + r.val) % 2048 = 2047 := by omega
      rw [dif_neg h]
      unfold follows
      rw [if_neg h']
      exact gated_block m c t _ j _ (by show 256 * t.val + r.val + 1 = 256 * t.val + (r.val + 1); omega)

/-- What a point writes into the first output. -/
theorem hmid_entry (c : Dev nD) (t : Fin cfg0.N) (r : Fin 256) (d : Fin 2048) (n : Fin 8192) (hn : n.val = 256 * t.val + r.val) :
    (hmidAt m c t (ix2 r d) : EReal) = hidden (inputs m c) n d := by
  unfold hmidAt hmidBlock k0_pay13 hidden
  refine congrArg₂ (fun y z : EReal => y + z) (resid_block m c t r d n hn) ((dot_weights _ _ r d).trans
    (Finset.sum_congr rfl fun k _ => congrArg₂ (fun y z : EReal => y * z) ((mixedBlock_apply _ _ _ _ r k).trans ?_) (w_block m c t k d)))
  unfold mixed
  rw [hn]
  by_cases h : k.val < 1024
  · rw [dif_pos h, dif_pos h]
    exact congrArg₂ (fun f g : Fin 1024 → EReal => halfNorm f g ⟨k.val, h⟩) (funext fun j => attn_block m c t _ r _)
      (funext fun j => attnGain_block m c t j)
  · rw [dif_neg h, dif_neg h]
    exact congrArg₂ (fun f g : Fin 1024 → EReal => halfNorm f g ⟨k.val - 1024, by have := k.isLt; omega⟩)
      (funext fun j => conv_entry m c t r j) (funext fun j => convGain_block m c t j)

/-! ## The array -/

/-- The first output, index by index. -/
def hmidArr (c : Dev nD) : Buf (Elt Ideal) ((c.tc : Thread nD τ).loc main_v0_0) :=
  fun i : S8192x2048.Idx => hidden (inputs m c) (i 0) (i 1)

/-- Every point writes the first output back. -/
theorem flush18 : ∀ t : Fin cfg0.N, (cfg0.win 18).flush t = true :=
  (by decide +kernel : ∀ t : Fin grid0.N, win0_18.flush t = true)

/-- A point writes its block of it. -/
theorem flushed_18 (c : Dev nD) (t : Fin cfg0.N) (_ : (cfg0.win 18).flush t = true) :
    (dats m 0 c).flushed 18 t = ((cfg0.win 18).blk t).view.read (Elt Ideal) (hmidArr m c) := by
  show (cfg0.win 18).cut (grid0.coords t) ((dats m 0 c).after 18 t) = _
  rw [after_18]
  obtain ⟨-, -, -, -, -, -, -, -, -, -, -, -, -, -, -, ⟨e0, e1⟩⟩ := windows t
  funext y
  have hy0 : (y 0).val < 256 := (y 0).isLt
  have hy1 : (y 1).val < 2048 := (y 1).isLt
  have hb0 : (((cfg0.win 18).blk t).view.emb y 0).val = win0_18.index t (0 : Fin 2) * 256 + 1 * (y 0).val := rfl
  have hb1 : (((cfg0.win 18).blk t).view.emb y 1).val = win0_18.index t (1 : Fin 2) * 2048 + 1 * (y 1).val := rfl
  show (hmidAt m c t ((cfg0.win 18).xinj (grid0.coords t) y) : EReal)
    = hidden (inputs m c) (((cfg0.win 18).blk t).view.emb y 0) (((cfg0.win 18).blk t).view.emb y 1)
  have ey : ((cfg0.win 18).xinj (grid0.coords t) y : S256x2048.Idx) = ix2 (⟨(y 0).val, hy0⟩ : Fin 256) (⟨(y 1).val, hy1⟩ : Fin 2048) := by
    funext a; match a with | ⟨0, _⟩ => rfl | ⟨1, _⟩ => rfl
  rw [ey]
  refine (hmid_entry m c t _ _ (((cfg0.win 18).blk t).view.emb y 0) ?_).trans (congrArg _ (Fin.ext ?_))
  · show (((cfg0.win 18).blk t).view.emb y 0).val = 256 * t.val + (y 0).val
    omega
  · show (y 1).val = (((cfg0.win 18).blk t).view.emb y 1).val
    omega

/-- The indices of a point's block. -/
theorem mem_18 (t : Fin cfg0.N) (i : S8192x2048.Idx) : i ∈ ((cfg0.win 18).blk t).view.set ↔ ∀ a : Fin 2,
    win0_18.index t a * S256x2048.size a ≤ (i a).val ∧ (i a).val < win0_18.index t a * S256x2048.size a + S256x2048.size a := by
  show i ∈ ((View.whole main_v0_0).slice (win0_18.rect t)).set ↔ _
  rw [View.set_slice_whole, Rect.mem_set_unit]
  exact Iff.rfl

/-- The first output after the run. -/
theorem hmid_final (c : Dev nD) : (dats m 0 c).arrAt 18 cfg0.N = hmidArr m c := by
  refine (dats m 0 c).arrAt_eq_of_cover 18 _ (flushed_18 m c) fun i => ?_
  have h0 : (i 0).val < 8192 := (i 0).isLt
  have h1 : (i 1).val < 2048 := (i 1).isLt
  have hN : cfg0.N = 32 := N_0
  refine ⟨⟨(i 0).val / 256, by omega⟩, flush18 _, ?_⟩
  rw [mem_18]
  obtain ⟨-, -, -, -, -, -, -, -, -, -, -, -, -, -, -, ⟨e0, e1⟩⟩ := windows ⟨(i 0).val / 256, by omega⟩
  dsimp only at e0
  intro a
  match a with
  | ⟨0, _⟩ =>
    show win0_18.index _ (0 : Fin 2) * 256 ≤ (i 0).val ∧ (i 0).val < win0_18.index _ (0 : Fin 2) * 256 + 256
    rw [e0]
    omega
  | ⟨1, _⟩ =>
    show win0_18.index _ (1 : Fin 2) * 2048 ≤ (i 1).val ∧ (i 1).val < win0_18.index _ (1 : Fin 2) * 2048 + 2048
    rw [e1]
    omega

end Cert.Mix
-- ==== Proof.MixRef.lean ====
/- The third call's reference, read index by index: the short convolution with the last meta row before a sequence and zero after it,
   the norms of the two halves, the product and the residual. -/
module

public import proofs.«01_k».proof.Proof.MixSpec
public import proofs.«01_k».proof.Proof.Gen.Reference3Ideal.Read
public import Idealize.ShloMosaic.Lib.KernelVsHost

@[expose] public section

noncomputable section

namespace Cert.Mix.Ref

open Idealize.ShloMosaic Idealize.ShloMosaic.ValueIdx
open Cert.Reference3Ideal Cert.Reference3Ideal.Read

variable (x0 : S8x8192x128.Idx → EReal) (x1 : S8192x3072.Idx → EReal) (x2 : S16x6144.Idx → EReal) (x3 : S8192x2048.Idx → EReal)
  (x4 : S3x1024.Idx → EReal) (x5 x6 : S1x1024.Idx → EReal) (x7 : S2048x2048.Idx → EReal)

/-- The reference's arguments as one record. -/
def inputs : Inputs where
  attn s r l := x0 (ix3 s r l)
  conv r j := x1 (ix2 r j)
  extra r j := x2 (ix2 r j)
  x r d := x3 (ix2 r d)
  taps k j := x4 (ix2 k j)
  attnGain j := x5 (ix2 0 j)
  convGain j := x6 (ix2 0 j)
  w k d := x7 (ix2 k d)

/-- Zero of the float words. -/
theorem zero_word : Ideal.ofBits .f32 0x00000000#32 = 0 := by simp [Ideal.ofBits, Ideal.ieee]

/-! ## The rows the convolution reads -/

/-- A grid row behind the sixteen meta rows. -/
theorem grid_row (b : Fin 4) (p : Fin 2048) (j : Fin 1024) :
    val_main_v14 (F := Ideal) x1 x2 (ix3 b (⟨16 + p.val, by have := p.isLt; omega⟩ : Fin 2064) j)
      = gated (inputs x0 x1 x2 x3 x4 x5 x6 x7) (2048 * b.val + p.val) j := by
  have hb := b.isLt
  have hp := p.isLt
  have hj := j.isLt
  unfold val_main_v14
  refine (concatenate_pair_apply_right (t := S4x2064x1024) (s₁ := S4x16x1024) (s₂ := S4x2048x1024) 1 _ _ _ _ rfl rfl
    (ix3 b p j) (fun a ha => ?_) ?_).trans ?_
  · match a, ha with
    | ⟨0, _⟩, _ => rfl
    | ⟨1, _⟩, ha => exact absurd rfl ha
    | ⟨2, _⟩, _ => rfl
  · show p.val + 16 = 16 + p.val
    omega
  · rw [val_main_v10_apply, val_main_v9_apply, val_main_v2_apply, val_main_v3_apply, val_main_v0_apply, val_main_v0_apply]
    refine congrArg₂ (fun y z : EReal => y * z)
      (congrArg x1 (a₂ := (ix2 (rowOf (2048 * b.val + p.val)) (colOf 1 (by decide) j))) (funext fun a => Fin.ext ?_))
      (congrArg x1 (a₂ := (ix2 (rowOf (2048 * b.val + p.val)) (colOf 2 (by decide) j))) (funext fun a => Fin.ext ?_))
    · match a with
      | ⟨0, _⟩ => show ((b.val * 2048 + p.val) * 1024 + j.val) / 1024 = (2048 * b.val + p.val) % 8192; omega
      | ⟨1, _⟩ => show 1024 + ((b.val * 2048 + p.val) * 1024 + j.val) % 1024 = 1024 * 1 + j.val; omega
    · match a with
      | ⟨0, _⟩ => show ((b.val * 2048 + p.val) * 1024 + j.val) / 1024 = (2048 * b.val + p.val) % 8192; omega
      | ⟨1, _⟩ => show 2048 + ((b.val * 2048 + p.val) * 1024 + j.val) % 1024 = 1024 * 2 + j.val; omega

/-- The last meta row. -/
theorem meta_row (b : Fin 4) (j : Fin 1024) : val_main_v14 (F := Ideal) x1 x2 (ix3 b (15 : Fin 2064) j)
      = gatedMeta (inputs x0 x1 x2 x3 x4 x5 x6 x7) j := by
  have hj := j.isLt
  unfold val_main_v14
  refine (concatenate_pair_apply_left (t := S4x2064x1024) (s₁ := S4x16x1024) (s₂ := S4x2048x1024) 1 _ _ _ _ rfl
    (ix3 b (15 : Fin 16) j) fun a => ?_).trans ?_
  · match a with | ⟨0, _⟩ => rfl | ⟨1, _⟩ => rfl | ⟨2, _⟩ => rfl
  · rw [val_main_v13_apply, val_main_v12_apply, val_main_v11_apply, val_main_v7_apply, val_main_v8_apply, val_main_v5_apply,
      val_main_v5_apply, val_main_v4_apply, val_main_v4_apply]
    refine congrArg₂ (fun y z : EReal => y * z)
      (congrArg x2 (a₂ := (ix2 (15 : Fin 16) (⟨4096 + j.val, by omega⟩ : Fin 6144))) (funext fun a => Fin.ext ?_))
      (congrArg x2 (a₂ := (ix2 (15 : Fin 16) (⟨5120 + j.val, by omega⟩ : Fin 6144))) (funext fun a => Fin.ext ?_))
    · match a with
      | ⟨0, _⟩ => rfl
      | ⟨1, _⟩ => show 3072 + (1024 + j.val) = 4096 + j.val; omega
    · match a with
      | ⟨0, _⟩ => rfl
      | ⟨1, _⟩ => show 3072 + (2048 + j.val) = 5120 + j.val; omega

/-- A padded row that is a row. -/
theorem padded_row (b : Fin 4) (P : Fin 2064) (j : Fin 1024) :
    val_main_v15 (F := Ideal) x1 x2 (ix3 b (⟨1 + P.val, by have := P.isLt; omega⟩ : Fin 2066) j)
      = val_main_v14 (F := Ideal) x1 x2 (ix3 b P j) := by
  unfold val_main_v15
  refine pad_apply_of_inside _ _ _ _ _ _ _ _ (ix3 b P j) fun a => ?_
  match a with
  | ⟨0, _⟩ => show b.val = 0 + b.val * (0 + 1); omega
  | ⟨1, _⟩ => show 1 + P.val = 1 + P.val * (0 + 1); omega
  | ⟨2, _⟩ => show j.val = 0 + j.val * (0 + 1); omega

/-- The padded row after the last. -/
theorem padded_end (b : Fin 4) (j : Fin 1024) : (val_main_v15 (F := Ideal) x1 x2 (ix3 b (2065 : Fin 2066) j) : EReal) = 0 := by
  unfold val_main_v15
  refine (pad_apply_of_not_inside _ _ _ _ _ _ _ _ 1 (fun h => ?_)).trans ?_
  · have h3 : (2065 - 1) / (0 + 1) < 2064 := h.2.2
    omega
  · rw [val_main_call0_v0_apply, val_main_c_apply]
    exact sitofp_zero (φ := .f32)

/-- A weight of the convolution, spread over the rows. -/
theorem taps_at (b : Fin 4) (P : Fin 2064) (j : Fin 1024) :
    (val_main_v20 (F := Ideal) x4 (ix3 b P j) : EReal) = x4 (ix2 (0 : Fin 3) j)
      ∧ (val_main_v26 (F := Ideal) x4 (ix3 b P j) : EReal) = x4 (ix2 (1 : Fin 3) j)
      ∧ (val_main_v33 (F := Ideal) x4 (ix3 b P j) : EReal) = x4 (ix2 (2 : Fin 3) j) := by
  have hj := j.isLt
  refine ⟨?_, ?_, ?_⟩
  · rw [val_main_v20_apply, val_main_v19_apply, val_main_v18_apply, val_main_v17_apply]
    refine congrArg x4 (funext fun a => Fin.ext ?_)
    match a with
    | ⟨0, _⟩ => rfl
    | ⟨1, _⟩ => show j.val % 1024 = j.val; omega
  · rw [val_main_v26_apply, val_main_v25_apply, val_main_v24_apply, val_main_v23_apply]
    refine congrArg x4 (funext fun a => Fin.ext ?_)
    match a with
    | ⟨0, _⟩ => rfl
    | ⟨1, _⟩ => show j.val % 1024 = j.val; omega
  · rw [val_main_v33_apply, val_main_v32_apply, val_main_v31_apply, val_main_v30_apply]
    refine congrArg x4 (funext fun a => Fin.ext ?_)
    match a with
    | ⟨0, _⟩ => rfl
    | ⟨1, _⟩ => show j.val % 1024 = j.val; omega

/-- The three-row sum at a grid row. -/
theorem sum_at (b : Fin 4) (p : Fin 2048) (j : Fin 1024) :
    (val_main_v35 (F := Ideal) x1 x2 x4 (ix3 b (⟨16 + p.val, by have := p.isLt; omega⟩ : Fin 2064) j) : EReal)
      = precedes (inputs x0 x1 x2 x3 x4 x5 x6 x7) (2048 * b.val + p.val) j * x4 (ix2 (0 : Fin 3) j)
        + gated (inputs x0 x1 x2 x3 x4 x5 x6 x7) (2048 * b.val + p.val) j * x4 (ix2 (1 : Fin 3) j)
        + follows (inputs x0 x1 x2 x3 x4 x5 x6 x7) (2048 * b.val + p.val) j * x4 (ix2 (2 : Fin 3) j) := by
  have hb := b.isLt
  have hp := p.isLt
  obtain ⟨t0, t1, t2⟩ := taps_at x4 b (⟨16 + p.val, by omega⟩ : Fin 2064) j
  rw [val_main_v35_apply, val_main_v28_apply, val_main_v21_apply, val_main_v27_apply, val_main_v34_apply, t0, t1, t2]
  refine congrArg₂ (fun y z : EReal => y + z) (congrArg₂ (fun y z : EReal => y + z)
    (congrArg (fun y : EReal => y * x4 (ix2 (0 : Fin 3) j)) ?_) (congrArg (fun y : EReal => y * x4 (ix2 (1 : Fin 3) j)) ?_))
    (congrArg (fun y : EReal => y * x4 (ix2 (2 : Fin 3) j)) ?_)
  · rw [val_main_v16_apply]
    unfold precedes
    by_cases h : p.val = 0
    · have h' : (2048 * b.val + p.val) % 2048 = 0 := by omega
      rw [if_pos h']
      refine (congrArg (val_main_v15 (F := Ideal) x1 x2)
        (a₂ := (ix3 b (⟨1 + (15 : Fin 2064).val, by decide⟩ : Fin 2066) j)) (funext fun a => Fin.ext ?_)).trans
        ((padded_row x1 x2 b 15 j).trans (meta_row x0 x1 x2 x3 x4 x5 x6 x7 b j))
      match a with
      | ⟨0, _⟩ => rfl
      | ⟨1, _⟩ => show 16 + p.val = 1 + 15; omega
      | ⟨2, _⟩ => rfl
    · have h' : ¬(2048 * b.val + p.val) % 2048 = 0 := by omega
      rw [if_neg h']
      refine (congrArg (val_main_v15 (F := Ideal) x1 x2)
        (a₂ := (ix3 b (⟨1 + (⟨16 + (⟨p.val - 1, by omega⟩ : Fin 2048).val, by show 16 + (p.val - 1) < 2064; omega⟩ : Fin 2064).val,
          by show 1 + (16 + (p.val - 1)) < 2066; omega⟩ : Fin 2066) j)) (funext fun a => Fin.ext ?_)).trans
        ((padded_row x1 x2 b _ j).trans ((grid_row x0 x1 x2 x3 x4 x5 x6 x7 b _ j).trans
          (congrArg (fun n => gated (inputs x0 x1 x2 x3 x4 x5 x6 x7) n j) ?_)))
      · match a with
        | ⟨0, _⟩ => rfl
        | ⟨1, _⟩ => show 16 + p.val = 1 + (16 + (p.val - 1)); omega
        | ⟨2, _⟩ => rfl
      · show 2048 * b.val + (p.val - 1) = 2048 * b.val + p.val - 1
        omega
  · rw [val_main_v22_apply]
    refine (congrArg (val_main_v15 (F := Ideal) x1 x2)
      (a₂ := (ix3 b (⟨1 + (⟨16 + p.val, by omega⟩ : Fin 2064).val, by show 1 + (16 + p.val) < 2066; omega⟩ : Fin 2066) j))
      (funext fun a => Fin.ext ?_)).trans
      ((padded_row x1 x2 b _ j).trans (grid_row x0 x1 x2 x3 x4 x5 x6 x7 b p j))
    match a with
    | ⟨0, _⟩ => rfl
    | ⟨1, _⟩ => show 1 + (16 + p.val) = 1 + (16 + p.val); rfl
    | ⟨2, _⟩ => rfl
  · rw [val_main_v29_apply]
    unfold follows
    by_cases h : p.val = 2047
    · have h' : (2048 * b.val + p.val) % 2048 = 2047 := by omega
      rw [if_pos h']
      refine (congrArg (val_main_v15 (F := Ideal) x1 x2)
        (a₂ := (ix3 b (2065 : Fin 2066) j)) (funext fun a => Fin.ext ?_)).trans (padded_end x1 x2 b j)
      match a with
      | ⟨0, _⟩ => rfl
      | ⟨1, _⟩ => show 2 + (16 + p.val) = 2065; omega
      | ⟨2, _⟩ => rfl
    · have h' : ¬(2048 * b.val + p.val) % 2048 = 2047 := by omega
      rw [if_neg h']
      refine (congrArg (val_main_v15 (F := Ideal) x1 x2)
        (a₂ := (ix3 b (⟨1 + (⟨16 + (⟨p.val + 1, by omega⟩ : Fin 2048).val, by show 16 + (p.val + 1) < 2064; omega⟩ : Fin 2064).val,
          by show 1 + (16 + (p.val + 1)) < 2066; omega⟩ : Fin 2066) j)) (funext fun a => Fin.ext ?_)).trans
        ((padded_row x1 x2 b _ j).trans ((grid_row x0 x1 x2 x3 x4 x5 x6 x7 b _ j).trans
          (congrArg (fun n => gated (inputs x0 x1 x2 x3 x4 x5 x6 x7) n j) ?_)))
      · match a with
        | ⟨0, _⟩ => rfl
        | ⟨1, _⟩ => show 2 + (16 + p.val) = 1 + (16 + (p.val + 1)); omega
        | ⟨2, _⟩ => rfl
      · show 2048 * b.val + (p.val + 1) = 2048 * b.val + p.val + 1
        omega

/-- The gated convolution. -/
theorem conv_at (q : Fin 8192) (j : Fin 1024) : (val_main_v38 (F := Ideal) x1 x2 x4 (ix2 q j) : EReal)
    = shortConv (inputs x0 x1 x2 x3 x4 x5 x6 x7) q.val j := by
  have hq := q.isLt
  have hj := j.isLt
  rw [val_main_v38_apply, val_main_v1_apply, val_main_v0_apply, val_main_v37_apply, val_main_v36_apply]
  refine congrArg₂ (fun y z : EReal => y * z)
    (congrArg x1 (a₂ := (ix2 (rowOf q.val) (colOf 0 (by decide) j))) (funext fun a => Fin.ext ?_)) ?_
  · match a with
    | ⟨0, _⟩ => show q.val = q.val % 8192; omega
    | ⟨1, _⟩ => show j.val = 1024 * 0 + j.val; omega
  · refine (congrArg (val_main_v35 (F := Ideal) x1 x2 x4)
      (a₂ := (ix3 (⟨q.val / 2048, by omega⟩ : Fin 4)
        (⟨16 + (⟨q.val % 2048, by omega⟩ : Fin 2048).val, by show 16 + q.val % 2048 < 2064; omega⟩ : Fin 2064) j))
      (funext fun a => Fin.ext ?_)).trans ((sum_at x0 x1 x2 x3 x4 x5 x6 x7 _ _ j).trans ?_)
    · match a with
      | ⟨0, _⟩ => show (q.val * 1024 + j.val) / 2097152 = q.val / 2048; omega
      | ⟨1, _⟩ => show 16 + (q.val * 1024 + j.val) / 1024 % 2048 = 16 + q.val % 2048; omega
      | ⟨2, _⟩ => show (q.val * 1024 + j.val) % 1024 = j.val; omega
    · have e : 2048 * (⟨q.val / 2048, by omega⟩ : Fin 4).val + (⟨q.val % 2048, by omega⟩ : Fin 2048).val = q.val := by
        show 2048 * (q.val / 2048) + q.val % 2048 = q.val
        omega
      rw [e]
      rfl

/-- A row of attention. -/
theorem attn_at (q : Fin 8192) (k : Fin 1024) : (val_main_v41 (F := Ideal) x0 (ix2 q k) : EReal)
    = attnRow (inputs x0 x1 x2 x3 x4 x5 x6 x7) q.val k := by
  have hq := q.isLt
  have hk := k.isLt
  rw [val_main_v41_apply, val_main_v40_apply, val_main_v39_apply]
  refine congrArg x0 (a₂ := (ix3 (⟨k.val / 128, by omega⟩ : Fin 8) (rowOf q.val) (⟨k.val % 128, by omega⟩ : Fin 128)))
    (funext fun a => Fin.ext ?_)
  match a with
  | ⟨0, _⟩ => show (q.val * 1024 + k.val) / 128 % 8 = k.val / 128; omega
  | ⟨1, _⟩ => show (q.val * 1024 + k.val) / 1024 = q.val % 8192; omega
  | ⟨2, _⟩ => show (q.val * 1024 + k.val) % 128 = k.val % 128; omega

/-! ## The norms, the product and the residual -/

/-- The normed row of attention. -/
theorem attnNorm_at (q : Fin 8192) (k : Fin 1024) : (val_main_v55 (F := Ideal) x0 x5 (ix2 q k) : EReal)
    = halfNorm (attnRow (inputs x0 x1 x2 x3 x4 x5 x6 x7) q.val) (inputs x0 x1 x2 x3 x4 x5 x6 x7).attnGain k := by
  have hk := k.isLt
  rw [val_main_v55_apply, val_main_v52_apply, val_main_v51_apply, val_main_v50_apply, val_main_v49_apply, val_main_v47_apply,
    val_main_v45_apply, val_main_v44_apply, val_main_v46_apply, val_main_v48_apply, val_main_cst_apply, val_main_cst_0_apply,
    val_main_cst_1_apply, val_main_v54_apply, val_main_v53_apply, val_main_v42_apply, attn_at x0 x1 x2 x3 x4 x5 x6 x7]
  unfold halfNorm
  refine congrArg₂ (fun y z : EReal => y * z) (congrArg₂ (fun y z : EReal => y * z) rfl ?_) ?_
  · show Ideal.rsqrt (Ideal.div (Ideal.ofBits .f32 0x00000000#32 + ∑ k : Fin 1024, _) (Ideal.ofBits .f32 0x44800000#32)
      + Cert.Proj.eps) = _
    rw [zero_word, zero_add]
    refine congrArg (fun z => Ideal.rsqrt (Ideal.div z (Ideal.ofBits .f32 0x44800000#32) + Cert.Proj.eps))
      (Finset.sum_congr rfl fun l _ => ?_)
    have e : idx_main_v44 (idx_main_v45 (idx_main_v51 (ix2 q k))) l = ix2 q l := by
      funext a; match a with | ⟨0, _⟩ => rfl | ⟨1, _⟩ => rfl
    rw [e, val_main_v43_apply, attn_at x0 x1 x2 x3 x4 x5 x6 x7]
    rfl
  · refine congrArg x5 (a₂ := (ix2 (0 : Fin 1) k)) (funext fun a => Fin.ext ?_)
    match a with
    | ⟨0, _⟩ => rfl
    | ⟨1, _⟩ => show k.val % 1024 = k.val; omega

/-- The normed row of the convolution. -/
theorem convNorm_at (q : Fin 8192) (k : Fin 1024) : (val_main_v69 (F := Ideal) x1 x2 x4 x6 (ix2 q k) : EReal)
    = halfNorm (shortConv (inputs x0 x1 x2 x3 x4 x5 x6 x7) q.val) (inputs x0 x1 x2 x3 x4 x5 x6 x7).convGain k := by
  have hk := k.isLt
  rw [val_main_v69_apply, val_main_v66_apply, val_main_v65_apply, val_main_v64_apply, val_main_v63_apply, val_main_v61_apply,
    val_main_v59_apply, val_main_v58_apply, val_main_v60_apply, val_main_v62_apply, val_main_cst_2_apply, val_main_cst_3_apply,
    val_main_cst_4_apply, val_main_v68_apply, val_main_v67_apply, val_main_v56_apply, conv_at x0 x1 x2 x3 x4 x5 x6 x7]
  unfold halfNorm
  refine congrArg₂ (fun y z : EReal => y * z) (congrArg₂ (fun y z : EReal => y * z) rfl ?_) ?_
  · show Ideal.rsqrt (Ideal.div (Ideal.ofBits .f32 0x00000000#32 + ∑ k : Fin 1024, _) (Ideal.ofBits .f32 0x44800000#32)
      + Cert.Proj.eps) = _
    rw [zero_word, zero_add]
    refine congrArg (fun z => Ideal.rsqrt (Ideal.div z (Ideal.ofBits .f32 0x44800000#32) + Cert.Proj.eps))
      (Finset.sum_congr rfl fun l _ => ?_)
    have e : idx_main_v58 (idx_main_v59 (idx_main_v65 (ix2 q k))) l = ix2 q l := by
      funext a; match a with | ⟨0, _⟩ => rfl | ⟨1, _⟩ => rfl
    rw [e, val_main_v57_apply, conv_at x0 x1 x2 x3 x4 x5 x6 x7]
    rfl
  · refine congrArg x6 (a₂ := (ix2 (0 : Fin 1) k)) (funext fun a => Fin.ext ?_)
    match a with
    | ⟨0, _⟩ => rfl
    | ⟨1, _⟩ => show k.val % 1024 = k.val; omega

/-- The two halves side by side. -/
theorem mixed_at (q : Fin 8192) (k : Fin 2048) : (val_main_v70 (F := Ideal) x0 x1 x2 x4 x5 x6 (ix2 q k) : EReal)
    = mixed (inputs x0 x1 x2 x3 x4 x5 x6 x7) q.val k := by
  have hk := k.isLt
  unfold val_main_v70 mixed
  by_cases h : k.val < 1024
  · rw [dif_pos h]
    refine (concatenate_pair_apply_left (t := S8192x2048) (s₁ := S8192x1024) (s₂ := S8192x1024) 1 _ _ _ _ rfl
      (ix2 q (⟨k.val, h⟩ : Fin 1024)) fun a => ?_).trans (attnNorm_at x0 x1 x2 x3 x4 x5 x6 x7 q _)
    match a with | ⟨0, _⟩ => rfl | ⟨1, _⟩ => rfl
  · rw [dif_neg h]
    refine (concatenate_pair_apply_right (t := S8192x2048) (s₁ := S8192x1024) (s₂ := S8192x1024) 1 _ _ _ _ rfl rfl
      (ix2 q (⟨k.val - 1024, by omega⟩ : Fin 1024)) (fun a ha => ?_) ?_).trans (convNorm_at x0 x1 x2 x3 x4 x5 x6 x7 q _)
    · match a, ha with
      | ⟨0, _⟩, _ => rfl
      | ⟨1, _⟩, ha => exact absurd rfl ha
    · show k.val - 1024 + 1024 = k.val
      omega

/-- The reference's result. -/
theorem hidden_at (i : S8192x2048.Idx) : (val_main_v72 (F := Ideal) x0 x1 x2 x3 x4 x5 x6 x7 i : EReal)
    = hidden (inputs x0 x1 x2 x3 x4 x5 x6 x7) (i 0) (i 1) := by
  obtain ⟨q, d, rfl⟩ : ∃ (q : Fin 8192) (d : Fin 2048), i = ix2 q d := ⟨i 0, i 1, by
    funext a; match a with | ⟨0, _⟩ => rfl | ⟨1, _⟩ => rfl⟩
  rw [val_main_v72_apply, val_main_v71_apply]
  refine congrArg₂ (fun y z : EReal => y + z) rfl (Finset.sum_congr rfl fun k _ => congrArg₂ (fun y z : EReal => y * z) ?_ ?_)
  · have e : lidx_main_v71 (ix2 q d) k = ix2 q k := by funext a; match a with | ⟨0, _⟩ => rfl | ⟨1, _⟩ => rfl
    rw [e]
    exact mixed_at x0 x1 x2 x3 x4 x5 x6 x7 q k
  · refine congrArg x7 (a₂ := (ix2 k d)) ?_
    funext a; match a with | ⟨0, _⟩ => rfl | ⟨1, _⟩ => rfl

end Cert.Mix.Ref
-- ==== Proof.MixEquation.lean ====
/- The equation of the two programs of the third call: from one set of arguments, the kernel's first output is the reference's result
   over the extended reals. -/
module

public import proofs.«01_k».proof.Proof.MixEntry
public import proofs.«01_k».proof.Proof.MixRef

@[expose] public section

noncomputable section

namespace Cert.Mix

open Idealize.ShloMosaic Idealize.ShloMosaic.TcCoe
open Cert.Kernel3Ideal Cert.Kernel3Ideal.Gen

variable (m : (ℓ : Loc nD τ sig) → Buf (Elt Ideal) ℓ)

/-- The hidden rows. -/
theorem hidden_eq (c : Dev nD) : hmidArr m c = Cert.Reference3Ideal.Read.val_main_v72 (F := Ideal) (attnArg m c) (convArg m c)
    (metaArg m c) (residArg m c) (tapsArg m c) (attnGainArg m c) (convGainArg m c) (weightArg m c) :=
  funext fun i => (Ref.hidden_at (attnArg m c) (convArg m c) (metaArg m c) (residArg m c) (tapsArg m c) (attnGainArg m c)
    (convGainArg m c) (weightArg m c) i).symm

/-- What the kernel's run leaves, with the first output read. -/
theorem run_values (ρ : Dev nD → PrngReg) :
    θ_run (defs (F := Ideal)) (onTc (τ := τ) (main (F := Ideal))) ⟨m, fun _ => 0, ρ⟩ fun r => ∀ c : Dev nD,
      r.2.mem ((c : Thread nD τ).loc main_v0_0) = hmidArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h.1 c).1.trans (hmid_final m c), (h.1 c).2⟩) (run_outputs (F := Ideal) m ρ)

end Cert.Mix
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.Equation
public import proofs.«01_k».proof.Proof.ProjWords
public import proofs.«01_k».proof.Proof.ProjEquation
public import proofs.«01_k».proof.Proof.MixWordFrame
public import proofs.«01_k».proof.Proof.MixEquation
public import Idealize.ShloMosaic.Lib.Bf16Pair
public import Idealize.ShloMosaic.Lib.Bf16PairInverse
public import Idealize.ShloMosaic.Adequacy
public import Idealize.ShloMosaic.Init

@[expose] public section

noncomputable section

namespace Cert.Proof

open Idealize.ShloMosaic Idealize.SL.Sem Cert.Kernel

/-- The reference program runs, ends with its arguments unchanged and every counter at zero. -/
theorem reference_frame : Cert.quiescent_ReferenceIdeal (hReferenceIdeal := Cert.ReferenceIdeal.Gen.facts) :=
  fun m g _ => (θ_run Cert.ReferenceIdeal.defs _ _).mono
    (fun r h => ⟨fun c => (h c).2, Idealize.ShloMosaic.sem_eq_zero_of_no_sems (by decide) r.2⟩)
    (Cert.ReferenceIdeal.Value.run (F := Ideal) m g)

/-- The kernel and the reference, run from the same arguments over the extended reals, leave the same attention. -/
theorem attention : Cert.algebraic_KernelIdeal_ReferenceIdeal (hKernelIdeal := Cert.KernelIdeal.Gen.facts)
    (hReferenceIdeal := Cert.ReferenceIdeal.Gen.facts) := by
  intro m g m' g' _ hagree
  refine ⟨fun c => Cert.KernelIdeal.Value.G7 m c, Cert.KernelIdeal.Value.run m g, ?_⟩
  refine (θ_run Cert.ReferenceIdeal.defs _ _).mono (fun r h c => ⟨(h c).1.trans ?_, (h c).2⟩)
    (Cert.ReferenceIdeal.Value.run (F := Ideal) m' g')
  obtain ⟨h0, h1, h2, h3⟩ := hagree c
  rw [Cert.ReferenceIdeal.Read.val_main_v129_eq, h0, h1, h2, h3]
  exact (Cert.Att.kernel_eq_reference m c).symm

/-- The input projection's reference runs, ends with its arguments unchanged and every counter at zero. -/
theorem reference2_frame : Cert.quiescent_Reference2Ideal (hReference2Ideal := Cert.Reference2Ideal.Gen.facts) :=
  fun m g _ => (θ_run Cert.Reference2Ideal.defs _ _).mono
    (fun r h => ⟨fun c => (h c).2.2.2, Idealize.ShloMosaic.sem_eq_zero_of_no_sems (by decide) r.2⟩)
    (Cert.Reference2Ideal.Value.run (F := Ideal) m g)

/-- The kernel and the reference, run from the same arguments over the extended reals, leave the same projection. -/
theorem projection : Cert.algebraic_Kernel2Ideal_Reference2Ideal (hKernel2Ideal := Cert.Kernel2Ideal.Gen.facts)
    (hReference2Ideal := Cert.Reference2Ideal.Gen.facts) := by
  intro m g m' g' _ hagree
  refine ⟨Cert.Proj.slabArr m, Cert.Proj.colArr m, Cert.Proj.metaArr m, Cert.Proj.run_values m g, ?_⟩
  refine (θ_run Cert.Reference2Ideal.defs _ _).mono
    (fun r h c => ⟨(h c).1.trans ?_, (h c).2.1.trans ?_, (h c).2.2.1.trans ?_, (h c).2.2.2⟩)
    (Cert.Reference2Ideal.Value.run (F := Ideal) m' g')
  all_goals obtain ⟨h0, h1, h2, h3, h4, h5⟩ := hagree c
  · rw [Cert.Reference2Ideal.Read.val_main_v67_eq, h0, h1, h2, h3, h4, h5]
    exact (Cert.Proj.slabs_eq m c).symm
  · rw [Cert.Reference2Ideal.Read.val_main_v68_eq, h0, h1, h2, h3, h4, h5]
    exact (Cert.Proj.cols_eq m c).symm
  · rw [Cert.Reference2Ideal.Read.val_main_v69_eq, h0, h1, h2, h3, h4, h5]
    exact (Cert.Proj.meta_eq m c).symm

/-- The output projection's reference runs, ends with its arguments unchanged and every counter at zero. -/
theorem reference3_frame : Cert.quiescent_Reference3Ideal (hReference3Ideal := Cert.Reference3Ideal.Gen.facts) :=
  fun m g _ => (θ_run Cert.Reference3Ideal.defs _ _).mono
    (fun r h => ⟨fun c => (h c).2, Idealize.ShloMosaic.sem_eq_zero_of_no_sems (by decide) r.2⟩)
    (Cert.Reference3Ideal.Value.run (F := Ideal) m g)

/-- The output projection's ideal reading preserves the kernel: its packed words are pairs of bf16 numbers, in the packing, in the
    gathered blocks and in the buffers. -/
theorem mix_preserved : Cert.preserves_Kernel3_Kernel3Ideal :=
  ⟨IdealRules.bf16_pair.bufferStatement _ _, IdealRules.bf16_pair.bufferStatement _ _, IdealRules.bf16_pair.packStatement _,
    IdealRules.bf16_pair.statement _ _⟩

/-- The kernel and the reference, run from the same arguments over the extended reals, leave the same hidden rows. -/
theorem mix : Cert.algebraic_Kernel3Ideal_Reference3Ideal (hKernel3Ideal := Cert.Kernel3Ideal.Gen.facts)
    (hReference3Ideal := Cert.Reference3Ideal.Gen.facts) := by
  intro m g m' g' _ hagree
  refine ⟨Cert.Mix.hmidArr m, Cert.Mix.run_values m g, ?_⟩
  refine (θ_run Cert.Reference3Ideal.defs _ _).mono (fun r h c => ⟨(h c).1.trans ?_, (h c).2⟩)
    (Cert.Reference3Ideal.Value.run (F := Ideal) m' g')
  obtain ⟨h0, h1, h2, h3, h4, h5, h6, h7, -⟩ := hagree c
  rw [Cert.Reference3Ideal.Read.val_main_v72_eq, h0, h1, h2, h3, h4, h5, h6, h7]
  exact (Cert.Mix.hidden_eq m c).symm

/-- Everything claimed. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    fun m ρ _ => Cert.Kernel.Gen.frame m ρ, fun m ρ _ => Cert.KernelIdeal.Gen.frame m ρ, reference_frame,
    Cert.Proj.frame_words, fun m ρ _ => Cert.Proj.frame_run (F := Ideal) m ρ, reference2_frame,
    fun m ρ _ => Cert.MixWords.frame_run (F := Bits) m ρ, fun m ρ _ => Cert.Mix.frame_run (F := Ideal) m ρ, reference3_frame,
    trivial, attention, trivial, projection, mix_preserved, mix⟩

end Cert.Proof

end
